-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InGw (m : (ℓ : Loc Cert.InGw.nD Cert.InGw.τ Cert.InGw.sig) → Buf (Elt Bits) ℓ) : Prop :=
  True

def Pre_InGwIdeal (m : (ℓ : Loc Cert.InGwIdeal.nD Cert.InGwIdeal.τ Cert.InGwIdeal.sig) → Buf (Elt Ideal) ℓ) : Prop :=
  True

def Pre_InGwRefIdeal (m : (ℓ : Loc Cert.InGwRefIdeal.nD Cert.InGwRefIdeal.τ Cert.InGwRefIdeal.sig) → Buf (Elt Ideal) ℓ) : Prop :=
  True

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_InDhRefIdeal (m : (ℓ : Loc Cert.InDhRefIdeal.nD Cert.InDhRefIdeal.τ Cert.InDhRefIdeal.sig) → Buf (Elt Ideal) ℓ) : Prop :=
  True

def Pre_OutMixed (m : (ℓ : Loc Cert.OutMixed.nD Cert.OutMixed.τ Cert.OutMixed.sig) → Buf (Elt Bits) ℓ) : Prop :=
  True

def Pre_OutMixedIdeal (m : (ℓ : Loc Cert.OutMixedIdeal.nD Cert.OutMixedIdeal.τ Cert.OutMixedIdeal.sig) → Buf (Elt Ideal) ℓ) : Prop :=
  True

def Pre_OutMixedRefIdeal (m : (ℓ : Loc Cert.OutMixedRefIdeal.nD Cert.OutMixedRefIdeal.τ Cert.OutMixedRefIdeal.sig) → Buf (Elt Ideal) ℓ) : Prop :=
  True

def Pre_OutDMix (m : (ℓ : Loc Cert.OutDMix.nD Cert.OutDMix.τ Cert.OutDMix.sig) → Buf (Elt Bits) ℓ) : Prop :=
  True

def Pre_OutDMixIdeal (m : (ℓ : Loc Cert.OutDMixIdeal.nD Cert.OutDMixIdeal.τ Cert.OutDMixIdeal.sig) → Buf (Elt Ideal) ℓ) : Prop :=
  True

def Pre_OutDMixRefIdeal (m : (ℓ : Loc Cert.OutDMixRefIdeal.nD Cert.OutDMixRefIdeal.τ Cert.OutDMixRefIdeal.sig) → Buf (Elt Ideal) ℓ) : Prop :=
  True

def Pre_OutGw (m : (ℓ : Loc Cert.OutGw.nD Cert.OutGw.τ Cert.OutGw.sig) → Buf (Elt Bits) ℓ) : Prop :=
  True

def Pre_OutGwIdeal (m : (ℓ : Loc Cert.OutGwIdeal.nD Cert.OutGwIdeal.τ Cert.OutGwIdeal.sig) → Buf (Elt Ideal) ℓ) : Prop :=
  True

def Pre_OutGwRefIdeal (m : (ℓ : Loc Cert.OutGwRefIdeal.nD Cert.OutGwRefIdeal.τ Cert.OutGwRefIdeal.sig) → Buf (Elt Ideal) ℓ) : Prop :=
  True

def Pre_BrAttn (m : (ℓ : Loc Cert.BrAttn.nD Cert.BrAttn.τ Cert.BrAttn.sig) → Buf (Elt Bits) ℓ) : Prop :=
  True

def Pre_BrAttnIdeal (m : (ℓ : Loc Cert.BrAttnIdeal.nD Cert.BrAttnIdeal.τ Cert.BrAttnIdeal.sig) → Buf (Elt Ideal) ℓ) : Prop :=
  True

def Pre_BrAttnRefIdeal (m : (ℓ : Loc Cert.BrAttnRefIdeal.nD Cert.BrAttnRefIdeal.τ Cert.BrAttnRefIdeal.sig) → Buf (Elt Ideal) ℓ) : Prop :=
  True

def Pre_BrSsm (m : (ℓ : Loc Cert.BrSsm.nD Cert.BrSsm.τ Cert.BrSsm.sig) → Buf (Elt Bits) ℓ) : Prop :=
  True

def Pre_BrSsmIdeal (m : (ℓ : Loc Cert.BrSsmIdeal.nD Cert.BrSsmIdeal.τ Cert.BrSsmIdeal.sig) → Buf (Elt Ideal) ℓ) : Prop :=
  True

def Pre_BrSsmRefIdeal (m : (ℓ : Loc Cert.BrSsmRefIdeal.nD Cert.BrSsmRefIdeal.τ Cert.BrSsmRefIdeal.sig) → Buf (Elt Ideal) ℓ) : Prop :=
  True

def Pre_BrDAttn (m : (ℓ : Loc Cert.BrDAttn.nD Cert.BrDAttn.τ Cert.BrDAttn.sig) → Buf (Elt Bits) ℓ) : Prop :=
  True

def Pre_BrDAttnIdeal (m : (ℓ : Loc Cert.BrDAttnIdeal.nD Cert.BrDAttnIdeal.τ Cert.BrDAttnIdeal.sig) → Buf (Elt Ideal) ℓ) : Prop :=
  True

def Pre_BrDAttnRefIdeal (m : (ℓ : Loc Cert.BrDAttnRefIdeal.nD Cert.BrDAttnRefIdeal.τ Cert.BrDAttnRefIdeal.sig) → Buf (Elt Ideal) ℓ) : Prop :=
  True

def Pre_BrDSsm (m : (ℓ : Loc Cert.BrDSsm.nD Cert.BrDSsm.τ Cert.BrDSsm.sig) → Buf (Elt Bits) ℓ) : Prop :=
  True

def Pre_BrDSsmIdeal (m : (ℓ : Loc Cert.BrDSsmIdeal.nD Cert.BrDSsmIdeal.τ Cert.BrDSsmIdeal.sig) → Buf (Elt Ideal) ℓ) : Prop :=
  True

def Pre_BrDSsmRefIdeal (m : (ℓ : Loc Cert.BrDSsmRefIdeal.nD Cert.BrDSsmRefIdeal.τ Cert.BrDSsmRefIdeal.sig) → Buf (Elt Ideal) ℓ) : Prop :=
  True

def Pre_BrGwAttn (m : (ℓ : Loc Cert.BrGwAttn.nD Cert.BrGwAttn.τ Cert.BrGwAttn.sig) → Buf (Elt Bits) ℓ) : Prop :=
  True

def Pre_BrGwAttnIdeal (m : (ℓ : Loc Cert.BrGwAttnIdeal.nD Cert.BrGwAttnIdeal.τ Cert.BrGwAttnIdeal.sig) → Buf (Elt Ideal) ℓ) : Prop :=
  True

def Pre_BrGwAttnRefIdeal (m : (ℓ : Loc Cert.BrGwAttnRefIdeal.nD Cert.BrGwAttnRefIdeal.τ Cert.BrGwAttnRefIdeal.sig) → Buf (Elt Ideal) ℓ) : Prop :=
  True

def Pre_BrGwSsm (m : (ℓ : Loc Cert.BrGwSsm.nD Cert.BrGwSsm.τ Cert.BrGwSsm.sig) → Buf (Elt Bits) ℓ) : Prop :=
  True

def Pre_BrGwSsmIdeal (m : (ℓ : Loc Cert.BrGwSsmIdeal.nD Cert.BrGwSsmIdeal.τ Cert.BrGwSsmIdeal.sig) → Buf (Elt Ideal) ℓ) : Prop :=
  True

def Pre_BrGwSsmRefIdeal (m : (ℓ : Loc Cert.BrGwSsmRefIdeal.nD Cert.BrGwSsmRefIdeal.τ Cert.BrGwSsmRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluGw (m : (ℓ : Loc Cert.GluGw.nD Cert.GluGw.τ Cert.GluGw.sig) → Buf (Elt Bits) ℓ) : Prop :=
  True

def Pre_GluGwIdeal (m : (ℓ : Loc Cert.GluGwIdeal.nD Cert.GluGwIdeal.τ Cert.GluGwIdeal.sig) → Buf (Elt Ideal) ℓ) : Prop :=
  True

def Pre_GluGwRefIdeal (m : (ℓ : Loc Cert.GluGwRefIdeal.nD Cert.GluGwRefIdeal.τ Cert.GluGwRefIdeal.sig) → Buf (Elt Ideal) ℓ) : Prop :=
  True

def Pre_DGy (m : (ℓ : Loc Cert.DGy.nD Cert.DGy.τ Cert.DGy.sig) → Buf (Elt Bits) ℓ) : Prop :=
  True

def Pre_DGyIdeal (m : (ℓ : Loc Cert.DGyIdeal.nD Cert.DGyIdeal.τ Cert.DGyIdeal.sig) → Buf (Elt Ideal) ℓ) : Prop :=
  True

def Pre_DGyIdeal_finite_d_gy [hPre_finite_d_gy : Cert.Pre_finite_d_gy.Facts] (m : (ℓ : Loc Cert.DGyIdeal.nD Cert.DGyIdeal.τ Cert.DGyIdeal.sig) → Buf (Elt Ideal) ℓ) : Prop :=
  ∀ c : Dev Cert.DGyIdeal.nD,
    (Cert.Pre_finite_d_gy.fn (F := Ideal) (m ((c.tc : Thread Cert.DGyIdeal.nD Cert.DGyIdeal.τ).loc Cert.DGyIdeal.main_arg0)) (m ((c.tc : Thread Cert.DGyIdeal.nD Cert.DGyIdeal.τ).loc Cert.DGyIdeal.main_arg1)) (m ((c.tc : Thread Cert.DGyIdeal.nD Cert.DGyIdeal.τ).loc Cert.DGyIdeal.main_arg2))) = (fun _ => 1#1)

def Pre_DGyRefIdeal (m : (ℓ : Loc Cert.DGyRefIdeal.nD Cert.DGyRefIdeal.τ Cert.DGyRefIdeal.sig) → Buf (Elt Ideal) ℓ) : Prop :=
  True

def Pre_DGyRefIdeal_finite_d_gy [hPre_finite_d_gy : Cert.Pre_finite_d_gy.Facts] (m : (ℓ : Loc Cert.DGyRefIdeal.nD Cert.DGyRefIdeal.τ Cert.DGyRefIdeal.sig) → Buf (Elt Ideal) ℓ) : Prop :=
  ∀ c : Dev Cert.DGyRefIdeal.nD,
    (Cert.Pre_finite_d_gy.fn (F := Ideal) (m ((c.tc : Thread Cert.DGyRefIdeal.nD Cert.DGyRefIdeal.τ).loc Cert.DGyRefIdeal.main_arg0)) (m ((c.tc : Thread Cert.DGyRefIdeal.nD Cert.DGyRefIdeal.τ).loc Cert.DGyRefIdeal.main_arg1)) (m ((c.tc : Thread Cert.DGyRefIdeal.nD Cert.DGyRefIdeal.τ).loc Cert.DGyRefIdeal.main_arg2))) = (fun _ => 1#1)

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateRefIdeal (m : (ℓ : Loc Cert.GluGateRefIdeal.nD Cert.GluGateRefIdeal.τ Cert.GluGateRefIdeal.sig) → Buf (Elt Ideal) ℓ) : Prop :=
  True

def Pre_GluGateBwd (m : (ℓ : Loc Cert.GluGateBwd.nD Cert.GluGateBwd.τ Cert.GluGateBwd.sig) → Buf (Elt Bits) ℓ) : Prop :=
  True

def Pre_GluGateBwdIdeal (m : (ℓ : Loc Cert.GluGateBwdIdeal.nD Cert.GluGateBwdIdeal.τ Cert.GluGateBwdIdeal.sig) → Buf (Elt Ideal) ℓ) : Prop :=
  True

def Pre_GluGateBwdRefIdeal (m : (ℓ : Loc Cert.GluGateBwdRefIdeal.nD Cert.GluGateBwdRefIdeal.τ Cert.GluGateBwdRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InGw [hInGw : Cert.InGw.Facts] : Prop :=
  ∀ (m : (ℓ : Loc Cert.InGw.nD Cert.InGw.τ Cert.InGw.sig) → Buf (Elt Bits) ℓ) (g : Dev Cert.InGw.nD → PrngReg), Pre_InGw m →
    θ_run (Cert.InGw.defs (F := Bits)) (onTc (τ := Cert.InGw.τ) (Cert.InGw.main (F := Bits))) ⟨m, fun _ => 0, g⟩ (fun r => (∀ c : Dev Cert.InGw.nD,
      r.2.mem ((c.tc : Thread Cert.InGw.nD Cert.InGw.τ).loc Cert.InGw.main_arg0) = m ((c.tc : Thread Cert.InGw.nD Cert.InGw.τ).loc Cert.InGw.main_arg0)
      ∧ r.2.mem ((c.tc : Thread Cert.InGw.nD Cert.InGw.τ).loc Cert.InGw.main_arg1) = m ((c.tc : Thread Cert.InGw.nD Cert.InGw.τ).loc Cert.InGw.main_arg1))
      ∧ r.2.sem = fun _ => 0)

def quiescent_InGwIdeal [hInGwIdeal : Cert.InGwIdeal.Facts] : Prop :=
  ∀ (m : (ℓ : Loc Cert.InGwIdeal.nD Cert.InGwIdeal.τ Cert.InGwIdeal.sig) → Buf (Elt Ideal) ℓ) (g : Dev Cert.InGwIdeal.nD → PrngReg), Pre_InGwIdeal m →
    θ_run (Cert.InGwIdeal.defs (F := Ideal)) (onTc (τ := Cert.InGwIdeal.τ) (Cert.InGwIdeal.main (F := Ideal))) ⟨m, fun _ => 0, g⟩ (fun r => (∀ c : Dev Cert.InGwIdeal.nD,
      r.2.mem ((c.tc : Thread Cert.InGwIdeal.nD Cert.InGwIdeal.τ).loc Cert.InGwIdeal.main_arg0) = m ((c.tc : Thread Cert.InGwIdeal.nD Cert.InGwIdeal.τ).loc Cert.InGwIdeal.main_arg0)
      ∧ r.2.mem ((c.tc : Thread Cert.InGwIdeal.nD Cert.InGwIdeal.τ).loc Cert.InGwIdeal.main_arg1) = m ((c.tc : Thread Cert.InGwIdeal.nD Cert.InGwIdeal.τ).loc Cert.InGwIdeal.main_arg1))
      ∧ r.2.sem = fun _ => 0)

def quiescent_InGwRefIdeal [hInGwRefIdeal : Cert.InGwRefIdeal.Facts] : Prop :=
  ∀ (m : (ℓ : Loc Cert.InGwRefIdeal.nD Cert.InGwRefIdeal.τ Cert.InGwRefIdeal.sig) → Buf (Elt Ideal) ℓ) (g : Dev Cert.InGwRefIdeal.nD → PrngReg), Pre_InGwRefIdeal m →
    θ_run (Cert.InGwRefIdeal.defs (F := Ideal)) (onTc (τ := Cert.InGwRefIdeal.τ) (Cert.InGwRefIdeal.main (F := Ideal))) ⟨m, fun _ => 0, g⟩ (fun r => (∀ c : Dev Cert.InGwRefIdeal.nD,
      r.2.mem ((c.tc : Thread Cert.InGwRefIdeal.nD Cert.InGwRefIdeal.τ).loc Cert.InGwRefIdeal.main_arg0) = m ((c.tc : Thread Cert.InGwRefIdeal.nD Cert.InGwRefIdeal.τ).loc Cert.InGwRefIdeal.main_arg0)
      ∧ r.2.mem ((c.tc : Thread Cert.InGwRefIdeal.nD Cert.InGwRefIdeal.τ).loc Cert.InGwRefIdeal.main_arg1) = m ((c.tc : Thread Cert.InGwRefIdeal.nD Cert.InGwRefIdeal.τ).loc Cert.InGwRefIdeal.main_arg1))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ r.2.sem = fun _ => 0)

def quiescent_InDhRefIdeal [hInDhRefIdeal : Cert.InDhRefIdeal.Facts] : Prop :=
  ∀ (m : (ℓ : Loc Cert.InDhRefIdeal.nD Cert.InDhRefIdeal.τ Cert.InDhRefIdeal.sig) → Buf (Elt Ideal) ℓ) (g : Dev Cert.InDhRefIdeal.nD → PrngReg), Pre_InDhRefIdeal m →
    θ_run (Cert.InDhRefIdeal.defs (F := Ideal)) (onTc (τ := Cert.InDhRefIdeal.τ) (Cert.InDhRefIdeal.main (F := Ideal))) ⟨m, fun _ => 0, g⟩ (fun r => (∀ c : Dev Cert.InDhRefIdeal.nD,
      r.2.mem ((c.tc : Thread Cert.InDhRefIdeal.nD Cert.InDhRefIdeal.τ).loc Cert.InDhRefIdeal.main_arg0) = m ((c.tc : Thread Cert.InDhRefIdeal.nD Cert.InDhRefIdeal.τ).loc Cert.InDhRefIdeal.main_arg0)
      ∧ r.2.mem ((c.tc : Thread Cert.InDhRefIdeal.nD Cert.InDhRefIdeal.τ).loc Cert.InDhRefIdeal.main_arg1) = m ((c.tc : Thread Cert.InDhRefIdeal.nD Cert.InDhRefIdeal.τ).loc Cert.InDhRefIdeal.main_arg1))
      ∧ r.2.sem = fun _ => 0)

def quiescent_OutMixed [hOutMixed : Cert.OutMixed.Facts] : Prop :=
  ∀ (m : (ℓ : Loc Cert.OutMixed.nD Cert.OutMixed.τ Cert.OutMixed.sig) → Buf (Elt Bits) ℓ) (g : Dev Cert.OutMixed.nD → PrngReg), Pre_OutMixed m →
    θ_run (Cert.OutMixed.defs (F := Bits)) (onTc (τ := Cert.OutMixed.τ) (Cert.OutMixed.main (F := Bits))) ⟨m, fun _ => 0, g⟩ (fun r => (∀ c : Dev Cert.OutMixed.nD,
      r.2.mem ((c.tc : Thread Cert.OutMixed.nD Cert.OutMixed.τ).loc Cert.OutMixed.main_arg0) = m ((c.tc : Thread Cert.OutMixed.nD Cert.OutMixed.τ).loc Cert.OutMixed.main_arg0)
      ∧ r.2.mem ((c.tc : Thread Cert.OutMixed.nD Cert.OutMixed.τ).loc Cert.OutMixed.main_arg1) = m ((c.tc : Thread Cert.OutMixed.nD Cert.OutMixed.τ).loc Cert.OutMixed.main_arg1))
      ∧ r.2.sem = fun _ => 0)

def quiescent_OutMixedIdeal [hOutMixedIdeal : Cert.OutMixedIdeal.Facts] : Prop :=
  ∀ (m : (ℓ : Loc Cert.OutMixedIdeal.nD Cert.OutMixedIdeal.τ Cert.OutMixedIdeal.sig) → Buf (Elt Ideal) ℓ) (g : Dev Cert.OutMixedIdeal.nD → PrngReg), Pre_OutMixedIdeal m →
    θ_run (Cert.OutMixedIdeal.defs (F := Ideal)) (onTc (τ := Cert.OutMixedIdeal.τ) (Cert.OutMixedIdeal.main (F := Ideal))) ⟨m, fun _ => 0, g⟩ (fun r => (∀ c : Dev Cert.OutMixedIdeal.nD,
      r.2.mem ((c.tc : Thread Cert.OutMixedIdeal.nD Cert.OutMixedIdeal.τ).loc Cert.OutMixedIdeal.main_arg0) = m ((c.tc : Thread Cert.OutMixedIdeal.nD Cert.OutMixedIdeal.τ).loc Cert.OutMixedIdeal.main_arg0)
      ∧ r.2.mem ((c.tc : Thread Cert.OutMixedIdeal.nD Cert.OutMixedIdeal.τ).loc Cert.OutMixedIdeal.main_arg1) = m ((c.tc : Thread Cert.OutMixedIdeal.nD Cert.OutMixedIdeal.τ).loc Cert.OutMixedIdeal.main_arg1))
      ∧ r.2.sem = fun _ => 0)

def quiescent_OutMixedRefIdeal [hOutMixedRefIdeal : Cert.OutMixedRefIdeal.Facts] : Prop :=
  ∀ (m : (ℓ : Loc Cert.OutMixedRefIdeal.nD Cert.OutMixedRefIdeal.τ Cert.OutMixedRefIdeal.sig) → Buf (Elt Ideal) ℓ) (g : Dev Cert.OutMixedRefIdeal.nD → PrngReg), Pre_OutMixedRefIdeal m →
    θ_run (Cert.OutMixedRefIdeal.defs (F := Ideal)) (onTc (τ := Cert.OutMixedRefIdeal.τ) (Cert.OutMixedRefIdeal.main (F := Ideal))) ⟨m, fun _ => 0, g⟩ (fun r => (∀ c : Dev Cert.OutMixedRefIdeal.nD,
      r.2.mem ((c.tc : Thread Cert.OutMixedRefIdeal.nD Cert.OutMixedRefIdeal.τ).loc Cert.OutMixedRefIdeal.main_arg0) = m ((c.tc : Thread Cert.OutMixedRefIdeal.nD Cert.OutMixedRefIdeal.τ).loc Cert.OutMixedRefIdeal.main_arg0)
      ∧ r.2.mem ((c.tc : Thread Cert.OutMixedRefIdeal.nD Cert.OutMixedRefIdeal.τ).loc Cert.OutMixedRefIdeal.main_arg1) = m ((c.tc : Thread Cert.OutMixedRefIdeal.nD Cert.OutMixedRefIdeal.τ).loc Cert.OutMixedRefIdeal.main_arg1))
      ∧ r.2.sem = fun _ => 0)

def quiescent_OutDMix [hOutDMix : Cert.OutDMix.Facts] : Prop :=
  ∀ (m : (ℓ : Loc Cert.OutDMix.nD Cert.OutDMix.τ Cert.OutDMix.sig) → Buf (Elt Bits) ℓ) (g : Dev Cert.OutDMix.nD → PrngReg), Pre_OutDMix m →
    θ_run (Cert.OutDMix.defs (F := Bits)) (onTc (τ := Cert.OutDMix.τ) (Cert.OutDMix.main (F := Bits))) ⟨m, fun _ => 0, g⟩ (fun r => (∀ c : Dev Cert.OutDMix.nD,
      r.2.mem ((c.tc : Thread Cert.OutDMix.nD Cert.OutDMix.τ).loc Cert.OutDMix.main_arg0) = m ((c.tc : Thread Cert.OutDMix.nD Cert.OutDMix.τ).loc Cert.OutDMix.main_arg0)
      ∧ r.2.mem ((c.tc : Thread Cert.OutDMix.nD Cert.OutDMix.τ).loc Cert.OutDMix.main_arg1) = m ((c.tc : Thread Cert.OutDMix.nD Cert.OutDMix.τ).loc Cert.OutDMix.main_arg1))
      ∧ r.2.sem = fun _ => 0)

def quiescent_OutDMixIdeal [hOutDMixIdeal : Cert.OutDMixIdeal.Facts] : Prop :=
  ∀ (m : (ℓ : Loc Cert.OutDMixIdeal.nD Cert.OutDMixIdeal.τ Cert.OutDMixIdeal.sig) → Buf (Elt Ideal) ℓ) (g : Dev Cert.OutDMixIdeal.nD → PrngReg), Pre_OutDMixIdeal m →
    θ_run (Cert.OutDMixIdeal.defs (F := Ideal)) (onTc (τ := Cert.OutDMixIdeal.τ) (Cert.OutDMixIdeal.main (F := Ideal))) ⟨m, fun _ => 0, g⟩ (fun r => (∀ c : Dev Cert.OutDMixIdeal.nD,
      r.2.mem ((c.tc : Thread Cert.OutDMixIdeal.nD Cert.OutDMixIdeal.τ).loc Cert.OutDMixIdeal.main_arg0) = m ((c.tc : Thread Cert.OutDMixIdeal.nD Cert.OutDMixIdeal.τ).loc Cert.OutDMixIdeal.main_arg0)
      ∧ r.2.mem ((c.tc : Thread Cert.OutDMixIdeal.nD Cert.OutDMixIdeal.τ).loc Cert.OutDMixIdeal.main_arg1) = m ((c.tc : Thread Cert.OutDMixIdeal.nD Cert.OutDMixIdeal.τ).loc Cert.OutDMixIdeal.main_arg1))
      ∧ r.2.sem = fun _ => 0)

def quiescent_OutDMixRefIdeal [hOutDMixRefIdeal : Cert.OutDMixRefIdeal.Facts] : Prop :=
  ∀ (m : (ℓ : Loc Cert.OutDMixRefIdeal.nD Cert.OutDMixRefIdeal.τ Cert.OutDMixRefIdeal.sig) → Buf (Elt Ideal) ℓ) (g : Dev Cert.OutDMixRefIdeal.nD → PrngReg), Pre_OutDMixRefIdeal m →
    θ_run (Cert.OutDMixRefIdeal.defs (F := Ideal)) (onTc (τ := Cert.OutDMixRefIdeal.τ) (Cert.OutDMixRefIdeal.main (F := Ideal))) ⟨m, fun _ => 0, g⟩ (fun r => (∀ c : Dev Cert.OutDMixRefIdeal.nD,
      r.2.mem ((c.tc : Thread Cert.OutDMixRefIdeal.nD Cert.OutDMixRefIdeal.τ).loc Cert.OutDMixRefIdeal.main_arg0) = m ((c.tc : Thread Cert.OutDMixRefIdeal.nD Cert.OutDMixRefIdeal.τ).loc Cert.OutDMixRefIdeal.main_arg0)
      ∧ r.2.mem ((c.tc : Thread Cert.OutDMixRefIdeal.nD Cert.OutDMixRefIdeal.τ).loc Cert.OutDMixRefIdeal.main_arg1) = m ((c.tc : Thread Cert.OutDMixRefIdeal.nD Cert.OutDMixRefIdeal.τ).loc Cert.OutDMixRefIdeal.main_arg1))
      ∧ r.2.sem = fun _ => 0)

def quiescent_OutGw [hOutGw : Cert.OutGw.Facts] : Prop :=
  ∀ (m : (ℓ : Loc Cert.OutGw.nD Cert.OutGw.τ Cert.OutGw.sig) → Buf (Elt Bits) ℓ) (g : Dev Cert.OutGw.nD → PrngReg), Pre_OutGw m →
    θ_run (Cert.OutGw.defs (F := Bits)) (onTc (τ := Cert.OutGw.τ) (Cert.OutGw.main (F := Bits))) ⟨m, fun _ => 0, g⟩ (fun r => (∀ c : Dev Cert.OutGw.nD,
      r.2.mem ((c.tc : Thread Cert.OutGw.nD Cert.OutGw.τ).loc Cert.OutGw.main_arg0) = m ((c.tc : Thread Cert.OutGw.nD Cert.OutGw.τ).loc Cert.OutGw.main_arg0)
      ∧ r.2.mem ((c.tc : Thread Cert.OutGw.nD Cert.OutGw.τ).loc Cert.OutGw.main_arg1) = m ((c.tc : Thread Cert.OutGw.nD Cert.OutGw.τ).loc Cert.OutGw.main_arg1))
      ∧ r.2.sem = fun _ => 0)

def quiescent_OutGwIdeal [hOutGwIdeal : Cert.OutGwIdeal.Facts] : Prop :=
  ∀ (m : (ℓ : Loc Cert.OutGwIdeal.nD Cert.OutGwIdeal.τ Cert.OutGwIdeal.sig) → Buf (Elt Ideal) ℓ) (g : Dev Cert.OutGwIdeal.nD → PrngReg), Pre_OutGwIdeal m →
    θ_run (Cert.OutGwIdeal.defs (F := Ideal)) (onTc (τ := Cert.OutGwIdeal.τ) (Cert.OutGwIdeal.main (F := Ideal))) ⟨m, fun _ => 0, g⟩ (fun r => (∀ c : Dev Cert.OutGwIdeal.nD,
      r.2.mem ((c.tc : Thread Cert.OutGwIdeal.nD Cert.OutGwIdeal.τ).loc Cert.OutGwIdeal.main_arg0) = m ((c.tc : Thread Cert.OutGwIdeal.nD Cert.OutGwIdeal.τ).loc Cert.OutGwIdeal.main_arg0)
      ∧ r.2.mem ((c.tc : Thread Cert.OutGwIdeal.nD Cert.OutGwIdeal.τ).loc Cert.OutGwIdeal.main_arg1) = m ((c.tc : Thread Cert.OutGwIdeal.nD Cert.OutGwIdeal.τ).loc Cert.OutGwIdeal.main_arg1))
      ∧ r.2.sem = fun _ => 0)

def quiescent_OutGwRefIdeal [hOutGwRefIdeal : Cert.OutGwRefIdeal.Facts] : Prop :=
  ∀ (m : (ℓ : Loc Cert.OutGwRefIdeal.nD Cert.OutGwRefIdeal.τ Cert.OutGwRefIdeal.sig) → Buf (Elt Ideal) ℓ) (g : Dev Cert.OutGwRefIdeal.nD → PrngReg), Pre_OutGwRefIdeal m →
    θ_run (Cert.OutGwRefIdeal.defs (F := Ideal)) (onTc (τ := Cert.OutGwRefIdeal.τ) (Cert.OutGwRefIdeal.main (F := Ideal))) ⟨m, fun _ => 0, g⟩ (fun r => (∀ c : Dev Cert.OutGwRefIdeal.nD,
      r.2.mem ((c.tc : Thread Cert.OutGwRefIdeal.nD Cert.OutGwRefIdeal.τ).loc Cert.OutGwRefIdeal.main_arg0) = m ((c.tc : Thread Cert.OutGwRefIdeal.nD Cert.OutGwRefIdeal.τ).loc Cert.OutGwRefIdeal.main_arg0)
      ∧ r.2.mem ((c.tc : Thread Cert.OutGwRefIdeal.nD Cert.OutGwRefIdeal.τ).loc Cert.OutGwRefIdeal.main_arg1) = m ((c.tc : Thread Cert.OutGwRefIdeal.nD Cert.OutGwRefIdeal.τ).loc Cert.OutGwRefIdeal.main_arg1))
      ∧ r.2.sem = fun _ => 0)

def quiescent_BrAttn [hBrAttn : Cert.BrAttn.Facts] : Prop :=
  ∀ (m : (ℓ : Loc Cert.BrAttn.nD Cert.BrAttn.τ Cert.BrAttn.sig) → Buf (Elt Bits) ℓ) (g : Dev Cert.BrAttn.nD → PrngReg), Pre_BrAttn m →
    θ_run (Cert.BrAttn.defs (F := Bits)) (onTc (τ := Cert.BrAttn.τ) (Cert.BrAttn.main (F := Bits))) ⟨m, fun _ => 0, g⟩ (fun r => (∀ c : Dev Cert.BrAttn.nD,
      r.2.mem ((c.tc : Thread Cert.BrAttn.nD Cert.BrAttn.τ).loc Cert.BrAttn.main_arg0) = m ((c.tc : Thread Cert.BrAttn.nD Cert.BrAttn.τ).loc Cert.BrAttn.main_arg0)
      ∧ r.2.mem ((c.tc : Thread Cert.BrAttn.nD Cert.BrAttn.τ).loc Cert.BrAttn.main_arg1) = m ((c.tc : Thread Cert.BrAttn.nD Cert.BrAttn.τ).loc Cert.BrAttn.main_arg1))
      ∧ r.2.sem = fun _ => 0)

def quiescent_BrAttnIdeal [hBrAttnIdeal : Cert.BrAttnIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg), Pre_BrAttnIdeal m →
    θ_run (Cert.BrAttnIdeal.defs (F := Ideal)) (onTc (τ := Cert.BrAttnIdeal.τ) (Cert.BrAttnIdeal.main (F := Ideal))) ⟨m, fun _ => 0, g⟩ (fun r => (∀ c : Dev Cert.BrAttnIdeal.nD,
      r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
      ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ r.2.sem = fun _ => 0)

def quiescent_BrAttnRefIdeal [hBrAttnRefIdeal : Cert.BrAttnRefIdeal.Facts] : Prop :=
  ∀ (m : (ℓ : Loc Cert.BrAttnRefIdeal.nD Cert.BrAttnRefIdeal.τ Cert.BrAttnRefIdeal.sig) → Buf (Elt Ideal) ℓ) (g : Dev Cert.BrAttnRefIdeal.nD → PrngReg), Pre_BrAttnRefIdeal m →
    θ_run (Cert.BrAttnRefIdeal.defs (F := Ideal)) (onTc (τ := Cert.BrAttnRefIdeal.τ) (Cert.BrAttnRefIdeal.main (F := Ideal))) ⟨m, fun _ => 0, g⟩ (fun r => (∀ c : Dev Cert.BrAttnRefIdeal.nD,
      r.2.mem ((c.tc : Thread Cert.BrAttnRefIdeal.nD Cert.BrAttnRefIdeal.τ).loc Cert.BrAttnRefIdeal.main_arg0) = m ((c.tc : Thread Cert.BrAttnRefIdeal.nD Cert.BrAttnRefIdeal.τ).loc Cert.BrAttnRefIdeal.main_arg0)
      ∧ r.2.mem ((c.tc : Thread Cert.BrAttnRefIdeal.nD Cert.BrAttnRefIdeal.τ).loc Cert.BrAttnRefIdeal.main_arg1) = m ((c.tc : Thread Cert.BrAttnRefIdeal.nD Cert.BrAttnRefIdeal.τ).loc Cert.BrAttnRefIdeal.main_arg1))
      ∧ r.2.sem = fun _ => 0)

def quiescent_BrSsm [hBrSsm : Cert.BrSsm.Facts] : Prop :=
  ∀ (m : (ℓ : Loc Cert.BrSsm.nD Cert.BrSsm.τ Cert.BrSsm.sig) → Buf (Elt Bits) ℓ) (g : Dev Cert.BrSsm.nD → PrngReg), Pre_BrSsm m →
    θ_run (Cert.BrSsm.defs (F := Bits)) (onTc (τ := Cert.BrSsm.τ) (Cert.BrSsm.main (F := Bits))) ⟨m, fun _ => 0, g⟩ (fun r => (∀ c : Dev Cert.BrSsm.nD,
      r.2.mem ((c.tc : Thread Cert.BrSsm.nD Cert.BrSsm.τ).loc Cert.BrSsm.main_arg0) = m ((c.tc : Thread Cert.BrSsm.nD Cert.BrSsm.τ).loc Cert.BrSsm.main_arg0)
      ∧ r.2.mem ((c.tc : Thread Cert.BrSsm.nD Cert.BrSsm.τ).loc Cert.BrSsm.main_arg1) = m ((c.tc : Thread Cert.BrSsm.nD Cert.BrSsm.τ).loc Cert.BrSsm.main_arg1))
      ∧ r.2.sem = fun _ => 0)

def quiescent_BrSsmIdeal [hBrSsmIdeal : Cert.BrSsmIdeal.Facts] : Prop :=
  ∀ (m : (ℓ : Loc Cert.BrSsmIdeal.nD Cert.BrSsmIdeal.τ Cert.BrSsmIdeal.sig) → Buf (Elt Ideal) ℓ) (g : Dev Cert.BrSsmIdeal.nD → PrngReg), Pre_BrSsmIdeal m →
    θ_run (Cert.BrSsmIdeal.defs (F := Ideal)) (onTc (τ := Cert.BrSsmIdeal.τ) (Cert.BrSsmIdeal.main (F := Ideal))) ⟨m, fun _ => 0, g⟩ (fun r => (∀ c : Dev Cert.BrSsmIdeal.nD,
      r.2.mem ((c.tc : Thread Cert.BrSsmIdeal.nD Cert.BrSsmIdeal.τ).loc Cert.BrSsmIdeal.main_arg0) = m ((c.tc : Thread Cert.BrSsmIdeal.nD Cert.BrSsmIdeal.τ).loc Cert.BrSsmIdeal.main_arg0)
      ∧ r.2.mem ((c.tc : Thread Cert.BrSsmIdeal.nD Cert.BrSsmIdeal.τ).loc Cert.BrSsmIdeal.main_arg1) = m ((c.tc : Thread Cert.BrSsmIdeal.nD Cert.BrSsmIdeal.τ).loc Cert.BrSsmIdeal.main_arg1))
      ∧ r.2.sem = fun _ => 0)

def quiescent_BrSsmRefIdeal [hBrSsmRefIdeal : Cert.BrSsmRefIdeal.Facts] : Prop :=
  ∀ (m : (ℓ : Loc Cert.BrSsmRefIdeal.nD Cert.BrSsmRefIdeal.τ Cert.BrSsmRefIdeal.sig) → Buf (Elt Ideal) ℓ) (g : Dev Cert.BrSsmRefIdeal.nD → PrngReg), Pre_BrSsmRefIdeal m →
    θ_run (Cert.BrSsmRefIdeal.defs (F := Ideal)) (onTc (τ := Cert.BrSsmRefIdeal.τ) (Cert.BrSsmRefIdeal.main (F := Ideal))) ⟨m, fun _ => 0, g⟩ (fun r => (∀ c : Dev Cert.BrSsmRefIdeal.nD,
      r.2.mem ((c.tc : Thread Cert.BrSsmRefIdeal.nD Cert.BrSsmRefIdeal.τ).loc Cert.BrSsmRefIdeal.main_arg0) = m ((c.tc : Thread Cert.BrSsmRefIdeal.nD Cert.BrSsmRefIdeal.τ).loc Cert.BrSsmRefIdeal.main_arg0)
      ∧ r.2.mem ((c.tc : Thread Cert.BrSsmRefIdeal.nD Cert.BrSsmRefIdeal.τ).loc Cert.BrSsmRefIdeal.main_arg1) = m ((c.tc : Thread Cert.BrSsmRefIdeal.nD Cert.BrSsmRefIdeal.τ).loc Cert.BrSsmRefIdeal.main_arg1))
      ∧ r.2.sem = fun _ => 0)

def quiescent_BrDAttn [hBrDAttn : Cert.BrDAttn.Facts] : Prop :=
  ∀ (m : (ℓ : Loc Cert.BrDAttn.nD Cert.BrDAttn.τ Cert.BrDAttn.sig) → Buf (Elt Bits) ℓ) (g : Dev Cert.BrDAttn.nD → PrngReg), Pre_BrDAttn m →
    θ_run (Cert.BrDAttn.defs (F := Bits)) (onTc (τ := Cert.BrDAttn.τ) (Cert.BrDAttn.main (F := Bits))) ⟨m, fun _ => 0, g⟩ (fun r => (∀ c : Dev Cert.BrDAttn.nD,
      r.2.mem ((c.tc : Thread Cert.BrDAttn.nD Cert.BrDAttn.τ).loc Cert.BrDAttn.main_arg0) = m ((c.tc : Thread Cert.BrDAttn.nD Cert.BrDAttn.τ).loc Cert.BrDAttn.main_arg0)
      ∧ r.2.mem ((c.tc : Thread Cert.BrDAttn.nD Cert.BrDAttn.τ).loc Cert.BrDAttn.main_arg1) = m ((c.tc : Thread Cert.BrDAttn.nD Cert.BrDAttn.τ).loc Cert.BrDAttn.main_arg1))
      ∧ r.2.sem = fun _ => 0)

def quiescent_BrDAttnIdeal [hBrDAttnIdeal : Cert.BrDAttnIdeal.Facts] : Prop :=
  ∀ (m : (ℓ : Loc Cert.BrDAttnIdeal.nD Cert.BrDAttnIdeal.τ Cert.BrDAttnIdeal.sig) → Buf (Elt Ideal) ℓ) (g : Dev Cert.BrDAttnIdeal.nD → PrngReg), Pre_BrDAttnIdeal m →
    θ_run (Cert.BrDAttnIdeal.defs (F := Ideal)) (onTc (τ := Cert.BrDAttnIdeal.τ) (Cert.BrDAttnIdeal.main (F := Ideal))) ⟨m, fun _ => 0, g⟩ (fun r => (∀ c : Dev Cert.BrDAttnIdeal.nD,
      r.2.mem ((c.tc : Thread Cert.BrDAttnIdeal.nD Cert.BrDAttnIdeal.τ).loc Cert.BrDAttnIdeal.main_arg0) = m ((c.tc : Thread Cert.BrDAttnIdeal.nD Cert.BrDAttnIdeal.τ).loc Cert.BrDAttnIdeal.main_arg0)
      ∧ r.2.mem ((c.tc : Thread Cert.BrDAttnIdeal.nD Cert.BrDAttnIdeal.τ).loc Cert.BrDAttnIdeal.main_arg1) = m ((c.tc : Thread Cert.BrDAttnIdeal.nD Cert.BrDAttnIdeal.τ).loc Cert.BrDAttnIdeal.main_arg1))
      ∧ r.2.sem = fun _ => 0)

def quiescent_BrDAttnRefIdeal [hBrDAttnRefIdeal : Cert.BrDAttnRefIdeal.Facts] : Prop :=
  ∀ (m : (ℓ : Loc Cert.BrDAttnRefIdeal.nD Cert.BrDAttnRefIdeal.τ Cert.BrDAttnRefIdeal.sig) → Buf (Elt Ideal) ℓ) (g : Dev Cert.BrDAttnRefIdeal.nD → PrngReg), Pre_BrDAttnRefIdeal m →
    θ_run (Cert.BrDAttnRefIdeal.defs (F := Ideal)) (onTc (τ := Cert.BrDAttnRefIdeal.τ) (Cert.BrDAttnRefIdeal.main (F := Ideal))) ⟨m, fun _ => 0, g⟩ (fun r => (∀ c : Dev Cert.BrDAttnRefIdeal.nD,
      r.2.mem ((c.tc : Thread Cert.BrDAttnRefIdeal.nD Cert.BrDAttnRefIdeal.τ).loc Cert.BrDAttnRefIdeal.main_arg0) = m ((c.tc : Thread Cert.BrDAttnRefIdeal.nD Cert.BrDAttnRefIdeal.τ).loc Cert.BrDAttnRefIdeal.main_arg0)
      ∧ r.2.mem ((c.tc : Thread Cert.BrDAttnRefIdeal.nD Cert.BrDAttnRefIdeal.τ).loc Cert.BrDAttnRefIdeal.main_arg1) = m ((c.tc : Thread Cert.BrDAttnRefIdeal.nD Cert.BrDAttnRefIdeal.τ).loc Cert.BrDAttnRefIdeal.main_arg1))
      ∧ r.2.sem = fun _ => 0)

def quiescent_BrDSsm [hBrDSsm : Cert.BrDSsm.Facts] : Prop :=
  ∀ (m : (ℓ : Loc Cert.BrDSsm.nD Cert.BrDSsm.τ Cert.BrDSsm.sig) → Buf (Elt Bits) ℓ) (g : Dev Cert.BrDSsm.nD → PrngReg), Pre_BrDSsm m →
    θ_run (Cert.BrDSsm.defs (F := Bits)) (onTc (τ := Cert.BrDSsm.τ) (Cert.BrDSsm.main (F := Bits))) ⟨m, fun _ => 0, g⟩ (fun r => (∀ c : Dev Cert.BrDSsm.nD,
      r.2.mem ((c.tc : Thread Cert.BrDSsm.nD Cert.BrDSsm.τ).loc Cert.BrDSsm.main_arg0) = m ((c.tc : Thread Cert.BrDSsm.nD Cert.BrDSsm.τ).loc Cert.BrDSsm.main_arg0)
      ∧ r.2.mem ((c.tc : Thread Cert.BrDSsm.nD Cert.BrDSsm.τ).loc Cert.BrDSsm.main_arg1) = m ((c.tc : Thread Cert.BrDSsm.nD Cert.BrDSsm.τ).loc Cert.BrDSsm.main_arg1))
      ∧ r.2.sem = fun _ => 0)

def quiescent_BrDSsmIdeal [hBrDSsmIdeal : Cert.BrDSsmIdeal.Facts] : Prop :=
  ∀ (m : (ℓ : Loc Cert.BrDSsmIdeal.nD Cert.BrDSsmIdeal.τ Cert.BrDSsmIdeal.sig) → Buf (Elt Ideal) ℓ) (g : Dev Cert.BrDSsmIdeal.nD → PrngReg), Pre_BrDSsmIdeal m →
    θ_run (Cert.BrDSsmIdeal.defs (F := Ideal)) (onTc (τ := Cert.BrDSsmIdeal.τ) (Cert.BrDSsmIdeal.main (F := Ideal))) ⟨m, fun _ => 0, g⟩ (fun r => (∀ c : Dev Cert.BrDSsmIdeal.nD,
      r.2.mem ((c.tc : Thread Cert.BrDSsmIdeal.nD Cert.BrDSsmIdeal.τ).loc Cert.BrDSsmIdeal.main_arg0) = m ((c.tc : Thread Cert.BrDSsmIdeal.nD Cert.BrDSsmIdeal.τ).loc Cert.BrDSsmIdeal.main_arg0)
      ∧ r.2.mem ((c.tc : Thread Cert.BrDSsmIdeal.nD Cert.BrDSsmIdeal.τ).loc Cert.BrDSsmIdeal.main_arg1) = m ((c.tc : Thread Cert.BrDSsmIdeal.nD Cert.BrDSsmIdeal.τ).loc Cert.BrDSsmIdeal.main_arg1))
      ∧ r.2.sem = fun _ => 0)

def quiescent_BrDSsmRefIdeal [hBrDSsmRefIdeal : Cert.BrDSsmRefIdeal.Facts] : Prop :=
  ∀ (m : (ℓ : Loc Cert.BrDSsmRefIdeal.nD Cert.BrDSsmRefIdeal.τ Cert.BrDSsmRefIdeal.sig) → Buf (Elt Ideal) ℓ) (g : Dev Cert.BrDSsmRefIdeal.nD → PrngReg), Pre_BrDSsmRefIdeal m →
    θ_run (Cert.BrDSsmRefIdeal.defs (F := Ideal)) (onTc (τ := Cert.BrDSsmRefIdeal.τ) (Cert.BrDSsmRefIdeal.main (F := Ideal))) ⟨m, fun _ => 0, g⟩ (fun r => (∀ c : Dev Cert.BrDSsmRefIdeal.nD,
      r.2.mem ((c.tc : Thread Cert.BrDSsmRefIdeal.nD Cert.BrDSsmRefIdeal.τ).loc Cert.BrDSsmRefIdeal.main_arg0) = m ((c.tc : Thread Cert.BrDSsmRefIdeal.nD Cert.BrDSsmRefIdeal.τ).loc Cert.BrDSsmRefIdeal.main_arg0)
      ∧ r.2.mem ((c.tc : Thread Cert.BrDSsmRefIdeal.nD Cert.BrDSsmRefIdeal.τ).loc Cert.BrDSsmRefIdeal.main_arg1) = m ((c.tc : Thread Cert.BrDSsmRefIdeal.nD Cert.BrDSsmRefIdeal.τ).loc Cert.BrDSsmRefIdeal.main_arg1))
      ∧ r.2.sem = fun _ => 0)

def quiescent_BrGwAttn [hBrGwAttn : Cert.BrGwAttn.Facts] : Prop :=
  ∀ (m : (ℓ : Loc Cert.BrGwAttn.nD Cert.BrGwAttn.τ Cert.BrGwAttn.sig) → Buf (Elt Bits) ℓ) (g : Dev Cert.BrGwAttn.nD → PrngReg), Pre_BrGwAttn m →
    θ_run (Cert.BrGwAttn.defs (F := Bits)) (onTc (τ := Cert.BrGwAttn.τ) (Cert.BrGwAttn.main (F := Bits))) ⟨m, fun _ => 0, g⟩ (fun r => (∀ c : Dev Cert.BrGwAttn.nD,
      r.2.mem ((c.tc : Thread Cert.BrGwAttn.nD Cert.BrGwAttn.τ).loc Cert.BrGwAttn.main_arg0) = m ((c.tc : Thread Cert.BrGwAttn.nD Cert.BrGwAttn.τ).loc Cert.BrGwAttn.main_arg0)
      ∧ r.2.mem ((c.tc : Thread Cert.BrGwAttn.nD Cert.BrGwAttn.τ).loc Cert.BrGwAttn.main_arg1) = m ((c.tc : Thread Cert.BrGwAttn.nD Cert.BrGwAttn.τ).loc Cert.BrGwAttn.main_arg1))
      ∧ r.2.sem = fun _ => 0)

def quiescent_BrGwAttnIdeal [hBrGwAttnIdeal : Cert.BrGwAttnIdeal.Facts] : Prop :=
  ∀ (m : (ℓ : Loc Cert.BrGwAttnIdeal.nD Cert.BrGwAttnIdeal.τ Cert.BrGwAttnIdeal.sig) → Buf (Elt Ideal) ℓ) (g : Dev Cert.BrGwAttnIdeal.nD → PrngReg), Pre_BrGwAttnIdeal m →
    θ_run (Cert.BrGwAttnIdeal.defs (F := Ideal)) (onTc (τ := Cert.BrGwAttnIdeal.τ) (Cert.BrGwAttnIdeal.main (F := Ideal))) ⟨m, fun _ => 0, g⟩ (fun r => (∀ c : Dev Cert.BrGwAttnIdeal.nD,
      r.2.mem ((c.tc : Thread Cert.BrGwAttnIdeal.nD Cert.BrGwAttnIdeal.τ).loc Cert.BrGwAttnIdeal.main_arg0) = m ((c.tc : Thread Cert.BrGwAttnIdeal.nD Cert.BrGwAttnIdeal.τ).loc Cert.BrGwAttnIdeal.main_arg0)
      ∧ r.2.mem ((c.tc : Thread Cert.BrGwAttnIdeal.nD Cert.BrGwAttnIdeal.τ).loc Cert.BrGwAttnIdeal.main_arg1) = m ((c.tc : Thread Cert.BrGwAttnIdeal.nD Cert.BrGwAttnIdeal.τ).loc Cert.BrGwAttnIdeal.main_arg1))
      ∧ r.2.sem = fun _ => 0)

def quiescent_BrGwAttnRefIdeal [hBrGwAttnRefIdeal : Cert.BrGwAttnRefIdeal.Facts] : Prop :=
  ∀ (m : (ℓ : Loc Cert.BrGwAttnRefIdeal.nD Cert.BrGwAttnRefIdeal.τ Cert.BrGwAttnRefIdeal.sig) → Buf (Elt Ideal) ℓ) (g : Dev Cert.BrGwAttnRefIdeal.nD → PrngReg), Pre_BrGwAttnRefIdeal m →
    θ_run (Cert.BrGwAttnRefIdeal.defs (F := Ideal)) (onTc (τ := Cert.BrGwAttnRefIdeal.τ) (Cert.BrGwAttnRefIdeal.main (F := Ideal))) ⟨m, fun _ => 0, g⟩ (fun r => (∀ c : Dev Cert.BrGwAttnRefIdeal.nD,
      r.2.mem ((c.tc : Thread Cert.BrGwAttnRefIdeal.nD Cert.BrGwAttnRefIdeal.τ).loc Cert.BrGwAttnRefIdeal.main_arg0) = m ((c.tc : Thread Cert.BrGwAttnRefIdeal.nD Cert.BrGwAttnRefIdeal.τ).loc Cert.BrGwAttnRefIdeal.main_arg0)
      ∧ r.2.mem ((c.tc : Thread Cert.BrGwAttnRefIdeal.nD Cert.BrGwAttnRefIdeal.τ).loc Cert.BrGwAttnRefIdeal.main_arg1) = m ((c.tc : Thread Cert.BrGwAttnRefIdeal.nD Cert.BrGwAttnRefIdeal.τ).loc Cert.BrGwAttnRefIdeal.main_arg1))
      ∧ r.2.sem = fun _ => 0)

def quiescent_BrGwSsm [hBrGwSsm : Cert.BrGwSsm.Facts] : Prop :=
  ∀ (m : (ℓ : Loc Cert.BrGwSsm.nD Cert.BrGwSsm.τ Cert.BrGwSsm.sig) → Buf (Elt Bits) ℓ) (g : Dev Cert.BrGwSsm.nD → PrngReg), Pre_BrGwSsm m →
    θ_run (Cert.BrGwSsm.defs (F := Bits)) (onTc (τ := Cert.BrGwSsm.τ) (Cert.BrGwSsm.main (F := Bits))) ⟨m, fun _ => 0, g⟩ (fun r => (∀ c : Dev Cert.BrGwSsm.nD,
      r.2.mem ((c.tc : Thread Cert.BrGwSsm.nD Cert.BrGwSsm.τ).loc Cert.BrGwSsm.main_arg0) = m ((c.tc : Thread Cert.BrGwSsm.nD Cert.BrGwSsm.τ).loc Cert.BrGwSsm.main_arg0)
      ∧ r.2.mem ((c.tc : Thread Cert.BrGwSsm.nD Cert.BrGwSsm.τ).loc Cert.BrGwSsm.main_arg1) = m ((c.tc : Thread Cert.BrGwSsm.nD Cert.BrGwSsm.τ).loc Cert.BrGwSsm.main_arg1))
      ∧ r.2.sem = fun _ => 0)

def quiescent_BrGwSsmIdeal [hBrGwSsmIdeal : Cert.BrGwSsmIdeal.Facts] : Prop :=
  ∀ (m : (ℓ : Loc Cert.BrGwSsmIdeal.nD Cert.BrGwSsmIdeal.τ Cert.BrGwSsmIdeal.sig) → Buf (Elt Ideal) ℓ) (g : Dev Cert.BrGwSsmIdeal.nD → PrngReg), Pre_BrGwSsmIdeal m →
    θ_run (Cert.BrGwSsmIdeal.defs (F := Ideal)) (onTc (τ := Cert.BrGwSsmIdeal.τ) (Cert.BrGwSsmIdeal.main (F := Ideal))) ⟨m, fun _ => 0, g⟩ (fun r => (∀ c : Dev Cert.BrGwSsmIdeal.nD,
      r.2.mem ((c.tc : Thread Cert.BrGwSsmIdeal.nD Cert.BrGwSsmIdeal.τ).loc Cert.BrGwSsmIdeal.main_arg0) = m ((c.tc : Thread Cert.BrGwSsmIdeal.nD Cert.BrGwSsmIdeal.τ).loc Cert.BrGwSsmIdeal.main_arg0)
      ∧ r.2.mem ((c.tc : Thread Cert.BrGwSsmIdeal.nD Cert.BrGwSsmIdeal.τ).loc Cert.BrGwSsmIdeal.main_arg1) = m ((c.tc : Thread Cert.BrGwSsmIdeal.nD Cert.BrGwSsmIdeal.τ).loc Cert.BrGwSsmIdeal.main_arg1))
      ∧ r.2.sem = fun _ => 0)

def quiescent_BrGwSsmRefIdeal [hBrGwSsmRefIdeal : Cert.BrGwSsmRefIdeal.Facts] : Prop :=
  ∀ (m : (ℓ : Loc Cert.BrGwSsmRefIdeal.nD Cert.BrGwSsmRefIdeal.τ Cert.BrGwSsmRefIdeal.sig) → Buf (Elt Ideal) ℓ) (g : Dev Cert.BrGwSsmRefIdeal.nD → PrngReg), Pre_BrGwSsmRefIdeal m →
    θ_run (Cert.BrGwSsmRefIdeal.defs (F := Ideal)) (onTc (τ := Cert.BrGwSsmRefIdeal.τ) (Cert.BrGwSsmRefIdeal.main (F := Ideal))) ⟨m, fun _ => 0, g⟩ (fun r => (∀ c : Dev Cert.BrGwSsmRefIdeal.nD,
      r.2.mem ((c.tc : Thread Cert.BrGwSsmRefIdeal.nD Cert.BrGwSsmRefIdeal.τ).loc Cert.BrGwSsmRefIdeal.main_arg0) = m ((c.tc : Thread Cert.BrGwSsmRefIdeal.nD Cert.BrGwSsmRefIdeal.τ).loc Cert.BrGwSsmRefIdeal.main_arg0)
      ∧ r.2.mem ((c.tc : Thread Cert.BrGwSsmRefIdeal.nD Cert.BrGwSsmRefIdeal.τ).loc Cert.BrGwSsmRefIdeal.main_arg1) = m ((c.tc : Thread Cert.BrGwSsmRefIdeal.nD Cert.BrGwSsmRefIdeal.τ).loc Cert.BrGwSsmRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_GluGw [hGluGw : Cert.GluGw.Facts] : Prop :=
  ∀ (m : (ℓ : Loc Cert.GluGw.nD Cert.GluGw.τ Cert.GluGw.sig) → Buf (Elt Bits) ℓ) (g : Dev Cert.GluGw.nD → PrngReg), Pre_GluGw m →
    θ_run (Cert.GluGw.defs (F := Bits)) (onTc (τ := Cert.GluGw.τ) (Cert.GluGw.main (F := Bits))) ⟨m, fun _ => 0, g⟩ (fun r => (∀ c : Dev Cert.GluGw.nD,
      r.2.mem ((c.tc : Thread Cert.GluGw.nD Cert.GluGw.τ).loc Cert.GluGw.main_arg0) = m ((c.tc : Thread Cert.GluGw.nD Cert.GluGw.τ).loc Cert.GluGw.main_arg0)
      ∧ r.2.mem ((c.tc : Thread Cert.GluGw.nD Cert.GluGw.τ).loc Cert.GluGw.main_arg1) = m ((c.tc : Thread Cert.GluGw.nD Cert.GluGw.τ).loc Cert.GluGw.main_arg1))
      ∧ r.2.sem = fun _ => 0)

def quiescent_GluGwIdeal [hGluGwIdeal : Cert.GluGwIdeal.Facts] : Prop :=
  ∀ (m : (ℓ : Loc Cert.GluGwIdeal.nD Cert.GluGwIdeal.τ Cert.GluGwIdeal.sig) → Buf (Elt Ideal) ℓ) (g : Dev Cert.GluGwIdeal.nD → PrngReg), Pre_GluGwIdeal m →
    θ_run (Cert.GluGwIdeal.defs (F := Ideal)) (onTc (τ := Cert.GluGwIdeal.τ) (Cert.GluGwIdeal.main (F := Ideal))) ⟨m, fun _ => 0, g⟩ (fun r => (∀ c : Dev Cert.GluGwIdeal.nD,
      r.2.mem ((c.tc : Thread Cert.GluGwIdeal.nD Cert.GluGwIdeal.τ).loc Cert.GluGwIdeal.main_arg0) = m ((c.tc : Thread Cert.GluGwIdeal.nD Cert.GluGwIdeal.τ).loc Cert.GluGwIdeal.main_arg0)
      ∧ r.2.mem ((c.tc : Thread Cert.GluGwIdeal.nD Cert.GluGwIdeal.τ).loc Cert.GluGwIdeal.main_arg1) = m ((c.tc : Thread Cert.GluGwIdeal.nD Cert.GluGwIdeal.τ).loc Cert.GluGwIdeal.main_arg1))
      ∧ r.2.sem = fun _ => 0)

def quiescent_GluGwRefIdeal [hGluGwRefIdeal : Cert.GluGwRefIdeal.Facts] : Prop :=
  ∀ (m : (ℓ : Loc Cert.GluGwRefIdeal.nD Cert.GluGwRefIdeal.τ Cert.GluGwRefIdeal.sig) → Buf (Elt Ideal) ℓ) (g : Dev Cert.GluGwRefIdeal.nD → PrngReg), Pre_GluGwRefIdeal m →
    θ_run (Cert.GluGwRefIdeal.defs (F := Ideal)) (onTc (τ := Cert.GluGwRefIdeal.τ) (Cert.GluGwRefIdeal.main (F := Ideal))) ⟨m, fun _ => 0, g⟩ (fun r => (∀ c : Dev Cert.GluGwRefIdeal.nD,
      r.2.mem ((c.tc : Thread Cert.GluGwRefIdeal.nD Cert.GluGwRefIdeal.τ).loc Cert.GluGwRefIdeal.main_arg0) = m ((c.tc : Thread Cert.GluGwRefIdeal.nD Cert.GluGwRefIdeal.τ).loc Cert.GluGwRefIdeal.main_arg0)
      ∧ r.2.mem ((c.tc : Thread Cert.GluGwRefIdeal.nD Cert.GluGwRefIdeal.τ).loc Cert.GluGwRefIdeal.main_arg1) = m ((c.tc : Thread Cert.GluGwRefIdeal.nD Cert.GluGwRefIdeal.τ).loc Cert.GluGwRefIdeal.main_arg1))
      ∧ r.2.sem = fun _ => 0)

def quiescent_DGy [hDGy : Cert.DGy.Facts] : Prop :=
  ∀ (m : (ℓ : Loc Cert.DGy.nD Cert.DGy.τ Cert.DGy.sig) → Buf (Elt Bits) ℓ) (g : Dev Cert.DGy.nD → PrngReg), Pre_DGy m →
    θ_run (Cert.DGy.defs (F := Bits)) (onTc (τ := Cert.DGy.τ) (Cert.DGy.main (F := Bits))) ⟨m, fun _ => 0, g⟩ (fun r => (∀ c : Dev Cert.DGy.nD,
      r.2.mem ((c.tc : Thread Cert.DGy.nD Cert.DGy.τ).loc Cert.DGy.main_arg0) = m ((c.tc : Thread Cert.DGy.nD Cert.DGy.τ).loc Cert.DGy.main_arg0)
      ∧ r.2.mem ((c.tc : Thread Cert.DGy.nD Cert.DGy.τ).loc Cert.DGy.main_arg1) = m ((c.tc : Thread Cert.DGy.nD Cert.DGy.τ).loc Cert.DGy.main_arg1)
      ∧ r.2.mem ((c.tc : Thread Cert.DGy.nD Cert.DGy.τ).loc Cert.DGy.main_arg2) = m ((c.tc : Thread Cert.DGy.nD Cert.DGy.τ).loc Cert.DGy.main_arg2))
      ∧ r.2.sem = fun _ => 0)

def quiescent_DGyIdeal [hDGyIdeal : Cert.DGyIdeal.Facts] : Prop :=
  ∀ (m : (ℓ : Loc Cert.DGyIdeal.nD Cert.DGyIdeal.τ Cert.DGyIdeal.sig) → Buf (Elt Ideal) ℓ) (g : Dev Cert.DGyIdeal.nD → PrngReg), Pre_DGyIdeal m →
    θ_run (Cert.DGyIdeal.defs (F := Ideal)) (onTc (τ := Cert.DGyIdeal.τ) (Cert.DGyIdeal.main (F := Ideal))) ⟨m, fun _ => 0, g⟩ (fun r => (∀ c : Dev Cert.DGyIdeal.nD,
      r.2.mem ((c.tc : Thread Cert.DGyIdeal.nD Cert.DGyIdeal.τ).loc Cert.DGyIdeal.main_arg0) = m ((c.tc : Thread Cert.DGyIdeal.nD Cert.DGyIdeal.τ).loc Cert.DGyIdeal.main_arg0)
      ∧ r.2.mem ((c.tc : Thread Cert.DGyIdeal.nD Cert.DGyIdeal.τ).loc Cert.DGyIdeal.main_arg1) = m ((c.tc : Thread Cert.DGyIdeal.nD Cert.DGyIdeal.τ).loc Cert.DGyIdeal.main_arg1)
      ∧ r.2.mem ((c.tc : Thread Cert.DGyIdeal.nD Cert.DGyIdeal.τ).loc Cert.DGyIdeal.main_arg2) = m ((c.tc : Thread Cert.DGyIdeal.nD Cert.DGyIdeal.τ).loc Cert.DGyIdeal.main_arg2))
      ∧ r.2.sem = fun _ => 0)

def quiescent_DGyIdeal_pre_finite_d_gy [hDGyIdeal : Cert.DGyIdeal.Facts] [hPre_finite_d_gy : Cert.Pre_finite_d_gy.Facts] : Prop :=
  ∀ (m : (ℓ : Loc Cert.DGyIdeal.nD Cert.DGyIdeal.τ Cert.DGyIdeal.sig) → Buf (Elt Ideal) ℓ) (g : Dev Cert.DGyIdeal.nD → PrngReg), Pre_DGyIdeal_finite_d_gy m →
    θ_run (Cert.DGyIdeal.defs (F := Ideal)) (onTc (τ := Cert.DGyIdeal.τ) (Cert.DGyIdeal.main (F := Ideal))) ⟨m, fun _ => 0, g⟩ (fun r => (∀ c : Dev Cert.DGyIdeal.nD,
      r.2.mem ((c.tc : Thread Cert.DGyIdeal.nD Cert.DGyIdeal.τ).loc Cert.DGyIdeal.main_arg0) = m ((c.tc : Thread Cert.DGyIdeal.nD Cert.DGyIdeal.τ).loc Cert.DGyIdeal.main_arg0)
      ∧ r.2.mem ((c.tc : Thread Cert.DGyIdeal.nD Cert.DGyIdeal.τ).loc Cert.DGyIdeal.main_arg1) = m ((c.tc : Thread Cert.DGyIdeal.nD Cert.DGyIdeal.τ).loc Cert.DGyIdeal.main_arg1)
      ∧ r.2.mem ((c.tc : Thread Cert.DGyIdeal.nD Cert.DGyIdeal.τ).loc Cert.DGyIdeal.main_arg2) = m ((c.tc : Thread Cert.DGyIdeal.nD Cert.DGyIdeal.τ).loc Cert.DGyIdeal.main_arg2))
      ∧ r.2.sem = fun _ => 0)

def quiescent_DGyRefIdeal [hDGyRefIdeal : Cert.DGyRefIdeal.Facts] : Prop :=
  ∀ (m : (ℓ : Loc Cert.DGyRefIdeal.nD Cert.DGyRefIdeal.τ Cert.DGyRefIdeal.sig) → Buf (Elt Ideal) ℓ) (g : Dev Cert.DGyRefIdeal.nD → PrngReg), Pre_DGyRefIdeal m →
    θ_run (Cert.DGyRefIdeal.defs (F := Ideal)) (onTc (τ := Cert.DGyRefIdeal.τ) (Cert.DGyRefIdeal.main (F := Ideal))) ⟨m, fun _ => 0, g⟩ (fun r => (∀ c : Dev Cert.DGyRefIdeal.nD,
      r.2.mem ((c.tc : Thread Cert.DGyRefIdeal.nD Cert.DGyRefIdeal.τ).loc Cert.DGyRefIdeal.main_arg0) = m ((c.tc : Thread Cert.DGyRefIdeal.nD Cert.DGyRefIdeal.τ).loc Cert.DGyRefIdeal.main_arg0)
      ∧ r.2.mem ((c.tc : Thread Cert.DGyRefIdeal.nD Cert.DGyRefIdeal.τ).loc Cert.DGyRefIdeal.main_arg1) = m ((c.tc : Thread Cert.DGyRefIdeal.nD Cert.DGyRefIdeal.τ).loc Cert.DGyRefIdeal.main_arg1)
      ∧ r.2.mem ((c.tc : Thread Cert.DGyRefIdeal.nD Cert.DGyRefIdeal.τ).loc Cert.DGyRefIdeal.main_arg2) = m ((c.tc : Thread Cert.DGyRefIdeal.nD Cert.DGyRefIdeal.τ).loc Cert.DGyRefIdeal.main_arg2))
      ∧ r.2.sem = fun _ => 0)

def quiescent_DGyRefIdeal_pre_finite_d_gy [hDGyRefIdeal : Cert.DGyRefIdeal.Facts] [hPre_finite_d_gy : Cert.Pre_finite_d_gy.Facts] : Prop :=
  ∀ (m : (ℓ : Loc Cert.DGyRefIdeal.nD Cert.DGyRefIdeal.τ Cert.DGyRefIdeal.sig) → Buf (Elt Ideal) ℓ) (g : Dev Cert.DGyRefIdeal.nD → PrngReg), Pre_DGyRefIdeal_finite_d_gy m →
    θ_run (Cert.DGyRefIdeal.defs (F := Ideal)) (onTc (τ := Cert.DGyRefIdeal.τ) (Cert.DGyRefIdeal.main (F := Ideal))) ⟨m, fun _ => 0, g⟩ (fun r => (∀ c : Dev Cert.DGyRefIdeal.nD,
      r.2.mem ((c.tc : Thread Cert.DGyRefIdeal.nD Cert.DGyRefIdeal.τ).loc Cert.DGyRefIdeal.main_arg0) = m ((c.tc : Thread Cert.DGyRefIdeal.nD Cert.DGyRefIdeal.τ).loc Cert.DGyRefIdeal.main_arg0)
      ∧ r.2.mem ((c.tc : Thread Cert.DGyRefIdeal.nD Cert.DGyRefIdeal.τ).loc Cert.DGyRefIdeal.main_arg1) = m ((c.tc : Thread Cert.DGyRefIdeal.nD Cert.DGyRefIdeal.τ).loc Cert.DGyRefIdeal.main_arg1)
      ∧ r.2.mem ((c.tc : Thread Cert.DGyRefIdeal.nD Cert.DGyRefIdeal.τ).loc Cert.DGyRefIdeal.main_arg2) = m ((c.tc : Thread Cert.DGyRefIdeal.nD Cert.DGyRefIdeal.τ).loc Cert.DGyRefIdeal.main_arg2))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0))
      ∧ r.2.sem = fun _ => 0)

def quiescent_GluGateBwd [hGluGateBwd : Cert.GluGateBwd.Facts] : Prop :=
  ∀ (m : (ℓ : Loc Cert.GluGateBwd.nD Cert.GluGateBwd.τ Cert.GluGateBwd.sig) → Buf (Elt Bits) ℓ) (g : Dev Cert.GluGateBwd.nD → PrngReg), Pre_GluGateBwd m →
    θ_run (Cert.GluGateBwd.defs (F := Bits)) (onTc (τ := Cert.GluGateBwd.τ) (Cert.GluGateBwd.main (F := Bits))) ⟨m, fun _ => 0, g⟩ (fun r => (∀ c : Dev Cert.GluGateBwd.nD,
      r.2.mem ((c.tc : Thread Cert.GluGateBwd.nD Cert.GluGateBwd.τ).loc Cert.GluGateBwd.main_arg0) = m ((c.tc : Thread Cert.GluGateBwd.nD Cert.GluGateBwd.τ).loc Cert.GluGateBwd.main_arg0)
      ∧ r.2.mem ((c.tc : Thread Cert.GluGateBwd.nD Cert.GluGateBwd.τ).loc Cert.GluGateBwd.main_arg1) = m ((c.tc : Thread Cert.GluGateBwd.nD Cert.GluGateBwd.τ).loc Cert.GluGateBwd.main_arg1))
      ∧ r.2.sem = fun _ => 0)

def quiescent_GluGateBwdIdeal [hGluGateBwdIdeal : Cert.GluGateBwdIdeal.Facts] : Prop :=
  ∀ (m : (ℓ : Loc Cert.GluGateBwdIdeal.nD Cert.GluGateBwdIdeal.τ Cert.GluGateBwdIdeal.sig) → Buf (Elt Ideal) ℓ) (g : Dev Cert.GluGateBwdIdeal.nD → PrngReg), Pre_GluGateBwdIdeal m →
    θ_run (Cert.GluGateBwdIdeal.defs (F := Ideal)) (onTc (τ := Cert.GluGateBwdIdeal.τ) (Cert.GluGateBwdIdeal.main (F := Ideal))) ⟨m, fun _ => 0, g⟩ (fun r => (∀ c : Dev Cert.GluGateBwdIdeal.nD,
      r.2.mem ((c.tc : Thread Cert.GluGateBwdIdeal.nD Cert.GluGateBwdIdeal.τ).loc Cert.GluGateBwdIdeal.main_arg0) = m ((c.tc : Thread Cert.GluGateBwdIdeal.nD Cert.GluGateBwdIdeal.τ).loc Cert.GluGateBwdIdeal.main_arg0)
      ∧ r.2.mem ((c.tc : Thread Cert.GluGateBwdIdeal.nD Cert.GluGateBwdIdeal.τ).loc Cert.GluGateBwdIdeal.main_arg1) = m ((c.tc : Thread Cert.GluGateBwdIdeal.nD Cert.GluGateBwdIdeal.τ).loc Cert.GluGateBwdIdeal.main_arg1))
      ∧ r.2.sem = fun _ => 0)

def quiescent_GluGateBwdRefIdeal [hGluGateBwdRefIdeal : Cert.GluGateBwdRefIdeal.Facts] : Prop :=
  ∀ (m : (ℓ : Loc Cert.GluGateBwdRefIdeal.nD Cert.GluGateBwdRefIdeal.τ Cert.GluGateBwdRefIdeal.sig) → Buf (Elt Ideal) ℓ) (g : Dev Cert.GluGateBwdRefIdeal.nD → PrngReg), Pre_GluGateBwdRefIdeal m →
    θ_run (Cert.GluGateBwdRefIdeal.defs (F := Ideal)) (onTc (τ := Cert.GluGateBwdRefIdeal.τ) (Cert.GluGateBwdRefIdeal.main (F := Ideal))) ⟨m, fun _ => 0, g⟩ (fun r => (∀ c : Dev Cert.GluGateBwdRefIdeal.nD,
      r.2.mem ((c.tc : Thread Cert.GluGateBwdRefIdeal.nD Cert.GluGateBwdRefIdeal.τ).loc Cert.GluGateBwdRefIdeal.main_arg0) = m ((c.tc : Thread Cert.GluGateBwdRefIdeal.nD Cert.GluGateBwdRefIdeal.τ).loc Cert.GluGateBwdRefIdeal.main_arg0)
      ∧ r.2.mem ((c.tc : Thread Cert.GluGateBwdRefIdeal.nD Cert.GluGateBwdRefIdeal.τ).loc Cert.GluGateBwdRefIdeal.main_arg1) = m ((c.tc : Thread Cert.GluGateBwdRefIdeal.nD Cert.GluGateBwdRefIdeal.τ).loc Cert.GluGateBwdRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_v319) = v2 c
          ∧ r.2.mem ((c.tc : Thread Cert.ReferenceIdeal.nD Cert.ReferenceIdeal.τ).loc Cert.ReferenceIdeal.main_v247) = v3 c
          ∧ r.2.mem ((c.tc : Thread Cert.ReferenceIdeal.nD Cert.ReferenceIdeal.τ).loc Cert.ReferenceIdeal.main_v321) = v4 c
          ∧ r.2.mem ((c.tc : Thread Cert.ReferenceIdeal.nD Cert.ReferenceIdeal.τ).loc Cert.ReferenceIdeal.main_v324) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v13) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v3)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v3) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v6) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v2)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v2) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v4) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v6) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v2)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v2) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v1) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InGw_InGwIdeal : Prop :=
  True

def algebraic_InGwIdeal_InGwRefIdeal [hInGwIdeal : Cert.InGwIdeal.Facts] [hInGwRefIdeal : Cert.InGwRefIdeal.Facts] : Prop :=
  ∀ (m : (ℓ : Loc Cert.InGwIdeal.nD Cert.InGwIdeal.τ Cert.InGwIdeal.sig) → Buf (Elt Ideal) ℓ) (g : Dev Cert.InGwIdeal.nD → PrngReg)
    (m' : (ℓ : Loc Cert.InGwRefIdeal.nD Cert.InGwRefIdeal.τ Cert.InGwRefIdeal.sig) → Buf (Elt Ideal) ℓ) (g' : Dev Cert.InGwRefIdeal.nD → PrngReg), Pre_InGwIdeal m →
    (∀ c : Dev Cert.InGwIdeal.nD,
      m' ((c.tc : Thread Cert.InGwRefIdeal.nD Cert.InGwRefIdeal.τ).loc Cert.InGwRefIdeal.main_arg0) = m ((c.tc : Thread Cert.InGwIdeal.nD Cert.InGwIdeal.τ).loc Cert.InGwIdeal.main_arg0)
      ∧ m' ((c.tc : Thread Cert.InGwRefIdeal.nD Cert.InGwRefIdeal.τ).loc Cert.InGwRefIdeal.main_arg1) = m ((c.tc : Thread Cert.InGwIdeal.nD Cert.InGwIdeal.τ).loc Cert.InGwIdeal.main_arg1)) →
    ∃ (v0 : (c : Dev Cert.InGwIdeal.nD) → Buf (Elt Ideal) ((c.tc : Thread Cert.InGwIdeal.nD Cert.InGwIdeal.τ).loc Cert.InGwIdeal.main_v0)),
      θ_run (Cert.InGwIdeal.defs (F := Ideal)) (onTc (τ := Cert.InGwIdeal.τ) (Cert.InGwIdeal.main (F := Ideal))) ⟨m, fun _ => 0, g⟩ (fun r => ∀ c : Dev Cert.InGwIdeal.nD,
          r.2.mem ((c.tc : Thread Cert.InGwIdeal.nD Cert.InGwIdeal.τ).loc Cert.InGwIdeal.main_v0) = v0 c
          ∧ r.2.mem ((c.tc : Thread Cert.InGwIdeal.nD Cert.InGwIdeal.τ).loc Cert.InGwIdeal.main_arg0) = m ((c.tc : Thread Cert.InGwIdeal.nD Cert.InGwIdeal.τ).loc Cert.InGwIdeal.main_arg0)
          ∧ r.2.mem ((c.tc : Thread Cert.InGwIdeal.nD Cert.InGwIdeal.τ).loc Cert.InGwIdeal.main_arg1) = m ((c.tc : Thread Cert.InGwIdeal.nD Cert.InGwIdeal.τ).loc Cert.InGwIdeal.main_arg1))
      ∧ θ_run (Cert.InGwRefIdeal.defs (F := Ideal)) (onTc (τ := Cert.InGwRefIdeal.τ) (Cert.InGwRefIdeal.main (F := Ideal))) ⟨m', fun _ => 0, g'⟩ (fun r => ∀ c : Dev Cert.InGwRefIdeal.nD,
          r.2.mem ((c.tc : Thread Cert.InGwRefIdeal.nD Cert.InGwRefIdeal.τ).loc Cert.InGwRefIdeal.main_v6) = v0 c
          ∧ r.2.mem ((c.tc : Thread Cert.InGwRefIdeal.nD Cert.InGwRefIdeal.τ).loc Cert.InGwRefIdeal.main_arg0) = m' ((c.tc : Thread Cert.InGwRefIdeal.nD Cert.InGwRefIdeal.τ).loc Cert.InGwRefIdeal.main_arg0)
          ∧ r.2.mem ((c.tc : Thread Cert.InGwRefIdeal.nD Cert.InGwRefIdeal.τ).loc Cert.InGwRefIdeal.main_arg1) = m' ((c.tc : Thread Cert.InGwRefIdeal.nD Cert.InGwRefIdeal.τ).loc Cert.InGwRefIdeal.main_arg1))

def preserves_InDh_InDhIdeal : Prop :=
  True

def algebraic_InDhIdeal_InDhRefIdeal [hInDhIdeal : Cert.InDhIdeal.Facts] [hInDhRefIdeal : Cert.InDhRefIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.InDhRefIdeal.nD Cert.InDhRefIdeal.τ Cert.InDhRefIdeal.sig) → Buf (Elt Ideal) ℓ) (g' : Dev Cert.InDhRefIdeal.nD → PrngReg), Pre_InDhIdeal m →
    (∀ c : Dev Cert.InDhIdeal.nD,
      m' ((c.tc : Thread Cert.InDhRefIdeal.nD Cert.InDhRefIdeal.τ).loc Cert.InDhRefIdeal.main_arg0) = m ((c.tc : Thread Cert.InDhIdeal.nD Cert.InDhIdeal.τ).loc Cert.InDhIdeal.main_arg0)
      ∧ m' ((c.tc : Thread Cert.InDhRefIdeal.nD Cert.InDhRefIdeal.τ).loc Cert.InDhRefIdeal.main_arg1) = m ((c.tc : Thread Cert.InDhIdeal.nD Cert.InDhIdeal.τ).loc Cert.InDhIdeal.main_arg1)) →
    ∃ (v0 : (c : Dev Cert.InDhIdeal.nD) → Buf (Elt Ideal) ((c.tc : Thread Cert.InDhIdeal.nD Cert.InDhIdeal.τ).loc Cert.InDhIdeal.main_v2)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v2) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ θ_run (Cert.InDhRefIdeal.defs (F := Ideal)) (onTc (τ := Cert.InDhRefIdeal.τ) (Cert.InDhRefIdeal.main (F := Ideal))) ⟨m', fun _ => 0, g'⟩ (fun r => ∀ c : Dev Cert.InDhRefIdeal.nD,
          r.2.mem ((c.tc : Thread Cert.InDhRefIdeal.nD Cert.InDhRefIdeal.τ).loc Cert.InDhRefIdeal.main_v4) = v0 c
          ∧ r.2.mem ((c.tc : Thread Cert.InDhRefIdeal.nD Cert.InDhRefIdeal.τ).loc Cert.InDhRefIdeal.main_arg0) = m' ((c.tc : Thread Cert.InDhRefIdeal.nD Cert.InDhRefIdeal.τ).loc Cert.InDhRefIdeal.main_arg0)
          ∧ r.2.mem ((c.tc : Thread Cert.InDhRefIdeal.nD Cert.InDhRefIdeal.τ).loc Cert.InDhRefIdeal.main_arg1) = m' ((c.tc : Thread Cert.InDhRefIdeal.nD Cert.InDhRefIdeal.τ).loc Cert.InDhRefIdeal.main_arg1))

def preserves_OutMixed_OutMixedIdeal : Prop :=
  True

def algebraic_OutMixedIdeal_OutMixedRefIdeal [hOutMixedIdeal : Cert.OutMixedIdeal.Facts] [hOutMixedRefIdeal : Cert.OutMixedRefIdeal.Facts] : Prop :=
  ∀ (m : (ℓ : Loc Cert.OutMixedIdeal.nD Cert.OutMixedIdeal.τ Cert.OutMixedIdeal.sig) → Buf (Elt Ideal) ℓ) (g : Dev Cert.OutMixedIdeal.nD → PrngReg)
    (m' : (ℓ : Loc Cert.OutMixedRefIdeal.nD Cert.OutMixedRefIdeal.τ Cert.OutMixedRefIdeal.sig) → Buf (Elt Ideal) ℓ) (g' : Dev Cert.OutMixedRefIdeal.nD → PrngReg), Pre_OutMixedIdeal m →
    (∀ c : Dev Cert.OutMixedIdeal.nD,
      m' ((c.tc : Thread Cert.OutMixedRefIdeal.nD Cert.OutMixedRefIdeal.τ).loc Cert.OutMixedRefIdeal.main_arg0) = m ((c.tc : Thread Cert.OutMixedIdeal.nD Cert.OutMixedIdeal.τ).loc Cert.OutMixedIdeal.main_arg0)
      ∧ m' ((c.tc : Thread Cert.OutMixedRefIdeal.nD Cert.OutMixedRefIdeal.τ).loc Cert.OutMixedRefIdeal.main_arg1) = m ((c.tc : Thread Cert.OutMixedIdeal.nD Cert.OutMixedIdeal.τ).loc Cert.OutMixedIdeal.main_arg1)) →
    ∃ (v0 : (c : Dev Cert.OutMixedIdeal.nD) → Buf (Elt Ideal) ((c.tc : Thread Cert.OutMixedIdeal.nD Cert.OutMixedIdeal.τ).loc Cert.OutMixedIdeal.main_v1)),
      θ_run (Cert.OutMixedIdeal.defs (F := Ideal)) (onTc (τ := Cert.OutMixedIdeal.τ) (Cert.OutMixedIdeal.main (F := Ideal))) ⟨m, fun _ => 0, g⟩ (fun r => ∀ c : Dev Cert.OutMixedIdeal.nD,
          r.2.mem ((c.tc : Thread Cert.OutMixedIdeal.nD Cert.OutMixedIdeal.τ).loc Cert.OutMixedIdeal.main_v1) = v0 c
          ∧ r.2.mem ((c.tc : Thread Cert.OutMixedIdeal.nD Cert.OutMixedIdeal.τ).loc Cert.OutMixedIdeal.main_arg0) = m ((c.tc : Thread Cert.OutMixedIdeal.nD Cert.OutMixedIdeal.τ).loc Cert.OutMixedIdeal.main_arg0)
          ∧ r.2.mem ((c.tc : Thread Cert.OutMixedIdeal.nD Cert.OutMixedIdeal.τ).loc Cert.OutMixedIdeal.main_arg1) = m ((c.tc : Thread Cert.OutMixedIdeal.nD Cert.OutMixedIdeal.τ).loc Cert.OutMixedIdeal.main_arg1))
      ∧ θ_run (Cert.OutMixedRefIdeal.defs (F := Ideal)) (onTc (τ := Cert.OutMixedRefIdeal.τ) (Cert.OutMixedRefIdeal.main (F := Ideal))) ⟨m', fun _ => 0, g'⟩ (fun r => ∀ c : Dev Cert.OutMixedRefIdeal.nD,
          r.2.mem ((c.tc : Thread Cert.OutMixedRefIdeal.nD Cert.OutMixedRefIdeal.τ).loc Cert.OutMixedRefIdeal.main_v1) = v0 c
          ∧ r.2.mem ((c.tc : Thread Cert.OutMixedRefIdeal.nD Cert.OutMixedRefIdeal.τ).loc Cert.OutMixedRefIdeal.main_arg0) = m' ((c.tc : Thread Cert.OutMixedRefIdeal.nD Cert.OutMixedRefIdeal.τ).loc Cert.OutMixedRefIdeal.main_arg0)
          ∧ r.2.mem ((c.tc : Thread Cert.OutMixedRefIdeal.nD Cert.OutMixedRefIdeal.τ).loc Cert.OutMixedRefIdeal.main_arg1) = m' ((c.tc : Thread Cert.OutMixedRefIdeal.nD Cert.OutMixedRefIdeal.τ).loc Cert.OutMixedRefIdeal.main_arg1))

def preserves_OutDMix_OutDMixIdeal : Prop :=
  True

def algebraic_OutDMixIdeal_OutDMixRefIdeal [hOutDMixIdeal : Cert.OutDMixIdeal.Facts] [hOutDMixRefIdeal : Cert.OutDMixRefIdeal.Facts] : Prop :=
  ∀ (m : (ℓ : Loc Cert.OutDMixIdeal.nD Cert.OutDMixIdeal.τ Cert.OutDMixIdeal.sig) → Buf (Elt Ideal) ℓ) (g : Dev Cert.OutDMixIdeal.nD → PrngReg)
    (m' : (ℓ : Loc Cert.OutDMixRefIdeal.nD Cert.OutDMixRefIdeal.τ Cert.OutDMixRefIdeal.sig) → Buf (Elt Ideal) ℓ) (g' : Dev Cert.OutDMixRefIdeal.nD → PrngReg), Pre_OutDMixIdeal m →
    (∀ c : Dev Cert.OutDMixIdeal.nD,
      m' ((c.tc : Thread Cert.OutDMixRefIdeal.nD Cert.OutDMixRefIdeal.τ).loc Cert.OutDMixRefIdeal.main_arg0) = m ((c.tc : Thread Cert.OutDMixIdeal.nD Cert.OutDMixIdeal.τ).loc Cert.OutDMixIdeal.main_arg0)
      ∧ m' ((c.tc : Thread Cert.OutDMixRefIdeal.nD Cert.OutDMixRefIdeal.τ).loc Cert.OutDMixRefIdeal.main_arg1) = m ((c.tc : Thread Cert.OutDMixIdeal.nD Cert.OutDMixIdeal.τ).loc Cert.OutDMixIdeal.main_arg1)) →
    ∃ (v0 : (c : Dev Cert.OutDMixIdeal.nD) → Buf (Elt Ideal) ((c.tc : Thread Cert.OutDMixIdeal.nD Cert.OutDMixIdeal.τ).loc Cert.OutDMixIdeal.main_v1)),
      θ_run (Cert.OutDMixIdeal.defs (F := Ideal)) (onTc (τ := Cert.OutDMixIdeal.τ) (Cert.OutDMixIdeal.main (F := Ideal))) ⟨m, fun _ => 0, g⟩ (fun r => ∀ c : Dev Cert.OutDMixIdeal.nD,
          r.2.mem ((c.tc : Thread Cert.OutDMixIdeal.nD Cert.OutDMixIdeal.τ).loc Cert.OutDMixIdeal.main_v1) = v0 c
          ∧ r.2.mem ((c.tc : Thread Cert.OutDMixIdeal.nD Cert.OutDMixIdeal.τ).loc Cert.OutDMixIdeal.main_arg0) = m ((c.tc : Thread Cert.OutDMixIdeal.nD Cert.OutDMixIdeal.τ).loc Cert.OutDMixIdeal.main_arg0)
          ∧ r.2.mem ((c.tc : Thread Cert.OutDMixIdeal.nD Cert.OutDMixIdeal.τ).loc Cert.OutDMixIdeal.main_arg1) = m ((c.tc : Thread Cert.OutDMixIdeal.nD Cert.OutDMixIdeal.τ).loc Cert.OutDMixIdeal.main_arg1))
      ∧ θ_run (Cert.OutDMixRefIdeal.defs (F := Ideal)) (onTc (τ := Cert.OutDMixRefIdeal.τ) (Cert.OutDMixRefIdeal.main (F := Ideal))) ⟨m', fun _ => 0, g'⟩ (fun r => ∀ c : Dev Cert.OutDMixRefIdeal.nD,
          r.2.mem ((c.tc : Thread Cert.OutDMixRefIdeal.nD Cert.OutDMixRefIdeal.τ).loc Cert.OutDMixRefIdeal.main_v4) = v0 c
          ∧ r.2.mem ((c.tc : Thread Cert.OutDMixRefIdeal.nD Cert.OutDMixRefIdeal.τ).loc Cert.OutDMixRefIdeal.main_arg0) = m' ((c.tc : Thread Cert.OutDMixRefIdeal.nD Cert.OutDMixRefIdeal.τ).loc Cert.OutDMixRefIdeal.main_arg0)
          ∧ r.2.mem ((c.tc : Thread Cert.OutDMixRefIdeal.nD Cert.OutDMixRefIdeal.τ).loc Cert.OutDMixRefIdeal.main_arg1) = m' ((c.tc : Thread Cert.OutDMixRefIdeal.nD Cert.OutDMixRefIdeal.τ).loc Cert.OutDMixRefIdeal.main_arg1))

def preserves_OutGw_OutGwIdeal : Prop :=
  True

def algebraic_OutGwIdeal_OutGwRefIdeal [hOutGwIdeal : Cert.OutGwIdeal.Facts] [hOutGwRefIdeal : Cert.OutGwRefIdeal.Facts] : Prop :=
  ∀ (m : (ℓ : Loc Cert.OutGwIdeal.nD Cert.OutGwIdeal.τ Cert.OutGwIdeal.sig) → Buf (Elt Ideal) ℓ) (g : Dev Cert.OutGwIdeal.nD → PrngReg)
    (m' : (ℓ : Loc Cert.OutGwRefIdeal.nD Cert.OutGwRefIdeal.τ Cert.OutGwRefIdeal.sig) → Buf (Elt Ideal) ℓ) (g' : Dev Cert.OutGwRefIdeal.nD → PrngReg), Pre_OutGwIdeal m →
    (∀ c : Dev Cert.OutGwIdeal.nD,
      m' ((c.tc : Thread Cert.OutGwRefIdeal.nD Cert.OutGwRefIdeal.τ).loc Cert.OutGwRefIdeal.main_arg0) = m ((c.tc : Thread Cert.OutGwIdeal.nD Cert.OutGwIdeal.τ).loc Cert.OutGwIdeal.main_arg0)
      ∧ m' ((c.tc : Thread Cert.OutGwRefIdeal.nD Cert.OutGwRefIdeal.τ).loc Cert.OutGwRefIdeal.main_arg1) = m ((c.tc : Thread Cert.OutGwIdeal.nD Cert.OutGwIdeal.τ).loc Cert.OutGwIdeal.main_arg1)) →
    ∃ (v0 : (c : Dev Cert.OutGwIdeal.nD) → Buf (Elt Ideal) ((c.tc : Thread Cert.OutGwIdeal.nD Cert.OutGwIdeal.τ).loc Cert.OutGwIdeal.main_v0)),
      θ_run (Cert.OutGwIdeal.defs (F := Ideal)) (onTc (τ := Cert.OutGwIdeal.τ) (Cert.OutGwIdeal.main (F := Ideal))) ⟨m, fun _ => 0, g⟩ (fun r => ∀ c : Dev Cert.OutGwIdeal.nD,
          r.2.mem ((c.tc : Thread Cert.OutGwIdeal.nD Cert.OutGwIdeal.τ).loc Cert.OutGwIdeal.main_v0) = v0 c
          ∧ r.2.mem ((c.tc : Thread Cert.OutGwIdeal.nD Cert.OutGwIdeal.τ).loc Cert.OutGwIdeal.main_arg0) = m ((c.tc : Thread Cert.OutGwIdeal.nD Cert.OutGwIdeal.τ).loc Cert.OutGwIdeal.main_arg0)
          ∧ r.2.mem ((c.tc : Thread Cert.OutGwIdeal.nD Cert.OutGwIdeal.τ).loc Cert.OutGwIdeal.main_arg1) = m ((c.tc : Thread Cert.OutGwIdeal.nD Cert.OutGwIdeal.τ).loc Cert.OutGwIdeal.main_arg1))
      ∧ θ_run (Cert.OutGwRefIdeal.defs (F := Ideal)) (onTc (τ := Cert.OutGwRefIdeal.τ) (Cert.OutGwRefIdeal.main (F := Ideal))) ⟨m', fun _ => 0, g'⟩ (fun r => ∀ c : Dev Cert.OutGwRefIdeal.nD,
          r.2.mem ((c.tc : Thread Cert.OutGwRefIdeal.nD Cert.OutGwRefIdeal.τ).loc Cert.OutGwRefIdeal.main_v5) = v0 c
          ∧ r.2.mem ((c.tc : Thread Cert.OutGwRefIdeal.nD Cert.OutGwRefIdeal.τ).loc Cert.OutGwRefIdeal.main_arg0) = m' ((c.tc : Thread Cert.OutGwRefIdeal.nD Cert.OutGwRefIdeal.τ).loc Cert.OutGwRefIdeal.main_arg0)
          ∧ r.2.mem ((c.tc : Thread Cert.OutGwRefIdeal.nD Cert.OutGwRefIdeal.τ).loc Cert.OutGwRefIdeal.main_arg1) = m' ((c.tc : Thread Cert.OutGwRefIdeal.nD Cert.OutGwRefIdeal.τ).loc Cert.OutGwRefIdeal.main_arg1))

def preserves_BrAttn_BrAttnIdeal : Prop :=
  True

def algebraic_BrAttnIdeal_BrAttnRefIdeal [hBrAttnIdeal : Cert.BrAttnIdeal.Facts] [hBrAttnRefIdeal : Cert.BrAttnRefIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg)
    (m' : (ℓ : Loc Cert.BrAttnRefIdeal.nD Cert.BrAttnRefIdeal.τ Cert.BrAttnRefIdeal.sig) → Buf (Elt Ideal) ℓ) (g' : Dev Cert.BrAttnRefIdeal.nD → PrngReg), Pre_BrAttnIdeal m →
    (∀ c : Dev Cert.BrAttnIdeal.nD,
      m' ((c.tc : Thread Cert.BrAttnRefIdeal.nD Cert.BrAttnRefIdeal.τ).loc Cert.BrAttnRefIdeal.main_arg0) = m ((c.tc : Thread Cert.BrAttnIdeal.nD Cert.BrAttnIdeal.τ).loc Cert.BrAttnIdeal.main_arg0)
      ∧ m' ((c.tc : Thread Cert.BrAttnRefIdeal.nD Cert.BrAttnRefIdeal.τ).loc Cert.BrAttnRefIdeal.main_arg1) = m ((c.tc : Thread Cert.BrAttnIdeal.nD Cert.BrAttnIdeal.τ).loc Cert.BrAttnIdeal.main_arg1)) →
    ∃ (v0 : (c : Dev Cert.BrAttnIdeal.nD) → Buf (Elt Ideal) ((c.tc : Thread Cert.BrAttnIdeal.nD Cert.BrAttnIdeal.τ).loc Cert.BrAttnIdeal.main_v2)),
      θ_run (Cert.BrAttnIdeal.defs (F := Ideal)) (onTc (τ := Cert.BrAttnIdeal.τ) (Cert.BrAttnIdeal.main (F := Ideal))) ⟨m, fun _ => 0, g⟩ (fun r => ∀ c : Dev Cert.BrAttnIdeal.nD,
          r.2.mem ((c.tc : Thread Cert.BrAttnIdeal.nD Cert.BrAttnIdeal.τ).loc Cert.BrAttnIdeal.main_v2) = v0 c
          ∧ r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
          ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ θ_run (Cert.BrAttnRefIdeal.defs (F := Ideal)) (onTc (τ := Cert.BrAttnRefIdeal.τ) (Cert.BrAttnRefIdeal.main (F := Ideal))) ⟨m', fun _ => 0, g'⟩ (fun r => ∀ c : Dev Cert.BrAttnRefIdeal.nD,
          r.2.mem ((c.tc : Thread Cert.BrAttnRefIdeal.nD Cert.BrAttnRefIdeal.τ).loc Cert.BrAttnRefIdeal.main_v3) = v0 c
          ∧ r.2.mem ((c.tc : Thread Cert.BrAttnRefIdeal.nD Cert.BrAttnRefIdeal.τ).loc Cert.BrAttnRefIdeal.main_arg0) = m' ((c.tc : Thread Cert.BrAttnRefIdeal.nD Cert.BrAttnRefIdeal.τ).loc Cert.BrAttnRefIdeal.main_arg0)
          ∧ r.2.mem ((c.tc : Thread Cert.BrAttnRefIdeal.nD Cert.BrAttnRefIdeal.τ).loc Cert.BrAttnRefIdeal.main_arg1) = m' ((c.tc : Thread Cert.BrAttnRefIdeal.nD Cert.BrAttnRefIdeal.τ).loc Cert.BrAttnRefIdeal.main_arg1))

def preserves_BrSsm_BrSsmIdeal : Prop :=
  True

def algebraic_BrSsmIdeal_BrSsmRefIdeal [hBrSsmIdeal : Cert.BrSsmIdeal.Facts] [hBrSsmRefIdeal : Cert.BrSsmRefIdeal.Facts] : Prop :=
  ∀ (m : (ℓ : Loc Cert.BrSsmIdeal.nD Cert.BrSsmIdeal.τ Cert.BrSsmIdeal.sig) → Buf (Elt Ideal) ℓ) (g : Dev Cert.BrSsmIdeal.nD → PrngReg)
    (m' : (ℓ : Loc Cert.BrSsmRefIdeal.nD Cert.BrSsmRefIdeal.τ Cert.BrSsmRefIdeal.sig) → Buf (Elt Ideal) ℓ) (g' : Dev Cert.BrSsmRefIdeal.nD → PrngReg), Pre_BrSsmIdeal m →
    (∀ c : Dev Cert.BrSsmIdeal.nD,
      m' ((c.tc : Thread Cert.BrSsmRefIdeal.nD Cert.BrSsmRefIdeal.τ).loc Cert.BrSsmRefIdeal.main_arg0) = m ((c.tc : Thread Cert.BrSsmIdeal.nD Cert.BrSsmIdeal.τ).loc Cert.BrSsmIdeal.main_arg0)
      ∧ m' ((c.tc : Thread Cert.BrSsmRefIdeal.nD Cert.BrSsmRefIdeal.τ).loc Cert.BrSsmRefIdeal.main_arg1) = m ((c.tc : Thread Cert.BrSsmIdeal.nD Cert.BrSsmIdeal.τ).loc Cert.BrSsmIdeal.main_arg1)) →
    ∃ (v0 : (c : Dev Cert.BrSsmIdeal.nD) → Buf (Elt Ideal) ((c.tc : Thread Cert.BrSsmIdeal.nD Cert.BrSsmIdeal.τ).loc Cert.BrSsmIdeal.main_v2)),
      θ_run (Cert.BrSsmIdeal.defs (F := Ideal)) (onTc (τ := Cert.BrSsmIdeal.τ) (Cert.BrSsmIdeal.main (F := Ideal))) ⟨m, fun _ => 0, g⟩ (fun r => ∀ c : Dev Cert.BrSsmIdeal.nD,
          r.2.mem ((c.tc : Thread Cert.BrSsmIdeal.nD Cert.BrSsmIdeal.τ).loc Cert.BrSsmIdeal.main_v2) = v0 c
          ∧ r.2.mem ((c.tc : Thread Cert.BrSsmIdeal.nD Cert.BrSsmIdeal.τ).loc Cert.BrSsmIdeal.main_arg0) = m ((c.tc : Thread Cert.BrSsmIdeal.nD Cert.BrSsmIdeal.τ).loc Cert.BrSsmIdeal.main_arg0)
          ∧ r.2.mem ((c.tc : Thread Cert.BrSsmIdeal.nD Cert.BrSsmIdeal.τ).loc Cert.BrSsmIdeal.main_arg1) = m ((c.tc : Thread Cert.BrSsmIdeal.nD Cert.BrSsmIdeal.τ).loc Cert.BrSsmIdeal.main_arg1))
      ∧ θ_run (Cert.BrSsmRefIdeal.defs (F := Ideal)) (onTc (τ := Cert.BrSsmRefIdeal.τ) (Cert.BrSsmRefIdeal.main (F := Ideal))) ⟨m', fun _ => 0, g'⟩ (fun r => ∀ c : Dev Cert.BrSsmRefIdeal.nD,
          r.2.mem ((c.tc : Thread Cert.BrSsmRefIdeal.nD Cert.BrSsmRefIdeal.τ).loc Cert.BrSsmRefIdeal.main_v3) = v0 c
          ∧ r.2.mem ((c.tc : Thread Cert.BrSsmRefIdeal.nD Cert.BrSsmRefIdeal.τ).loc Cert.BrSsmRefIdeal.main_arg0) = m' ((c.tc : Thread Cert.BrSsmRefIdeal.nD Cert.BrSsmRefIdeal.τ).loc Cert.BrSsmRefIdeal.main_arg0)
          ∧ r.2.mem ((c.tc : Thread Cert.BrSsmRefIdeal.nD Cert.BrSsmRefIdeal.τ).loc Cert.BrSsmRefIdeal.main_arg1) = m' ((c.tc : Thread Cert.BrSsmRefIdeal.nD Cert.BrSsmRefIdeal.τ).loc Cert.BrSsmRefIdeal.main_arg1))

def preserves_BrDAttn_BrDAttnIdeal : Prop :=
  True

def algebraic_BrDAttnIdeal_BrDAttnRefIdeal [hBrDAttnIdeal : Cert.BrDAttnIdeal.Facts] [hBrDAttnRefIdeal : Cert.BrDAttnRefIdeal.Facts] : Prop :=
  ∀ (m : (ℓ : Loc Cert.BrDAttnIdeal.nD Cert.BrDAttnIdeal.τ Cert.BrDAttnIdeal.sig) → Buf (Elt Ideal) ℓ) (g : Dev Cert.BrDAttnIdeal.nD → PrngReg)
    (m' : (ℓ : Loc Cert.BrDAttnRefIdeal.nD Cert.BrDAttnRefIdeal.τ Cert.BrDAttnRefIdeal.sig) → Buf (Elt Ideal) ℓ) (g' : Dev Cert.BrDAttnRefIdeal.nD → PrngReg), Pre_BrDAttnIdeal m →
    (∀ c : Dev Cert.BrDAttnIdeal.nD,
      m' ((c.tc : Thread Cert.BrDAttnRefIdeal.nD Cert.BrDAttnRefIdeal.τ).loc Cert.BrDAttnRefIdeal.main_arg0) = m ((c.tc : Thread Cert.BrDAttnIdeal.nD Cert.BrDAttnIdeal.τ).loc Cert.BrDAttnIdeal.main_arg0)
      ∧ m' ((c.tc : Thread Cert.BrDAttnRefIdeal.nD Cert.BrDAttnRefIdeal.τ).loc Cert.BrDAttnRefIdeal.main_arg1) = m ((c.tc : Thread Cert.BrDAttnIdeal.nD Cert.BrDAttnIdeal.τ).loc Cert.BrDAttnIdeal.main_arg1)) →
    ∃ (v0 : (c : Dev Cert.BrDAttnIdeal.nD) → Buf (Elt Ideal) ((c.tc : Thread Cert.BrDAttnIdeal.nD Cert.BrDAttnIdeal.τ).loc Cert.BrDAttnIdeal.main_v2)),
      θ_run (Cert.BrDAttnIdeal.defs (F := Ideal)) (onTc (τ := Cert.BrDAttnIdeal.τ) (Cert.BrDAttnIdeal.main (F := Ideal))) ⟨m, fun _ => 0, g⟩ (fun r => ∀ c : Dev Cert.BrDAttnIdeal.nD,
          r.2.mem ((c.tc : Thread Cert.BrDAttnIdeal.nD Cert.BrDAttnIdeal.τ).loc Cert.BrDAttnIdeal.main_v2) = v0 c
          ∧ r.2.mem ((c.tc : Thread Cert.BrDAttnIdeal.nD Cert.BrDAttnIdeal.τ).loc Cert.BrDAttnIdeal.main_arg0) = m ((c.tc : Thread Cert.BrDAttnIdeal.nD Cert.BrDAttnIdeal.τ).loc Cert.BrDAttnIdeal.main_arg0)
          ∧ r.2.mem ((c.tc : Thread Cert.BrDAttnIdeal.nD Cert.BrDAttnIdeal.τ).loc Cert.BrDAttnIdeal.main_arg1) = m ((c.tc : Thread Cert.BrDAttnIdeal.nD Cert.BrDAttnIdeal.τ).loc Cert.BrDAttnIdeal.main_arg1))
      ∧ θ_run (Cert.BrDAttnRefIdeal.defs (F := Ideal)) (onTc (τ := Cert.BrDAttnRefIdeal.τ) (Cert.BrDAttnRefIdeal.main (F := Ideal))) ⟨m', fun _ => 0, g'⟩ (fun r => ∀ c : Dev Cert.BrDAttnRefIdeal.nD,
          r.2.mem ((c.tc : Thread Cert.BrDAttnRefIdeal.nD Cert.BrDAttnRefIdeal.τ).loc Cert.BrDAttnRefIdeal.main_v5) = v0 c
          ∧ r.2.mem ((c.tc : Thread Cert.BrDAttnRefIdeal.nD Cert.BrDAttnRefIdeal.τ).loc Cert.BrDAttnRefIdeal.main_arg0) = m' ((c.tc : Thread Cert.BrDAttnRefIdeal.nD Cert.BrDAttnRefIdeal.τ).loc Cert.BrDAttnRefIdeal.main_arg0)
          ∧ r.2.mem ((c.tc : Thread Cert.BrDAttnRefIdeal.nD Cert.BrDAttnRefIdeal.τ).loc Cert.BrDAttnRefIdeal.main_arg1) = m' ((c.tc : Thread Cert.BrDAttnRefIdeal.nD Cert.BrDAttnRefIdeal.τ).loc Cert.BrDAttnRefIdeal.main_arg1))

def preserves_BrDSsm_BrDSsmIdeal : Prop :=
  True

def algebraic_BrDSsmIdeal_BrDSsmRefIdeal [hBrDSsmIdeal : Cert.BrDSsmIdeal.Facts] [hBrDSsmRefIdeal : Cert.BrDSsmRefIdeal.Facts] : Prop :=
  ∀ (m : (ℓ : Loc Cert.BrDSsmIdeal.nD Cert.BrDSsmIdeal.τ Cert.BrDSsmIdeal.sig) → Buf (Elt Ideal) ℓ) (g : Dev Cert.BrDSsmIdeal.nD → PrngReg)
    (m' : (ℓ : Loc Cert.BrDSsmRefIdeal.nD Cert.BrDSsmRefIdeal.τ Cert.BrDSsmRefIdeal.sig) → Buf (Elt Ideal) ℓ) (g' : Dev Cert.BrDSsmRefIdeal.nD → PrngReg), Pre_BrDSsmIdeal m →
    (∀ c : Dev Cert.BrDSsmIdeal.nD,
      m' ((c.tc : Thread Cert.BrDSsmRefIdeal.nD Cert.BrDSsmRefIdeal.τ).loc Cert.BrDSsmRefIdeal.main_arg0) = m ((c.tc : Thread Cert.BrDSsmIdeal.nD Cert.BrDSsmIdeal.τ).loc Cert.BrDSsmIdeal.main_arg0)
      ∧ m' ((c.tc : Thread Cert.BrDSsmRefIdeal.nD Cert.BrDSsmRefIdeal.τ).loc Cert.BrDSsmRefIdeal.main_arg1) = m ((c.tc : Thread Cert.BrDSsmIdeal.nD Cert.BrDSsmIdeal.τ).loc Cert.BrDSsmIdeal.main_arg1)) →
    ∃ (v0 : (c : Dev Cert.BrDSsmIdeal.nD) → Buf (Elt Ideal) ((c.tc : Thread Cert.BrDSsmIdeal.nD Cert.BrDSsmIdeal.τ).loc Cert.BrDSsmIdeal.main_v2)),
      θ_run (Cert.BrDSsmIdeal.defs (F := Ideal)) (onTc (τ := Cert.BrDSsmIdeal.τ) (Cert.BrDSsmIdeal.main (F := Ideal))) ⟨m, fun _ => 0, g⟩ (fun r => ∀ c : Dev Cert.BrDSsmIdeal.nD,
          r.2.mem ((c.tc : Thread Cert.BrDSsmIdeal.nD Cert.BrDSsmIdeal.τ).loc Cert.BrDSsmIdeal.main_v2) = v0 c
          ∧ r.2.mem ((c.tc : Thread Cert.BrDSsmIdeal.nD Cert.BrDSsmIdeal.τ).loc Cert.BrDSsmIdeal.main_arg0) = m ((c.tc : Thread Cert.BrDSsmIdeal.nD Cert.BrDSsmIdeal.τ).loc Cert.BrDSsmIdeal.main_arg0)
          ∧ r.2.mem ((c.tc : Thread Cert.BrDSsmIdeal.nD Cert.BrDSsmIdeal.τ).loc Cert.BrDSsmIdeal.main_arg1) = m ((c.tc : Thread Cert.BrDSsmIdeal.nD Cert.BrDSsmIdeal.τ).loc Cert.BrDSsmIdeal.main_arg1))
      ∧ θ_run (Cert.BrDSsmRefIdeal.defs (F := Ideal)) (onTc (τ := Cert.BrDSsmRefIdeal.τ) (Cert.BrDSsmRefIdeal.main (F := Ideal))) ⟨m', fun _ => 0, g'⟩ (fun r => ∀ c : Dev Cert.BrDSsmRefIdeal.nD,
          r.2.mem ((c.tc : Thread Cert.BrDSsmRefIdeal.nD Cert.BrDSsmRefIdeal.τ).loc Cert.BrDSsmRefIdeal.main_v5) = v0 c
          ∧ r.2.mem ((c.tc : Thread Cert.BrDSsmRefIdeal.nD Cert.BrDSsmRefIdeal.τ).loc Cert.BrDSsmRefIdeal.main_arg0) = m' ((c.tc : Thread Cert.BrDSsmRefIdeal.nD Cert.BrDSsmRefIdeal.τ).loc Cert.BrDSsmRefIdeal.main_arg0)
          ∧ r.2.mem ((c.tc : Thread Cert.BrDSsmRefIdeal.nD Cert.BrDSsmRefIdeal.τ).loc Cert.BrDSsmRefIdeal.main_arg1) = m' ((c.tc : Thread Cert.BrDSsmRefIdeal.nD Cert.BrDSsmRefIdeal.τ).loc Cert.BrDSsmRefIdeal.main_arg1))

def preserves_BrGwAttn_BrGwAttnIdeal : Prop :=
  True

def algebraic_BrGwAttnIdeal_BrGwAttnRefIdeal [hBrGwAttnIdeal : Cert.BrGwAttnIdeal.Facts] [hBrGwAttnRefIdeal : Cert.BrGwAttnRefIdeal.Facts] : Prop :=
  ∀ (m : (ℓ : Loc Cert.BrGwAttnIdeal.nD Cert.BrGwAttnIdeal.τ Cert.BrGwAttnIdeal.sig) → Buf (Elt Ideal) ℓ) (g : Dev Cert.BrGwAttnIdeal.nD → PrngReg)
    (m' : (ℓ : Loc Cert.BrGwAttnRefIdeal.nD Cert.BrGwAttnRefIdeal.τ Cert.BrGwAttnRefIdeal.sig) → Buf (Elt Ideal) ℓ) (g' : Dev Cert.BrGwAttnRefIdeal.nD → PrngReg), Pre_BrGwAttnIdeal m →
    (∀ c : Dev Cert.BrGwAttnIdeal.nD,
      m' ((c.tc : Thread Cert.BrGwAttnRefIdeal.nD Cert.BrGwAttnRefIdeal.τ).loc Cert.BrGwAttnRefIdeal.main_arg0) = m ((c.tc : Thread Cert.BrGwAttnIdeal.nD Cert.BrGwAttnIdeal.τ).loc Cert.BrGwAttnIdeal.main_arg0)
      ∧ m' ((c.tc : Thread Cert.BrGwAttnRefIdeal.nD Cert.BrGwAttnRefIdeal.τ).loc Cert.BrGwAttnRefIdeal.main_arg1) = m ((c.tc : Thread Cert.BrGwAttnIdeal.nD Cert.BrGwAttnIdeal.τ).loc Cert.BrGwAttnIdeal.main_arg1)) →
    ∃ (v0 : (c : Dev Cert.BrGwAttnIdeal.nD) → Buf (Elt Ideal) ((c.tc : Thread Cert.BrGwAttnIdeal.nD Cert.BrGwAttnIdeal.τ).loc Cert.BrGwAttnIdeal.main_v0)),
      θ_run (Cert.BrGwAttnIdeal.defs (F := Ideal)) (onTc (τ := Cert.BrGwAttnIdeal.τ) (Cert.BrGwAttnIdeal.main (F := Ideal))) ⟨m, fun _ => 0, g⟩ (fun r => ∀ c : Dev Cert.BrGwAttnIdeal.nD,
          r.2.mem ((c.tc : Thread Cert.BrGwAttnIdeal.nD Cert.BrGwAttnIdeal.τ).loc Cert.BrGwAttnIdeal.main_v0) = v0 c
          ∧ r.2.mem ((c.tc : Thread Cert.BrGwAttnIdeal.nD Cert.BrGwAttnIdeal.τ).loc Cert.BrGwAttnIdeal.main_arg0) = m ((c.tc : Thread Cert.BrGwAttnIdeal.nD Cert.BrGwAttnIdeal.τ).loc Cert.BrGwAttnIdeal.main_arg0)
          ∧ r.2.mem ((c.tc : Thread Cert.BrGwAttnIdeal.nD Cert.BrGwAttnIdeal.τ).loc Cert.BrGwAttnIdeal.main_arg1) = m ((c.tc : Thread Cert.BrGwAttnIdeal.nD Cert.BrGwAttnIdeal.τ).loc Cert.BrGwAttnIdeal.main_arg1))
      ∧ θ_run (Cert.BrGwAttnRefIdeal.defs (F := Ideal)) (onTc (τ := Cert.BrGwAttnRefIdeal.τ) (Cert.BrGwAttnRefIdeal.main (F := Ideal))) ⟨m', fun _ => 0, g'⟩ (fun r => ∀ c : Dev Cert.BrGwAttnRefIdeal.nD,
          r.2.mem ((c.tc : Thread Cert.BrGwAttnRefIdeal.nD Cert.BrGwAttnRefIdeal.τ).loc Cert.BrGwAttnRefIdeal.main_v6) = v0 c
          ∧ r.2.mem ((c.tc : Thread Cert.BrGwAttnRefIdeal.nD Cert.BrGwAttnRefIdeal.τ).loc Cert.BrGwAttnRefIdeal.main_arg0) = m' ((c.tc : Thread Cert.BrGwAttnRefIdeal.nD Cert.BrGwAttnRefIdeal.τ).loc Cert.BrGwAttnRefIdeal.main_arg0)
          ∧ r.2.mem ((c.tc : Thread Cert.BrGwAttnRefIdeal.nD Cert.BrGwAttnRefIdeal.τ).loc Cert.BrGwAttnRefIdeal.main_arg1) = m' ((c.tc : Thread Cert.BrGwAttnRefIdeal.nD Cert.BrGwAttnRefIdeal.τ).loc Cert.BrGwAttnRefIdeal.main_arg1))

def preserves_BrGwSsm_BrGwSsmIdeal : Prop :=
  True

def algebraic_BrGwSsmIdeal_BrGwSsmRefIdeal [hBrGwSsmIdeal : Cert.BrGwSsmIdeal.Facts] [hBrGwSsmRefIdeal : Cert.BrGwSsmRefIdeal.Facts] : Prop :=
  ∀ (m : (ℓ : Loc Cert.BrGwSsmIdeal.nD Cert.BrGwSsmIdeal.τ Cert.BrGwSsmIdeal.sig) → Buf (Elt Ideal) ℓ) (g : Dev Cert.BrGwSsmIdeal.nD → PrngReg)
    (m' : (ℓ : Loc Cert.BrGwSsmRefIdeal.nD Cert.BrGwSsmRefIdeal.τ Cert.BrGwSsmRefIdeal.sig) → Buf (Elt Ideal) ℓ) (g' : Dev Cert.BrGwSsmRefIdeal.nD → PrngReg), Pre_BrGwSsmIdeal m →
    (∀ c : Dev Cert.BrGwSsmIdeal.nD,
      m' ((c.tc : Thread Cert.BrGwSsmRefIdeal.nD Cert.BrGwSsmRefIdeal.τ).loc Cert.BrGwSsmRefIdeal.main_arg0) = m ((c.tc : Thread Cert.BrGwSsmIdeal.nD Cert.BrGwSsmIdeal.τ).loc Cert.BrGwSsmIdeal.main_arg0)
      ∧ m' ((c.tc : Thread Cert.BrGwSsmRefIdeal.nD Cert.BrGwSsmRefIdeal.τ).loc Cert.BrGwSsmRefIdeal.main_arg1) = m ((c.tc : Thread Cert.BrGwSsmIdeal.nD Cert.BrGwSsmIdeal.τ).loc Cert.BrGwSsmIdeal.main_arg1)) →
    ∃ (v0 : (c : Dev Cert.BrGwSsmIdeal.nD) → Buf (Elt Ideal) ((c.tc : Thread Cert.BrGwSsmIdeal.nD Cert.BrGwSsmIdeal.τ).loc Cert.BrGwSsmIdeal.main_v0)),
      θ_run (Cert.BrGwSsmIdeal.defs (F := Ideal)) (onTc (τ := Cert.BrGwSsmIdeal.τ) (Cert.BrGwSsmIdeal.main (F := Ideal))) ⟨m, fun _ => 0, g⟩ (fun r => ∀ c : Dev Cert.BrGwSsmIdeal.nD,
          r.2.mem ((c.tc : Thread Cert.BrGwSsmIdeal.nD Cert.BrGwSsmIdeal.τ).loc Cert.BrGwSsmIdeal.main_v0) = v0 c
          ∧ r.2.mem ((c.tc : Thread Cert.BrGwSsmIdeal.nD Cert.BrGwSsmIdeal.τ).loc Cert.BrGwSsmIdeal.main_arg0) = m ((c.tc : Thread Cert.BrGwSsmIdeal.nD Cert.BrGwSsmIdeal.τ).loc Cert.BrGwSsmIdeal.main_arg0)
          ∧ r.2.mem ((c.tc : Thread Cert.BrGwSsmIdeal.nD Cert.BrGwSsmIdeal.τ).loc Cert.BrGwSsmIdeal.main_arg1) = m ((c.tc : Thread Cert.BrGwSsmIdeal.nD Cert.BrGwSsmIdeal.τ).loc Cert.BrGwSsmIdeal.main_arg1))
      ∧ θ_run (Cert.BrGwSsmRefIdeal.defs (F := Ideal)) (onTc (τ := Cert.BrGwSsmRefIdeal.τ) (Cert.BrGwSsmRefIdeal.main (F := Ideal))) ⟨m', fun _ => 0, g'⟩ (fun r => ∀ c : Dev Cert.BrGwSsmRefIdeal.nD,
          r.2.mem ((c.tc : Thread Cert.BrGwSsmRefIdeal.nD Cert.BrGwSsmRefIdeal.τ).loc Cert.BrGwSsmRefIdeal.main_v6) = v0 c
          ∧ r.2.mem ((c.tc : Thread Cert.BrGwSsmRefIdeal.nD Cert.BrGwSsmRefIdeal.τ).loc Cert.BrGwSsmRefIdeal.main_arg0) = m' ((c.tc : Thread Cert.BrGwSsmRefIdeal.nD Cert.BrGwSsmRefIdeal.τ).loc Cert.BrGwSsmRefIdeal.main_arg0)
          ∧ r.2.mem ((c.tc : Thread Cert.BrGwSsmRefIdeal.nD Cert.BrGwSsmRefIdeal.τ).loc Cert.BrGwSsmRefIdeal.main_arg1) = m' ((c.tc : Thread Cert.BrGwSsmRefIdeal.nD Cert.BrGwSsmRefIdeal.τ).loc Cert.BrGwSsmRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v13) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_GluGw_GluGwIdeal : Prop :=
  True

def algebraic_GluGwIdeal_GluGwRefIdeal [hGluGwIdeal : Cert.GluGwIdeal.Facts] [hGluGwRefIdeal : Cert.GluGwRefIdeal.Facts] : Prop :=
  ∀ (m : (ℓ : Loc Cert.GluGwIdeal.nD Cert.GluGwIdeal.τ Cert.GluGwIdeal.sig) → Buf (Elt Ideal) ℓ) (g : Dev Cert.GluGwIdeal.nD → PrngReg)
    (m' : (ℓ : Loc Cert.GluGwRefIdeal.nD Cert.GluGwRefIdeal.τ Cert.GluGwRefIdeal.sig) → Buf (Elt Ideal) ℓ) (g' : Dev Cert.GluGwRefIdeal.nD → PrngReg), Pre_GluGwIdeal m →
    (∀ c : Dev Cert.GluGwIdeal.nD,
      m' ((c.tc : Thread Cert.GluGwRefIdeal.nD Cert.GluGwRefIdeal.τ).loc Cert.GluGwRefIdeal.main_arg0) = m ((c.tc : Thread Cert.GluGwIdeal.nD Cert.GluGwIdeal.τ).loc Cert.GluGwIdeal.main_arg0)
      ∧ m' ((c.tc : Thread Cert.GluGwRefIdeal.nD Cert.GluGwRefIdeal.τ).loc Cert.GluGwRefIdeal.main_arg1) = m ((c.tc : Thread Cert.GluGwIdeal.nD Cert.GluGwIdeal.τ).loc Cert.GluGwIdeal.main_arg1)) →
    ∃ (v0 : (c : Dev Cert.GluGwIdeal.nD) → Buf (Elt Ideal) ((c.tc : Thread Cert.GluGwIdeal.nD Cert.GluGwIdeal.τ).loc Cert.GluGwIdeal.main_v0)),
      θ_run (Cert.GluGwIdeal.defs (F := Ideal)) (onTc (τ := Cert.GluGwIdeal.τ) (Cert.GluGwIdeal.main (F := Ideal))) ⟨m, fun _ => 0, g⟩ (fun r => ∀ c : Dev Cert.GluGwIdeal.nD,
          r.2.mem ((c.tc : Thread Cert.GluGwIdeal.nD Cert.GluGwIdeal.τ).loc Cert.GluGwIdeal.main_v0) = v0 c
          ∧ r.2.mem ((c.tc : Thread Cert.GluGwIdeal.nD Cert.GluGwIdeal.τ).loc Cert.GluGwIdeal.main_arg0) = m ((c.tc : Thread Cert.GluGwIdeal.nD Cert.GluGwIdeal.τ).loc Cert.GluGwIdeal.main_arg0)
          ∧ r.2.mem ((c.tc : Thread Cert.GluGwIdeal.nD Cert.GluGwIdeal.τ).loc Cert.GluGwIdeal.main_arg1) = m ((c.tc : Thread Cert.GluGwIdeal.nD Cert.GluGwIdeal.τ).loc Cert.GluGwIdeal.main_arg1))
      ∧ θ_run (Cert.GluGwRefIdeal.defs (F := Ideal)) (onTc (τ := Cert.GluGwRefIdeal.τ) (Cert.GluGwRefIdeal.main (F := Ideal))) ⟨m', fun _ => 0, g'⟩ (fun r => ∀ c : Dev Cert.GluGwRefIdeal.nD,
          r.2.mem ((c.tc : Thread Cert.GluGwRefIdeal.nD Cert.GluGwRefIdeal.τ).loc Cert.GluGwRefIdeal.main_v18) = v0 c
          ∧ r.2.mem ((c.tc : Thread Cert.GluGwRefIdeal.nD Cert.GluGwRefIdeal.τ).loc Cert.GluGwRefIdeal.main_arg0) = m' ((c.tc : Thread Cert.GluGwRefIdeal.nD Cert.GluGwRefIdeal.τ).loc Cert.GluGwRefIdeal.main_arg0)
          ∧ r.2.mem ((c.tc : Thread Cert.GluGwRefIdeal.nD Cert.GluGwRefIdeal.τ).loc Cert.GluGwRefIdeal.main_arg1) = m' ((c.tc : Thread Cert.GluGwRefIdeal.nD Cert.GluGwRefIdeal.τ).loc Cert.GluGwRefIdeal.main_arg1))

def preserves_DGy_DGyIdeal : Prop :=
  IdealRules.named_const.Statement Cert.DGyIdeal.κ "cubic" .f32 0x3D372713#32 ((8943 / 200000 : ℝ) : EReal)
  ∧ IdealRules.named_const.Statement Cert.DGyIdeal.κ "thrice" .f32 0x3E095D4F#32 ((26829 / 200000 : ℝ) : EReal)

def algebraic_DGyIdeal_DGyRefIdeal_pre_finite_d_gy [hDGyIdeal : Cert.DGyIdeal.Facts] [hDGyRefIdeal : Cert.DGyRefIdeal.Facts] [hPre_finite_d_gy : Cert.Pre_finite_d_gy.Facts] : Prop :=
  ∀ (m : (ℓ : Loc Cert.DGyIdeal.nD Cert.DGyIdeal.τ Cert.DGyIdeal.sig) → Buf (Elt Ideal) ℓ) (g : Dev Cert.DGyIdeal.nD → PrngReg)
    (m' : (ℓ : Loc Cert.DGyRefIdeal.nD Cert.DGyRefIdeal.τ Cert.DGyRefIdeal.sig) → Buf (Elt Ideal) ℓ) (g' : Dev Cert.DGyRefIdeal.nD → PrngReg), Pre_DGyIdeal_finite_d_gy m →
    (∀ c : Dev Cert.DGyIdeal.nD,
      m' ((c.tc : Thread Cert.DGyRefIdeal.nD Cert.DGyRefIdeal.τ).loc Cert.DGyRefIdeal.main_arg0) = m ((c.tc : Thread Cert.DGyIdeal.nD Cert.DGyIdeal.τ).loc Cert.DGyIdeal.main_arg0)
      ∧ m' ((c.tc : Thread Cert.DGyRefIdeal.nD Cert.DGyRefIdeal.τ).loc Cert.DGyRefIdeal.main_arg1) = m ((c.tc : Thread Cert.DGyIdeal.nD Cert.DGyIdeal.τ).loc Cert.DGyIdeal.main_arg1)
      ∧ m' ((c.tc : Thread Cert.DGyRefIdeal.nD Cert.DGyRefIdeal.τ).loc Cert.DGyRefIdeal.main_arg2) = m ((c.tc : Thread Cert.DGyIdeal.nD Cert.DGyIdeal.τ).loc Cert.DGyIdeal.main_arg2)) →
    ∃ (v0 : (c : Dev Cert.DGyIdeal.nD) → Buf (Elt Ideal) ((c.tc : Thread Cert.DGyIdeal.nD Cert.DGyIdeal.τ).loc Cert.DGyIdeal.main_v2)),
      θ_run (Cert.DGyIdeal.defs (F := Ideal)) (onTc (τ := Cert.DGyIdeal.τ) (Cert.DGyIdeal.main (F := Ideal))) ⟨m, fun _ => 0, g⟩ (fun r => ∀ c : Dev Cert.DGyIdeal.nD,
          r.2.mem ((c.tc : Thread Cert.DGyIdeal.nD Cert.DGyIdeal.τ).loc Cert.DGyIdeal.main_v2) = v0 c
          ∧ r.2.mem ((c.tc : Thread Cert.DGyIdeal.nD Cert.DGyIdeal.τ).loc Cert.DGyIdeal.main_arg0) = m ((c.tc : Thread Cert.DGyIdeal.nD Cert.DGyIdeal.τ).loc Cert.DGyIdeal.main_arg0)
          ∧ r.2.mem ((c.tc : Thread Cert.DGyIdeal.nD Cert.DGyIdeal.τ).loc Cert.DGyIdeal.main_arg1) = m ((c.tc : Thread Cert.DGyIdeal.nD Cert.DGyIdeal.τ).loc Cert.DGyIdeal.main_arg1)
          ∧ r.2.mem ((c.tc : Thread Cert.DGyIdeal.nD Cert.DGyIdeal.τ).loc Cert.DGyIdeal.main_arg2) = m ((c.tc : Thread Cert.DGyIdeal.nD Cert.DGyIdeal.τ).loc Cert.DGyIdeal.main_arg2))
      ∧ θ_run (Cert.DGyRefIdeal.defs (F := Ideal)) (onTc (τ := Cert.DGyRefIdeal.τ) (Cert.DGyRefIdeal.main (F := Ideal))) ⟨m', fun _ => 0, g'⟩ (fun r => ∀ c : Dev Cert.DGyRefIdeal.nD,
          r.2.mem ((c.tc : Thread Cert.DGyRefIdeal.nD Cert.DGyRefIdeal.τ).loc Cert.DGyRefIdeal.main_v36) = v0 c
          ∧ r.2.mem ((c.tc : Thread Cert.DGyRefIdeal.nD Cert.DGyRefIdeal.τ).loc Cert.DGyRefIdeal.main_arg0) = m' ((c.tc : Thread Cert.DGyRefIdeal.nD Cert.DGyRefIdeal.τ).loc Cert.DGyRefIdeal.main_arg0)
          ∧ r.2.mem ((c.tc : Thread Cert.DGyRefIdeal.nD Cert.DGyRefIdeal.τ).loc Cert.DGyRefIdeal.main_arg1) = m' ((c.tc : Thread Cert.DGyRefIdeal.nD Cert.DGyRefIdeal.τ).loc Cert.DGyRefIdeal.main_arg1)
          ∧ r.2.mem ((c.tc : Thread Cert.DGyRefIdeal.nD Cert.DGyRefIdeal.τ).loc Cert.DGyRefIdeal.main_arg2) = m' ((c.tc : Thread Cert.DGyRefIdeal.nD Cert.DGyRefIdeal.τ).loc Cert.DGyRefIdeal.main_arg2))

def preserves_GluGate_GluGateIdeal : Prop :=
  True

def algebraic_GluGateIdeal_GluGateRefIdeal [hGluGateIdeal : Cert.GluGateIdeal.Facts] [hGluGateRefIdeal : Cert.GluGateRefIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)) →
    ∃ (v0 : (c : Dev Cert.GluGateIdeal.nD) → Buf (Elt Ideal) ((c.tc : Thread Cert.GluGateIdeal.nD Cert.GluGateIdeal.τ).loc Cert.GluGateIdeal.main_v0)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v0) = v0 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v9) = v0 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0))

def preserves_GluGateBwd_GluGateBwdIdeal : Prop :=
  True

def algebraic_GluGateBwdIdeal_GluGateBwdRefIdeal [hGluGateBwdIdeal : Cert.GluGateBwdIdeal.Facts] [hGluGateBwdRefIdeal : Cert.GluGateBwdRefIdeal.Facts] : Prop :=
  ∀ (m : (ℓ : Loc Cert.GluGateBwdIdeal.nD Cert.GluGateBwdIdeal.τ Cert.GluGateBwdIdeal.sig) → Buf (Elt Ideal) ℓ) (g : Dev Cert.GluGateBwdIdeal.nD → PrngReg)
    (m' : (ℓ : Loc Cert.GluGateBwdRefIdeal.nD Cert.GluGateBwdRefIdeal.τ Cert.GluGateBwdRefIdeal.sig) → Buf (Elt Ideal) ℓ) (g' : Dev Cert.GluGateBwdRefIdeal.nD → PrngReg), Pre_GluGateBwdIdeal m →
    (∀ c : Dev Cert.GluGateBwdIdeal.nD,
      m' ((c.tc : Thread Cert.GluGateBwdRefIdeal.nD Cert.GluGateBwdRefIdeal.τ).loc Cert.GluGateBwdRefIdeal.main_arg0) = m ((c.tc : Thread Cert.GluGateBwdIdeal.nD Cert.GluGateBwdIdeal.τ).loc Cert.GluGateBwdIdeal.main_arg0)
      ∧ m' ((c.tc : Thread Cert.GluGateBwdRefIdeal.nD Cert.GluGateBwdRefIdeal.τ).loc Cert.GluGateBwdRefIdeal.main_arg1) = m ((c.tc : Thread Cert.GluGateBwdIdeal.nD Cert.GluGateBwdIdeal.τ).loc Cert.GluGateBwdIdeal.main_arg1)) →
    ∃ (v0 : (c : Dev Cert.GluGateBwdIdeal.nD) → Buf (Elt Ideal) ((c.tc : Thread Cert.GluGateBwdIdeal.nD Cert.GluGateBwdIdeal.τ).loc Cert.GluGateBwdIdeal.main_v0_0)) (v1 : (c : Dev Cert.GluGateBwdIdeal.nD) → Buf (Elt Ideal) ((c.tc : Thread Cert.GluGateBwdIdeal.nD Cert.GluGateBwdIdeal.τ).loc Cert.GluGateBwdIdeal.main_v0_1)),
      θ_run (Cert.GluGateBwdIdeal.defs (F := Ideal)) (onTc (τ := Cert.GluGateBwdIdeal.τ) (Cert.GluGateBwdIdeal.main (F := Ideal))) ⟨m, fun _ => 0, g⟩ (fun r => ∀ c : Dev Cert.GluGateBwdIdeal.nD,
          r.2.mem ((c.tc : Thread Cert.GluGateBwdIdeal.nD Cert.GluGateBwdIdeal.τ).loc Cert.GluGateBwdIdeal.main_v0_0) = v0 c
          ∧ r.2.mem ((c.tc : Thread Cert.GluGateBwdIdeal.nD Cert.GluGateBwdIdeal.τ).loc Cert.GluGateBwdIdeal.main_v0_1) = v1 c
          ∧ r.2.mem ((c.tc : Thread Cert.GluGateBwdIdeal.nD Cert.GluGateBwdIdeal.τ).loc Cert.GluGateBwdIdeal.main_arg0) = m ((c.tc : Thread Cert.GluGateBwdIdeal.nD Cert.GluGateBwdIdeal.τ).loc Cert.GluGateBwdIdeal.main_arg0)
          ∧ r.2.mem ((c.tc : Thread Cert.GluGateBwdIdeal.nD Cert.GluGateBwdIdeal.τ).loc Cert.GluGateBwdIdeal.main_arg1) = m ((c.tc : Thread Cert.GluGateBwdIdeal.nD Cert.GluGateBwdIdeal.τ).loc Cert.GluGateBwdIdeal.main_arg1))
      ∧ θ_run (Cert.GluGateBwdRefIdeal.defs (F := Ideal)) (onTc (τ := Cert.GluGateBwdRefIdeal.τ) (Cert.GluGateBwdRefIdeal.main (F := Ideal))) ⟨m', fun _ => 0, g'⟩ (fun r => ∀ c : Dev Cert.GluGateBwdRefIdeal.nD,
          r.2.mem ((c.tc : Thread Cert.GluGateBwdRefIdeal.nD Cert.GluGateBwdRefIdeal.τ).loc Cert.GluGateBwdRefIdeal.main_v19) = v0 c
          ∧ r.2.mem ((c.tc : Thread Cert.GluGateBwdRefIdeal.nD Cert.GluGateBwdRefIdeal.τ).loc Cert.GluGateBwdRefIdeal.main_v20) = v1 c
          ∧ r.2.mem ((c.tc : Thread Cert.GluGateBwdRefIdeal.nD Cert.GluGateBwdRefIdeal.τ).loc Cert.GluGateBwdRefIdeal.main_arg0) = m' ((c.tc : Thread Cert.GluGateBwdRefIdeal.nD Cert.GluGateBwdRefIdeal.τ).loc Cert.GluGateBwdRefIdeal.main_arg0)
          ∧ r.2.mem ((c.tc : Thread Cert.GluGateBwdRefIdeal.nD Cert.GluGateBwdRefIdeal.τ).loc Cert.GluGateBwdRefIdeal.main_arg1) = m' ((c.tc : Thread Cert.GluGateBwdRefIdeal.nD Cert.GluGateBwdRefIdeal.τ).loc Cert.GluGateBwdRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v19) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hGwDown : Cert.GwDown.Facts) (hGwDownIdeal : Cert.GwDownIdeal.Facts) (hGwDownRefIdeal : Cert.GwDownRefIdeal.Facts) (hDh2 : Cert.Dh2.Facts) (hDh2Ideal : Cert.Dh2Ideal.Facts) (hDh2RefIdeal : Cert.Dh2RefIdeal.Facts) (hGwUp : Cert.GwUp.Facts) (hGwUpIdeal : Cert.GwUpIdeal.Facts) (hGwUpRefIdeal : Cert.GwUpRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInZ : Cert.InZ.Facts) (hInZIdeal : Cert.InZIdeal.Facts) (hInZRefIdeal : Cert.InZRefIdeal.Facts) (hInGw : Cert.InGw.Facts) (hInGwIdeal : Cert.InGwIdeal.Facts) (hInGwRefIdeal : Cert.InGwRefIdeal.Facts) (hInDh : Cert.InDh.Facts) (hInDhIdeal : Cert.InDhIdeal.Facts) (hInDhRefIdeal : Cert.InDhRefIdeal.Facts) (hOutMixed : Cert.OutMixed.Facts) (hOutMixedIdeal : Cert.OutMixedIdeal.Facts) (hOutMixedRefIdeal : Cert.OutMixedRefIdeal.Facts) (hOutDMix : Cert.OutDMix.Facts) (hOutDMixIdeal : Cert.OutDMixIdeal.Facts) (hOutDMixRefIdeal : Cert.OutDMixRefIdeal.Facts) (hOutGw : Cert.OutGw.Facts) (hOutGwIdeal : Cert.OutGwIdeal.Facts) (hOutGwRefIdeal : Cert.OutGwRefIdeal.Facts) (hBrAttn : Cert.BrAttn.Facts) (hBrAttnIdeal : Cert.BrAttnIdeal.Facts) (hBrAttnRefIdeal : Cert.BrAttnRefIdeal.Facts) (hBrSsm : Cert.BrSsm.Facts) (hBrSsmIdeal : Cert.BrSsmIdeal.Facts) (hBrSsmRefIdeal : Cert.BrSsmRefIdeal.Facts) (hBrDAttn : Cert.BrDAttn.Facts) (hBrDAttnIdeal : Cert.BrDAttnIdeal.Facts) (hBrDAttnRefIdeal : Cert.BrDAttnRefIdeal.Facts) (hBrDSsm : Cert.BrDSsm.Facts) (hBrDSsmIdeal : Cert.BrDSsmIdeal.Facts) (hBrDSsmRefIdeal : Cert.BrDSsmRefIdeal.Facts) (hBrGwAttn : Cert.BrGwAttn.Facts) (hBrGwAttnIdeal : Cert.BrGwAttnIdeal.Facts) (hBrGwAttnRefIdeal : Cert.BrGwAttnRefIdeal.Facts) (hBrGwSsm : Cert.BrGwSsm.Facts) (hBrGwSsmIdeal : Cert.BrGwSsmIdeal.Facts) (hBrGwSsmRefIdeal : Cert.BrGwSsmRefIdeal.Facts) (hGlu : Cert.Glu.Facts) (hGluIdeal : Cert.GluIdeal.Facts) (hGluRefIdeal : Cert.GluRefIdeal.Facts) (hGluGw : Cert.GluGw.Facts) (hGluGwIdeal : Cert.GluGwIdeal.Facts) (hGluGwRefIdeal : Cert.GluGwRefIdeal.Facts) (hDGy : Cert.DGy.Facts) (hDGyIdeal : Cert.DGyIdeal.Facts) (hDGyRefIdeal : Cert.DGyRefIdeal.Facts) (hGluGate : Cert.GluGate.Facts) (hGluGateIdeal : Cert.GluGateIdeal.Facts) (hGluGateRefIdeal : Cert.GluGateRefIdeal.Facts) (hGluGateBwd : Cert.GluGateBwd.Facts) (hGluGateBwdIdeal : Cert.GluGateBwdIdeal.Facts) (hGluGateBwdRefIdeal : Cert.GluGateBwdRefIdeal.Facts) (hMix : Cert.Mix.Facts) (hMixIdeal : Cert.MixIdeal.Facts) (hMixRefIdeal : Cert.MixRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamUp : Cert.AdamUp.Facts) (hAdamUpIdeal : Cert.AdamUpIdeal.Facts) (hAdamUpRefIdeal : Cert.AdamUpRefIdeal.Facts) (hPre_finite : Cert.Pre_finite.Facts) (hPre_finite_d_gy : Cert.Pre_finite_d_gy.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InZ (hInZ := hInZ)
    ∧ quiescent_InZIdeal (hInZIdeal := hInZIdeal)
    ∧ quiescent_InZRefIdeal (hInZRefIdeal := hInZRefIdeal)
    ∧ quiescent_InGw (hInGw := hInGw)
    ∧ quiescent_InGwIdeal (hInGwIdeal := hInGwIdeal)
    ∧ quiescent_InGwRefIdeal (hInGwRefIdeal := hInGwRefIdeal)
    ∧ quiescent_InDh (hInDh := hInDh)
    ∧ quiescent_InDhIdeal (hInDhIdeal := hInDhIdeal)
    ∧ quiescent_InDhRefIdeal (hInDhRefIdeal := hInDhRefIdeal)
    ∧ quiescent_OutMixed (hOutMixed := hOutMixed)
    ∧ quiescent_OutMixedIdeal (hOutMixedIdeal := hOutMixedIdeal)
    ∧ quiescent_OutMixedRefIdeal (hOutMixedRefIdeal := hOutMixedRefIdeal)
    ∧ quiescent_OutDMix (hOutDMix := hOutDMix)
    ∧ quiescent_OutDMixIdeal (hOutDMixIdeal := hOutDMixIdeal)
    ∧ quiescent_OutDMixRefIdeal (hOutDMixRefIdeal := hOutDMixRefIdeal)
    ∧ quiescent_OutGw (hOutGw := hOutGw)
    ∧ quiescent_OutGwIdeal (hOutGwIdeal := hOutGwIdeal)
    ∧ quiescent_OutGwRefIdeal (hOutGwRefIdeal := hOutGwRefIdeal)
    ∧ quiescent_BrAttn (hBrAttn := hBrAttn)
    ∧ quiescent_BrAttnIdeal (hBrAttnIdeal := hBrAttnIdeal)
    ∧ quiescent_BrAttnRefIdeal (hBrAttnRefIdeal := hBrAttnRefIdeal)
    ∧ quiescent_BrSsm (hBrSsm := hBrSsm)
    ∧ quiescent_BrSsmIdeal (hBrSsmIdeal := hBrSsmIdeal)
    ∧ quiescent_BrSsmRefIdeal (hBrSsmRefIdeal := hBrSsmRefIdeal)
    ∧ quiescent_BrDAttn (hBrDAttn := hBrDAttn)
    ∧ quiescent_BrDAttnIdeal (hBrDAttnIdeal := hBrDAttnIdeal)
    ∧ quiescent_BrDAttnRefIdeal (hBrDAttnRefIdeal := hBrDAttnRefIdeal)
    ∧ quiescent_BrDSsm (hBrDSsm := hBrDSsm)
    ∧ quiescent_BrDSsmIdeal (hBrDSsmIdeal := hBrDSsmIdeal)
    ∧ quiescent_BrDSsmRefIdeal (hBrDSsmRefIdeal := hBrDSsmRefIdeal)
    ∧ quiescent_BrGwAttn (hBrGwAttn := hBrGwAttn)
    ∧ quiescent_BrGwAttnIdeal (hBrGwAttnIdeal := hBrGwAttnIdeal)
    ∧ quiescent_BrGwAttnRefIdeal (hBrGwAttnRefIdeal := hBrGwAttnRefIdeal)
    ∧ quiescent_BrGwSsm (hBrGwSsm := hBrGwSsm)
    ∧ quiescent_BrGwSsmIdeal (hBrGwSsmIdeal := hBrGwSsmIdeal)
    ∧ quiescent_BrGwSsmRefIdeal (hBrGwSsmRefIdeal := hBrGwSsmRefIdeal)
    ∧ quiescent_Glu (hGlu := hGlu)
    ∧ quiescent_GluIdeal (hGluIdeal := hGluIdeal)
    ∧ quiescent_GluRefIdeal (hGluRefIdeal := hGluRefIdeal)
    ∧ quiescent_GluGw (hGluGw := hGluGw)
    ∧ quiescent_GluGwIdeal (hGluGwIdeal := hGluGwIdeal)
    ∧ quiescent_GluGwRefIdeal (hGluGwRefIdeal := hGluGwRefIdeal)
    ∧ quiescent_DGy (hDGy := hDGy)
    ∧ quiescent_DGyIdeal (hDGyIdeal := hDGyIdeal)
    ∧ quiescent_DGyIdeal_pre_finite_d_gy (hDGyIdeal := hDGyIdeal) (hPre_finite_d_gy := hPre_finite_d_gy)
    ∧ quiescent_DGyRefIdeal (hDGyRefIdeal := hDGyRefIdeal)
    ∧ quiescent_DGyRefIdeal_pre_finite_d_gy (hDGyRefIdeal := hDGyRefIdeal) (hPre_finite_d_gy := hPre_finite_d_gy)
    ∧ quiescent_GluGate (hGluGate := hGluGate)
    ∧ quiescent_GluGateIdeal (hGluGateIdeal := hGluGateIdeal)
    ∧ quiescent_GluGateRefIdeal (hGluGateRefIdeal := hGluGateRefIdeal)
    ∧ quiescent_GluGateBwd (hGluGateBwd := hGluGateBwd)
    ∧ quiescent_GluGateBwdIdeal (hGluGateBwdIdeal := hGluGateBwdIdeal)
    ∧ quiescent_GluGateBwdRefIdeal (hGluGateBwdRefIdeal := hGluGateBwdRefIdeal)
    ∧ quiescent_Mix (hMix := hMix)
    ∧ quiescent_MixIdeal (hMixIdeal := hMixIdeal)
    ∧ quiescent_MixRefIdeal (hMixRefIdeal := hMixRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActRefIdeal (hDActIdeal := hDActIdeal) (hDActRefIdeal := hDActRefIdeal)
    ∧ preserves_GwDown_GwDownIdeal
    ∧ algebraic_GwDownIdeal_GwDownRefIdeal (hGwDownIdeal := hGwDownIdeal) (hGwDownRefIdeal := hGwDownRefIdeal)
    ∧ preserves_Dh2_Dh2Ideal
    ∧ algebraic_Dh2Ideal_Dh2RefIdeal (hDh2Ideal := hDh2Ideal) (hDh2RefIdeal := hDh2RefIdeal)
    ∧ preserves_GwUp_GwUpIdeal
    ∧ algebraic_GwUpIdeal_GwUpRefIdeal (hGwUpIdeal := hGwUpIdeal) (hGwUpRefIdeal := hGwUpRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InZ_InZIdeal
    ∧ algebraic_InZIdeal_InZRefIdeal (hInZIdeal := hInZIdeal) (hInZRefIdeal := hInZRefIdeal)
    ∧ preserves_InGw_InGwIdeal
    ∧ algebraic_InGwIdeal_InGwRefIdeal (hInGwIdeal := hInGwIdeal) (hInGwRefIdeal := hInGwRefIdeal)
    ∧ preserves_InDh_InDhIdeal
    ∧ algebraic_InDhIdeal_InDhRefIdeal (hInDhIdeal := hInDhIdeal) (hInDhRefIdeal := hInDhRefIdeal)
    ∧ preserves_OutMixed_OutMixedIdeal
    ∧ algebraic_OutMixedIdeal_OutMixedRefIdeal (hOutMixedIdeal := hOutMixedIdeal) (hOutMixedRefIdeal := hOutMixedRefIdeal)
    ∧ preserves_OutDMix_OutDMixIdeal
    ∧ algebraic_OutDMixIdeal_OutDMixRefIdeal (hOutDMixIdeal := hOutDMixIdeal) (hOutDMixRefIdeal := hOutDMixRefIdeal)
    ∧ preserves_OutGw_OutGwIdeal
    ∧ algebraic_OutGwIdeal_OutGwRefIdeal (hOutGwIdeal := hOutGwIdeal) (hOutGwRefIdeal := hOutGwRefIdeal)
    ∧ preserves_BrAttn_BrAttnIdeal
    ∧ algebraic_BrAttnIdeal_BrAttnRefIdeal (hBrAttnIdeal := hBrAttnIdeal) (hBrAttnRefIdeal := hBrAttnRefIdeal)
    ∧ preserves_BrSsm_BrSsmIdeal
    ∧ algebraic_BrSsmIdeal_BrSsmRefIdeal (hBrSsmIdeal := hBrSsmIdeal) (hBrSsmRefIdeal := hBrSsmRefIdeal)
    ∧ preserves_BrDAttn_BrDAttnIdeal
    ∧ algebraic_BrDAttnIdeal_BrDAttnRefIdeal (hBrDAttnIdeal := hBrDAttnIdeal) (hBrDAttnRefIdeal := hBrDAttnRefIdeal)
    ∧ preserves_BrDSsm_BrDSsmIdeal
    ∧ algebraic_BrDSsmIdeal_BrDSsmRefIdeal (hBrDSsmIdeal := hBrDSsmIdeal) (hBrDSsmRefIdeal := hBrDSsmRefIdeal)
    ∧ preserves_BrGwAttn_BrGwAttnIdeal
    ∧ algebraic_BrGwAttnIdeal_BrGwAttnRefIdeal (hBrGwAttnIdeal := hBrGwAttnIdeal) (hBrGwAttnRefIdeal := hBrGwAttnRefIdeal)
    ∧ preserves_BrGwSsm_BrGwSsmIdeal
    ∧ algebraic_BrGwSsmIdeal_BrGwSsmRefIdeal (hBrGwSsmIdeal := hBrGwSsmIdeal) (hBrGwSsmRefIdeal := hBrGwSsmRefIdeal)
    ∧ preserves_Glu_GluIdeal
    ∧ algebraic_GluIdeal_GluRefIdeal (hGluIdeal := hGluIdeal) (hGluRefIdeal := hGluRefIdeal)
    ∧ preserves_GluGw_GluGwIdeal
    ∧ algebraic_GluGwIdeal_GluGwRefIdeal (hGluGwIdeal := hGluGwIdeal) (hGluGwRefIdeal := hGluGwRefIdeal)
    ∧ preserves_DGy_DGyIdeal
    ∧ algebraic_DGyIdeal_DGyRefIdeal_pre_finite_d_gy (hDGyIdeal := hDGyIdeal) (hDGyRefIdeal := hDGyRefIdeal) (hPre_finite_d_gy := hPre_finite_d_gy)
    ∧ preserves_GluGate_GluGateIdeal
    ∧ algebraic_GluGateIdeal_GluGateRefIdeal (hGluGateIdeal := hGluGateIdeal) (hGluGateRefIdeal := hGluGateRefIdeal)
    ∧ preserves_GluGateBwd_GluGateBwdIdeal
    ∧ algebraic_GluGateBwdIdeal_GluGateBwdRefIdeal (hGluGateBwdIdeal := hGluGateBwdIdeal) (hGluGateBwdRefIdeal := hGluGateBwdRefIdeal)
    ∧ preserves_Mix_MixIdeal
    ∧ algebraic_MixIdeal_MixRefIdeal (hMixIdeal := hMixIdeal) (hMixRefIdeal := hMixRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamUp_AdamUpIdeal
    ∧ algebraic_AdamUpIdeal_AdamUpRefIdeal (hAdamUpIdeal := hAdamUpIdeal) (hAdamUpRefIdeal := hAdamUpRefIdeal)
-- ==== Pre_finite.lean ====
abbrev S8192x6400 : Shape := ⟨2, ![8192, 6400]⟩
abbrev S8192x1024 : Shape := ⟨2, ![8192, 1024]⟩
abbrev S1x16 : Shape := ⟨2, ![1, 16]⟩
abbrev S8192x1280 : Shape := ⟨2, ![8192, 1280]⟩
abbrev S_ : Shape := ⟨0, ![]⟩

class Facts : Prop where
  slices_S8192x6400_S8192x1280_0_0 : S8192x6400.Slices ![0, 0] S8192x1280
  bcast_S_S8192x1280 : S_.BroadcastsInDim S8192x1280 (![] : Fin 0 → Fin S8192x1280.rank)
  reducesTo_S8192x1280_S_d0_1 : S8192x1280.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x6400 .f32) (main_arg1 : FVec F S8192x1024 .f32) (main_arg2 : FVec F S1x16 .f32) (main_arg3 : FVec F S8192x6400 .bf16) : IVec S_ 1 :=
  let main_v0 : FVec F S8192x1280 .f32 := (extractStridedSlice S8192x1280 ![0, 0] · slices_S8192x6400_S8192x1280_0_0) main_arg0
  let main_v1 : FVec F S8192x1280 .f32 := Host.absf main_v0
  let main_cst : FVec F S_ .f32 := constant S_ .f32 0x7F800000#32
  let main_v2 : FVec F S8192x1280 .f32 := broadcastInDim S8192x1280 ![] bcast_S_S8192x1280 main_cst
  let main_v3 : IVec S8192x1280 1 := cmpf .olt main_v1 main_v2
  let main_c : IVec S_ 1 := constantI S_ 1 1#1
  let main_v4 : IVec S_ 1 := (fun x v => Host.reduce IntOp.andi x v reducesTo_S8192x1280_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_cst_2 : FVec F S_ .f32 := constant S_ .f32 0x7F800000#32
  let main_v10 : FVec F S1x16 .f32 := broadcastInDim S1x16 ![] bcast_S_S1x16 main_cst_2
  let main_v11 : IVec S1x16 1 := cmpf .olt main_arg2 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v9 main_v12
  main_v13
-- ==== Pre_finite_d_gy.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2048 .bf16) (main_arg1 : FVec F S1024x2048 .f32) (main_arg2 : FVec F S8192x1024 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1024x2048 .f32 := Host.absf main_arg1
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  main_v14
-- ==== Kernel.lean ====
abbrev S8192x6400 : Shape := ⟨2, ![8192, 6400]⟩
abbrev S8192x1024 : Shape := ⟨2, ![8192, 1024]⟩
abbrev S1x16 : Shape := ⟨2, ![1, 16]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S128 : Shape := ⟨1, ![128]⟩
abbrev S128x1 : Shape := ⟨2, ![128, 1]⟩
abbrev S8192x128 : Shape := ⟨2, ![8192, 128]⟩
abbrev S1x128 : Shape := ⟨2, ![1, 128]⟩
abbrev S8x128 : Shape := ⟨2, ![8, 128]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S256x256 : Shape := ⟨2, ![256, 256]⟩
abbrev S256x1 : Shape := ⟨2, ![256, 1]⟩
abbrev S1x1 : Shape := ⟨2, ![1, 1]⟩
abbrev S256 : Shape := ⟨1, ![256]⟩
abbrev S1 : Shape := ⟨1, ![1]⟩

abbrev nBuf : Space → Nat
  | .hbm => 109
  | .vmem => 31
  | .smem => 1
  | _ => 0

abbrev bufTy : (tb : Table) → Fin (tcTables nBuf tb) → BufTy
  | .hbm, ⟨0, _⟩ => ⟨S8192x6400, .f32⟩
  | .hbm, ⟨1, _⟩ => ⟨S8192x1024, .f32⟩
  | .hbm, ⟨2, _⟩ => ⟨S1x16, .f32⟩
  | .hbm, ⟨3, _⟩ => ⟨S8192x6400, .bf16⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8192, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S128, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S_, .i1⟩
  | .hbm, ⟨38, _⟩ => ⟨S128, .i1⟩
  | .hbm, ⟨39, _⟩ => ⟨S128, .i1⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S_, .i1⟩
  | .hbm, ⟨60, _⟩ => ⟨S128, .i1⟩
  | .hbm, ⟨61, _⟩ => ⟨S128, .i1⟩
  | .hbm, ⟨62, _⟩ => ⟨S128, .i1⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S8192x128, .f32⟩
  | .hbm, ⟨75, _⟩ => ⟨S1x128, .i32⟩
  | .hbm, ⟨76, _⟩ => ⟨S_, .i32⟩
  | .hbm, ⟨77, _⟩ => ⟨S1x128, .i32⟩
  | .hbm, ⟨78, _⟩ => ⟨S1x128, .i1⟩
  | .hbm, ⟨79, _⟩ => ⟨S8192x128, .f32⟩
  | .hbm, ⟨80, _⟩ => ⟨S_, .f32⟩
  | .hbm, ⟨81, _⟩ => ⟨S_, .f32⟩
  | .hbm, ⟨82, _⟩ => ⟨S8192x128, .i1⟩
  | .hbm, ⟨83, _⟩ => ⟨S8192x128, .f32⟩
  | .hbm, ⟨84, _⟩ => ⟨S8192x128, .f32⟩
  | .hbm, ⟨85, _⟩ => ⟨S1x128, .i32⟩
  | .hbm, ⟨86, _⟩ => ⟨S_, .i32⟩
  | .hbm, ⟨87, _⟩ => ⟨S1x128, .i32⟩
  | .hbm, ⟨88, _⟩ => ⟨S1x128, .i1⟩
  | .hbm, ⟨89, _⟩ => ⟨S8192x128, .f32⟩
  | .hbm, ⟨90, _⟩ => ⟨S8192x128, .f32⟩
  | .hbm, ⟨91, _⟩ => ⟨S1x128, .i32⟩
  | .hbm, ⟨92, _⟩ => ⟨S_, .i32⟩
  | .hbm, ⟨93, _⟩ => ⟨S1x128, .i32⟩
  | .hbm, ⟨94, _⟩ => ⟨S1x128, .i1⟩
  | .hbm, ⟨95, _⟩ => ⟨S8192x128, .f32⟩
  | .hbm, ⟨96, _⟩ => ⟨S_, .f32⟩
  | .hbm, ⟨97, _⟩ => ⟨S_, .f32⟩
  | .hbm, ⟨98, _⟩ => ⟨S8192x128, .i1⟩
  | .hbm, ⟨99, _⟩ => ⟨S8192x128, .f32⟩
  | .hbm, ⟨100, _⟩ => ⟨S8192x128, .f32⟩
  | .hbm, ⟨101, _⟩ => ⟨S8192x128, .i1⟩
  | .hbm, ⟨102, _⟩ => ⟨S8192x128, .f32⟩
  | .hbm, ⟨103, _⟩ => ⟨S8192x6400, .bf16⟩
  | .hbm, ⟨104, _⟩ => ⟨S8192x128, .f32⟩
  | .hbm, ⟨105, _⟩ => ⟨S8192x128, .f32⟩
  | .hbm, ⟨106, _⟩ => ⟨S8192x128, .f32⟩
  | .hbm, ⟨107, _⟩ => ⟨S8192x128, .f32⟩
  | .hbm, ⟨108, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .f32⟩
  | .local _ .vmem, ⟨19, _⟩ => ⟨S128x1024, .f32⟩
  | .local _ .vmem, ⟨20, _⟩ => ⟨S128x1024, .bf16⟩
  | .local _ .vmem, ⟨21, _⟩ => ⟨S128x1024, .bf16⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S8x128, .f32⟩
  | .local _ .smem, ⟨0, _⟩ => ⟨S1x16, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v15 : Ref sig .tc := ⟨.hbm, 43, rfl⟩
abbrev main_c_2 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v16 : Ref sig .tc := ⟨.hbm, 65, rfl⟩
abbrev main_c_3 : Ref sig .tc := ⟨.hbm, 66, rfl⟩
abbrev main_v17 : Ref sig .tc := ⟨.hbm, 67, rfl⟩
abbrev main_v18 : Ref sig .tc := ⟨.hbm, 68, rfl⟩
abbrev main_c_4 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c_5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_6 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v28 : Ref sig .tc := ⟨.hbm, 84, rfl⟩
abbrev main_v29 : Ref sig .tc := ⟨.hbm, 85, rfl⟩
abbrev main_c_7 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_c_8 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v38 : Ref sig .tc := ⟨.hbm, 100, rfl⟩
abbrev main_call4_v0 : Ref sig .tc := ⟨.hbm, 101, rfl⟩
abbrev main_v39 : Ref sig .tc := ⟨.hbm, 102, rfl⟩
abbrev main_v40_0 : Ref sig .tc := ⟨.hbm, 103, rfl⟩
abbrev main_v40_1 : Ref sig .tc := ⟨.hbm, 104, rfl⟩
abbrev main_v40_2 : Ref sig .tc := ⟨.hbm, 105, rfl⟩
abbrev main_v40_3 : Ref sig .tc := ⟨.hbm, 106, rfl⟩
abbrev main_v40_4 : Ref sig .tc := ⟨.hbm, 107, rfl⟩
abbrev main_v40_5 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x6400 : Shape := ⟨2, ![8192, 6400]⟩
abbrev S8192x1024 : Shape := ⟨2, ![8192, 1024]⟩
abbrev S1x16 : Shape := ⟨2, ![1, 16]⟩
abbrev S8192x128 : Shape := ⟨2, ![8192, 128]⟩
abbrev S16 : Shape := ⟨1, ![16]⟩
abbrev S8192 : Shape := ⟨1, ![8192]⟩
abbrev S8192x16x64 : Shape := ⟨3, ![8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x16 : Shape := ⟨3, ![8192, 16, 16]⟩
abbrev S8192x16x8 : Shape := ⟨3, ![8192, 16, 8]⟩
abbrev S8192x16x48 : Shape := ⟨3, ![8192, 16, 48]⟩
abbrev S8192x2x64 : Shape := ⟨3, ![8192, 2, 64]⟩
abbrev S8192x2x16 : Shape := ⟨3, ![8192, 2, 16]⟩
abbrev S8192x2x8 : Shape := ⟨3, ![8192, 2, 8]⟩
abbrev S8192x2x48 : Shape := ⟨3, ![8192, 2, 48]⟩
abbrev S64x128x2x8x64 : Shape := ⟨5, ![64, 128, 2, 8, 64]⟩
abbrev S128x2x64 : Shape := ⟨3, ![128, 2, 64]⟩
abbrev S8320x2x64 : Shape := ⟨3, ![8320, 2, 64]⟩
abbrev S64x128x2x64 : Shape := ⟨4, ![64, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x8 : Shape := ⟨2, ![2, 8]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩
abbrev S64x2x64x256 : Shape := ⟨4, ![64, 2, 64, 256]⟩
abbrev S64x2x128x8x64 : Shape := ⟨5, ![64, 2, 128, 8, 64]⟩
abbrev S64x2x256x64 : Shape := ⟨4, ![64, 2, 256, 64]⟩
abbrev S128x128 : Shape := ⟨2, ![128, 128]⟩
abbrev S8192x5376 : Shape := ⟨2, ![8192, 5376]⟩
abbrev S8064x128 : Shape := ⟨2, ![8064, 128]⟩
abbrev S8x2 : Shape := ⟨2, ![8, 2]⟩
abbrev S8x2x64 : Shape := ⟨3, ![8, 2, 64]⟩
abbrev S8x128 : Shape := ⟨2, ![8, 128]⟩

abbrev nBuf : Space → Nat
  | .hbm => 387
  | .vmem => 0
  | .smem => 0
  | _ => 0

abbrev hbmTy0_0 (i : Nat) : BufTy := match i % 128 with
  | 0 => ⟨S8192x6400, .f32⟩
  | 1 => ⟨S8192x1024, .f32⟩
  | 2 => ⟨S1x16, .f32⟩
  | 3 => ⟨S8192x6400, .bf16⟩
  | 4 => ⟨S8192x1024, .f32⟩
  | 5 => ⟨S8192x128, .f32⟩
  | 6 => ⟨S8192x128, .f32⟩
  | 7 => ⟨S16, .f32⟩
  | 8 => ⟨S8192, .i32⟩
  | 9 => ⟨S8192x16x64, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8192, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x8, .f32⟩
  | 28 => ⟨S8192x1x8, .f32⟩
  | 29 => ⟨S8192x8, .f32⟩
  | 30 => ⟨S8192x1x8, .f32⟩
  | 31 => ⟨S8192x16x16, .f32⟩
  | 32 => ⟨S8192x16x8, .f32⟩
  | 33 => ⟨S8192x16x8, .f32⟩
  | 34 => ⟨S8192x16x8, .f32⟩
  | 35 => ⟨S8192x16x8, .f32⟩
  | 36 => ⟨S8192x16x8, .f32⟩
  | 37 => ⟨S8192x16x8, .f32⟩
  | 38 => ⟨S8192x16x8, .f32⟩
  | 39 => ⟨S8192x16x8, .f32⟩
  | 40 => ⟨S8192x16x8, .f32⟩
  | 41 => ⟨S8192x16x8, .f32⟩
  | 42 => ⟨S8192x16x8, .f32⟩
  | 43 => ⟨S8192x16x8, .f32⟩
  | 44 => ⟨S8192x16x16, .f32⟩
  | 45 => ⟨S8192x16x48, .f32⟩
  | 46 => ⟨S8192x16x64, .f32⟩
  | 47 => ⟨S8192x2x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8192, .f32⟩
  | 60 => ⟨S8192x1, .f32⟩
  | 61 => ⟨S1x8, .f32⟩
  | 62 => ⟨S8192x8, .f32⟩
  | 63 => ⟨S8192x8, .f32⟩
  | 64 => ⟨S8192x8, .f32⟩
  | 65 => ⟨S8192x8, .f32⟩
  | 66 => ⟨S8192x1x8, .f32⟩
  | 67 => ⟨S8192x8, .f32⟩
  | 68 => ⟨S8192x1x8, .f32⟩
  | 69 => ⟨S8192x2x16, .f32⟩
  | 70 => ⟨S8192x2x8, .f32⟩
  | 71 => ⟨S8192x2x8, .f32⟩
  | 72 => ⟨S8192x2x8, .f32⟩
  | 73 => ⟨S8192x2x8, .f32⟩
  | 74 => ⟨S8192x2x8, .f32⟩
  | 75 => ⟨S8192x2x8, .f32⟩
  | 76 => ⟨S8192x2x8, .f32⟩
  | 77 => ⟨S8192x2x8, .f32⟩
  | 78 => ⟨S8192x2x8, .f32⟩
  | 79 => ⟨S8192x2x8, .f32⟩
  | 80 => ⟨S8192x2x8, .f32⟩
  | 81 => ⟨S8192x2x8, .f32⟩
  | 82 => ⟨S8192x2x16, .f32⟩
  | 83 => ⟨S8192x2x48, .f32⟩
  | 84 => ⟨S8192x2x64, .f32⟩
  | 85 => ⟨S8192x2x64, .f32⟩
  | 86 => ⟨S8, .f32⟩
  | 87 => ⟨S8, .f32⟩
  | 88 => ⟨S_, .f32⟩
  | 89 => ⟨S8, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S8192, .f32⟩
  | 98 => ⟨S8192x1, .f32⟩
  | 99 => ⟨S1x8, .f32⟩
  | 100 => ⟨S8192x8, .f32⟩
  | 101 => ⟨S8192x8, .f32⟩
  | 102 => ⟨S8192x8, .f32⟩
  | 103 => ⟨S8192x8, .f32⟩
  | 104 => ⟨S8192x1x8, .f32⟩
  | 105 => ⟨S8192x8, .f32⟩
  | 106 => ⟨S8192x1x8, .f32⟩
  | 107 => ⟨S8192x2x16, .f32⟩
  | 108 => ⟨S8192x2x8, .f32⟩
  | 109 => ⟨S8192x2x8, .f32⟩
  | 110 => ⟨S8192x2x8, .f32⟩
  | 111 => ⟨S8192x2x8, .f32⟩
  | 112 => ⟨S8192x2x8, .f32⟩
  | 113 => ⟨S8192x2x8, .f32⟩
  | 114 => ⟨S8192x2x8, .f32⟩
  | 115 => ⟨S8192x2x8, .f32⟩
  | 116 => ⟨S8192x2x8, .f32⟩
  | 117 => ⟨S8192x2x8, .f32⟩
  | 118 => ⟨S8192x2x8, .f32⟩
  | 119 => ⟨S8192x2x8, .f32⟩
  | 120 => ⟨S8192x2x16, .f32⟩
  | 121 => ⟨S8192x2x48, .f32⟩
  | 122 => ⟨S8192x2x64, .f32⟩
  | 123 => ⟨S8192x2x64, .f32⟩
  | 124 => ⟨S8192x2x64, .f32⟩
  | 125 => ⟨S64x128x2x8x64, .f32⟩
  | 126 => ⟨S_, .f32⟩
  | 127 => ⟨S128x2x64, .f32⟩
  | _ => ⟨S8192x6400, .f32⟩

abbrev hbmTy0_1 (i : Nat) : BufTy := match i % 128 with
  | 0 => ⟨S8320x2x64, .f32⟩
  | 1 => ⟨S_, .f32⟩
  | 2 => ⟨S128x2x64, .f32⟩
  | 3 => ⟨S8320x2x64, .f32⟩
  | 4 => ⟨S_, .f32⟩
  | 5 => ⟨S128x2x64, .f32⟩
  | 6 => ⟨S8192x2x64, .f32⟩
  | 7 => ⟨S64x128x2x64, .f32⟩
  | 8 => ⟨S64x128x2x64, .f32⟩
  | 9 => ⟨S64x256x2x64, .f32⟩
  | 10 => ⟨S8192x2x64, .f32⟩
  | 11 => ⟨S64x128x2x64, .f32⟩
  | 12 => ⟨S64x128x2x64, .f32⟩
  | 13 => ⟨S64x256x2x64, .f32⟩
  | 14 => ⟨S64x2x256x128x8, .f32⟩
  | 15 => ⟨S64x2x8x128x256, .f32⟩
  | 16 => ⟨S_, .f32⟩
  | 17 => ⟨S64x2x8x128x256, .f32⟩
  | 18 => ⟨S64x2x8x128x256, .f32⟩
  | 19 => ⟨S128, .i32⟩
  | 20 => ⟨S128x1, .i32⟩
  | 21 => ⟨S256, .i32⟩
  | 22 => ⟨S1x256, .i32⟩
  | 23 => ⟨S_, .i32⟩
  | 24 => ⟨S128x1, .i32⟩
  | 25 => ⟨S128x1, .i32⟩
  | 26 => ⟨S128x256, .i32⟩
  | 27 => ⟨S128x256, .i32⟩
  | 28 => ⟨S128x256, .i32⟩
  | 29 => ⟨S64, .i32⟩
  | 30 => ⟨S64x1x1, .i32⟩
  | 31 => ⟨S_, .i32⟩
  | 32 => ⟨S64x1x1, .i32⟩
  | 33 => ⟨S64x1x1, .i32⟩
  | 34 => ⟨S_, .i32⟩
  | 35 => ⟨S64x1x1, .i32⟩
  | 36 => ⟨S64x1x1, .i32⟩
  | 37 => ⟨S1x1x256, .i32⟩
  | 38 => ⟨S64x1x256, .i32⟩
  | 39 => ⟨S64x1x256, .i32⟩
  | 40 => ⟨S64x1x256, .i32⟩
  | 41 => ⟨S_, .i32⟩
  | 42 => ⟨S128x256, .i32⟩
  | 43 => ⟨S128x256, .i1⟩
  | 44 => ⟨S1x128x256, .i1⟩
  | 45 => ⟨S_, .i32⟩
  | 46 => ⟨S128x256, .i32⟩
  | 47 => ⟨S128x256, .i1⟩
  | 48 => ⟨S1x128x256, .i1⟩
  | 49 => ⟨S1x128x256, .i1⟩
  | 50 => ⟨S_, .i32⟩
  | 51 => ⟨S64x1x256, .i32⟩
  | 52 => ⟨S64x1x256, .i1⟩
  | 53 => ⟨S64x128x256, .i1⟩
  | 54 => ⟨S64x128x256, .i1⟩
  | 55 => ⟨S64x128x256, .i1⟩
  | 56 => ⟨S64x1x1x128x256, .i1⟩
  | 57 => ⟨S_, .f32⟩
  | 58 => ⟨S_, .f32⟩
  | 59 => ⟨S64x2x8x128x256, .i1⟩
  | 60 => ⟨S64x2x8x128x256, .f32⟩
  | 61 => ⟨S64x2x8x128x256, .f32⟩
  | 62 => ⟨S_, .f32⟩
  | 63 => ⟨S64x2x8x128x256, .f32⟩
  | 64 => ⟨S2x8, .f32⟩
  | 65 => ⟨S1x2x8x1x1, .f32⟩
  | 66 => ⟨S64x2x8x128x1, .f32⟩
  | 67 => ⟨S64x2x8x128x257, .f32⟩
  | 68 => ⟨S_, .f32⟩
  | 69 => ⟨S64x2x8x128, .f32⟩
  | 70 => ⟨S64x2x8x128x1, .f32⟩
  | 71 => ⟨S64x2x8x128x257, .f32⟩
  | 72 => ⟨S64x2x8x128x257, .i1⟩
  | 73 => ⟨S64x2x8x128x257, .f32⟩
  | 74 => ⟨S_, .f32⟩
  | 75 => ⟨S64x2x8x128, .f32⟩
  | 76 => ⟨S_, .f32⟩
  | 77 => ⟨S64x2x8x128, .f32⟩
  | 78 => ⟨S64x2x8x128, .f32⟩
  | 79 => ⟨S_, .f32⟩
  | 80 => ⟨S64x2x8x128, .f32⟩
  | 81 => ⟨S64x2x8x128, .i1⟩
  | 82 => ⟨S_, .f32⟩
  | 83 => ⟨S64x2x8x128, .f32⟩
  | 84 => ⟨S64x2x8x128, .i1⟩
  | 85 => ⟨S_, .f32⟩
  | 86 => ⟨S64x2x8x128, .f32⟩
  | 87 => ⟨S_, .f32⟩
  | 88 => ⟨S64x2x8x128, .f32⟩
  | 89 => ⟨S_, .f32⟩
  | 90 => ⟨S64x2x8x128, .f32⟩
  | 91 => ⟨S64x2x8x128, .f32⟩
  | 92 => ⟨S64x2x8x128, .f32⟩
  | 93 => ⟨S64x2x8x128x1, .f32⟩
  | 94 => ⟨S64x2x8x128x257, .f32⟩
  | 95 => ⟨S64x2x8x128x257, .f32⟩
  | 96 => ⟨S64x2x8x128x257, .f32⟩
  | 97 => ⟨S_, .f32⟩
  | 98 => ⟨S64x2x8x128, .f32⟩
  | 99 => ⟨S64x2x8x128x1, .f32⟩
  | 100 => ⟨S64x2x8x128x257, .f32⟩
  | 101 => ⟨S64x2x8x128x257, .f32⟩
  | 102 => ⟨S64x2x8x128x1, .f32⟩
  | 103 => ⟨S_, .f32⟩
  | 104 => ⟨S64x2x8x128x1, .f32⟩
  | 105 => ⟨S64x2x8x128x1, .f32⟩
  | 106 => ⟨S64x2x8x128x256, .f32⟩
  | 107 => ⟨S64x2x64x8x128, .f32⟩
  | 108 => ⟨S64x128x2x8x64, .f32⟩
  | 109 => ⟨S8192x1024, .f32⟩
  | 110 => ⟨S64x128x2x8x64, .f32⟩
  | 111 => ⟨S64x2x64x8x128, .f32⟩
  | 112 => ⟨S64x2x8x128x256, .f32⟩
  | 113 => ⟨S64x2x64x256, .f32⟩
  | 114 => ⟨S64x256x2x64, .f32⟩
  | 115 => ⟨S_, .f32⟩
  | 116 => ⟨S64x2x8x128x257, .f32⟩
  | 117 => ⟨S64x2x8x128x257, .f32⟩
  | 118 => ⟨S64x2x8x128x257, .f32⟩
  | 119 => ⟨S64x2x8x128x257, .f32⟩
  | 120 => ⟨S_, .f32⟩
  | 121 => ⟨S64x2x8x128, .f32⟩
  | 122 => ⟨S64x2x8x128x1, .f32⟩
  | 123 => ⟨S64x2x8x128x1, .f32⟩
  | 124 => ⟨S64x2x8x128x257, .f32⟩
  | 125 => ⟨S64x2x8x128x257, .f32⟩
  | 126 => ⟨S_, .f32⟩
  | 127 => ⟨S64x2x8x128, .f32⟩
  | _ => ⟨S8192x6400, .f32⟩

abbrev hbmTy0_2 (i : Nat) : BufTy := match i % 128 with
  | 0 => ⟨S64x2x8x128x257, .f32⟩
  | 1 => ⟨S64x2x8x128x257, .f32⟩
  | 2 => ⟨S64x2x8x128x257, .f32⟩
  | 3 => ⟨S64x2x8x128x256, .f32⟩
  | 4 => ⟨S64x2x8x128x1, .f32⟩
  | 5 => ⟨S_, .f32⟩
  | 6 => ⟨S2x8, .f32⟩
  | 7 => ⟨S1x2x8x1x1, .f32⟩
  | 8 => ⟨S_, .f32⟩
  | 9 => ⟨S2x8, .f32⟩
  | 10 => ⟨S16, .f32⟩
  | 11 => ⟨S_, .f32⟩
  | 12 => ⟨S64x2x8x128x256, .f32⟩
  | 13 => ⟨S64x2x8x128x256, .f32⟩
  | 14 => ⟨S_, .f32⟩
  | 15 => ⟨S64x2x8x128x256, .f32⟩
  | 16 => ⟨S64x2x8x128x256, .f32⟩
  | 17 => ⟨S64x2x256x128x8, .f32⟩
  | 18 => ⟨S64x2x128x8x64, .f32⟩
  | 19 => ⟨S64x128x2x8x64, .f32⟩
  | 20 => ⟨S64x2x256x64, .f32⟩
  | 21 => ⟨S64x256x2x64, .f32⟩
  | 22 => ⟨S64x128x2x64, .f32⟩
  | 23 => ⟨S64x128x2x64, .f32⟩
  | 24 => ⟨S8192x2x64, .f32⟩
  | 25 => ⟨S8192x2x64, .f32⟩
  | 26 => ⟨S_, .f32⟩
  | 27 => ⟨S8320x2x64, .f32⟩
  | 28 => ⟨S64x128x2x64, .f32⟩
  | 29 => ⟨S64x128x2x64, .f32⟩
  | 30 => ⟨S8192x2x64, .f32⟩
  | 31 => ⟨S8192x2x64, .f32⟩
  | 32 => ⟨S_, .f32⟩
  | 33 => ⟨S8320x2x64, .f32⟩
  | 34 => ⟨S128x2x64, .f32⟩
  | 35 => ⟨S8192x2x64, .f32⟩
  | 36 => ⟨S128x2x64, .f32⟩
  | 37 => ⟨S8192x2x64, .f32⟩
  | 38 => ⟨S8192x16x64, .f32⟩
  | 39 => ⟨S8192x128, .f32⟩
  | 40 => ⟨S8192x128, .f32⟩
  | 41 => ⟨S8192x2x16, .f32⟩
  | 42 => ⟨S8192x2x48, .f32⟩
  | 43 => ⟨S_, .f32⟩
  | 44 => ⟨S8192x2x64, .f32⟩
  | 45 => ⟨S8192x2x8, .f32⟩
  | 46 => ⟨S8192x2x8, .f32⟩
  | 47 => ⟨S8192x2x8, .f32⟩
  | 48 => ⟨S8192x2x8, .f32⟩
  | 49 => ⟨S8192x2x8, .f32⟩
  | 50 => ⟨S8192x2x8, .f32⟩
  | 51 => ⟨S8192x2x8, .f32⟩
  | 52 => ⟨S8192x2x8, .f32⟩
  | 53 => ⟨S8192x2x8, .f32⟩
  | 54 => ⟨S8192x2x8, .f32⟩
  | 55 => ⟨S8192x2x8, .f32⟩
  | 56 => ⟨S8192x2x8, .f32⟩
  | 57 => ⟨S8192x2x8, .f32⟩
  | 58 => ⟨S_, .f32⟩
  | 59 => ⟨S8192x2x16, .f32⟩
  | 60 => ⟨S_, .f32⟩
  | 61 => ⟨S8192x2x16, .f32⟩
  | 62 => ⟨S8192x2x16, .f32⟩
  | 63 => ⟨S_, .f32⟩
  | 64 => ⟨S8192x2x64, .f32⟩
  | 65 => ⟨S8192x2x64, .f32⟩
  | 66 => ⟨S8192x128, .f32⟩
  | 67 => ⟨S8192x2x16, .f32⟩
  | 68 => ⟨S8192x2x48, .f32⟩
  | 69 => ⟨S_, .f32⟩
  | 70 => ⟨S8192x2x64, .f32⟩
  | 71 => ⟨S8192x2x8, .f32⟩
  | 72 => ⟨S8192x2x8, .f32⟩
  | 73 => ⟨S8192x2x8, .f32⟩
  | 74 => ⟨S8192x2x8, .f32⟩
  | 75 => ⟨S8192x2x8, .f32⟩
  | 76 => ⟨S8192x2x8, .f32⟩
  | 77 => ⟨S8192x2x8, .f32⟩
  | 78 => ⟨S8192x2x8, .f32⟩
  | 79 => ⟨S8192x2x8, .f32⟩
  | 80 => ⟨S8192x2x8, .f32⟩
  | 81 => ⟨S8192x2x8, .f32⟩
  | 82 => ⟨S8192x2x8, .f32⟩
  | 83 => ⟨S8192x2x8, .f32⟩
  | 84 => ⟨S_, .f32⟩
  | 85 => ⟨S8192x2x16, .f32⟩
  | 86 => ⟨S_, .f32⟩
  | 87 => ⟨S8192x2x16, .f32⟩
  | 88 => ⟨S8192x2x16, .f32⟩
  | 89 => ⟨S_, .f32⟩
  | 90 => ⟨S8192x2x64, .f32⟩
  | 91 => ⟨S8192x2x64, .f32⟩
  | 92 => ⟨S8192x128, .f32⟩
  | 93 => ⟨S8192x16x16, .f32⟩
  | 94 => ⟨S8192x16x48, .f32⟩
  | 95 => ⟨S_, .f32⟩
  | 96 => ⟨S8192x16x64, .f32⟩
  | 97 => ⟨S8192x16x8, .f32⟩
  | 98 => ⟨S8192x16x8, .f32⟩
  | 99 => ⟨S8192x16x8, .f32⟩
  | 100 => ⟨S8192x16x8, .f32⟩
  | 101 => ⟨S8192x16x8, .f32⟩
  | 102 => ⟨S8192x16x8, .f32⟩
  | 103 => ⟨S8192x16x8, .f32⟩
  | 104 => ⟨S8192x16x8, .f32⟩
  | 105 => ⟨S8192x16x8, .f32⟩
  | 106 => ⟨S8192x16x8, .f32⟩
  | 107 => ⟨S8192x16x8, .f32⟩
  | 108 => ⟨S8192x16x8, .f32⟩
  | 109 => ⟨S8192x16x8, .f32⟩
  | 110 => ⟨S_, .f32⟩
  | 111 => ⟨S8192x16x16, .f32⟩
  | 112 => ⟨S_, .f32⟩
  | 113 => ⟨S8192x16x16, .f32⟩
  | 114 => ⟨S8192x16x16, .f32⟩
  | 115 => ⟨S_, .f32⟩
  | 116 => ⟨S8192x16x64, .f32⟩
  | 117 => ⟨S8192x16x64, .f32⟩
  | 118 => ⟨S8192x1024, .f32⟩
  | 119 => ⟨S_, .f32⟩
  | 120 => ⟨S128x128, .f32⟩
  | 121 => ⟨S8192x1024, .bf16⟩
  | 122 => ⟨S8192x5376, .bf16⟩
  | 123 => ⟨S8192x6400, .bf16⟩
  | 124 => ⟨S8064x128, .f32⟩
  | 125 => ⟨S8192x128, .f32⟩
  | 126 => ⟨S8064x128, .f32⟩
  | 127 => ⟨S8192x128, .f32⟩
  | _ => ⟨S8192x6400, .f32⟩

abbrev hbmTy0_3 (i : Nat) : BufTy := match i % 128 with
  | 0 => ⟨S8x2, .f32⟩
  | 1 => ⟨S8x2x64, .f32⟩
  | 2 => ⟨S8x128, .f32⟩
  | _ => ⟨S8192x6400, .f32⟩

abbrev hbmTy (i : Nat) : BufTy := match i / 128 with
  | 0 => hbmTy0_0 i
  | 1 => hbmTy0_1 i
  | 2 => hbmTy0_2 i
  | 3 => hbmTy0_3 i
  | _ => ⟨S8192x6400, .f32⟩

abbrev bufTy : (tb : Table) → Fin (tcTables nBuf tb) → BufTy
  | .hbm, ⟨i, _⟩ => hbmTy i
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_cst_6 : Ref sig .tc := ⟨.hbm, 91, rfl⟩
abbrev main_v80 : Ref sig .tc := ⟨.hbm, 92, rfl⟩
abbrev main_v81 : Ref sig .tc := ⟨.hbm, 93, rfl⟩
abbrev main_cst_7 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_cst_8 : Ref sig .tc := ⟨.hbm, 126, rfl⟩
abbrev main_v113 : Ref sig .tc := ⟨.hbm, 127, rfl⟩
abbrev main_v114 : Ref sig .tc := ⟨.hbm, 128, rfl⟩
abbrev main_cst_9 : Ref sig .tc := ⟨.hbm, 129, rfl⟩
abbrev main_v115 : Ref sig .tc := ⟨.hbm, 130, rfl⟩
abbrev main_v116 : Ref sig .tc := ⟨.hbm, 131, rfl⟩
abbrev main_cst_10 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_11 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_c : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_c_12 : Ref sig .tc := ⟨.hbm, 159, rfl⟩
abbrev main_v141 : Ref sig .tc := ⟨.hbm, 160, rfl⟩
abbrev main_v142 : Ref sig .tc := ⟨.hbm, 161, rfl⟩
abbrev main_c_13 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_c_14 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_c_15 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_c_16 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_17 : Ref sig .tc := ⟨.hbm, 185, rfl⟩
abbrev main_call0_v0 : Ref sig .tc := ⟨.hbm, 186, rfl⟩
abbrev main_v162_1 : Ref sig .tc := ⟨.hbm, 187, rfl⟩
abbrev main_call0_v2 : Ref sig .tc := ⟨.hbm, 188, rfl⟩
abbrev main_v162_0 : Ref sig .tc := ⟨.hbm, 189, rfl⟩
abbrev main_call0_cst : Ref sig .tc := ⟨.hbm, 190, rfl⟩
abbrev main_v162_2 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_18 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_cst_19 : Ref sig .tc := ⟨.hbm, 202, rfl⟩
abbrev main_v172 : Ref sig .tc := ⟨.hbm, 203, rfl⟩
abbrev main_cst_20 : Ref sig .tc := ⟨.hbm, 204, rfl⟩
abbrev main_v173 : Ref sig .tc := ⟨.hbm, 205, rfl⟩
abbrev main_v174 : Ref sig .tc := ⟨.hbm, 206, rfl⟩
abbrev main_cst_21 : Ref sig .tc := ⟨.hbm, 207, rfl⟩
abbrev main_v175 : Ref sig .tc := ⟨.hbm, 208, rfl⟩
abbrev main_v176 : Ref sig .tc := ⟨.hbm, 209, rfl⟩
abbrev main_cst_22 : Ref sig .tc := ⟨.hbm, 210, rfl⟩
abbrev main_v177 : Ref sig .tc := ⟨.hbm, 211, rfl⟩
abbrev main_v178 : Ref sig .tc := ⟨.hbm, 212, rfl⟩
abbrev main_cst_23 : Ref sig .tc := ⟨.hbm, 213, rfl⟩
abbrev main_v179 : Ref sig .tc := ⟨.hbm, 214, rfl⟩
abbrev main_cst_24 : Ref sig .tc := ⟨.hbm, 215, rfl⟩
abbrev main_v180 : Ref sig .tc := ⟨.hbm, 216, rfl⟩
abbrev main_cst_25 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_cst_26 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_cst_27 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_cst_28 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_29 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_cst_30 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_cst_31 : Ref sig .tc := ⟨.hbm, 261, rfl⟩
abbrev main_v219 : Ref sig .tc := ⟨.hbm, 262, rfl⟩
abbrev main_v220 : Ref sig .tc := ⟨.hbm, 263, rfl⟩
abbrev main_cst_32 : Ref sig .tc := ⟨.hbm, 264, rfl⟩
abbrev main_v221 : Ref sig .tc := ⟨.hbm, 265, rfl⟩
abbrev main_v222 : Ref sig .tc := ⟨.hbm, 266, rfl⟩
abbrev main_call1_cst : Ref sig .tc := ⟨.hbm, 267, rfl⟩
abbrev main_call1_v0 : Ref sig .tc := ⟨.hbm, 268, rfl⟩
abbrev main_v223 : Ref sig .tc := ⟨.hbm, 269, rfl⟩
abbrev main_cst_33 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_cst_34 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_cst_35 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_cst_36 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_cst_37 : Ref sig .tc := ⟨.hbm, 314, rfl⟩
abbrev main_v264 : Ref sig .tc := ⟨.hbm, 315, rfl⟩
abbrev main_cst_38 : Ref sig .tc := ⟨.hbm, 316, rfl⟩
abbrev main_v265 : Ref sig .tc := ⟨.hbm, 317, rfl⟩
abbrev main_v266 : Ref sig .tc := ⟨.hbm, 318, rfl⟩
abbrev main_cst_39 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_cst_40 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_cst_41 : Ref sig .tc := ⟨.hbm, 340, rfl⟩
abbrev main_v286 : Ref sig .tc := ⟨.hbm, 341, rfl⟩
abbrev main_cst_42 : Ref sig .tc := ⟨.hbm, 342, rfl⟩
abbrev main_v287 : Ref sig .tc := ⟨.hbm, 343, rfl⟩
abbrev main_v288 : Ref sig .tc := ⟨.hbm, 344, rfl⟩
abbrev main_cst_43 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_cst_44 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_cst_45 : Ref sig .tc := ⟨.hbm, 366, rfl⟩
abbrev main_v308 : Ref sig .tc := ⟨.hbm, 367, rfl⟩
abbrev main_cst_46 : Ref sig .tc := ⟨.hbm, 368, rfl⟩
abbrev main_v309 : Ref sig .tc := ⟨.hbm, 369, rfl⟩
abbrev main_v310 : Ref sig .tc := ⟨.hbm, 370, rfl⟩
abbrev main_cst_47 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_cst_48 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩

abbrev nD : Nat := 1
abbrev τ : Topo := Topo.v7x

variable {F : FTy → Type} [FloatOps F]
-- ==== DAct.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 9
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== GwDown.lean ====
abbrev S8192x8192 : Shape := ⟨2, ![8192, 8192]⟩
abbrev S8192x2048 : Shape := ⟨2, ![8192, 2048]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S2048x8192, .f32⟩
  | .hbm, ⟨11, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Dh2.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwUp.lean ====
abbrev S8192x8192 : Shape := ⟨2, ![8192, 8192]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x8192, .bf16⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S_ : Shape := ⟨0, ![]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== InZ.lean ====
abbrev S8192x2048 : Shape := ⟨2, ![8192, 2048]⟩
abbrev S2048x6400 : Shape := ⟨2, ![2048, 6400]⟩
abbrev S6400x2048 : Shape := ⟨2, ![6400, 2048]⟩
abbrev S8192x6400 : Shape := ⟨2, ![8192, 6400]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .f32⟩
  | .hbm, ⟨2, _⟩ => ⟨S6400x2048, .f32⟩
  | .hbm, ⟨3, _⟩ => ⟨S6400x2048, .bf16⟩
  | .hbm, ⟨4, _⟩ => ⟨S8192x6400, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8192x2048 : Shape := ⟨2, ![8192, 2048]⟩
abbrev S2048x6400 : Shape := ⟨2, ![2048, 6400]⟩
abbrev S8192x6400 : Shape := ⟨2, ![8192, 6400]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6400, .f32⟩
  | .hbm, ⟨2, _⟩ => ⟨S8192x2048, .f32⟩
  | .hbm, ⟨3, _⟩ => ⟨S8192x6400, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InGw.lean ====
abbrev S8192x6400 : Shape := ⟨2, ![8192, 6400]⟩
abbrev S8192x2048 : Shape := ⟨2, ![8192, 2048]⟩
abbrev S6400x2048 : Shape := ⟨2, ![6400, 2048]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6400, .bf16⟩
  | .hbm, ⟨1, _⟩ => ⟨S8192x2048, .bf16⟩
  | .hbm, ⟨2, _⟩ => ⟨S6400x2048, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGwRefIdeal.lean ====
abbrev S8192x6400 : Shape := ⟨2, ![8192, 6400]⟩
abbrev S8192x2048 : Shape := ⟨2, ![8192, 2048]⟩
abbrev S_ : Shape := ⟨0, ![]⟩
abbrev S2048x6400 : Shape := ⟨2, ![2048, 6400]⟩
abbrev S6400x2048 : Shape := ⟨2, ![6400, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S8192x2048, .bf16⟩
  | .hbm, ⟨2, _⟩ => ⟨S_, .f32⟩
  | .hbm, ⟨3, _⟩ => ⟨S2048x6400, .f32⟩
  | .hbm, ⟨4, _⟩ => ⟨S8192x2048, .f32⟩
  | .hbm, ⟨5, _⟩ => ⟨S8192x6400, .f32⟩
  | .hbm, ⟨6, _⟩ => ⟨S8192x6400, .f32⟩
  | .hbm, ⟨7, _⟩ => ⟨S6400x2048, .f32⟩
  | .hbm, ⟨8, _⟩ => ⟨S2048x6400, .f32⟩
  | .hbm, ⟨9, _⟩ => ⟨S6400x2048, .f32⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDh.lean ====
abbrev S8192x6400 : Shape := ⟨2, ![8192, 6400]⟩
abbrev S2048x6400 : Shape := ⟨2, ![2048, 6400]⟩
abbrev S6400x2048 : Shape := ⟨2, ![6400, 2048]⟩
abbrev S8192x2048 : Shape := ⟨2, ![8192, 2048]⟩
abbrev S1024x1280 : Shape := ⟨2, ![1024, 1280]⟩
abbrev S1280x1024 : Shape := ⟨2, ![1280, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .f32⟩
  | .hbm, ⟨2, _⟩ => ⟨S6400x2048, .f32⟩
  | .hbm, ⟨3, _⟩ => ⟨S6400x2048, .bf16⟩
  | .hbm, ⟨4, _⟩ => ⟨S8192x2048, .bf16⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32_6 : BitVec 32 := 4#32
  let v12 : BitVec 1 := Scalar.cmpi .eq arg2 c4_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDhRefIdeal.lean ====
abbrev S8192x6400 : Shape := ⟨2, ![8192, 6400]⟩
abbrev S2048x6400 : Shape := ⟨2, ![2048, 6400]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x6400, .bf16⟩
  | .hbm, ⟨1, _⟩ => ⟨S2048x6400, .f32⟩
  | .hbm, ⟨2, _⟩ => ⟨S_, .f32⟩
  | .hbm, ⟨3, _⟩ => ⟨S8192x2048, .f32⟩
  | .hbm, ⟨4, _⟩ => ⟨S8192x6400, .f32⟩
  | .hbm, ⟨5, _⟩ => ⟨S8192x6400, .f32⟩
  | .hbm, ⟨6, _⟩ => ⟨S8192x2048, .f32⟩
  | .hbm, ⟨7, _⟩ => ⟨S8192x2048, .bf16⟩
  | _, _ => ⟨S8192x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutMixed.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutMixedRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDMix.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDMixRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutGw.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrAttn.lean ====
abbrev S8192x1024 : Shape := ⟨2, ![8192, 1024]⟩
abbrev S2048x2048 : Shape := ⟨2, ![2048, 2048]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x2048, .f32⟩
  | .hbm, ⟨2, _⟩ => ⟨S2048x2048, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrAttnRefIdeal.lean ====
abbrev S8192x1024 : Shape := ⟨2, ![8192, 1024]⟩
abbrev S2048x2048 : Shape := ⟨2, ![2048, 2048]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x2048, .f32⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrSsm.lean ====
abbrev S8192x1024 : Shape := ⟨2, ![8192, 1024]⟩
abbrev S2048x2048 : Shape := ⟨2, ![2048, 2048]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x2048, .f32⟩
  | .hbm, ⟨2, _⟩ => ⟨S2048x2048, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrSsmRefIdeal.lean ====
abbrev S8192x1024 : Shape := ⟨2, ![8192, 1024]⟩
abbrev S2048x2048 : Shape := ⟨2, ![2048, 2048]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x2048, .f32⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrDAttn.lean ====
abbrev S8192x4096 : Shape := ⟨2, ![8192, 4096]⟩
abbrev S2048x2048 : Shape := ⟨2, ![2048, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2048x2048, .f32⟩
  | .hbm, ⟨2, _⟩ => ⟨S2048x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDAttnRefIdeal.lean ====
abbrev S8192x4096 : Shape := ⟨2, ![8192, 4096]⟩
abbrev S2048x2048 : Shape := ⟨2, ![2048, 2048]⟩
abbrev S8192x2048 : Shape := ⟨2, ![8192, 2048]⟩
abbrev S_ : Shape := ⟨0, ![]⟩
abbrev S8192x1024 : Shape := ⟨2, ![8192, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x2048, .f32⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrDSsm.lean ====
abbrev S8192x4096 : Shape := ⟨2, ![8192, 4096]⟩
abbrev S2048x2048 : Shape := ⟨2, ![2048, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2048x2048, .f32⟩
  | .hbm, ⟨2, _⟩ => ⟨S2048x2048, .bf16⟩
  | .hbm, ⟨3, _⟩ => ⟨S1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDSsmRefIdeal.lean ====
abbrev S8192x4096 : Shape := ⟨2, ![8192, 4096]⟩
abbrev S2048x2048 : Shape := ⟨2, ![2048, 2048]⟩
abbrev S8192x2048 : Shape := ⟨2, ![8192, 2048]⟩
abbrev S_ : Shape := ⟨0, ![]⟩
abbrev S8192x1024 : Shape := ⟨2, ![8192, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x2048, .f32⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S8192x1024, .f32⟩
  | .hbm, ⟨6, _⟩ => ⟨S1024x2048, .f32⟩
  | .hbm, ⟨7, _⟩ => ⟨S8192x2048, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrGwAttn.lean ====
abbrev S8192x1024 : Shape := ⟨2, ![8192, 1024]⟩
abbrev S8192x4096 : Shape := ⟨2, ![8192, 4096]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrGwAttnRefIdeal.lean ====
abbrev S8192x1024 : Shape := ⟨2, ![8192, 1024]⟩
abbrev S8192x4096 : Shape := ⟨2, ![8192, 4096]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x1024, .f32⟩
  | .hbm, ⟨7, _⟩ => ⟨S8192x2048, .f32⟩
  | .hbm, ⟨8, _⟩ => ⟨S2048x1024, .f32⟩
  | .hbm, ⟨9, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrGwSsm.lean ====
abbrev S8192x1024 : Shape := ⟨2, ![8192, 1024]⟩
abbrev S8192x4096 : Shape := ⟨2, ![8192, 4096]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrGwSsmRefIdeal.lean ====
abbrev S8192x1024 : Shape := ⟨2, ![8192, 1024]⟩
abbrev S8192x4096 : Shape := ⟨2, ![8192, 4096]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x1024, .f32⟩
  | .hbm, ⟨7, _⟩ => ⟨S8192x2048, .f32⟩
  | .hbm, ⟨8, _⟩ => ⟨S2048x1024, .f32⟩
  | .hbm, ⟨9, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Glu.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S8192x1024 : Shape := ⟨2, ![8192, 1024]⟩
abbrev S1024x2048 : Shape := ⟨2, ![1024, 2048]⟩
abbrev S_ : Shape := ⟨0, ![]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GluGw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_10 : BitVec 32 := 3#32
  let v25 : BitVec 1 := Scalar.cmpi .eq arg2 c3_i32_10
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluGwRefIdeal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .f32⟩
  | .hbm, ⟨23, _⟩ => ⟨S2048x1024, .f32⟩
  | .hbm, ⟨24, _⟩ => ⟨S1024x2048, .f32⟩
  | .hbm, ⟨25, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DGy.lean ====
abbrev S8192x2048 : Shape := ⟨2, ![8192, 2048]⟩
abbrev S1024x2048 : Shape := ⟨2, ![1024, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S2048x1024, .f32⟩
  | .hbm, ⟨4, _⟩ => ⟨S2048x1024, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DGyIdeal.lean ====
variable {F : FTy → Type} [FloatOps F] [Named F]
def κ : String → Option EReal := fun
  | "cubic" => some ((8943 / 200000 : ℝ) : EReal)
  | "thrice" => some ((26829 / 200000 : ℝ) : EReal)
  | _ => none
-- ==== DGyRefIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== GluGate.lean ====
abbrev S8192x2048 : Shape := ⟨2, ![8192, 2048]⟩
abbrev S8192x1024 : Shape := ⟨2, ![8192, 1024]⟩
abbrev S2048x512 : Shape := ⟨2, ![2048, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluGateRefIdeal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GluGateBwd.lean ====
abbrev S8192x1024 : Shape := ⟨2, ![8192, 1024]⟩
abbrev S8192x2048 : Shape := ⟨2, ![8192, 2048]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x1024, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluGateBwdRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x1024, .bf16⟩
  | .hbm, ⟨27, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Mix.lean ====
abbrev S8192x6400 : Shape := ⟨2, ![8192, 6400]⟩
abbrev S8192x2048 : Shape := ⟨2, ![8192, 2048]⟩
abbrev S2048x256 : Shape := ⟨2, ![2048, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x6400, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixRefIdeal.lean ====
abbrev S8192x6400 : Shape := ⟨2, ![8192, 6400]⟩
abbrev S8192x2048 : Shape := ⟨2, ![8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AdamIn.lean ====
abbrev S2048x800 : Shape := ⟨2, ![2048, 800]⟩
abbrev S256x800 : Shape := ⟨2, ![256, 800]⟩

abbrev nBuf : Space → Nat
  | .hbm => 7
  | .vmem => 14
  | .smem => 0
  | _ => 0

abbrev bufTy : (tb : Table) → Fin (tcTables nBuf tb) → BufTy
  | .hbm, ⟨0, _⟩ => ⟨S2048x800, .f32⟩
  | .hbm, ⟨1, _⟩ => ⟨S2048x800, .f32⟩
  | .hbm, ⟨2, _⟩ => ⟨S2048x800, .f32⟩
  | .hbm, ⟨3, _⟩ => ⟨S2048x800, .f32⟩
  | .hbm, ⟨4, _⟩ => ⟨S2048x800, .f32⟩
  | .hbm, ⟨5, _⟩ => ⟨S2048x800, .f32⟩
  | .hbm, ⟨6, _⟩ => ⟨S2048x800, .f32⟩
  | .local _ .vmem, ⟨0, _⟩ => ⟨S256x800, .f32⟩
  | .local _ .vmem, ⟨1, _⟩ => ⟨S256x800, .f32⟩
  | .local _ .vmem, ⟨2, _⟩ => ⟨S256x800, .f32⟩
  | .local _ .vmem, ⟨3, _⟩ => ⟨S256x800, .f32⟩
  | .local _ .vmem, ⟨4, _⟩ => ⟨S256x800, .f32⟩
  | .local _ .vmem, ⟨5, _⟩ => ⟨S256x800, .f32⟩
  | .local _ .vmem, ⟨6, _⟩ => ⟨S256x800, .f32⟩
  | .local _ .vmem, ⟨7, _⟩ => ⟨S256x800, .f32⟩
  | .local _ .vmem, ⟨8, _⟩ => ⟨S256x800, .f32⟩
  | .local _ .vmem, ⟨9, _⟩ => ⟨S256x800, .f32⟩
  | .local _ .vmem, ⟨10, _⟩ => ⟨S256x800, .f32⟩
  | .local _ .vmem, ⟨11, _⟩ => ⟨S256x800, .f32⟩
  | .local _ .vmem, ⟨12, _⟩ => ⟨S256x800, .f32⟩
  | .local _ .vmem, ⟨13, _⟩ => ⟨S256x800, .f32⟩
  | _, _ => ⟨S2048x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x800 : Shape := ⟨2, ![2048, 800]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x800, .f32⟩
  | .hbm, ⟨1, _⟩ => ⟨S2048x800, .f32⟩
  | .hbm, ⟨2, _⟩ => ⟨S2048x800, .f32⟩
  | .hbm, ⟨3, _⟩ => ⟨S2048x800, .f32⟩
  | .hbm, ⟨4, _⟩ => ⟨S_, .f32⟩
  | .hbm, ⟨5, _⟩ => ⟨S2048x800, .f32⟩
  | .hbm, ⟨6, _⟩ => ⟨S2048x800, .f32⟩
  | .hbm, ⟨7, _⟩ => ⟨S_, .f32⟩
  | .hbm, ⟨8, _⟩ => ⟨S2048x800, .f32⟩
  | .hbm, ⟨9, _⟩ => ⟨S2048x800, .f32⟩
  | .hbm, ⟨10, _⟩ => ⟨S2048x800, .f32⟩
  | .hbm, ⟨11, _⟩ => ⟨S_, .f32⟩
  | .hbm, ⟨12, _⟩ => ⟨S2048x800, .f32⟩
  | .hbm, ⟨13, _⟩ => ⟨S2048x800, .f32⟩
  | .hbm, ⟨14, _⟩ => ⟨S2048x800, .f32⟩
  | .hbm, ⟨15, _⟩ => ⟨S_, .f32⟩
  | .hbm, ⟨16, _⟩ => ⟨S2048x800, .f32⟩
  | .hbm, ⟨17, _⟩ => ⟨S2048x800, .f32⟩
  | .hbm, ⟨18, _⟩ => ⟨S2048x800, .f32⟩
  | .hbm, ⟨19, _⟩ => ⟨S_, .f32⟩
  | .hbm, ⟨20, _⟩ => ⟨S2048x800, .f32⟩
  | .hbm, ⟨21, _⟩ => ⟨S2048x800, .f32⟩
  | .hbm, ⟨22, _⟩ => ⟨S_, .f32⟩
  | .hbm, ⟨23, _⟩ => ⟨S2048x800, .f32⟩
  | .hbm, ⟨24, _⟩ => ⟨S2048x800, .f32⟩
  | .hbm, ⟨25, _⟩ => ⟨S2048x800, .f32⟩
  | .hbm, ⟨26, _⟩ => ⟨S_, .f32⟩
  | .hbm, ⟨27, _⟩ => ⟨S2048x800, .f32⟩
  | .hbm, ⟨28, _⟩ => ⟨S2048x800, .f32⟩
  | .hbm, ⟨29, _⟩ => ⟨S2048x800, .f32⟩
  | .hbm, ⟨30, _⟩ => ⟨S_, .f32⟩
  | .hbm, ⟨31, _⟩ => ⟨S2048x800, .f32⟩
  | .hbm, ⟨32, _⟩ => ⟨S2048x800, .f32⟩
  | .hbm, ⟨33, _⟩ => ⟨S2048x800, .f32⟩
  | .hbm, ⟨34, _⟩ => ⟨S_, .f32⟩
  | .hbm, ⟨35, _⟩ => ⟨S2048x800, .f32⟩
  | .hbm, ⟨36, _⟩ => ⟨S2048x800, .f32⟩
  | _, _ => ⟨S2048x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Finite.lean ====
/-
  WHAT THE PRECONDITION SAYS: every query, key, value and incoming gradient is a real number, and no sink is `+∞`.
-/
module

public import proofs.«01_k».proof.Defs
public import Idealize.ShloMosaic.Lib.Pointwise
public import Idealize.ShloMosaic.Lib.ReduceAll

@[expose] public section

set_option maxRecDepth 16384

noncomputable section

namespace Cert.Finite

open Cert.Pre_finite Idealize.ShloMosaic

/-- The shape relations the predicate states. -/
theorem facts : Cert.Pre_finite.Facts where
  slices_S8192x6400_S8192x1280_0_0 := by decide
  bcast_S_S8192x1280 := by decide
  reducesTo_S8192x1280_S_d0_1 := by decide
  h_S_ := by decide
  bcast_S_S8192x1024 := by decide
  reducesTo_S8192x1024_S_d0_1 := by decide
  bcast_S_S1x16 := by decide
  reducesTo_S1x16_S_d0_1 := by decide

theorem inf_bits : Ideal.ofBits .f32 0x7F800000#32 = ⊤ := by simp [Ideal.ofBits, Ideal.ieee]

/-- Below `+∞`. -/
theorem lt_top {x : EReal} (h : FloatOps.cmpf (F := Ideal) (φ := .f32) .olt x (Ideal.ofBits .f32 0x7F800000#32) = 1#1) : x ≠ ⊤ := by
  rintro rfl
  have h : Ideal.cmp .olt ⊤ (Ideal.ofBits .f32 0x7F800000#32) = 1#1 := h
  rw [inf_bits] at h
  simp [Ideal.cmp] at h

/-- An absolute value below `+∞` is a real's. -/
theorem real {x : EReal} (h : FloatOps.cmpf (F := Ideal) (φ := .f32) .olt (FloatOps.hostAbsf (F := Ideal) (φ := .f32) x)
    (Ideal.ofBits .f32 0x7F800000#32) = 1#1) : x = ((x.toReal : ℝ) : EReal) := by
  have h : max x (-x) ≠ ⊤ := lt_top h
  refine (EReal.coe_toReal ?_ ?_).symm
  · rintro rfl
    simp at h
  · rintro rfl
    simp at h

theorem and_one {a b : BitVec 1} (h : IntOp.andi a b = 1#1) : a = 1#1 ∧ b = 1#1 := by revert a b; decide

instance : Subsingleton S_.Idx := ⟨fun _ _ => funext fun a => a.elim0⟩

variable [hP : Cert.Pre_finite.Facts] {z : Vec Ideal S8192x6400 .f32} {d : Vec Ideal S8192x1024 .f32} {s : Vec Ideal S1x16 .f32}
  {dz : Vec Ideal S8192x6400 .bf16} (h : Cert.Pre_finite.fn (F := Ideal) z d s dz = fun _ => 1#1)
include h

theorem parts :
    (∀ i, FloatOps.cmpf (F := Ideal) (φ := .f32) .olt (FloatOps.hostAbsf (F := Ideal) (φ := .f32)
        (extractStridedSlice S8192x1280 ![0, 0] z hP.slices_S8192x6400_S8192x1280_0_0 i)) (Ideal.ofBits .f32 0x7F800000#32) = 1#1)
      ∧ (∀ i, FloatOps.cmpf (F := Ideal) (φ := .f32) .olt (FloatOps.hostAbsf (F := Ideal) (φ := .f32) (d i)) (Ideal.ofBits .f32 0x7F800000#32) = 1#1)
      ∧ (∀ i, FloatOps.cmpf (F := Ideal) (φ := .f32) .olt (s i) (Ideal.ofBits .f32 0x7F800000#32) = 1#1) := by
  obtain ⟨h12, h3⟩ := and_one (congrFun h ix0)
  obtain ⟨h1, h2⟩ := and_one h12
  exact ⟨fun i => Host.reduce_andi_all _ _ _ _ _ h1 i, fun i => Host.reduce_andi_all _ _ _ _ _ h2 i,
    fun i => Host.reduce_andi_all _ _ _ _ _ h3 i⟩

theorem of_z (y : Fin 8192) (x : Fin 6400) (hx : x.val < 1280) : z (ix2 y x) = (((z (ix2 y x)).toReal : ℝ) : EReal) := by
  refine real (Eq.trans ?_ ((parts h).1 (ix2 y ⟨x.val, hx⟩)))
  refine congrArg (fun v => FloatOps.cmpf (F := Ideal) (φ := .f32) .olt (FloatOps.hostAbsf (F := Ideal) (φ := .f32) v)
    (Ideal.ofBits .f32 0x7F800000#32)) ?_
  refine congrArg z (funext fun a => ?_)
  fin_cases a
  · exact Fin.ext (Nat.zero_add _).symm
  · exact Fin.ext (Nat.zero_add _).symm

theorem of_d (y : Fin 8192) (x : Fin 1024) : d (ix2 y x) = (((d (ix2 y x)).toReal : ℝ) : EReal) := real ((parts h).2.1 _)

theorem of_s (k : Fin 16) : s (ix2 0 k) ≠ ⊤ := lt_top ((parts h).2.2 _)

end Cert.Finite

end
-- ==== Proof.Model.lean ====
/-
  WHAT ONE BLOCK OF THE ATTENTION'S BACKWARD KERNEL COMPUTES, over any arithmetic `F`: the body's vector operations as
  functions of the block's inputs, one name for each step the kernel repeats (the rotation of a tile of lanes, the
  stacking of a tile's two heads, the softmax with a sink, the products of one tile). `Proof/Block.lean` shows that
  the body's stores are these terms; `Proof/Tile.lean` and its followers read them at an index.
-/
module

public import proofs.«01_k».proof.Proof.Gen.KernelIdeal.Skeleton
public import Idealize.ShloMosaic.Lib.Pipeline.FrameBody

@[expose] public section

noncomputable section

namespace Cert.KernelIdeal.Model

open Cert.KernelIdeal Cert.KernelIdeal.Gen Idealize.ShloMosaic

variable {F : FTy → Type} [FloatOps F]

/-! ### Lanes and the rotation -/

/-- The lane within its head, `lane % 64`, as the body spells it (a remainder with its sign put right). -/
def headLane : IVec S128x128 32 :=
  let w : BitVec 32 := Scalar.select (Scalar.cmpi .eq 64#32 0#32) 1#32 64#32
  have r : IVec S128x128 32 := remsi (iota .tc S128x128 32 [1] iota_S128x128_d1_w32) (broadcast S128x128 w)
  select (andi (xori (cmpi .slt r (broadcast S128x128 0#32))
      (broadcastTo S128x128 (broadcast S128x128 (Scalar.cmpi .slt w 0#32)) broadcasts_S128x128_S128x128))
      (cmpi .ne r (broadcast S128x128 0#32)))
    (addi r (broadcast S128x128 w)) r

/-- Lanes of the rotation's first half: their partner lies eight lanes on. -/
def firstHalf : IVec S128x128 1 := cmpi .slt headLane (broadcast S128x128 8#32)

/-- The rotary embedding of a tile of 128 lanes by a table of cosines and one of signed sines. -/
def rope (x cosT sinT : FVec F S128x128 .f32) : FVec F S128x128 .f32 :=
  addf (mulf x cosT)
    (mulf (select firstHalf (dynamicRotate 1 120#32 none x rotates_S128x128_d1)
      (dynamicRotate 1 8#32 none x rotates_S128x128_d1)) sinT)

/-- A tile of zeros. -/
def zeros : FVec F S128x128 .f32 := broadcast S128x128 (Scalar.ofBits .f32 0x00000000#32)

/-- The sines of the inverse rotation, `0 - sin`. -/
def neg (x : FVec F S128x128 .f32) : FVec F S128x128 .f32 := subf zeros x

/-- Lanes of the first head of a tile (128 rows). -/
def lowLane : IVec S128x128 1 :=
  cmpi .slt (iota .tc S128x128 32 [1] iota_S128x128_d1_w32) (broadcast S128x128 64#32)

/-- Lanes of the first head of a tile (256 rows). -/
def lowLane2 : IVec S256x128 1 :=
  cmpi .slt (iota .tc S256x128 32 [1] iota_S256x128_d1_w32) (broadcast S256x128 64#32)

/-- Two tiles one over the other. -/
def over (a b : FVec F S128x128 .f32) : FVec F S256x128 .f32 :=
  concatenate S256x128 0 [⟨S128x128, a⟩, ⟨S128x128, b⟩] concatenates_S128x128_S128x128_S256x128_d0

/-- The lanes moved on by one head. -/
def swap (x : FVec F S256x128 .f32) : FVec F S256x128 .f32 := dynamicRotate 1 64#32 none x rotates_S256x128_d1

/-- The first key/value head in both halves of the lanes. -/
def dupLow (x : FVec F S256x128 .f32) : FVec F S256x128 .bf16 := truncf .bf16 (select lowLane2 x (swap x)) bitsLt_bf16_f32

/-- The second key/value head in both halves of the lanes. -/
def dupHigh (x : FVec F S256x128 .f32) : FVec F S256x128 .bf16 := truncf .bf16 (select lowLane2 (swap x) x) bitsLt_bf16_f32

/-- A tile's two heads stacked: the first head's lanes in the upper 128 rows, the second's in the lower, zeros elsewhere. -/
def stack (x : FVec F S128x128 .f32) : FVec F S256x128 .f32 := over (select lowLane x zeros) (select lowLane zeros x)

/-- The upper 128 rows. -/
def upper (x : FVec F S256x128 .f32) : FVec F S128x128 .f32 := extractStridedSlice S128x128 ![0, 0] x slices_S256x128_o0_0_S128x128

/-- The lower 128 rows. -/
def lower (x : FVec F S256x128 .f32) : FVec F S128x128 .f32 := extractStridedSlice S128x128 ![128, 0] x slices_S256x128_o128_0_S128x128

/-! ### The softmax with a sink -/

/-- The window's mask of block `n`, once for each of a tile's two heads. -/
def mask (n : BitVec 32) : IVec S256x256 1 :=
  have kj : IVec S128x256 32 := iota .tc S128x256 32 [1] iota_S128x256_d1_w32
  have rel : IVec S128x256 32 := subi (addi (iota .tc S128x256 32 [0] iota_S128x256_d0_w32) (broadcast S128x256 128#32)) kj
  have one : IVec S128x256 1 :=
    andi (andi (cmpi .sge rel (broadcast S128x256 0#32)) (cmpi .slt rel (broadcast S128x256 128#32)))
      (ori (cmpi .sge kj (broadcast S128x256 128#32)) (broadcast S128x256 (Scalar.cmpi .sgt n 0#32)))
  concatenate S256x256 0 [⟨S128x256, one⟩, ⟨S128x256, one⟩] concatenates_S128x256_S128x256_S256x256_d0

/-- The sinks of a tile's two heads, one for each half of the stacked rows. -/
def sinks (a b : F .f32) : FVec F S256x1 .f32 :=
  select (cmpi .slt (iota .tc S256x1 32 [0] iota_S256x1_d0_w32) (broadcast S256x1 128#32)) (broadcast S256x1 a) (broadcast S256x1 b)

/-- The product of two stacked tiles over their lanes. -/
def overLanes (a : FVec F S256x128 .f32) (b : FVec F S256x128 .bf16) : FVec F S256x256 .f32 :=
  matmul dot_S256x128_S256x128_S256x256_1_1_0_0_n_n none (truncf .bf16 a bitsLt_bf16_f32) b (constant S256x256 .f32 0x00000000#32)

/-- The product of a square of scores with the keys or values, over the keys. -/
def overKeys (a : FVec F S256x256 .f32) (b : FVec F S256x128 .bf16) : FVec F S256x128 .f32 :=
  matmul dot_S256x256_S256x128_S256x128_1_0_0_1_n_n none (truncf .bf16 a bitsLt_bf16_f32) b (constant S256x128 .f32 0x00000000#32)

/-- The product of a square of scores with a stacked tile, over the queries. -/
def overQueries (a : FVec F S256x256 .f32) (b : FVec F S256x128 .f32) : FVec F S256x128 .f32 :=
  matmul dot_S256x256_S256x128_S256x128_0_0_1_1_n_n none (truncf .bf16 a bitsLt_bf16_f32) (truncf .bf16 b bitsLt_bf16_f32)
    (constant S256x128 .f32 0x00000000#32)

/-- The scores with the masked ones put to −1e30. -/
def masked (k : IVec S256x256 1) (s : FVec F S256x256 .f32) : FVec F S256x256 .f32 :=
  select k s (broadcast S256x256 (Scalar.ofBits .f32 0xF149F2CA#32))

/-- The largest of a row's scores and its sink. -/
def top (k : IVec S256x256 1) (s : FVec F S256x256 .f32) (z : FVec F S256x1 .f32) : FVec F S256x1 .f32 :=
  maximumf (shapeCast S256x1 (multiReduction .maximumf [1] S256 (masked k s) 0xFF800000#32 reduces_S256x256_S256 (.inl rfl) rfl)
    shapeCasts_S256_S256x1) z

/-- The exponentials of the scores, zero where masked. -/
def expo (k : IVec S256x256 1) (s : FVec F S256x256 .f32) (z : FVec F S256x1 .f32) : FVec F S256x256 .f32 :=
  select k (exp (subf (masked k s) (broadcastTo S256x256 (top k s z) broadcasts_S256x1_S256x256)))
    (broadcast S256x256 (Scalar.ofBits .f32 0x00000000#32))

/-- The exponential of the sink. -/
def expoSink (k : IVec S256x256 1) (s : FVec F S256x256 .f32) (z : FVec F S256x1 .f32) : FVec F S256x1 .f32 :=
  exp (subf z (top k s z))

/-- One over the sum of a row's exponentials. -/
def inverse (k : IVec S256x256 1) (s : FVec F S256x256 .f32) (z : FVec F S256x1 .f32) : FVec F S256x1 .f32 :=
  divf (broadcast S256x1 (Scalar.ofBits .f32 0x3F800000#32))
    (addf (shapeCast S256x1 (multiReduction .add [1] S256 (expo k s z) 0x00000000#32 reduces_S256x256_S256 (.inl rfl) rfl)
      shapeCasts_S256_S256x1) (expoSink k s z))

/-- The softmax's weights. -/
def prob (k : IVec S256x256 1) (s : FVec F S256x256 .f32) (z : FVec F S256x1 .f32) : FVec F S256x256 .f32 :=
  mulf (expo k s z) (broadcastTo S256x256 (inverse k s z) broadcasts_S256x1_S256x256)

/-- The sink's weight. -/
def probSink (k : IVec S256x256 1) (s : FVec F S256x256 .f32) (z : FVec F S256x1 .f32) : FVec F S256x1 .f32 :=
  mulf (expoSink k s z) (inverse k s z)

/-! ### One tile: two heads -/

/-- A row's product of the incoming gradient with the attention's output. -/
def delta (p : FVec F S256x256 .f32) (d : FVec F S256x128 .f32) (v : FVec F S256x128 .bf16) : FVec F S256x1 .f32 :=
  shapeCast S256x1 (multiReduction .add [1] S256 (mulf d (overKeys p v)) 0x00000000#32 reduces_S256x128_S256 (.inl rfl) rfl)
    shapeCasts_S256_S256x1

/-- The gradient of the scores. -/
def dscore (p : FVec F S256x256 .f32) (d : FVec F S256x128 .f32) (v : FVec F S256x128 .bf16) : FVec F S256x256 .f32 :=
  mulf p (subf (overLanes d v) (broadcastTo S256x256 (delta p d v) broadcasts_S256x1_S256x256))

/-- The factor `1/√64` over a tile. -/
def eighth (x : FVec F S128x128 .f32) : FVec F S128x128 .f32 := mulf x (broadcast S128x128 (Scalar.ofBits .f32 0x3E000000#32))

/-- A tile's rotated, scaled and stacked queries. -/
def query (x cosT sinT : FVec F S128x128 .f32) : FVec F S256x128 .f32 := stack (eighth (rope x cosT sinT))

/-- The gradient of a tile's queries, rotated back. -/
def dquery (g : FVec F S256x256 .f32) (k : FVec F S256x128 .bf16) (cosT sinT : FVec F S128x128 .f32) : FVec F S128x128 .bf16 :=
  have o : FVec F S256x128 .f32 := overKeys g k
  truncf .bf16 (rope (eighth (select lowLane (upper o) (lower o))) cosT (neg sinT)) bitsLt_bf16_f32

/-- Minus the sum of a column of 128 rows. -/
def minusSum (x : FVec F S128x1 .f32) : FVec F S1x128 .f32 :=
  broadcastTo S1x128 (shapeCast S1x1 (subf (broadcast S1x1 (Scalar.ofBits .f32 0x00000000#32))
    (shapeCast S1x1 (multiReduction .add [0] S1 x 0x00000000#32 reduces_S128x1_S1 (.inl rfl) rfl) shapeCasts_S1_S1x1))
    shapeCasts_S1x1_S1x1) broadcasts_S1x1_S1x128

/-- A tile's row of the sinks' gradient: the first head's in the low lanes, the second's in the high. -/
def sinkRow (ps d2 : FVec F S256x1 .f32) : FVec F S1x128 .f32 :=
  have x : FVec F S256x1 .f32 := mulf ps d2
  select (cmpi .slt (iota .tc S1x128 32 [1] iota_S1x128_d1_w32) (broadcast S1x128 64#32))
    (minusSum (extractStridedSlice S128x1 ![0, 0] x slices_S256x1_o0_0_S128x1))
    (minusSum (extractStridedSlice S128x1 ![128, 0] x slices_S256x1_o128_0_S128x1))

/-! ### The block -/

/-- The block's inputs. -/
structure Ins (F : FTy → Type) where
  n : BitVec 32
  q : Vec F S128x1024 .f32
  kc : Vec F S128x128 .f32
  kp : Vec F S128x128 .f32
  vc : Vec F S128x128 .f32
  vp : Vec F S128x128 .f32
  cosC : Vec F S128x128 .f32
  cosP : Vec F S128x128 .f32
  sinC : Vec F S128x128 .f32
  sinP : Vec F S128x128 .f32
  sink : Vec F S1x16 .f32
  d : Vec F S128x1024 .f32

theorem tile_inb (t : Fin 8) : ∀ a, (![0, 128 * t.val] : Fin 2 → Nat) a + S128x128.size a ≤ S128x1024.size a := by
  have := t.isLt
  intro a; fin_cases a
  · show 0 + 128 ≤ 128; omega
  · show 128 * t.val + 128 ≤ 1024; omega

theorem sink_inb (h : Fin 16) : ∀ a, (![0, h.val] : Fin 2 → Nat) a + S1x1.size a ≤ S1x16.size a := by
  have := h.isLt
  intro a; fin_cases a
  · show 0 + 1 ≤ 1; omega
  · show h.val + 1 ≤ 16; omega

namespace Ins

variable (I : Ins F)

/-- Tile `t` of 128 lanes of a block of 1024. -/
def tile (x : Vec F S128x1024 .f32) (t : Fin 8) : FVec F S128x128 .f32 :=
  View.ld x (Rect.unit (s := S128x1024) ![0, 128 * t.val] S128x128.size (tile_inb t))

/-- The sink of head `h`. -/
def sinkAt (h : Fin 16) : F .f32 := View.ld I.sink (Rect.unit (s := S1x16) ![0, h.val] S1x1.size (sink_inb h)) (Shape.Idx.first (show 0 < S1x1.numel by decide))

def cosC' : FVec F S128x128 .f32 := shapeCast S128x128 I.cosC shapeCasts_S128x128_S128x128
def cosP' : FVec F S128x128 .f32 := shapeCast S128x128 I.cosP shapeCasts_S128x128_S128x128
def sinC' : FVec F S128x128 .f32 := shapeCast S128x128 I.sinC shapeCasts_S128x128_S128x128
def sinP' : FVec F S128x128 .f32 := shapeCast S128x128 I.sinP shapeCasts_S128x128_S128x128

/-- The rotated keys: the previous block's over this block's. -/
def keys : FVec F S256x128 .f32 := over (rope I.kp I.cosP' I.sinP') (rope I.kc I.cosC' I.sinC')

/-- The values: the previous block's over this block's. -/
def vals : FVec F S256x128 .f32 := over I.vp I.vc

/-- The keys of the head a tile reads. -/
def kd (t : Fin 8) : FVec F S256x128 .bf16 := if t.val < 4 then dupLow I.keys else dupHigh I.keys

/-- The values of the head a tile reads. -/
def vd (t : Fin 8) : FVec F S256x128 .bf16 := if t.val < 4 then dupLow I.vals else dupHigh I.vals

def q2 (t : Fin 8) : FVec F S256x128 .f32 := query (tile I.q t) I.cosC' I.sinC'
def d2 (t : Fin 8) : FVec F S256x128 .f32 := stack (tile I.d t)
def score (t : Fin 8) : FVec F S256x256 .f32 := overLanes (I.q2 t) (I.kd t)
def sink2 (t : Fin 8) : FVec F S256x1 .f32 := sinks (I.sinkAt ⟨2 * t.val, by omega⟩) (I.sinkAt ⟨2 * t.val + 1, by omega⟩)
def p (t : Fin 8) : FVec F S256x256 .f32 := prob (mask I.n) (I.score t) (I.sink2 t)
def ps (t : Fin 8) : FVec F S256x1 .f32 := probSink (mask I.n) (I.score t) (I.sink2 t)
def del (t : Fin 8) : FVec F S256x1 .f32 := delta (I.p t) (I.d2 t) (I.vd t)
def ds (t : Fin 8) : FVec F S256x256 .f32 := dscore (I.p t) (I.d2 t) (I.vd t)

/-- What the block leaves in tile `t` of the queries' gradient. -/
def dq (t : Fin 8) : FVec F S128x128 .bf16 := dquery (I.ds t) (I.kd t) I.cosC' I.sinC'

/-- What the block adds to row `t` of the sinks' gradient. -/
def drow (t : Fin 8) : FVec F S1x128 .f32 := sinkRow (I.ps t) (I.del t)

/-- All eight rows. -/
def drows : FVec F S8x128 .f32 :=
  concatenate S8x128 0 [⟨S1x128, I.drow 0⟩, ⟨S1x128, I.drow 1⟩, ⟨S1x128, I.drow 2⟩, ⟨S1x128, I.drow 3⟩, ⟨S1x128, I.drow 4⟩,
    ⟨S1x128, I.drow 5⟩, ⟨S1x128, I.drow 6⟩, ⟨S1x128, I.drow 7⟩]
    concatenates_S1x128_S1x128_S1x128_S1x128_S1x128_S1x128_S1x128_S1x128_S8x128_d0

/-- A sum over four tiles, from zero, in order. -/
def four (f : Fin 8 → FVec F S256x128 .f32) (a b c d : Fin 8) : FVec F S256x128 .f32 :=
  addf (addf (addf (addf (broadcast S256x128 (Scalar.ofBits .f32 0x00000000#32)) (f a)) (f b)) (f c)) (f d)

/-- The two halves of the lanes added, in every lane. -/
def both (x : FVec F S256x128 .f32) : FVec F S256x128 .f32 := addf x (swap x)

/-- The first key/value head's tiles into the low lanes, the second's into the high. -/
def gather (f : Fin 8 → FVec F S256x128 .f32) : FVec F S256x128 .f32 :=
  select lowLane2 (both (four f 0 1 2 3)) (both (four f 4 5 6 7))

/-- The gradient of the 256 rotated keys. -/
def dk2 : FVec F S256x128 .f32 := gather fun t => overQueries (I.ds t) (I.q2 t)

/-- The gradient of the 256 values. -/
def dv2 : FVec F S256x128 .f32 := gather fun t => overQueries (I.p t) (I.d2 t)

/-- The gradient of this block's keys. -/
def dkc : FVec F S128x128 .f32 := rope (lower I.dk2) I.cosC' (neg I.sinC')
/-- The gradient of the previous block's keys. -/
def dkp : FVec F S128x128 .f32 := rope (upper I.dk2) I.cosP' (neg I.sinP')
/-- The gradient of this block's values. -/
def dvc : FVec F S128x128 .f32 := lower I.dv2
/-- The gradient of the previous block's values. -/
def dvp : FVec F S128x128 .f32 := upper I.dv2

end Ins

end Cert.KernelIdeal.Model

end
-- ==== Proof.Block.lean ====
/-
  WHAT THE BODY'S STORES ARE WORTH: the pieces the body's run found, read back, are the block's terms of
  `Proof/Model.lean` — at the first grid point (case A: the sinks' gradient starts from zero) and at the others (case B:
  it adds to what the point before left).
-/
module

public import proofs.«01_k».proof.Proof.Model
public import proofs.«01_k».proof.Proof.Gen.KernelIdeal.Frame
public import Idealize.ShloMosaic.Lib.Pipeline.Value

@[expose] public section

set_option maxRecDepth 16384

noncomputable section

namespace Cert.KernelIdeal.Block

open Cert.KernelIdeal Cert.KernelIdeal.Gen Cert.KernelIdeal.Model Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (arg1 : Memref sig .tc .vmem S128x1024 .f32) (harg1 : arg1.IsWhole)
  (arg2 : Memref sig .tc .vmem S128x128 .f32) (harg2 : arg2.IsWhole)
  (arg3 : Memref sig .tc .vmem S128x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x128 .f32) (harg9 : arg9.IsWhole)
  (arg10 : Memref sig .tc .smem S1x16 .f32) (harg10 : arg10.IsWhole)
  (arg11 : Memref sig .tc .vmem S128x1024 .f32) (harg11 : arg11.IsWhole)
  (arg13 : Memref sig .tc .vmem S128x1024 .bf16) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S8x128 .f32) (harg18 : arg18.IsWhole)
  (x0 : Vec F S128x1024 .f32) (x1 x2 x3 x4 x5 x6 x7 x8 : Vec F S128x128 .f32) (x9 : Vec F S1x16 .f32) (x10 : Vec F S128x1024 .f32)
  (xo : Vec F S8x128 .f32)

/-- The block's inputs, of what the body reads. -/
abbrev ins : Ins F := ⟨BitVec.ofNat 32 (i 0).val, x0, x1, x2, x3, x4, x5, x6, x7, x8, x9, x10⟩

/-- The rectangle of tile `t` in a block of 1024 lanes. -/
abbrev tileRect (t : Fin 8) : Rect S128x1024 := Rect.unit (s := S128x1024) ![0, 128 * t.val] S128x128.size (tile_inb t)

/-- Two tiles' rectangles do not meet. -/
theorem tile_not_mem {t u : Fin 8} (h : t ≠ u) (x : S128x128.Idx) : (tileRect t).emb x ∉ (tileRect u).set := by
  intro hm
  have hx : (x 1).val < 128 := (x 1).isLt
  have h1 := (Rect.mem_set_unit.mp hm) 1
  have h2 : (((tileRect t).emb x) 1).val = 128 * t.val + 1 * (x 1).val := rfl
  have h3 : (![0, 128 * u.val] : Fin 2 → Nat) 1 = 128 * u.val := rfl
  have h4 : S128x128.size 1 = 128 := rfl
  rw [h3, h4, h2] at h1
  exact h (Fin.ext (by omega))

/-- Eight stores, one for each tile, last first: at an index of tile `t`, what was stored there. -/
theorem canon_tiles (f : (t : Fin 8) → S128x128.Idx → Elt F .bf16) (t : Fin 8) (x : S128x128.Idx) :
    View.canon (Val := Elt F) (s := S128x1024) (e := .bf16)
      [⟨tileRect 7, f 7⟩, ⟨tileRect 6, f 6⟩, ⟨tileRect 5, f 5⟩, ⟨tileRect 4, f 4⟩, ⟨tileRect 3, f 3⟩, ⟨tileRect 2, f 2⟩,
        ⟨tileRect 1, f 1⟩, ⟨tileRect 0, f 0⟩] ((tileRect t).emb x) = f t x := by
  have hit : ∀ (u : Fin 8) (L : List (View.Piece (Elt F) S128x1024 .bf16)), t = u →
      View.canon (⟨tileRect u, f u⟩ :: L) ((tileRect t).emb x) = f t x := by
    rintro u L rfl; exact View.canon_cons_emb (tileRect t) (f t) L x
  have miss : ∀ (u : Fin 8) (L : List (View.Piece (Elt F) S128x1024 .bf16)), t ≠ u →
      View.canon (⟨tileRect u, f u⟩ :: L) ((tileRect t).emb x) = View.canon L ((tileRect t).emb x) :=
    fun u L h => View.canon_cons_of_not_mem _ _ (tile_not_mem h x)
  by_cases h7 : t = 7; · exact hit _ _ h7
  rw [miss _ _ h7]
  by_cases h6 : t = 6; · exact hit _ _ h6
  rw [miss _ _ h6]
  by_cases h5 : t = 5; · exact hit _ _ h5
  rw [miss _ _ h5]
  by_cases h4 : t = 4; · exact hit _ _ h4
  rw [miss _ _ h4]
  by_cases h3 : t = 3; · exact hit _ _ h3
  rw [miss _ _ h3]
  by_cases h2 : t = 2; · exact hit _ _ h2
  rw [miss _ _ h2]
  by_cases h1 : t = 1; · exact hit _ _ h1
  rw [miss _ _ h1]
  exact hit _ _ (Fin.ext (by
    have := t.isLt
    have := fun h => h1 (Fin.ext h); have := fun h => h2 (Fin.ext h); have := fun h => h3 (Fin.ext h); have := fun h => h4 (Fin.ext h)
    have := fun h => h5 (Fin.ext h); have := fun h => h6 (Fin.ext h); have := fun h => h7 (Fin.ext h)
    simp only [Fin.val_one, Fin.coe_ofNat_eq_mod] at *
    omega))

/-! ### Case A -/

theorem out_A_11 (hc : cond0_0 i) (t : Fin 8) (x : S128x128.Idx) :
    out0_A_11 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 ((tileRect t).emb x)
      = (ins i x0 x1 x2 x3 x4 x5 x6 x7 x8 x9 x10).dq t x := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  exact canon_tiles (ins i x0 x1 x2 x3 x4 x5 x6 x7 x8 x9 x10).dq t x

/-- Window 12: the gradient of this block's keys. -/
theorem out_A_12 (hc : cond0_0 i) :
    out0_A_12 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10
      = (ins i x0 x1 x2 x3 x4 x5 x6 x7 x8 x9 x10).dkc := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 13: the gradient of the previous block's keys. -/
theorem out_A_13 (hc : cond0_0 i) :
    out0_A_13 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10
      = (ins i x0 x1 x2 x3 x4 x5 x6 x7 x8 x9 x10).dkp := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 14: the gradient of this block's values. -/
theorem out_A_14 (hc : cond0_0 i) :
    out0_A_14 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10
      = (ins i x0 x1 x2 x3 x4 x5 x6 x7 x8 x9 x10).dvc := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 15: the gradient of the previous block's values. -/
theorem out_A_15 (hc : cond0_0 i) :
    out0_A_15 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10
      = (ins i x0 x1 x2 x3 x4 x5 x6 x7 x8 x9 x10).dvp := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 16: the sinks' gradient, from zero. -/
theorem out_A_16 (hc : cond0_0 i) :
    out0_A_16 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10
      = addf (broadcast S8x128 (Scalar.ofBits .f32 0x00000000#32)) (ins i x0 x1 x2 x3 x4 x5 x6 x7 x8 x9 x10).drows := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  unfold k0_pay202
  simp only [shapeCast_self]
  rfl

/-! ### Case B -/

theorem out_B_11 (hc : ¬cond0_0 i) (t : Fin 8) (x : S128x128.Idx) :
    out0_B_11 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo ((tileRect t).emb x)
      = (ins i x0 x1 x2 x3 x4 x5 x6 x7 x8 x9 x10).dq t x := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  exact canon_tiles (ins i x0 x1 x2 x3 x4 x5 x6 x7 x8 x9 x10).dq t x

/-- Window 12: the gradient of this block's keys. -/
theorem out_B_12 (hc : ¬cond0_0 i) :
    out0_B_12 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo
      = (ins i x0 x1 x2 x3 x4 x5 x6 x7 x8 x9 x10).dkc := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 13: the gradient of the previous block's keys. -/
theorem out_B_13 (hc : ¬cond0_0 i) :
    out0_B_13 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo
      = (ins i x0 x1 x2 x3 x4 x5 x6 x7 x8 x9 x10).dkp := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 14: the gradient of this block's values. -/
theorem out_B_14 (hc : ¬cond0_0 i) :
    out0_B_14 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo
      = (ins i x0 x1 x2 x3 x4 x5 x6 x7 x8 x9 x10).dvc := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 15: the gradient of the previous block's values. -/
theorem out_B_15 (hc : ¬cond0_0 i) :
    out0_B_15 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo
      = (ins i x0 x1 x2 x3 x4 x5 x6 x7 x8 x9 x10).dvp := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  rw [View.canon_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S128x128) hz]
  rfl

/-- Window 16: the sinks' gradient, added to what was there. -/
theorem out_B_16 (hc : ¬cond0_0 i) :
    out0_B_16 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo
      = addf xo (ins i x0 x1 x2 x3 x4 x5 x6 x7 x8 x9 x10).drows := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 hc x0 x1 x2 x3 x4 x5 x6 x7 x8 x9 x10 xo)]
  unfold kernelRun0_B
  dsimp only
  sl_unfold_words
  rw [View.canon_unit_zero (S := S8x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg18.read_unread, View.ld_unit_zero (S := S128x128) hz, View.ld_unit_zero (S := S8x128) hz]
  unfold k0_pay202
  simp only [shapeCast_self]
  rfl

end Cert.KernelIdeal.Block

end
-- ==== Proof.Host.lean ====
/-
  THE TABLES OF THE ROTATION, as the kernel's host lines prepare them before the pallas_call: the cosines and the
  signed sines of every position, one column for each of 128 lanes; and the copy of the aliased argument.
-/
module

public import proofs.«01_k».proof.Proof.Gen.KernelIdeal.Value
public import Idealize.ShloMosaic.Lib.StableHlo

@[expose] public section

noncomputable section

namespace Cert.KernelIdeal.Tables

open Cert.KernelIdeal Cert.KernelIdeal.Gen Idealize.ShloMosaic Idealize.ShloMosaic.TcCoe Idealize.SL.Sem

variable {F : FTy → Type} [FloatOps F]

/-- The remainder of a row of lane numbers by a divisor, its sign put right as jax spells it. -/
def rem (x : IVec S128 32) (w : IVec S_ 32) : IVec S128 32 :=
  have d : IVec S_ 32 := select (cmpi .eq w (constantI S_ 32 0#32)) (constantI S_ 32 1#32) w
  have r : IVec S128 32 := Host.remsi x (broadcastInDim S128 ![] bcast_S_S128 d)
  have z : IVec S128 32 := broadcastInDim S128 ![] bcast_S_S128 (constantI S_ 32 0#32)
  select (andi (cmpi .ne (cmpi .slt r z) (broadcastInDim S128 ![] bcast_S_S128 (cmpi .slt d (constantI S_ 32 0#32))))
    (cmpi .ne r z)) (addi r (broadcastInDim S128 ![] bcast_S_S128 d)) r

/-- The lane within its head. -/
def lane : IVec S128 32 := rem (iotaInDim S128 32 0) (constantI S_ 32 64#32)

/-- The frequency a lane reads. -/
def freq : IVec S128x1 32 :=
  have r : IVec S128 32 := rem lane (constantI S_ 32 8#32)
  broadcastInDim S128x1 ![0] bcast_S128_S128x1_0
    (select (cmpi .slt r (broadcastInDim S128 ![] bcast_S_S128 (constantI S_ 32 0#32)))
      (addi r (broadcastInDim S128 ![] bcast_S_S128 (constantI S_ 32 8#32))) r)

/-- The eight inverse frequencies. -/
def inv : FVec F S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angles: position times inverse frequency. -/
def angle : FVec F S8192x8 .f32 :=
  mulf (broadcastInDim S8192x8 ![0, 1] bcast_S8192x1_S8192x8_0_1
      (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 inv))

/-- The angle of every lane. -/
def angles : FVec F S8192x128 .f32 := Host.gather gather_S8192x8_S128x1_S8192x128_0_1_n_n_1_1_81921 angle freq

/-- Lanes below a bound, at every position. -/
def below (n : BitVec 32) : IVec S8192x128 1 :=
  broadcastInDim S8192x128 ![0, 1] bcast_S1x128_S8192x128_0_1
    (cmpi .slt (broadcastInDim S1x128 ![1] bcast_S128_S1x128_1 lane) (broadcastInDim S1x128 ![] bcast_S_S1x128 (constantI S_ 32 n)))

/-- The cosines: one on the lanes that are not rotated. -/
def cosines : FVec F S8192x128 .f32 :=
  select (below 16#32) (Host.cos angles) (broadcastInDim S8192x128 ![] bcast_S_S8192x128 (constant S_ .f32 0x3F800000#32))

/-- The signed sines: minus on the first half of the rotated lanes, zero on the lanes that are not rotated. -/
def sines : FVec F S8192x128 .f32 :=
  select (below 8#32) (Host.negf (Host.sin angles))
    (select (below 16#32) (Host.sin angles) (broadcastInDim S8192x128 ![] bcast_S_S8192x128 (constant S_ .f32 0x00000000#32)))

variable (m : (ℓ : Loc nD τ sig) → Buf (Elt F) ℓ)

theorem V_cosines (c : Dev nD) : V m c main_v28 = (cosines : FVec F S8192x128 .f32) := by
  unfold V
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results
  simp only [StableHlo.TRef.toBuf, StableHlo.TRef.ofBuf, cast_eq, id_eq]
  rfl

theorem V_sines (c : Dev nD) : V m c main_v39 = (sines : FVec F S8192x128 .f32) := by
  unfold V
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results
  simp only [StableHlo.TRef.toBuf, StableHlo.TRef.ofBuf, cast_eq, id_eq]
  rfl

/-- The first result starts as a copy of the aliased argument. -/
theorem V_dz (c : Dev nD) : V m c main_v40_0 = m ((c : Thread nD τ).loc main_arg3) := by
  unfold V
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results
  rfl

end Cert.KernelIdeal.Tables

end
-- ==== Proof.Reads.lean ====
/-
  WHAT THE GRID'S POINTS READ, over any arithmetic: each block is rows of an argument or of one of the rotation's tables.
-/
module

public import proofs.«01_k».proof.Proof.Block
public import proofs.«01_k».proof.Proof.Host
public import Idealize.ShloMosaic.Lib.Pointwise

@[expose] public section

set_option maxRecDepth 16384

noncomputable section

namespace Cert.KernelIdeal.Arrays

open Cert.KernelIdeal Cert.KernelIdeal.Gen Cert.KernelIdeal.Model Cert.KernelIdeal.Block Cert.KernelIdeal.Tables
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Grid point `t`. -/
abbrev pt (t : Fin 64) : Fin cfg0.N := t.cast N_0.symm

/-- Row `r` of block `t`. -/
def row (t : Fin 64) (r : Fin 128) : Fin 8192 := ⟨128 * t.val + r.val, by omega⟩

/-- The block before (the first block's is itself). -/
def prev (t : Fin 64) : Fin 64 := ⟨t.val - 1, by omega⟩

/-- Column `d` of the keys, of the values. -/
def kcol (d : Fin 128) : Fin 6400 := ⟨1024 + d.val, by omega⟩
def vcol (d : Fin 128) : Fin 6400 := ⟨1152 + d.val, by omega⟩
/-- Column `x` of the queries. -/
def qcol (x : Fin 1024) : Fin 6400 := ⟨x.val, by omega⟩

/-- The inputs of grid point `t`. -/
def blockIns (c : Dev nD) (t : Fin 64) : Ins F :=
  ins (grid0.coords (pt t)) (X0_0 m c (pt t)) (iblk m c 1 (pt t)) (iblk m c 2 (pt t)) (iblk m c 3 (pt t)) (iblk m c 4 (pt t))
    (iblk m c 5 (pt t)) (iblk m c 6 (pt t)) (iblk m c 7 (pt t)) (iblk m c 8 (pt t)) (iblk m c 9 (pt t)) (iblk m c 10 (pt t))

/-! ### The blocks read -/

theorem coords_0 : ∀ t : Fin cfg0.N, (grid0.coords t 0).val = t.val := by decide +kernel

/-- The program identifier is the block's number. -/
theorem block_n (c : Dev nD) (t : Fin 64) : (blockIns m c t).n = BitVec.ofNat 32 t.val :=
  congrArg (BitVec.ofNat 32) (coords_0 (pt t))

theorem index_1 : ∀ t : Fin grid0.N, win0_1.index t 0 = t.val ∧ win0_1.index t 1 = 8 := by decide +kernel

theorem read_1 (A : Vec F S8192x6400 .f32) (t : Fin 64) (r : Fin 128) (d : Fin 128) :
    ((cfg0.win 1).blk (pt t)).view.read (Elt F) A (ix2 r d) = A (ix2 (row t r) (kcol d)) := by
  have hi := index_1 (pt t)
  rw [View.read_apply]
  show A _ = _
  congr 1
  funext a
  apply Fin.ext
  match a with
  | ⟨0, _⟩ => show win0_1.index (pt t) 0 * 128 + 1 * r.val = ((row t r)).val; rw [hi.1]; (try simp only [row, prev, kcol, vcol, qcol, pt, Fin.val_cast]); omega
  | ⟨1, _⟩ => show win0_1.index (pt t) 1 * 128 + 1 * d.val = ((kcol d)).val; rw [hi.2]; (try simp only [row, prev, kcol, vcol, qcol, pt, Fin.val_cast]); omega

/-- This block's keys. -/
theorem block_kc (c : Dev nD) (t : Fin 64) (r : Fin 128) (d : Fin 128) :
    (blockIns m c t).kc (ix2 r d) = (m ((c : Thread nD τ).loc main_arg0) : Vec F S8192x6400 .f32) (ix2 (row t r) (kcol d)) :=
  (read_1 (V m c main_arg0) t r d).trans (congrFun (V_main_arg0 m c) _)

theorem index_2 : ∀ t : Fin grid0.N, win0_2.index t 0 = t.val - 1 ∧ win0_2.index t 1 = 8 := by decide +kernel

theorem read_2 (A : Vec F S8192x6400 .f32) (t : Fin 64) (r : Fin 128) (d : Fin 128) :
    ((cfg0.win 2).blk (pt t)).view.read (Elt F) A (ix2 r d) = A (ix2 (row (prev t) r) (kcol d)) := by
  have hi := index_2 (pt t)
  rw [View.read_apply]
  show A _ = _
  congr 1
  funext a
  apply Fin.ext
  match a with
  | ⟨0, _⟩ => show win0_2.index (pt t) 0 * 128 + 1 * r.val = ((row (prev t) r)).val; rw [hi.1]; (try simp only [row, prev, kcol, vcol, qcol, pt, Fin.val_cast]); omega
  | ⟨1, _⟩ => show win0_2.index (pt t) 1 * 128 + 1 * d.val = ((kcol d)).val; rw [hi.2]; (try simp only [row, prev, kcol, vcol, qcol, pt, Fin.val_cast]); omega

/-- The previous block's keys. -/
theorem block_kp (c : Dev nD) (t : Fin 64) (r : Fin 128) (d : Fin 128) :
    (blockIns m c t).kp (ix2 r d) = (m ((c : Thread nD τ).loc main_arg0) : Vec F S8192x6400 .f32) (ix2 (row (prev t) r) (kcol d)) :=
  (read_2 (V m c main_arg0) t r d).trans (congrFun (V_main_arg0 m c) _)

theorem index_3 : ∀ t : Fin grid0.N, win0_3.index t 0 = t.val ∧ win0_3.index t 1 = 9 := by decide +kernel

theorem read_3 (A : Vec F S8192x6400 .f32) (t : Fin 64) (r : Fin 128) (d : Fin 128) :
    ((cfg0.win 3).blk (pt t)).view.read (Elt F) A (ix2 r d) = A (ix2 (row t r) (vcol d)) := by
  have hi := index_3 (pt t)
  rw [View.read_apply]
  show A _ = _
  congr 1
  funext a
  apply Fin.ext
  match a with
  | ⟨0, _⟩ => show win0_3.index (pt t) 0 * 128 + 1 * r.val = ((row t r)).val; rw [hi.1]; (try simp only [row, prev, kcol, vcol, qcol, pt, Fin.val_cast]); omega
  | ⟨1, _⟩ => show win0_3.index (pt t) 1 * 128 + 1 * d.val = ((vcol d)).val; rw [hi.2]; (try simp only [row, prev, kcol, vcol, qcol, pt, Fin.val_cast]); omega

/-- This block's values. -/
theorem block_vc (c : Dev nD) (t : Fin 64) (r : Fin 128) (d : Fin 128) :
    (blockIns m c t).vc (ix2 r d) = (m ((c : Thread nD τ).loc main_arg0) : Vec F S8192x6400 .f32) (ix2 (row t r) (vcol d)) :=
  (read_3 (V m c main_arg0) t r d).trans (congrFun (V_main_arg0 m c) _)

theorem index_4 : ∀ t : Fin grid0.N, win0_4.index t 0 = t.val - 1 ∧ win0_4.index t 1 = 9 := by decide +kernel

theorem read_4 (A : Vec F S8192x6400 .f32) (t : Fin 64) (r : Fin 128) (d : Fin 128) :
    ((cfg0.win 4).blk (pt t)).view.read (Elt F) A (ix2 r d) = A (ix2 (row (prev t) r) (vcol d)) := by
  have hi := index_4 (pt t)
  rw [View.read_apply]
  show A _ = _
  congr 1
  funext a
  apply Fin.ext
  match a with
  | ⟨0, _⟩ => show win0_4.index (pt t) 0 * 128 + 1 * r.val = ((row (prev t) r)).val; rw [hi.1]; (try simp only [row, prev, kcol, vcol, qcol, pt, Fin.val_cast]); omega
  | ⟨1, _⟩ => show win0_4.index (pt t) 1 * 128 + 1 * d.val = ((vcol d)).val; rw [hi.2]; (try simp only [row, prev, kcol, vcol, qcol, pt, Fin.val_cast]); omega

/-- The previous block's values. -/
theorem block_vp (c : Dev nD) (t : Fin 64) (r : Fin 128) (d : Fin 128) :
    (blockIns m c t).vp (ix2 r d) = (m ((c : Thread nD τ).loc main_arg0) : Vec F S8192x6400 .f32) (ix2 (row (prev t) r) (vcol d)) :=
  (read_4 (V m c main_arg0) t r d).trans (congrFun (V_main_arg0 m c) _)

theorem index_5 : ∀ t : Fin grid0.N, win0_5.index t 0 = t.val ∧ win0_5.index t 1 = 0 := by decide +kernel

theorem read_5 (A : Vec F S8192x128 .f32) (t : Fin 64) (r : Fin 128) (d : Fin 128) :
    ((cfg0.win 5).blk (pt t)).view.read (Elt F) A (ix2 r d) = A (ix2 (row t r) d) := by
  have hi := index_5 (pt t)
  rw [View.read_apply]
  show A _ = _
  congr 1
  funext a
  apply Fin.ext
  match a with
  | ⟨0, _⟩ => show win0_5.index (pt t) 0 * 128 + 1 * r.val = ((row t r)).val; rw [hi.1]; (try simp only [row, prev, kcol, vcol, qcol, pt, Fin.val_cast]); omega
  | ⟨1, _⟩ => show win0_5.index (pt t) 1 * 128 + 1 * d.val = (d).val; rw [hi.2]; (try simp only [row, prev, kcol, vcol, qcol, pt, Fin.val_cast]); omega

theorem at_5 (c : Dev nD) (V : (b : Ref sig .tc) → Buf (Elt F) ((c : Thread nD τ).loc b)) (X : FVec F S8192x128 .f32)
    (h : V main_v28 = X) (t : Fin 64) (r : Fin 128) (d : Fin 128) :
    ((cfg0.win 5).blk (pt t)).view.read (Elt F) (V (Pipeline.arrRef spec0 5)) (ix2 r d) = X (ix2 (row t r) d) :=
  h ▸ read_5 (V main_v28) t r d

theorem iblk_5 (c : Dev nD) (t : Fin 64) (r : Fin 128) (d : Fin 128) :
    iblk m c 5 (pt t) (ix2 r d) = (cosines : FVec F S8192x128 .f32) (ix2 (row t r) d) :=
  at_5 c (fun b => V m c b) _ (V_cosines m c) t r d

/-- This block's cosines. -/
theorem block_cosC (c : Dev nD) (t : Fin 64) (r : Fin 128) (d : Fin 128) :
    (blockIns m c t).cosC (ix2 r d) = (cosines : FVec F S8192x128 .f32) (ix2 (row t r) d) :=
  by
  unfold blockIns
  dsimp only
  exact iblk_5 m c t r d

theorem index_6 : ∀ t : Fin grid0.N, win0_6.index t 0 = t.val - 1 ∧ win0_6.index t 1 = 0 := by decide +kernel

theorem read_6 (A : Vec F S8192x128 .f32) (t : Fin 64) (r : Fin 128) (d : Fin 128) :
    ((cfg0.win 6).blk (pt t)).view.read (Elt F) A (ix2 r d) = A (ix2 (row (prev t) r) d) := by
  have hi := index_6 (pt t)
  rw [View.read_apply]
  show A _ = _
  congr 1
  funext a
  apply Fin.ext
  match a with
  | ⟨0, _⟩ => show win0_6.index (pt t) 0 * 128 + 1 * r.val = ((row (prev t) r)).val; rw [hi.1]; (try simp only [row, prev, kcol, vcol, qcol, pt, Fin.val_cast]); omega
  | ⟨1, _⟩ => show win0_6.index (pt t) 1 * 128 + 1 * d.val = (d).val; rw [hi.2]; (try simp only [row, prev, kcol, vcol, qcol, pt, Fin.val_cast]); omega

theorem at_6 (c : Dev nD) (V : (b : Ref sig .tc) → Buf (Elt F) ((c : Thread nD τ).loc b)) (X : FVec F S8192x128 .f32)
    (h : V main_v28 = X) (t : Fin 64) (r : Fin 128) (d : Fin 128) :
    ((cfg0.win 6).blk (pt t)).view.read (Elt F) (V (Pipeline.arrRef spec0 6)) (ix2 r d) = X (ix2 (row (prev t) r) d) :=
  h ▸ read_6 (V main_v28) t r d

theorem iblk_6 (c : Dev nD) (t : Fin 64) (r : Fin 128) (d : Fin 128) :
    iblk m c 6 (pt t) (ix2 r d) = (cosines : FVec F S8192x128 .f32) (ix2 (row (prev t) r) d) :=
  at_6 c (fun b => V m c b) _ (V_cosines m c) t r d

/-- The previous block's cosines. -/
theorem block_cosP (c : Dev nD) (t : Fin 64) (r : Fin 128) (d : Fin 128) :
    (blockIns m c t).cosP (ix2 r d) = (cosines : FVec F S8192x128 .f32) (ix2 (row (prev t) r) d) :=
  by
  unfold blockIns
  dsimp only
  exact iblk_6 m c t r d

theorem index_7 : ∀ t : Fin grid0.N, win0_7.index t 0 = t.val ∧ win0_7.index t 1 = 0 := by decide +kernel

theorem read_7 (A : Vec F S8192x128 .f32) (t : Fin 64) (r : Fin 128) (d : Fin 128) :
    ((cfg0.win 7).blk (pt t)).view.read (Elt F) A (ix2 r d) = A (ix2 (row t r) d) := by
  have hi := index_7 (pt t)
  rw [View.read_apply]
  show A _ = _
  congr 1
  funext a
  apply Fin.ext
  match a with
  | ⟨0, _⟩ => show win0_7.index (pt t) 0 * 128 + 1 * r.val = ((row t r)).val; rw [hi.1]; (try simp only [row, prev, kcol, vcol, qcol, pt, Fin.val_cast]); omega
  | ⟨1, _⟩ => show win0_7.index (pt t) 1 * 128 + 1 * d.val = (d).val; rw [hi.2]; (try simp only [row, prev, kcol, vcol, qcol, pt, Fin.val_cast]); omega

theorem at_7 (c : Dev nD) (V : (b : Ref sig .tc) → Buf (Elt F) ((c : Thread nD τ).loc b)) (X : FVec F S8192x128 .f32)
    (h : V main_v39 = X) (t : Fin 64) (r : Fin 128) (d : Fin 128) :
    ((cfg0.win 7).blk (pt t)).view.read (Elt F) (V (Pipeline.arrRef spec0 7)) (ix2 r d) = X (ix2 (row t r) d) :=
  h ▸ read_7 (V main_v39) t r d

theorem iblk_7 (c : Dev nD) (t : Fin 64) (r : Fin 128) (d : Fin 128) :
    iblk m c 7 (pt t) (ix2 r d) = (sines : FVec F S8192x128 .f32) (ix2 (row t r) d) :=
  at_7 c (fun b => V m c b) _ (V_sines m c) t r d

/-- This block's sines. -/
theorem block_sinC (c : Dev nD) (t : Fin 64) (r : Fin 128) (d : Fin 128) :
    (blockIns m c t).sinC (ix2 r d) = (sines : FVec F S8192x128 .f32) (ix2 (row t r) d) :=
  by
  unfold blockIns
  dsimp only
  exact iblk_7 m c t r d

theorem index_8 : ∀ t : Fin grid0.N, win0_8.index t 0 = t.val - 1 ∧ win0_8.index t 1 = 0 := by decide +kernel

theorem read_8 (A : Vec F S8192x128 .f32) (t : Fin 64) (r : Fin 128) (d : Fin 128) :
    ((cfg0.win 8).blk (pt t)).view.read (Elt F) A (ix2 r d) = A (ix2 (row (prev t) r) d) := by
  have hi := index_8 (pt t)
  rw [View.read_apply]
  show A _ = _
  congr 1
  funext a
  apply Fin.ext
  match a with
  | ⟨0, _⟩ => show win0_8.index (pt t) 0 * 128 + 1 * r.val = ((row (prev t) r)).val; rw [hi.1]; (try simp only [row, prev, kcol, vcol, qcol, pt, Fin.val_cast]); omega
  | ⟨1, _⟩ => show win0_8.index (pt t) 1 * 128 + 1 * d.val = (d).val; rw [hi.2]; (try simp only [row, prev, kcol, vcol, qcol, pt, Fin.val_cast]); omega

theorem at_8 (c : Dev nD) (V : (b : Ref sig .tc) → Buf (Elt F) ((c : Thread nD τ).loc b)) (X : FVec F S8192x128 .f32)
    (h : V main_v39 = X) (t : Fin 64) (r : Fin 128) (d : Fin 128) :
    ((cfg0.win 8).blk (pt t)).view.read (Elt F) (V (Pipeline.arrRef spec0 8)) (ix2 r d) = X (ix2 (row (prev t) r) d) :=
  h ▸ read_8 (V main_v39) t r d

theorem iblk_8 (c : Dev nD) (t : Fin 64) (r : Fin 128) (d : Fin 128) :
    iblk m c 8 (pt t) (ix2 r d) = (sines : FVec F S8192x128 .f32) (ix2 (row (prev t) r) d) :=
  at_8 c (fun b => V m c b) _ (V_sines m c) t r d

/-- The previous block's sines. -/
theorem block_sinP (c : Dev nD) (t : Fin 64) (r : Fin 128) (d : Fin 128) :
    (blockIns m c t).sinP (ix2 r d) = (sines : FVec F S8192x128 .f32) (ix2 (row (prev t) r) d) :=
  by
  unfold blockIns
  dsimp only
  exact iblk_8 m c t r d

theorem index_9 : ∀ t : Fin grid0.N, win0_9.index t 0 = 0 ∧ win0_9.index t 1 = 0 := by decide +kernel

theorem read_9 (A : Vec F S1x16 .f32) (t : Fin 64) (r : Fin 1) (d : Fin 16) :
    ((cfg0.win 9).blk (pt t)).view.read (Elt F) A (ix2 r d) = A (ix2 r d) := by
  have hi := index_9 (pt t)
  rw [View.read_apply]
  show A _ = _
  congr 1
  funext a
  apply Fin.ext
  match a with
  | ⟨0, _⟩ => show win0_9.index (pt t) 0 * 1 + 1 * r.val = (r).val; rw [hi.1]; (try simp only [row, prev, kcol, vcol, qcol, pt, Fin.val_cast]); omega
  | ⟨1, _⟩ => show win0_9.index (pt t) 1 * 16 + 1 * d.val = (d).val; rw [hi.2]; (try simp only [row, prev, kcol, vcol, qcol, pt, Fin.val_cast]); omega

/-- The sinks. -/
theorem block_sink (c : Dev nD) (t : Fin 64) (r : Fin 1) (d : Fin 16) :
    (blockIns m c t).sink (ix2 r d) = (m ((c : Thread nD τ).loc main_arg2) : Vec F S1x16 .f32) (ix2 r d) :=
  (read_9 (V m c main_arg2) t r d).trans (congrFun (V_main_arg2 m c) _)

theorem index_10 : ∀ t : Fin grid0.N, win0_10.index t 0 = t.val ∧ win0_10.index t 1 = 0 := by decide +kernel

theorem read_10 (A : Vec F S8192x1024 .f32) (t : Fin 64) (r : Fin 128) (d : Fin 1024) :
    ((cfg0.win 10).blk (pt t)).view.read (Elt F) A (ix2 r d) = A (ix2 (row t r) d) := by
  have hi := index_10 (pt t)
  rw [View.read_apply]
  show A _ = _
  congr 1
  funext a
  apply Fin.ext
  match a with
  | ⟨0, _⟩ => show win0_10.index (pt t) 0 * 128 + 1 * r.val = ((row t r)).val; rw [hi.1]; (try simp only [row, prev, kcol, vcol, qcol, pt, Fin.val_cast]); omega
  | ⟨1, _⟩ => show win0_10.index (pt t) 1 * 1024 + 1 * d.val = (d).val; rw [hi.2]; (try simp only [row, prev, kcol, vcol, qcol, pt, Fin.val_cast]); omega

/-- This block's incoming gradient. -/
theorem block_d (c : Dev nD) (t : Fin 64) (r : Fin 128) (d : Fin 1024) :
    (blockIns m c t).d (ix2 r d) = (m ((c : Thread nD τ).loc main_arg1) : Vec F S8192x1024 .f32) (ix2 (row t r) d) :=
  (read_10 (V m c main_arg1) t r d).trans (congrFun (V_main_arg1 m c) _)

theorem index_0 : ∀ t : Fin grid0.N, win0_0.index t 0 = t.val ∧ win0_0.index t 1 = 0 := by decide +kernel

theorem read_0 (A : Vec F S8192x6400 .f32) (x : (cfg0.win 0).block.Idx → Elt F (cfg0.win 0).elt) (t : Fin 64) (r : Fin 128) (d : Fin 1024) :
    (cfg0.win 0).fill (grid0.coords (pt t)) x (((cfg0.win 0).blk (pt t)).view.read (Elt F) A) (ix2 r d) = A (ix2 (row t r) (qcol d)) := by
  have hi := index_0 (pt t)
  unfold Pipeline.Window.fill
  rw [dif_pos (moved0_0 (pt t) (ix2 r d)), View.read_apply]
  show A _ = _
  congr 1
  funext a
  apply Fin.ext
  match a with
  | ⟨0, _⟩ => show win0_0.index (pt t) 0 * 128 + 1 * r.val = (row t r).val; rw [hi.1]; simp only [row, pt, Fin.val_cast]; omega
  | ⟨1, _⟩ => show win0_0.index (pt t) 1 * 1024 + 1 * d.val = (qcol d).val; rw [hi.2]; simp only [qcol]; omega

/-- This block's queries. -/
theorem block_q (c : Dev nD) (t : Fin 64) (r : Fin 128) (d : Fin 1024) :
    (blockIns m c t).q (ix2 r d) = (m ((c : Thread nD τ).loc main_arg0) : Vec F S8192x6400 .f32) (ix2 (row t r) (qcol d)) :=
  (read_0 (V m c main_arg0) dflt0_0 t r d).trans (congrFun (V_main_arg0 m c) _)

end Cert.KernelIdeal.Arrays

end
-- ==== Proof.Arrays.lean ====
/-
  WHAT THE RESULT ARRAYS HOLD after the run, over any arithmetic: every element of the results is one element of what its
  point's block computes (`Proof/Model.lean`); the sinks' gradient is the points' rows added up in order.
-/
module

public import proofs.«01_k».proof.Proof.Reads

@[expose] public section

set_option maxRecDepth 16384

noncomputable section

namespace Cert.KernelIdeal.Arrays

open Cert.KernelIdeal Cert.KernelIdeal.Gen Cert.KernelIdeal.Model Cert.KernelIdeal.Block Cert.KernelIdeal.Tables
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ### The results written block by block -/

theorem index_12 : ∀ t : Fin grid0.N, win0_12.index t 0 = t.val ∧ win0_12.index t 1 = 0 := by decide +kernel

theorem read_12 (A : Vec F S8192x128 .f32) (t : Fin 64) (r d : Fin 128) :
    ((cfg0.win 12).blk (pt t)).view.read (Elt F) A (ix2 r d) = A (ix2 (row t r) d) := by
  have hi := index_12 (pt t)
  rw [View.read_apply]
  show A _ = _
  congr 1
  funext a
  apply Fin.ext
  match a with
  | ⟨0, _⟩ => show win0_12.index (pt t) 0 * 128 + 1 * r.val = (row t r).val; rw [hi.1]; simp only [row, pt, Fin.val_cast]; omega
  | ⟨1, _⟩ => show win0_12.index (pt t) 1 * 128 + 1 * d.val = d.val; rw [hi.2]; omega

theorem flushed_12 (c : Dev nD) (t : Fin 64) : (dats m 0 c).flushed 12 (pt t) = (blockIns m c t).dkc := by
  by_cases h0 : (pt t).val % 64 = 0
  · rw [Value.flushed12_A m c (pt t) h0, out_A_12]; rfl
  · rw [Value.flushed12_B m c (pt t) h0, out_B_12]; rfl

/-- The gradient of the keys read by their own block. -/
theorem final_12 (c : Dev nD) (t : Fin 64) (r d : Fin 128) :
    ((dats m 0 c).arrAt 12 cfg0.N : Vec F S8192x128 .f32) (ix2 (row t r) d) = (blockIns m c t).dkc (ix2 r d) :=
  (read_12 ((dats m 0 c).arrAt 12 cfg0.N) t r d).symm.trans
    (congrFun ((Value.blocks12 m c (pt t) (flush0_12 (pt t))).trans (flushed_12 m c t)) (ix2 r d))

theorem index_13 : ∀ t : Fin grid0.N, win0_13.index t 0 = t.val ∧ win0_13.index t 1 = 0 := by decide +kernel

theorem read_13 (A : Vec F S8192x128 .f32) (t : Fin 64) (r d : Fin 128) :
    ((cfg0.win 13).blk (pt t)).view.read (Elt F) A (ix2 r d) = A (ix2 (row t r) d) := by
  have hi := index_13 (pt t)
  rw [View.read_apply]
  show A _ = _
  congr 1
  funext a
  apply Fin.ext
  match a with
  | ⟨0, _⟩ => show win0_13.index (pt t) 0 * 128 + 1 * r.val = (row t r).val; rw [hi.1]; simp only [row, pt, Fin.val_cast]; omega
  | ⟨1, _⟩ => show win0_13.index (pt t) 1 * 128 + 1 * d.val = d.val; rw [hi.2]; omega

theorem flushed_13 (c : Dev nD) (t : Fin 64) : (dats m 0 c).flushed 13 (pt t) = (blockIns m c t).dkp := by
  by_cases h0 : (pt t).val % 64 = 0
  · rw [Value.flushed13_A m c (pt t) h0, out_A_13]; rfl
  · rw [Value.flushed13_B m c (pt t) h0, out_B_13]; rfl

/-- The gradient of the keys read by the next block. -/
theorem final_13 (c : Dev nD) (t : Fin 64) (r d : Fin 128) :
    ((dats m 0 c).arrAt 13 cfg0.N : Vec F S8192x128 .f32) (ix2 (row t r) d) = (blockIns m c t).dkp (ix2 r d) :=
  (read_13 ((dats m 0 c).arrAt 13 cfg0.N) t r d).symm.trans
    (congrFun ((Value.blocks13 m c (pt t) (flush0_13 (pt t))).trans (flushed_13 m c t)) (ix2 r d))

theorem index_14 : ∀ t : Fin grid0.N, win0_14.index t 0 = t.val ∧ win0_14.index t 1 = 0 := by decide +kernel

theorem read_14 (A : Vec F S8192x128 .f32) (t : Fin 64) (r d : Fin 128) :
    ((cfg0.win 14).blk (pt t)).view.read (Elt F) A (ix2 r d) = A (ix2 (row t r) d) := by
  have hi := index_14 (pt t)
  rw [View.read_apply]
  show A _ = _
  congr 1
  funext a
  apply Fin.ext
  match a with
  | ⟨0, _⟩ => show win0_14.index (pt t) 0 * 128 + 1 * r.val = (row t r).val; rw [hi.1]; simp only [row, pt, Fin.val_cast]; omega
  | ⟨1, _⟩ => show win0_14.index (pt t) 1 * 128 + 1 * d.val = d.val; rw [hi.2]; omega

theorem flushed_14 (c : Dev nD) (t : Fin 64) : (dats m 0 c).flushed 14 (pt t) = (blockIns m c t).dvc := by
  by_cases h0 : (pt t).val % 64 = 0
  · rw [Value.flushed14_A m c (pt t) h0, out_A_14]; rfl
  · rw [Value.flushed14_B m c (pt t) h0, out_B_14]; rfl

/-- The gradient of the values read by their own block. -/
theorem final_14 (c : Dev nD) (t : Fin 64) (r d : Fin 128) :
    ((dats m 0 c).arrAt 14 cfg0.N : Vec F S8192x128 .f32) (ix2 (row t r) d) = (blockIns m c t).dvc (ix2 r d) :=
  (read_14 ((dats m 0 c).arrAt 14 cfg0.N) t r d).symm.trans
    (congrFun ((Value.blocks14 m c (pt t) (flush0_14 (pt t))).trans (flushed_14 m c t)) (ix2 r d))

theorem index_15 : ∀ t : Fin grid0.N, win0_15.index t 0 = t.val ∧ win0_15.index t 1 = 0 := by decide +kernel

theorem read_15 (A : Vec F S8192x128 .f32) (t : Fin 64) (r d : Fin 128) :
    ((cfg0.win 15).blk (pt t)).view.read (Elt F) A (ix2 r d) = A (ix2 (row t r) d) := by
  have hi := index_15 (pt t)
  rw [View.read_apply]
  show A _ = _
  congr 1
  funext a
  apply Fin.ext
  match a with
  | ⟨0, _⟩ => show win0_15.index (pt t) 0 * 128 + 1 * r.val = (row t r).val; rw [hi.1]; simp only [row, pt, Fin.val_cast]; omega
  | ⟨1, _⟩ => show win0_15.index (pt t) 1 * 128 + 1 * d.val = d.val; rw [hi.2]; omega

theorem flushed_15 (c : Dev nD) (t : Fin 64) : (dats m 0 c).flushed 15 (pt t) = (blockIns m c t).dvp := by
  by_cases h0 : (pt t).val % 64 = 0
  · rw [Value.flushed15_A m c (pt t) h0, out_A_15]; rfl
  · rw [Value.flushed15_B m c (pt t) h0, out_B_15]; rfl

/-- The gradient of the values read by the next block. -/
theorem final_15 (c : Dev nD) (t : Fin 64) (r d : Fin 128) :
    ((dats m 0 c).arrAt 15 cfg0.N : Vec F S8192x128 .f32) (ix2 (row t r) d) = (blockIns m c t).dvp (ix2 r d) :=
  (read_15 ((dats m 0 c).arrAt 15 cfg0.N) t r d).symm.trans
    (congrFun ((Value.blocks15 m c (pt t) (flush0_15 (pt t))).trans (flushed_15 m c t)) (ix2 r d))

/-! ### The queries' gradient, into the first columns of the aliased array -/

theorem index_11 : ∀ t : Fin grid0.N, win0_11.index t 0 = t.val ∧ win0_11.index t 1 = 0 := by decide +kernel

theorem xsize_11 : ∀ t : Fin grid0.N, win0_11.xsize (grid0.coords t) 0 = 128 ∧ win0_11.xsize (grid0.coords t) 1 = 1024 := by
  decide +kernel

/-- Lane `d` of tile `u` among the columns of the queries. -/
def lane8 (u : Fin 8) (d : Fin 128) : Fin 1024 := ⟨128 * u.val + d.val, by omega⟩

/-- An index of the part of a block that is moved. -/
def moved11 (t : Fin 64) (r : Fin 128) (x : Fin 1024) : ((cfg0.win 11).xblock (grid0.coords (pt t))).Idx
  | ⟨0, _⟩ => ⟨r.val, by show r.val < win0_11.xsize (grid0.coords (pt t)) 0; rw [(xsize_11 (pt t)).1]; exact r.isLt⟩
  | ⟨1, _⟩ => ⟨x.val, by show x.val < win0_11.xsize (grid0.coords (pt t)) 1; rw [(xsize_11 (pt t)).2]; exact x.isLt⟩

theorem tile_emb (u : Fin 8) (r d : Fin 128) : ((tileRect u).emb (ix2 r d) : S128x1024.Idx) = ix2 r (lane8 u d) := by
  funext a
  apply Fin.ext
  match a with
  | ⟨0, _⟩ => show 0 + 1 * r.val = r.val; omega
  | ⟨1, _⟩ => show 128 * u.val + 1 * d.val = 128 * u.val + d.val; omega

theorem read_11 (A : Vec F S8192x6400 .bf16) (t : Fin 64) (r : Fin 128) (x : Fin 1024) :
    ((cfg0.win 11).blk (pt t)).view.read (Elt F) A (moved11 t r x) = A (ix2 (row t r) (qcol x)) := by
  have hi := index_11 (pt t)
  rw [View.read_apply]
  show A _ = _
  congr 1
  funext a
  apply Fin.ext
  match a with
  | ⟨0, _⟩ => show win0_11.index (pt t) 0 * 128 + 1 * r.val = (row t r).val; rw [hi.1]; simp only [row, pt, Fin.val_cast]; omega
  | ⟨1, _⟩ => show win0_11.index (pt t) 1 * 1024 + 1 * x.val = x.val; rw [hi.2]; omega

theorem cut_11 (X : Vec F S128x1024 .bf16) (t : Fin 64) (r : Fin 128) (x : Fin 1024) :
    (cfg0.win 11).cut (grid0.coords (pt t)) X (moved11 t r x) = X (ix2 r x) :=
  congrArg X (funext fun a => Fin.ext (match a with | ⟨0, _⟩ => rfl | ⟨1, _⟩ => rfl))

theorem flushed_11 (c : Dev nD) (t : Fin 64) (r : Fin 128) (u : Fin 8) (d : Fin 128) :
    (dats m 0 c).flushed 11 (pt t) (moved11 t r (lane8 u d)) = (blockIns m c t).dq u (ix2 r d) := by
  by_cases h0 : (pt t).val % 64 = 0
  · rw [Value.flushed11_A m c (pt t) h0, cut_11, ← tile_emb, out_A_11]; rfl
  · rw [Value.flushed11_B m c (pt t) h0, cut_11, ← tile_emb, out_B_11]; rfl

/-- The gradient of the queries. -/
theorem final_11 (c : Dev nD) (t : Fin 64) (r : Fin 128) (u : Fin 8) (d : Fin 128) :
    ((dats m 0 c).arrAt 11 cfg0.N : Vec F S8192x6400 .bf16) (ix2 (row t r) (qcol (lane8 u d))) = (blockIns m c t).dq u (ix2 r d) :=
  (read_11 ((dats m 0 c).arrAt 11 cfg0.N) t r (lane8 u d)).symm.trans
    ((congrFun (Value.blocks11 m c (pt t) (flush0_11 (pt t))) (moved11 t r (lane8 u d))).trans (flushed_11 m c t r u d))

/-- The other columns are the aliased argument's. -/
theorem final_11_rest (c : Dev nD) (i : S8192x6400.Idx) (hi : 1024 ≤ (i 1).val) :
    ((dats m 0 c).arrAt 11 cfg0.N : Vec F S8192x6400 .bf16) i = (m ((c : Thread nD τ).loc main_arg3) : Vec F S8192x6400 .bf16) i := by
  rw [Value.entry11 m c i ?_]
  · exact congrFun (V_dz m c) i
  · intro t _ hm
    have hm' : i ∈ ((win0_11.rect t).set : Finset S8192x6400.Idx) := by
      rw [show (((cfg0.win 11).blk t).view.set : Finset S8192x6400.Idx) = (win0_11.rect t).set from View.set_slice_whole _ _] at hm
      exact hm
    rw [Rect.mem_set_unit] at hm'
    have h1 := (hm' 1).2
    have e1 : win0_11.index t 1 = 0 := (index_11 t).2
    have e2 := (xsize_11 t).2
    have h2 : (i 1).val < win0_11.index t 1 * 1024 + win0_11.xsize (grid0.coords t) 1 := h1
    rw [e1, e2] at h2
    omega

/-! ### The sinks' gradient, added up over the points -/

/-- The points' rows added up in order, from zero. -/
def chain (c : Dev nD) : (n : ℕ) → n < 64 → FVec F S8x128 .f32
  | 0, h => addf (broadcast S8x128 (Scalar.ofBits .f32 0x00000000#32)) (blockIns m c ⟨0, h⟩).drows
  | n + 1, h => addf (chain c n (Nat.lt_of_succ_lt h)) (blockIns m c ⟨n + 1, h⟩).drows

theorem outs_chain (c : Dev nD) : ∀ (n : ℕ) (h : n < 64) (h' : n < cfg0.N), (outsAt0 m c n h').2.2.2.2.2 = chain m c n h
  | 0, h, h' => by
    rw [outsAt0_A m c ⟨0, h'⟩ rfl]
    dsimp only
    exact out_A_16 ..
  | n + 1, h, h' => by
    have hB : ¬(⟨n + 1, h'⟩ : Fin cfg0.N).val % 64 = 0 := by dsimp only; omega
    have e := outs_chain c n (Nat.lt_of_succ_lt h) (Nat.lt_of_succ_lt h')
    rw [outsAt0_B m c ⟨n + 1, h'⟩ hB]
    dsimp only
    refine (out_B_16 ..).trans ?_
    exact congrArg (fun x => addf x (blockIns m c ⟨n + 1, h⟩).drows) e

theorem index_16 : ∀ t : Fin grid0.N, win0_16.index t 0 = 0 ∧ win0_16.index t 1 = 0 := by decide +kernel

/-- The sinks' gradient after the run. -/
theorem final_16 (c : Dev nD) : ((dats m 0 c).arrAt 16 cfg0.N : Vec F S8x128 .f32) = chain m c 63 (by decide) := by
  refine (dats m 0 c).arrAt_eq_of_cover 16 (chain m c 63 (by decide)) ?_ ?_
  · intro t hf
    have h3 : t.val = 63 := by have := (flush0_16 t).mp hf; have := t.isLt; have : cfg0.N = 64 := N_0; omega
    rw [Value.flushed16]
    have hz' : (fun a => win0_16.index t a * main_v40_5.ty.shape.size a) = fun _ => 0 := funext fun a => by
      match a with
      | ⟨0, _⟩ => show win0_16.index t 0 * 8 = 0; rw [(index_16 t).1, Nat.zero_mul]
      | ⟨1, _⟩ => show win0_16.index t 1 * 128 = 0; rw [(index_16 t).2, Nat.zero_mul]
    refine Eq.trans ?_ (Memref.read_access_unit_zero (Elt F) main_v40_5 hz' (fun a => by rw [congrFun hz' a]; simp) (chain m c 63 (by decide))).symm
    show (outsAt0 m c t.val t.isLt).2.2.2.2.2 = _
    rw [outs_chain m c t.val (by omega)]
    have key : ∀ (n : ℕ) (h : n < 64), n = 63 → chain m c n h = chain m c 63 (by decide) := fun n h e => by subst e; rfl
    exact key t.val _ h3
  · intro i
    have i0 : (i 0 : Nat) < 8 := (i 0).isLt
    have i1 : (i 1 : Nat) < 128 := (i 1).isLt
    refine ⟨pt 63, (flush0_16 _).mpr rfl, ?_⟩
    show (i : S8x128.Idx) ∈ (((cfg0.win 16).blk (pt 63)).view.set : Finset S8x128.Idx)
    rw [show (((cfg0.win 16).blk (pt 63)).view.set : Finset S8x128.Idx) = (win0_16.rect (pt 63)).set from View.set_slice_whole _ _, Rect.mem_set_unit]
    intro a
    match a with
    | ⟨0, _⟩ => show win0_16.index (pt 63) 0 * 8 ≤ (i 0 : Nat) ∧ (i 0 : Nat) < win0_16.index (pt 63) 0 * 8 + 8; rw [(index_16 _).1]; omega
    | ⟨1, _⟩ => show win0_16.index (pt 63) 1 * 128 ≤ (i 1 : Nat) ∧ (i 1 : Nat) < win0_16.index (pt 63) 1 * 128 + 128; rw [(index_16 _).2]; omega

end Cert.KernelIdeal.Arrays

end
-- ==== Proof.Spec.lean ====
/-
  THE MATHEMATICS, over the reals: one block of 128 queries of causal sliding-window attention with sinks, its softmax
  and the gradients of its inputs. Both the kernel and the reference are shown to compute these.
-/
module

public import Idealize.ShloMosaic.Lib.Pointwise
public import Idealize.ShloMosaic.PureOps.Ideal

@[expose] public section

noncomputable section

namespace Cert.Attn

open Idealize.ShloMosaic

/-! ### Sums of reals among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A sum of reals, each known to be one. -/
theorem sum_eq_coe {ι : Type} [Fintype ι] {f : ι → EReal} {g : ι → ℝ} (h : ∀ i, f i = ((g i : ℝ) : EReal)) :
    ∑ i, f i = ((∑ i, g i : ℝ) : EReal) := by
  rw [← coe_sum]; exact Finset.sum_congr rfl fun i _ => h i

/-- A product of reals summed. -/
theorem dot_eq_coe {ι : Type} [Fintype ι] {f g : ι → EReal} {f' g' : ι → ℝ} (hf : ∀ i, f i = ((f' i : ℝ) : EReal))
    (hg : ∀ i, g i = ((g' i : ℝ) : EReal)) : ∑ i, f i * g i = ((∑ i, f' i * g' i : ℝ) : EReal) :=
  sum_eq_coe fun i => by rw [hf, hg, EReal.coe_mul]

theorem coe_ite (p : Prop) [Decidable p] (a b : ℝ) : ((if p then a else b : ℝ) : EReal) = if p then (a : EReal) else (b : EReal) := by
  split <;> rfl

/-! ### The softmax with a sink -/

/-- The exponential of a sink that is not `+∞`. -/
def sinkExp (b : EReal) : ℝ := if b = ⊥ then 0 else Real.exp b.toReal

theorem sinkExp_nonneg (b : EReal) : 0 ≤ sinkExp b := by
  unfold sinkExp; split
  · exact le_rfl
  · exact (Real.exp_pos _).le

theorem exp_sub_coe (b : EReal) (hb : b ≠ ⊤) (M : ℝ) : Ideal.exp (b - (M : EReal)) = ((Real.exp (-M) * sinkExp b : ℝ) : EReal) := by
  induction b with
  | bot => simp [sinkExp]
  | top => exact absurd rfl hb
  | coe b =>
    rw [← EReal.coe_sub, Ideal.exp_coe, sinkExp, if_neg (EReal.coe_ne_bot b), EReal.toReal_coe, ← Real.exp_add]
    congr 2; ring

variable {n : ℕ} (live : Fin n → Prop) [DecidablePred live] (s : Fin n → ℝ) (b : EReal)

/-- The exponential of a score, zero where the window does not reach. -/
def raw (j : Fin n) : ℝ := if live j then Real.exp (s j) else 0

/-- What a row's exponentials add up to, with its sink's. -/
def mass : ℝ := (∑ j, raw live s j) + sinkExp b

/-- The softmax's weights. -/
def wt (j : Fin n) : ℝ := raw live s j / mass live s b

/-- The sink's weight. -/
def wtSink : ℝ := sinkExp b / mass live s b

theorem raw_nonneg (j : Fin n) : 0 ≤ raw live s j := by
  unfold raw; split
  · exact (Real.exp_pos _).le
  · exact le_rfl

theorem mass_pos (h : ∃ j, live j) : 0 < mass live s b := by
  obtain ⟨j, hj⟩ := h
  have h1 : raw live s j ≤ ∑ j, raw live s j := Finset.single_le_sum (fun i _ => raw_nonneg live s i) (Finset.mem_univ j)
  have h2 : 0 < raw live s j := by rw [raw, if_pos hj]; exact Real.exp_pos _
  have := sinkExp_nonneg b
  unfold mass; linarith

theorem wt_dead {j : Fin n} (h : ¬live j) : wt live s b j = 0 := by rw [wt, raw, if_neg h, zero_div]

theorem raw_congr {s' : Fin n → ℝ} (h : ∀ j, live j → s j = s' j) : raw live s = raw live s' := by
  funext j; unfold raw; split
  · next hj => rw [h j hj]
  · rfl

theorem wt_congr {s' : Fin n → ℝ} (h : ∀ j, live j → s j = s' j) : wt live s b = wt live s' b := by
  funext j; unfold wt mass; rw [raw_congr live s h]

theorem wtSink_congr {s' : Fin n → ℝ} (h : ∀ j, live j → s j = s' j) : wtSink live s b = wtSink live s' b := by
  unfold wtSink mass; rw [raw_congr live s h]

/-! #### The weights from exponentials shifted by any real -/

/-- The greatest of finitely many extended reals and one more is real. -/
theorem max_real {init : EReal} (hi : init ≠ ⊤) {f : Fin n → EReal} (hf : ∀ j, f j ≠ ⊤) (hx : ∃ j, f j ≠ ⊥) (hb : b ≠ ⊤) :
    ∃ M : ℝ, max (Finset.univ.fold max init f) b = (M : EReal) := by
  have h1 : max (Finset.univ.fold max init f) b ≠ ⊤ := by
    refine (max_lt ?_ (lt_top_iff_ne_top.mpr hb)).ne
    rw [Finset.fold_max_lt]
    exact ⟨lt_top_iff_ne_top.mpr hi, fun j _ => lt_top_iff_ne_top.mpr (hf j)⟩
  have h2 : max (Finset.univ.fold max init f) b ≠ ⊥ := by
    obtain ⟨j, hj⟩ := hx
    refine ((bot_lt_iff_ne_bot.mpr hj).trans_le (le_max_of_le_left ?_)).ne'
    rw [Finset.le_fold_max]
    exact .inr ⟨j, Finset.mem_univ j, le_rfl⟩
  exact ⟨_, (EReal.coe_toReal h1 h2).symm⟩

theorem exp_score (M : ℝ) (j : Fin n) :
    (if live j then Ideal.exp ((s j : EReal) - (M : EReal)) else 0) = ((Real.exp (-M) * raw live s j : ℝ) : EReal) := by
  unfold raw; split
  · rw [← EReal.coe_sub, Ideal.exp_coe, ← Real.exp_add]; congr 2; ring
  · simp

variable (M : ℝ)

theorem shifted_mass : (∑ j, Real.exp (-M) * raw live s j) + Real.exp (-M) * sinkExp b = Real.exp (-M) * mass live s b := by
  unfold mass; rw [← Finset.mul_sum]; ring

theorem shifted_pos (h : ∃ j, live j) : 0 < Real.exp (-M) * mass live s b :=
  mul_pos (Real.exp_pos _) (mass_pos live s b h)

theorem shifted_wt (h : ∃ j, live j) (j : Fin n) :
    Real.exp (-M) * raw live s j * (1 / (Real.exp (-M) * mass live s b)) = wt live s b j := by
  have h1 := (mass_pos live s b h).ne'
  have h2 := (Real.exp_pos (-M)).ne'
  unfold wt; field_simp

theorem shifted_wtSink (h : ∃ j, live j) :
    Real.exp (-M) * sinkExp b * (1 / (Real.exp (-M) * mass live s b)) = wtSink live s b := by
  have h1 := (mass_pos live s b h).ne'
  have h2 := (Real.exp_pos (-M)).ne'
  unfold wtSink; field_simp

/-- The quotient's gradient, as the reference's derivative spells it. -/
theorem shifted_grad (h : ∃ j, live j) (x : Fin n → ℝ) (z y : ℝ) :
    (z * (1 / (Real.exp (-M) * mass live s b))
      + -(∑ i, x i * (1 / (Real.exp (-M) * mass live s b * (Real.exp (-M) * mass live s b))) * (Real.exp (-M) * raw live s i)))
        * (Real.exp (-M) * y)
      = y / mass live s b * (z - ∑ i, wt live s b i * x i) := by
  have h1 := (mass_pos live s b h).ne'
  have h2 := (Real.exp_pos (-M)).ne'
  have e : (∑ i, x i * (1 / (Real.exp (-M) * mass live s b * (Real.exp (-M) * mass live s b))) * (Real.exp (-M) * raw live s i))
      = (1 / (Real.exp (-M) * mass live s b)) * ∑ i, wt live s b i * x i := by
    rw [Finset.mul_sum]
    refine Finset.sum_congr rfl fun i _ => ?_
    unfold wt; field_simp
  rw [e]
  field_simp
  ring

end Cert.Attn

namespace Cert.Attn

/-! ### The rotation of a head's 64 lanes -/

/-- The lane a lane is rotated with. -/
def part (e : Fin 64) : Fin 64 := if h : e.val < 8 then ⟨e.val + 8, by omega⟩ else if e.val < 16 then ⟨e.val - 8, by omega⟩ else e

/-- The cosine of a lane, one where it is not rotated. -/
def cs (c : ℕ → ℝ) (e : Fin 64) : ℝ := if e.val < 16 then c (e.val % 8) else 1

/-- The signed sine of a lane, zero where it is not rotated. -/
def sg (s : ℕ → ℝ) (e : Fin 64) : ℝ := if e.val < 8 then -s (e.val % 8) else if e.val < 16 then s (e.val % 8) else 0

/-- The rotation of a head. -/
def rot (c s : ℕ → ℝ) (x : Fin 64 → ℝ) (e : Fin 64) : ℝ := x e * cs c e + x (part e) * sg s e

/-- The rotation back. -/
def unrot (c s : ℕ → ℝ) (x : Fin 64 → ℝ) (e : Fin 64) : ℝ := x e * cs c e + x (part e) * -sg s e

/-- The frequency of a pair of lanes, and the angle at a position. -/
def freq (i : ℕ) : ℝ := Real.rpow 500000 (-(i : ℝ) * 2 * (1 / 16))
def co (p i : ℕ) : ℝ := Real.cos ((p : ℝ) * freq i)
def si (p i : ℕ) : ℝ := Real.sin ((p : ℝ) * freq i)

/-! ### One block -/

/-- One block of 128 queries: rotated queries `Q`, the incoming gradient `D`, the 256 rotated keys and values of each of
    the two heads (the previous block's first), the sinks `b`; `first` says that there is no previous block. -/
structure Blk where
  first : Prop
  Q : Fin 16 → Fin 128 → Fin 64 → ℝ
  D : Fin 16 → Fin 128 → Fin 64 → ℝ
  K : Fin 2 → Fin 256 → Fin 64 → ℝ
  V : Fin 2 → Fin 256 → Fin 64 → ℝ
  b : Fin 16 → EReal

/-- The key/value head a query head reads. -/
def grp (h : Fin 16) : Fin 2 := ⟨h.val / 8, by omega⟩

/-- The `u`th query head that reads key/value head `g`. -/
def mem (g : Fin 2) (u : Fin 8) : Fin 16 := ⟨8 * g.val + u.val, by omega⟩

@[simp] theorem grp_mem (g : Fin 2) (u : Fin 8) : grp (mem g u) = g := by
  apply Fin.ext; show (8 * g.val + u.val) / 8 = g.val; omega

open Classical in
/-- Whether the window of query `r` reaches key `j`. -/
def live (first : Prop) (r : Fin 128) (j : Fin 256) : Prop := (j.val ≤ r.val + 128 ∧ r.val < j.val) ∧ (128 ≤ j.val ∨ ¬first)

open Classical in
instance (first : Prop) (r : Fin 128) : DecidablePred (live first r) := fun _ => Classical.propDecidable _

theorem live_own (first : Prop) (r : Fin 128) : ∃ j, live first r j :=
  ⟨⟨r.val + 128, by omega⟩, ⟨by show r.val + 128 ≤ _; omega, by show _ < r.val + 128; omega⟩, .inl (by show 128 ≤ r.val + 128; omega)⟩

namespace Blk

variable (B : Blk)

def score (h : Fin 16) (r : Fin 128) (j : Fin 256) : ℝ := (∑ e, B.Q h r e * B.K (grp h) j e) * (1 / 8)
def w (h : Fin 16) (r : Fin 128) (j : Fin 256) : ℝ := wt (live B.first r) (B.score h r) (B.b h) j
def ws (h : Fin 16) (r : Fin 128) : ℝ := wtSink (live B.first r) (B.score h r) (B.b h)
/-- The gradient of the weights, its mean, and the gradient of the scores. -/
def dp (h : Fin 16) (r : Fin 128) (j : Fin 256) : ℝ := ∑ e, B.D h r e * B.V (grp h) j e
def del (h : Fin 16) (r : Fin 128) : ℝ := ∑ j, B.w h r j * B.dp h r j
def ds (h : Fin 16) (r : Fin 128) (j : Fin 256) : ℝ := B.w h r j * (B.dp h r j - B.del h r)
/-- The gradients of the rotated queries, of the rotated keys, of the values, and this block's part of the sinks'. -/
def dq (h : Fin 16) (r : Fin 128) (e : Fin 64) : ℝ := (∑ j, B.ds h r j * B.K (grp h) j e) * (1 / 8)
def dk (g : Fin 2) (j : Fin 256) (e : Fin 64) : ℝ := (∑ u : Fin 8, ∑ r, B.ds (mem g u) r j * B.Q (mem g u) r e) * (1 / 8)
def dv (g : Fin 2) (j : Fin 256) (e : Fin 64) : ℝ := ∑ u : Fin 8, ∑ r, B.w (mem g u) r j * B.D (mem g u) r e
def dsink (h : Fin 16) : ℝ := -∑ r, B.ws h r * B.del h r

/-- The mean, from the attention's output. -/
theorem del_eq (h : Fin 16) (r : Fin 128) : ∑ e, B.D h r e * (∑ j, B.w h r j * B.V (grp h) j e) = B.del h r := by
  unfold del dp
  simp only [Finset.mul_sum]
  rw [Finset.sum_comm]
  refine Finset.sum_congr rfl fun j _ => Finset.sum_congr rfl fun e _ => ?_
  ring

/-- Two blocks that differ only in keys and values no window reaches. -/
structure Same (B B' : Blk) : Prop where
  first : B.first = B'.first
  Q : B.Q = B'.Q
  D : B.D = B'.D
  b : B.b = B'.b
  K : ∀ g j, (128 ≤ j.val ∨ ¬B.first) → B.K g j = B'.K g j
  V : ∀ g j, (128 ≤ j.val ∨ ¬B.first) → B.V g j = B'.V g j

variable {B} {B' : Blk} (S : Same B B')
include S

theorem score_same (h : Fin 16) (r : Fin 128) (j : Fin 256) (hj : live B.first r j) : B.score h r j = B'.score h r j := by
  unfold score; rw [S.Q, S.K _ j hj.2]

theorem w_same : B.w = B'.w := by
  funext h r j
  have e := wt_congr (live B.first r) (B.score h r) (B.b h) (fun j hj => score_same S h r j hj)
  unfold w
  rw [e, S.b]
  simp only [S.first]

theorem ws_same : B.ws = B'.ws := by
  funext h r
  have e := wtSink_congr (live B.first r) (B.score h r) (B.b h) (fun j hj => score_same S h r j hj)
  unfold ws
  rw [e, S.b]
  simp only [S.first]

theorem w_dead (h : Fin 16) (r : Fin 128) {j : Fin 256} (hj : ¬(128 ≤ j.val ∨ ¬B.first)) : B.w h r j = 0 :=
  wt_dead _ _ _ fun h => hj h.2

theorem dp_same (h : Fin 16) (r : Fin 128) {j : Fin 256} (hj : 128 ≤ j.val ∨ ¬B.first) : B.dp h r j = B'.dp h r j := by
  unfold dp; rw [S.D, S.V _ j hj]

theorem del_same : B.del = B'.del := by
  funext h r
  unfold del
  refine Finset.sum_congr rfl fun j _ => ?_
  by_cases hj : 128 ≤ j.val ∨ ¬B.first
  · rw [w_same S, dp_same S h r hj]
  · rw [← w_same S, w_dead S h r hj, zero_mul, zero_mul]

theorem ds_same : B.ds = B'.ds := by
  funext h r j
  unfold ds
  by_cases hj : 128 ≤ j.val ∨ ¬B.first
  · rw [w_same S, del_same S, dp_same S h r hj]
  · rw [← w_same S, w_dead S h r hj, zero_mul, zero_mul]

theorem ds_dead (h : Fin 16) (r : Fin 128) {j : Fin 256} (hj : ¬(128 ≤ j.val ∨ ¬B.first)) : B.ds h r j = 0 := by
  rw [ds, w_dead S h r hj, zero_mul]

theorem dq_same : B.dq = B'.dq := by
  funext h r e
  unfold dq
  refine congrArg (· * (1 / 8 : ℝ)) (Finset.sum_congr rfl fun j _ => ?_)
  by_cases hj : 128 ≤ j.val ∨ ¬B.first
  · rw [ds_same S, S.K _ j hj]
  · rw [← ds_same S, ds_dead S h r hj, zero_mul, zero_mul]

theorem dk_same : B.dk = B'.dk := by
  funext g j e; unfold dk; rw [ds_same S, S.Q]

theorem dv_same : B.dv = B'.dv := by
  funext g j e; unfold dv; rw [w_same S, S.D]

theorem dsink_same : B.dsink = B'.dsink := by
  funext h; unfold dsink; rw [ws_same S, del_same S]

end Blk

/-! ### Lanes and rows -/

/-- A lane's head within its tile and its place there; a stacked row's head and its query. -/
def hd (l : Fin 128) : Fin 2 := ⟨l.val / 64, by omega⟩
def el (l : Fin 128) : Fin 64 := ⟨l.val % 64, by omega⟩
def hr (y : Fin 256) : Fin 2 := ⟨y.val / 128, by omega⟩
def rr (y : Fin 256) : Fin 128 := ⟨y.val % 128, by omega⟩
def ln (a : Fin 2) (e : Fin 64) : Fin 128 := ⟨64 * a.val + e.val, by omega⟩
def rw2 (a : Fin 2) (r : Fin 128) : Fin 256 := ⟨128 * a.val + r.val, by omega⟩

@[simp] theorem hd_ln (a : Fin 2) (e : Fin 64) : hd (ln a e) = a := Fin.ext (by show (64 * a.val + e.val) / 64 = a.val; omega)
@[simp] theorem el_ln (a : Fin 2) (e : Fin 64) : el (ln a e) = e := Fin.ext (by show (64 * a.val + e.val) % 64 = e.val; omega)
@[simp] theorem hr_rw2 (a : Fin 2) (r : Fin 128) : hr (rw2 a r) = a := Fin.ext (by show (128 * a.val + r.val) / 128 = a.val; omega)
@[simp] theorem rr_rw2 (a : Fin 2) (r : Fin 128) : rr (rw2 a r) = r := Fin.ext (by show (128 * a.val + r.val) % 128 = r.val; omega)

theorem sum_lanes {M : Type} [AddCommMonoid M] (f : Fin 128 → M) : ∑ l, f l = ∑ a : Fin 2, ∑ e : Fin 64, f (ln a e) := by
  rw [Fin.sum_univ_two, show (∑ l, f l) = ∑ l : Fin (64 + 64), f l from rfl, Fin.sum_univ_add]
  refine congrArg₂ (· + ·) (Finset.sum_congr rfl fun e _ => congrArg f (Fin.ext ?_)) (Finset.sum_congr rfl fun e _ => congrArg f (Fin.ext ?_))
  · show e.val = 64 * 0 + e.val; omega
  · show 64 + e.val = 64 * 1 + e.val; omega

theorem sum_rows {M : Type} [AddCommMonoid M] (f : Fin 256 → M) : ∑ l, f l = ∑ a : Fin 2, ∑ r : Fin 128, f (rw2 a r) := by
  rw [Fin.sum_univ_two, show (∑ l, f l) = ∑ l : Fin (128 + 128), f l from rfl, Fin.sum_univ_add]
  refine congrArg₂ (· + ·) (Finset.sum_congr rfl fun e _ => congrArg f (Fin.ext ?_)) (Finset.sum_congr rfl fun e _ => congrArg f (Fin.ext ?_))
  · show e.val = 128 * 0 + e.val; omega
  · show 128 + e.val = 128 * 1 + e.val; omega

end Cert.Attn

end
-- ==== Proof.Words.lean ====
/-
  THE KERNEL'S LANE AND MASK CONDITIONS, read at an index as facts about natural numbers.
-/
module

public import proofs.«01_k».proof.Proof.Model
public import proofs.«01_k».proof.Proof.Spec
public import Idealize.ShloMosaic.Lib.Pointwise
public import Idealize.ShloMosaic.Lib.WordCmp

@[expose] public section

set_option maxRecDepth 16384

noncomputable section

namespace Cert.KernelIdeal.Words

open Cert.KernelIdeal Cert.KernelIdeal.Gen Cert.KernelIdeal.Model Idealize.ShloMosaic Cert.Attn

theorem headLane_apply (r l : Fin 128) : headLane (ix2 r l) = BitVec.ofNat 32 (l.val % 64) := by
  unfold headLane
  pointwise
  revert l; decide +kernel

theorem firstHalf_apply (r l : Fin 128) : firstHalf (ix2 r l) = if (el l).val < 8 then 1#1 else 0#1 := by
  unfold firstHalf
  pointwise
  rw [headLane_apply]
  revert l; decide +kernel

theorem lowLane_apply (r l : Fin 128) : lowLane (ix2 r l) = if hd l = 0 then 1#1 else 0#1 := by
  unfold lowLane
  pointwise
  revert l; decide +kernel

theorem lowLane2_apply (y : Fin 256) (l : Fin 128) : lowLane2 (ix2 y l) = if hd l = 0 then 1#1 else 0#1 := by
  unfold lowLane2
  pointwise
  revert l; decide +kernel

theorem andi_ite (a b : Prop) [Decidable a] [Decidable b] :
    IntOp.andi (if a then 1#1 else 0#1) (if b then 1#1 else 0#1) = if a ∧ b then 1#1 else 0#1 := by
  by_cases ha : a <;> by_cases hb : b <;> simp [ha, hb, IntOp.andi]

theorem ori_ite (a b : Prop) [Decidable a] [Decidable b] :
    IntOp.ori (if a then 1#1 else 0#1) (if b then 1#1 else 0#1) = if a ∨ b then 1#1 else 0#1 := by
  by_cases ha : a <;> by_cases hb : b <;> simp [ha, hb, IntOp.ori]

theorem window_step (k : Fin 384) :
    IntOp.andi (IntOp.cmpi CmpIPredicate.sge (BitVec.ofNat 32 k.val - 128#32) 0#32)
      (IntOp.cmpi CmpIPredicate.slt (BitVec.ofNat 32 k.val - 128#32) 128#32) = if 128 ≤ k.val ∧ k.val < 256 then 1#1 else 0#1 := by
  revert k; decide +kernel

/-- A query and a key are in the window of one another. -/
theorem window (r : Fin 128) (j : Fin 256) :
    IntOp.andi
      (IntOp.cmpi CmpIPredicate.sge
        (IntOp.subi (IntOp.addi (BitVec.ofNat 32 r.val) 128#32) (BitVec.ofNat 32 j.val)) 0#32)
      (IntOp.cmpi CmpIPredicate.slt
        (IntOp.subi (IntOp.addi (BitVec.ofNat 32 r.val) 128#32) (BitVec.ofNat 32 j.val)) 128#32)
      = if j.val ≤ r.val + 128 ∧ r.val < j.val then 1#1 else 0#1 := by
  have h : IntOp.subi (IntOp.addi (BitVec.ofNat 32 r.val) 128#32) (BitVec.ofNat 32 j.val)
      = BitVec.ofNat 32 (r.val + 256 - j.val) - 128#32 := by
    apply BitVec.eq_of_toNat_eq
    simp only [IntOp.subi, IntOp.addi, BitVec.toNat_sub, BitVec.toNat_add, BitVec.toNat_ofNat]
    omega
  rw [h]
  refine (window_step ⟨r.val + 256 - j.val, by omega⟩).trans (if_congr ?_ rfl rfl)
  show 128 ≤ r.val + 256 - j.val ∧ r.val + 256 - j.val < 256 ↔ _
  omega

theorem own_key (j : Fin 256) :
    IntOp.cmpi CmpIPredicate.sge (BitVec.ofNat 32 j.val) 128#32 = if 128 ≤ j.val then 1#1 else 0#1 := by
  revert j; decide +kernel

theorem later_block (t : Fin 64) :
    Scalar.cmpi CmpIPredicate.sgt (BitVec.ofNat 32 t.val) 0#32 = if ¬ t.val = 0 then 1#1 else 0#1 := by
  revert t; decide +kernel

theorem mask_apply (t : Fin 64) (y j : Fin 256) :
    mask (BitVec.ofNat 32 t.val) (ix2 y j) = if live (t.val = 0) (rr y) j then 1#1 else 0#1 := by
  unfold mask
  pointwise
  rw [own_key, later_block, ori_ite]
  by_cases h : y.val < 128
  · have e : y.val = (rr y).val := by simp [rr]; omega
    rw [dif_pos h, e, window, andi_ite]; exact if_congr Iff.rfl rfl rfl
  · have e : y.val - 128 = (rr y).val := by simp [rr]; omega
    rw [dif_neg h, e, window, andi_ite]; exact if_congr Iff.rfl rfl rfl

theorem select_ite {α : Type} (p : Prop) [Decidable p] (a b : α) :
    Scalar.select (if p then 1#1 else 0#1) a b = if p then a else b := by
  split <;> rfl

theorem first_rows (y : Fin 256) :
    IntOp.cmpi CmpIPredicate.slt (BitVec.ofNat 32 y.val) 128#32 = if hr y = 0 then 1#1 else 0#1 := by
  revert y; decide +kernel

theorem sinks_apply {F : FTy → Type} [FloatOps F] (a b : F .f32) (y : Fin 256) :
    sinks a b (ix2 y 0) = if hr y = 0 then a else b := by
  unfold sinks
  pointwise
  rw [first_rows, select_ite]

end Cert.KernelIdeal.Words
-- ==== Proof.Whole.lean ====
/-
  THE WHOLE CALL OVER THE REALS: the blocks' data out of the arguments, and what every element of the results is.
-/
module

public import proofs.«01_k».proof.Proof.Spec

@[expose] public section

noncomputable section

namespace Cert.Attn

/-- A block's data before the rotation: queries and incoming gradient by lane, this block's and the previous block's
    keys and values by lane, the cosines and sines of their positions, the sinks, the block's number. -/
structure Data where
  n : Fin 64
  q : Fin 128 → Fin 1024 → ℝ
  d : Fin 128 → Fin 1024 → ℝ
  kc : Fin 128 → Fin 128 → ℝ
  kp : Fin 128 → Fin 128 → ℝ
  vc : Fin 128 → Fin 128 → ℝ
  vp : Fin 128 → Fin 128 → ℝ
  cC : Fin 128 → ℕ → ℝ
  cP : Fin 128 → ℕ → ℝ
  sC : Fin 128 → ℕ → ℝ
  sP : Fin 128 → ℕ → ℝ
  b : Fin 16 → EReal

/-- A lane of a head among the 1024. -/
def wide (h : Fin 16) (e : Fin 64) : Fin 1024 := ⟨64 * h.val + e.val, by omega⟩

namespace Data

variable (R : Data)

/-- The block of `Proof/Spec.lean`. -/
def blk : Blk where
  first := R.n.val = 0
  Q h r e := rot (R.cC r) (R.sC r) (fun e => R.q r (wide h e)) e
  D h r e := R.d r (wide h e)
  K g j e := if j.val < 128 then rot (R.cP (rr j)) (R.sP (rr j)) (fun e => R.kp (rr j) (ln g e)) e
    else rot (R.cC (rr j)) (R.sC (rr j)) (fun e => R.kc (rr j) (ln g e)) e
  V g j e := if j.val < 128 then R.vp (rr j) (ln g e) else R.vc (rr j) (ln g e)
  b := R.b

end Data

end Cert.Attn

namespace Cert.Attn

/-- Row `r` of block `t`, a row's block and its place there, and the block before (the first block's is itself). -/
def at_ (t : Fin 64) (r : Fin 128) : Fin 8192 := ⟨128 * t.val + r.val, by omega⟩
def tb (y : Fin 8192) : Fin 64 := ⟨y.val / 128, by omega⟩
def ro (y : Fin 8192) : Fin 128 := ⟨y.val % 128, by omega⟩
def before (t : Fin 64) : Fin 64 := ⟨t.val - 1, by omega⟩

@[simp] theorem tb_at (t : Fin 64) (r : Fin 128) : tb (at_ t r) = t := Fin.ext (by show (128 * t.val + r.val) / 128 = t.val; omega)
@[simp] theorem ro_at (t : Fin 64) (r : Fin 128) : ro (at_ t r) = r := Fin.ext (by show (128 * t.val + r.val) % 128 = r.val; omega)
theorem at_tb_ro (y : Fin 8192) : at_ (tb y) (ro y) = y := Fin.ext (by show 128 * (y.val / 128) + y.val % 128 = y.val; omega)

/-- The query head in half `a` of tile `t`. -/
def hof (t : Fin 8) (a : Fin 2) : Fin 16 := ⟨2 * t.val + a.val, by omega⟩

/-- The arguments: queries, keys and values of every position, the incoming gradient, the sinks. -/
structure Whole where
  q : Fin 8192 → Fin 1024 → ℝ
  k : Fin 8192 → Fin 128 → ℝ
  v : Fin 8192 → Fin 128 → ℝ
  d : Fin 8192 → Fin 1024 → ℝ
  b : Fin 16 → EReal

namespace Whole

variable (W : Whole)

/-- A block's data. -/
def data (t : Fin 64) : Data where
  n := t
  q r x := W.q (at_ t r) x
  d r x := W.d (at_ t r) x
  kc r l := W.k (at_ t r) l
  kp r l := W.k (at_ (before t) r) l
  vc r l := W.v (at_ t r) l
  vp r l := W.v (at_ (before t) r) l
  cC r := co (at_ t r).val
  cP r := co (at_ (before t) r).val
  sC r := si (at_ t r).val
  sP r := si (at_ (before t) r).val
  b := W.b

/-- A block. -/
def blk (t : Fin 64) : Blk := (W.data t).blk

/-- The gradient of the queries, by head; of the keys and values, for their own block and for the next block's queries. -/
def dq (y : Fin 8192) (h : Fin 16) (e : Fin 64) : ℝ := unrot (co y.val) (si y.val) ((W.blk (tb y)).dq h (ro y)) e
def dkc (y : Fin 8192) (l : Fin 128) : ℝ := unrot (co y.val) (si y.val) ((W.blk (tb y)).dk (hd l) (rw2 1 (ro y))) (el l)
def dkp (y : Fin 8192) (l : Fin 128) : ℝ :=
  unrot (co (at_ (before (tb y)) (ro y)).val) (si (at_ (before (tb y)) (ro y)).val) ((W.blk (tb y)).dk (hd l) (rw2 0 (ro y))) (el l)
def dvc (y : Fin 8192) (l : Fin 128) : ℝ := (W.blk (tb y)).dv (hd l) (rw2 1 (ro y)) (el l)
def dvp (y : Fin 8192) (l : Fin 128) : ℝ := (W.blk (tb y)).dv (hd l) (rw2 0 (ro y)) (el l)
/-- The gradient of a head's sink. -/
def dsink (h : Fin 16) : ℝ := ∑ t, (W.blk t).dsink h

end Whole

end Cert.Attn
-- ==== Proof.Tile.lean ====
/-
  THE STEPS OF A BLOCK, read at an index over real data: the rotation, the stacking of a tile's two heads, the products,
  the softmax with its sink.
-/
module

public import proofs.«01_k».proof.Proof.Words
public import proofs.«01_k».proof.Proof.Whole

@[expose] public section

set_option maxRecDepth 16384

noncomputable section

namespace Cert.KernelIdeal.Tile

open Cert.KernelIdeal Cert.KernelIdeal.Gen Cert.KernelIdeal.Model Cert.KernelIdeal.Words Idealize.ShloMosaic Cert.Attn

/-! ### The constants -/

theorem eighth_bits : Ideal.ofBits .f32 0x3E000000#32 = ((1 / 8 : ℝ) : EReal) := by
  simp [Ideal.ofBits, Ideal.ieee, -EReal.coe_mul]; norm_num

theorem low_bits : Ideal.ofBits .f32 0xFF800000#32 = ⊥ := by simp [Ideal.ofBits, Ideal.ieee]

theorem far_bits : Ideal.ofBits .f32 0xF149F2CA#32 ≠ ⊤ := by
  simp [Ideal.ofBits, Ideal.ieee, -EReal.coe_mul, EReal.coe_ne_top]

/-! ### The rotation -/

theorem zeros_apply (r l : Fin 128) : (zeros : FVec Ideal S128x128 .f32) (ix2 r l) = 0 := by
  unfold zeros; pointwise

theorem partner (r l : Fin 128) (x : FVec Ideal S128x128 .f32) :
    select firstHalf (dynamicRotate 1 120#32 none x rotates_S128x128_d1) (dynamicRotate 1 8#32 none x rotates_S128x128_d1) (ix2 r l)
      = if (el l).val < 8 then x (ix2 r ⟨(l.val + 128 - 120) % 128, by omega⟩) else x (ix2 r ⟨(l.val + 128 - 8) % 128, by omega⟩) := by
  pointwise
  rw [firstHalf_apply, select_ite]

section
variable {x cT sT : FVec Ideal S128x128 .f32} {X : Fin 128 → Fin 2 → Fin 64 → ℝ} {c s : Fin 128 → ℕ → ℝ}

theorem partner_low {l : Fin 128} (h : (el l).val < 8) : hd ⟨(l.val + 128 - 120) % 128, by omega⟩ = hd l
    ∧ el ⟨(l.val + 128 - 120) % 128, by omega⟩ = part (el l) := by
  have := l.isLt
  have h1 : l.val % 64 < 8 := h
  unfold part hd el
  rw [dif_pos h1]
  constructor <;> apply Fin.ext <;> simp only [] <;> omega

theorem partner_high {l : Fin 128} (h : ¬(el l).val < 8) (h' : (el l).val < 16) : hd ⟨(l.val + 128 - 8) % 128, by omega⟩ = hd l
    ∧ el ⟨(l.val + 128 - 8) % 128, by omega⟩ = part (el l) := by
  have := l.isLt
  have h1 : ¬l.val % 64 < 8 := h
  have h2 : l.val % 64 < 16 := h'
  unfold part hd el
  rw [dif_neg h1, if_pos h2]
  constructor <;> apply Fin.ext <;> simp only [] <;> omega

theorem rope_apply (hx : ∀ r l, x (ix2 r l) = ((X r (hd l) (el l) : ℝ) : EReal))
    (hc : ∀ r l, cT (ix2 r l) = ((cs (c r) (el l) : ℝ) : EReal)) (hs : ∀ r l, sT (ix2 r l) = ((sg (s r) (el l) : ℝ) : EReal))
    (r l : Fin 128) : rope x cT sT (ix2 r l) = ((rot (c r) (s r) (X r (hd l)) (el l) : ℝ) : EReal) := by
  have e : rope x cT sT (ix2 r l) = x (ix2 r l) * cT (ix2 r l)
      + (if (el l).val < 8 then x (ix2 r ⟨(l.val + 128 - 120) % 128, by omega⟩) else x (ix2 r ⟨(l.val + 128 - 8) % 128, by omega⟩))
        * sT (ix2 r l) := by
    unfold rope
    pointwise
    rw [firstHalf_apply, select_ite]
  rw [e, hx, hc, hs]
  unfold rot
  by_cases h : (el l).val < 8
  · rw [if_pos h, hx, (partner_low h).1, (partner_low h).2, ← EReal.coe_mul, ← EReal.coe_mul, ← EReal.coe_add]
  · rw [if_neg h, hx]
    by_cases h' : (el l).val < 16
    · rw [(partner_high h h').1, (partner_high h h').2, ← EReal.coe_mul, ← EReal.coe_mul, ← EReal.coe_add]
    · have e0 : sg (s r) (el l) = 0 := by rw [sg, if_neg h, if_neg h']
      rw [e0, ← EReal.coe_mul, ← EReal.coe_mul, ← EReal.coe_add, mul_zero, mul_zero]

theorem unrope_apply (hx : ∀ r l, x (ix2 r l) = ((X r (hd l) (el l) : ℝ) : EReal))
    (hc : ∀ r l, cT (ix2 r l) = ((cs (c r) (el l) : ℝ) : EReal)) (hs : ∀ r l, sT (ix2 r l) = ((sg (s r) (el l) : ℝ) : EReal))
    (r l : Fin 128) : rope x cT (neg sT) (ix2 r l) = ((unrot (c r) (s r) (X r (hd l)) (el l) : ℝ) : EReal) := by
  have hs' : ∀ r l, neg sT (ix2 r l) = ((sg (fun i => -s r i) (el l) : ℝ) : EReal) := fun r l => by
    have e : neg sT (ix2 r l) = 0 - sT (ix2 r l) := by unfold neg; pointwise; rw [zeros_apply]
    rw [e, hs, ← EReal.coe_zero, ← EReal.coe_sub]
    unfold sg
    congr 1
    split
    · ring
    · split <;> ring
  rw [rope_apply hx hc hs']
  unfold rot unrot sg
  congr 3
  split
  · rfl
  · split
    · rfl
    · ring
end

/-! ### Stacking and the products -/

theorem stack_apply (x : FVec Ideal S128x128 .f32) (y : Fin 256) (l : Fin 128) :
    stack x (ix2 y l) = if hd l = hr y then x (ix2 (rr y) l) else 0 := by
  have e : stack x (ix2 y l) = if h : y.val < 128 then (if hd l = 0 then x (ix2 ⟨y.val, h⟩ l) else 0)
      else (if hd l = 0 then 0 else x (ix2 ⟨y.val - 128, by omega⟩ l)) := by
    unfold stack over
    pointwise
    simp only [zeros_apply, lowLane_apply, select_ite]
  rw [e]
  have hl : hd l = 0 ∨ hd l = 1 := by
    have : (hd l).val < 2 := (hd l).isLt
    rcases (show (hd l).val = 0 ∨ (hd l).val = 1 by omega) with h | h
    · exact .inl (Fin.ext h)
    · exact .inr (Fin.ext h)
  by_cases h : y.val < 128
  · have e1 : hr y = 0 := Fin.ext (by show y.val / 128 = 0; omega)
    have e2 : (⟨y.val, h⟩ : Fin 128) = rr y := Fin.ext (by show y.val = y.val % 128; omega)
    rw [dif_pos h, e1, e2]
  · have e1 : hr y = 1 := Fin.ext (by show y.val / 128 = 1; omega)
    have e2 : (⟨y.val - 128, by omega⟩ : Fin 128) = rr y := Fin.ext (by show y.val - 128 = y.val % 128; omega)
    rw [dif_neg h, e1, e2]
    rcases hl with h0 | h0 <;> simp [h0]

theorem overLanes_apply (a : FVec Ideal S256x128 .f32) (b : FVec Ideal S256x128 .bf16) (y j : Fin 256) :
    overLanes a b (ix2 y j) = ∑ l, a (ix2 y l) * b (ix2 j l) := by
  unfold overLanes
  pointwise

theorem overKeys_apply (a : FVec Ideal S256x256 .f32) (b : FVec Ideal S256x128 .bf16) (y : Fin 256) (l : Fin 128) :
    overKeys a b (ix2 y l) = ∑ j, a (ix2 y j) * b (ix2 j l) := by
  unfold overKeys
  pointwise

theorem overQueries_apply (a : FVec Ideal S256x256 .f32) (b : FVec Ideal S256x128 .f32) (j : Fin 256) (l : Fin 128) :
    overQueries a b (ix2 j l) = ∑ y, a (ix2 y j) * b (ix2 y l) := by
  unfold overQueries
  pointwise

theorem swapped (l : Fin 128) : (⟨(l.val + 128 - 64) % 128, by omega⟩ : Fin 128) = ln (1 - hd l) (el l) := by
  revert l; decide +kernel

theorem same_lane (l : Fin 128) : l = ln (hd l) (el l) := by
  revert l; decide +kernel

theorem hd_cases (l : Fin 128) : hd l = 0 ∨ hd l = 1 := by
  revert l; decide +kernel

theorem dupLow_apply (x : FVec Ideal S256x128 .f32) (j : Fin 256) (l : Fin 128) :
    dupLow x (ix2 j l) = x (ix2 j (ln 0 (el l))) := by
  unfold dupLow swap
  pointwise
  rw [lowLane2_apply, select_ite, swapped]
  split
  · next h => rw [← h, ← same_lane]
  · next h => rw [(hd_cases l).resolve_left h]; rfl

theorem dupHigh_apply (x : FVec Ideal S256x128 .f32) (j : Fin 256) (l : Fin 128) :
    dupHigh x (ix2 j l) = x (ix2 j (ln 1 (el l))) := by
  unfold dupHigh swap
  pointwise
  rw [lowLane2_apply, select_ite, swapped]
  split
  · next h => rw [h]; rfl
  · next h => rw [← (hd_cases l).resolve_left h, ← same_lane]

/-- A stacked row's lanes add up to its own head's. -/
theorem sum_stacked (a : Fin 2) (f : Fin 64 → ℝ) : ∑ l : Fin 128, (if hd l = a then f (el l) else 0) = ∑ e, f e := by
  rw [sum_lanes]
  simp only [hd_ln, el_ln]
  rw [Finset.sum_eq_single a]
  · simp
  · intro b _ hb; simp [hb]
  · simp

/-- A stacked lane's rows add up to its own head's. -/
theorem sum_stacked_rows (a : Fin 2) (f : Fin 2 → Fin 128 → ℝ) :
    ∑ y : Fin 256, (if a = hr y then f (hr y) (rr y) else 0) = ∑ r, f a r := by
  rw [sum_rows]
  simp only [hr_rw2, rr_rw2]
  rw [Finset.sum_eq_single a]
  · simp
  · intro b _ hb; simp [Ne.symm hb]
  · simp

/-! ### The softmax of a row -/

section
variable (k : IVec S256x256 1) (s : FVec Ideal S256x256 .f32) (z : FVec Ideal S256x1 .f32) (y : Fin 256)

theorem top_apply : top k s z (ix2 y 0)
    = max (Finset.fold max (Ideal.ofBits .f32 0xFF800000#32)
        (fun x => Scalar.select (k (ix2 y x)) (s (ix2 y x)) (Ideal.ofBits .f32 0xF149F2CA#32)) Finset.univ) (z (ix2 y 0)) := by
  unfold top masked
  pointwise

theorem expo_apply (j : Fin 256) : expo k s z (ix2 y j)
    = Scalar.select (k (ix2 y j))
      (Ideal.exp (Scalar.select (k (ix2 y j)) (s (ix2 y j)) (Ideal.ofBits .f32 0xF149F2CA#32) - top k s z (ix2 y 0))) 0 := by
  unfold expo masked
  pointwise

theorem expoSink_apply : expoSink k s z (ix2 y 0) = Ideal.exp (z (ix2 y 0) - top k s z (ix2 y 0)) := by
  unfold expoSink
  pointwise

theorem inverse_apply : inverse k s z (ix2 y 0) = Ideal.div 1 (∑ x, expo k s z (ix2 y x) + expoSink k s z (ix2 y 0)) := by
  unfold inverse
  pointwise

theorem prob_apply (j : Fin 256) : prob k s z (ix2 y j) = expo k s z (ix2 y j) * inverse k s z (ix2 y 0) := by
  unfold prob
  pointwise

theorem probSink_apply : probSink k s z (ix2 y 0) = expoSink k s z (ix2 y 0) * inverse k s z (ix2 y 0) := by
  unfold probSink
  pointwise

variable {k s z y} {live : Fin 256 → Prop} [DecidablePred live] {S : Fin 256 → ℝ} {b : EReal}

theorem softmax (hk : ∀ j, k (ix2 y j) = if live j then 1#1 else 0#1) (hs : ∀ j, s (ix2 y j) = ((S j : ℝ) : EReal))
    (hz : z (ix2 y 0) = b) (hb : b ≠ ⊤) (hl : ∃ j, live j) :
    (∀ j, prob k s z (ix2 y j) = ((wt live S b j : ℝ) : EReal)) ∧ probSink k s z (ix2 y 0) = ((wtSink live S b : ℝ) : EReal) := by
  obtain ⟨M, hM⟩ : ∃ M : ℝ, top k s z (ix2 y 0) = (M : EReal) := by
    rw [top_apply, hz]
    refine max_real b (by rw [low_bits]; exact bot_ne_top) (fun j => ?_) ?_ hb
    · rw [hk, select_ite, hs]
      split
      · exact EReal.coe_ne_top _
      · exact far_bits
    · obtain ⟨j, hj⟩ := hl
      exact ⟨j, by rw [hk, select_ite, if_pos hj, hs]; exact EReal.coe_ne_bot _⟩
  have he : ∀ j, expo k s z (ix2 y j) = ((Real.exp (-M) * raw live S j : ℝ) : EReal) := fun j => by
    rw [expo_apply, hM, hk, select_ite, select_ite, hs, ← exp_score]
    split <;> rfl
  have hes : expoSink k s z (ix2 y 0) = ((Real.exp (-M) * sinkExp b : ℝ) : EReal) := by
    rw [expoSink_apply, hM, hz, exp_sub_coe b hb]
  have hi : inverse k s z (ix2 y 0) = ((1 / (Real.exp (-M) * mass live S b) : ℝ) : EReal) := by
    rw [inverse_apply, sum_eq_coe he, hes, ← EReal.coe_add, shifted_mass,
      Ideal.div_coe (shifted_pos live S b M hl).ne', one_mul]
  refine ⟨fun j => ?_, ?_⟩
  · rw [prob_apply, he, hi, ← EReal.coe_mul, shifted_wt live S b M hl]
  · rw [probSink_apply, hes, hi, ← EReal.coe_mul, shifted_wtSink live S b M hl]
end

/-! ### The gradients -/

theorem delta_apply (p : FVec Ideal S256x256 .f32) (d : FVec Ideal S256x128 .f32) (v : FVec Ideal S256x128 .bf16) (y : Fin 256) :
    delta p d v (ix2 y 0) = ∑ l, d (ix2 y l) * overKeys p v (ix2 y l) := by
  unfold delta
  pointwise

theorem dscore_apply (p : FVec Ideal S256x256 .f32) (d : FVec Ideal S256x128 .f32) (v : FVec Ideal S256x128 .bf16) (y j : Fin 256) :
    dscore p d v (ix2 y j) = p (ix2 y j) * (overLanes d v (ix2 y j) - delta p d v (ix2 y 0)) := by
  unfold dscore
  pointwise

theorem upper_apply (x : FVec Ideal S256x128 .f32) (r l : Fin 128) : upper x (ix2 r l) = x (ix2 (rw2 0 r) l) := by
  unfold upper
  pointwise
  exact congrArg (fun a => x (ix2 a l)) (Fin.ext (by show r.val = 128 * 0 + r.val; omega))

theorem lower_apply (x : FVec Ideal S256x128 .f32) (r l : Fin 128) : lower x (ix2 r l) = x (ix2 (rw2 1 r) l) := by
  unfold lower
  pointwise
  exact congrArg (fun a => x (ix2 a l)) (Fin.ext (by show 128 + r.val = 128 * 1 + r.val; omega))

theorem eighth_apply (x : FVec Ideal S128x128 .f32) (r l : Fin 128) : eighth x (ix2 r l) = x (ix2 r l) * ((1 / 8 : ℝ) : EReal) := by
  unfold eighth
  pointwise
  rw [eighth_bits]

/-- A tile's two heads taken out of their stack. -/
theorem unstack_apply (o : FVec Ideal S256x128 .f32) (r l : Fin 128) :
    select lowLane (upper o) (lower o) (ix2 r l) = o (ix2 (rw2 (hd l) r) l) := by
  show Scalar.select (lowLane (ix2 r l)) (upper o (ix2 r l)) (lower o (ix2 r l)) = _
  rw [lowLane_apply, select_ite, upper_apply, lower_apply]
  split
  · next h => rw [h]
  · next h => rw [(hd_cases l).resolve_left h]

theorem low_words (l : Fin 128) :
    IntOp.cmpi CmpIPredicate.slt (BitVec.ofNat 32 l.val) 64#32 = if hd l = 0 then 1#1 else 0#1 := by
  revert l; decide +kernel

theorem sinkRow_apply (ps d2 : FVec Ideal S256x1 .f32) (l : Fin 128) :
    sinkRow ps d2 (ix2 0 l) = 0 - ∑ r, ps (ix2 (rw2 (hd l) r) 0) * d2 (ix2 (rw2 (hd l) r) 0) := by
  unfold sinkRow minusSum
  pointwise
  rw [low_words, select_ite]
  split
  · next h =>
    rw [h]
    have e : ∀ r : Fin 128, (⟨r.val, by omega⟩ : Fin 256) = rw2 0 r := fun r => Fin.ext (by show r.val = 128 * 0 + r.val; omega)
    simp only [e]
  · next h =>
    rw [(hd_cases l).resolve_left h]
    have e : ∀ r : Fin 128, (⟨128 + r.val, by omega⟩ : Fin 256) = rw2 1 r := fun r => Fin.ext (by show 128 + r.val = 128 * 1 + r.val; omega)
    simp only [e]

theorem gather_apply {f : Fin 8 → FVec Ideal S256x128 .f32} {G : Fin 16 → Fin 256 → Fin 64 → ℝ}
    (hf : ∀ t j l, f t (ix2 j l) = ((G (hof t (hd l)) j (el l) : ℝ) : EReal)) (j : Fin 256) (l : Fin 128) :
    Ins.gather f (ix2 j l) = ((∑ u : Fin 8, G (mem (hd l) u) j (el l) : ℝ) : EReal) := by
  unfold Ins.gather Ins.both Ins.four swap
  pointwise
  rw [lowLane2_apply, select_ite]
  simp only [hf, swapped, hd_ln, el_ln, ← EReal.coe_add, Fin.sum_univ_eight]
  split
  · next h =>
    rw [h]
    congr 1
    show G 0 j (el l) + G 2 j (el l) + G 4 j (el l) + G 6 j (el l) + (G 1 j (el l) + G 3 j (el l) + G 5 j (el l) + G 7 j (el l))
      = G 0 j (el l) + G 1 j (el l) + G 2 j (el l) + G 3 j (el l) + G 4 j (el l) + G 5 j (el l) + G 6 j (el l) + G 7 j (el l)
    ring
  · next h =>
    rw [(hd_cases l).resolve_left h]
    congr 1
    show G 9 j (el l) + G 11 j (el l) + G 13 j (el l) + G 15 j (el l) + (G 8 j (el l) + G 10 j (el l) + G 12 j (el l) + G 14 j (el l))
      = G 8 j (el l) + G 9 j (el l) + G 10 j (el l) + G 11 j (el l) + G 12 j (el l) + G 13 j (el l) + G 14 j (el l) + G 15 j (el l)
    ring

end Cert.KernelIdeal.Tile
-- ==== Proof.TableValues.lean ====
/-
  THE TABLES OF THE ROTATION over the reals: the cosine and the signed sine of every position and lane.
-/
module

public import proofs.«01_k».proof.Proof.Host
public import proofs.«01_k».proof.Proof.Tile

@[expose] public section

set_option maxRecDepth 16384

noncomputable section

namespace Cert.KernelIdeal.TableValues

open Cert.KernelIdeal Cert.KernelIdeal.Gen Cert.KernelIdeal.Tables Idealize.ShloMosaic Cert.Attn
open Cert.KernelIdeal.Words (select_ite)

theorem lane_apply (p : Fin 128) : lane (ix1 p) = BitVec.ofNat 32 (p.val % 64) := by
  unfold lane rem
  pointwise
  revert p; decide +kernel

theorem freq_apply (p : Fin 128) : Tables.freq (ix2 p 0) = BitVec.ofNat 32 (p.val % 8) := by
  unfold Tables.freq rem
  pointwise
  rw [lane_apply]
  revert p; decide +kernel

theorem below16 (y : Fin 8192) (p : Fin 128) : below 16#32 (ix2 y p) = if (el p).val < 16 then 1#1 else 0#1 := by
  unfold below
  pointwise
  rw [lane_apply]
  revert p; decide +kernel

theorem below8 (y : Fin 8192) (p : Fin 128) : below 8#32 (ix2 y p) = if (el p).val < 8 then 1#1 else 0#1 := by
  unfold below
  pointwise
  rw [lane_apply]
  revert p; decide +kernel

theorem theta_bits : Ideal.ofBits .f32 0x48F42400#32 = ((500000 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem sixteen_bits : Ideal.ofBits .f32 0x41800000#32 = ((16 : ℝ) : EReal) := by
  simp [Ideal.ofBits, Ideal.ieee, -EReal.coe_mul]; norm_num

/-- A small word's real is its number. -/
theorem word_real (y : Fin 8192) : (FloatOps.sitofp .f32 (BitVec.ofNat 32 y.val) : Ideal .f32) = ((y.val : ℝ) : EReal) := by
  have h : (BitVec.ofNat 32 y.val).toInt = (y.val : ℤ) := WordCmp.toInt_ofNat_of_lt (by omega)
  show (((BitVec.ofNat 32 y.val).toInt : ℝ) : EReal) = _
  rw [h]; simp

theorem inv_apply (i : Fin 8) : (Tables.inv : FVec Ideal S8 .f32) (ix1 i) = ((Cert.Attn.freq i.val : ℝ) : EReal) := by
  unfold Tables.inv
  pointwise
  have h : (FloatOps.sitofp .f32 (BitVec.ofNat 32 i.val) : Ideal .f32) = ((i.val : ℝ) : EReal) := word_real ⟨i.val, by omega⟩
  rw [theta_bits, two_bits, sixteen_bits, h, ← EReal.coe_neg, ← EReal.coe_mul, Ideal.div_coe (by norm_num), ← EReal.coe_mul,
    Ideal.pow_coe_coe]
  rfl

theorem angle_apply (y : Fin 8192) (i : Fin 8) :
    (angle : FVec Ideal S8192x8 .f32) (ix2 y i) = (((y.val : ℝ) * Cert.Attn.freq i.val : ℝ) : EReal) := by
  unfold angle
  pointwise
  rw [inv_apply, word_real y, EReal.coe_mul]

theorem angles_apply (y : Fin 8192) (l : Fin 128) :
    (angles : FVec Ideal S8192x128 .f32) (ix2 y l) = (((y.val : ℝ) * Cert.Attn.freq ((el l).val % 8) : ℝ) : EReal) := by
  rw [← angle_apply y ⟨(el l).val % 8, by omega⟩]
  unfold angles
  unfold Host.gather
  refine congrArg angle (funext fun a => Fin.ext ?_)
  have hs : gather_S8192x8_S128x1_S8192x128_0_1_n_n_1_1_81921.siIdx (ix2 y l) ⟨0, by decide⟩ = ix2 l 0 := by
    funext b; apply Fin.ext
    match b with
    | ⟨0, _⟩ => rfl
    | ⟨1, _⟩ => rfl
  match a with
  | ⟨0, _⟩ =>
    show 0 + 0 + y.val = y.val
    omega
  | ⟨1, _⟩ =>
    show min (Tables.freq (gather_S8192x8_S128x1_S8192x128_0_1_n_n_1_1_81921.siIdx (ix2 y l) ⟨0, _⟩)).toInt.toNat (8 - 1) + 0 + 0 = (el l).val % 8
    rw [hs, freq_apply, WordCmp.toInt_ofNat_of_lt (by omega)]
    show min ((l.val % 8 : ℕ) : ℤ).toNat 7 + 0 + 0 = l.val % 64 % 8
    omega

theorem cosines_apply (y : Fin 8192) (l : Fin 128) :
    (cosines : FVec Ideal S8192x128 .f32) (ix2 y l) = ((cs (co y.val) (el l) : ℝ) : EReal) := by
  unfold cosines
  pointwise
  rw [below16, select_ite, angles_apply, Ideal.cos_coe, ← EReal.coe_one, ← coe_ite]
  rfl

theorem sines_apply (y : Fin 8192) (l : Fin 128) :
    (sines : FVec Ideal S8192x128 .f32) (ix2 y l) = ((sg (si y.val) (el l) : ℝ) : EReal) := by
  unfold sines
  pointwise
  rw [below16, below8, select_ite, select_ite, angles_apply, Ideal.sin_coe, ← EReal.coe_neg, ← EReal.coe_zero, ← coe_ite, ← coe_ite]
  rfl

end Cert.KernelIdeal.TableValues
-- ==== Proof.Values.lean ====
/-
  WHAT ONE BLOCK OF THE KERNEL LEAVES, over real data: the gradients of `Proof/Spec.lean`.
-/
module

public import proofs.«01_k».proof.Proof.Tile
public import proofs.«01_k».proof.Proof.Whole

@[expose] public section

set_option maxRecDepth 16384

noncomputable section

namespace Cert.KernelIdeal.Values

open Cert.KernelIdeal Cert.KernelIdeal.Gen Cert.KernelIdeal.Model Cert.KernelIdeal.Words Cert.KernelIdeal.Tile
open Idealize.ShloMosaic Cert.Attn

/-- The block's inputs hold the data. -/
structure Holds (I : Ins Ideal) (R : Data) : Prop where
  n : I.n = BitVec.ofNat 32 R.n.val
  q : ∀ r l, I.q (ix2 r l) = ((R.q r l : ℝ) : EReal)
  d : ∀ r l, I.d (ix2 r l) = ((R.d r l : ℝ) : EReal)
  kc : ∀ r l, I.kc (ix2 r l) = ((R.kc r l : ℝ) : EReal)
  kp : ∀ r l, I.kp (ix2 r l) = ((R.kp r l : ℝ) : EReal)
  vc : ∀ r l, I.vc (ix2 r l) = ((R.vc r l : ℝ) : EReal)
  vp : ∀ r l, I.vp (ix2 r l) = ((R.vp r l : ℝ) : EReal)
  cC : ∀ r l, I.cosC (ix2 r l) = ((cs (R.cC r) (el l) : ℝ) : EReal)
  cP : ∀ r l, I.cosP (ix2 r l) = ((cs (R.cP r) (el l) : ℝ) : EReal)
  sC : ∀ r l, I.sinC (ix2 r l) = ((sg (R.sC r) (el l) : ℝ) : EReal)
  sP : ∀ r l, I.sinP (ix2 r l) = ((sg (R.sP r) (el l) : ℝ) : EReal)
  b : ∀ h, I.sink (ix2 0 h) = R.b h
  top : ∀ h, R.b h ≠ ⊤

variable {I : Ins Ideal} {R : Data} (H : Holds I R)
include H

theorem cosC (r l : Fin 128) : I.cosC' (ix2 r l) = ((cs (R.cC r) (el l) : ℝ) : EReal) := by
  unfold Ins.cosC'; rw [shapeCast_self]; exact H.cC r l
theorem cosP (r l : Fin 128) : I.cosP' (ix2 r l) = ((cs (R.cP r) (el l) : ℝ) : EReal) := by
  unfold Ins.cosP'; rw [shapeCast_self]; exact H.cP r l
theorem sinC (r l : Fin 128) : I.sinC' (ix2 r l) = ((sg (R.sC r) (el l) : ℝ) : EReal) := by
  unfold Ins.sinC'; rw [shapeCast_self]; exact H.sC r l
theorem sinP (r l : Fin 128) : I.sinP' (ix2 r l) = ((sg (R.sP r) (el l) : ℝ) : EReal) := by
  unfold Ins.sinP'; rw [shapeCast_self]; exact H.sP r l

omit H in
theorem over_apply (a b : FVec Ideal S128x128 .f32) (j : Fin 256) (l : Fin 128) :
    over a b (ix2 j l) = if j.val < 128 then a (ix2 (rr j) l) else b (ix2 (rr j) l) := by
  have e : over a b (ix2 j l) = if h : j.val < 128 then a (ix2 ⟨j.val, h⟩ l) else b (ix2 ⟨j.val - 128, by omega⟩ l) := by
    unfold over; pointwise
  rw [e]
  by_cases h : j.val < 128
  · rw [dif_pos h, if_pos h]; exact congrArg (fun a' => a (ix2 a' l)) (Fin.ext (by show j.val = j.val % 128; omega))
  · rw [dif_neg h, if_neg h]; exact congrArg (fun a' => b (ix2 a' l)) (Fin.ext (by show j.val - 128 = j.val % 128; omega))

omit H in
theorem lane_split (x : Fin 128 → ℝ) (l : Fin 128) : x l = x (ln (hd l) (el l)) := congrArg x (same_lane l)

theorem keys (j : Fin 256) (l : Fin 128) : I.keys (ix2 j l) = ((R.blk.K (hd l) j (el l) : ℝ) : EReal) := by
  unfold Ins.keys
  rw [over_apply,
    rope_apply (X := fun r g e => R.kp r (ln g e)) (fun r l => by rw [H.kp, lane_split (R.kp r)]) (cosP H) (sinP H),
    rope_apply (X := fun r g e => R.kc r (ln g e)) (fun r l => by rw [H.kc, lane_split (R.kc r)]) (cosC H) (sinC H), ← coe_ite]
  rfl

theorem vals (j : Fin 256) (l : Fin 128) : I.vals (ix2 j l) = ((R.blk.V (hd l) j (el l) : ℝ) : EReal) := by
  unfold Ins.vals
  rw [over_apply, H.vp, H.vc, ← coe_ite, lane_split (R.vp (rr j)), lane_split (R.vc (rr j))]
  rfl

omit H in
theorem grp_hof (t : Fin 8) (a : Fin 2) : grp (hof t a) = if t.val < 4 then 0 else 1 := by
  revert t a; decide +kernel

omit H in
theorem dup {x : FVec Ideal S256x128 .f32} {X : Fin 2 → Fin 256 → Fin 64 → ℝ}
    (hx : ∀ j l, x (ix2 j l) = ((X (hd l) j (el l) : ℝ) : EReal)) (t : Fin 8) (a : Fin 2) (j : Fin 256) (l : Fin 128) :
    (if t.val < 4 then dupLow x else dupHigh x) (ix2 j l) = ((X (grp (hof t a)) j (el l) : ℝ) : EReal) := by
  rw [grp_hof]
  split
  · rw [dupLow_apply, hx, hd_ln, el_ln]
  · rw [dupHigh_apply, hx, hd_ln, el_ln]

theorem kd (t : Fin 8) (a : Fin 2) (j : Fin 256) (l : Fin 128) :
    I.kd t (ix2 j l) = ((R.blk.K (grp (hof t a)) j (el l) : ℝ) : EReal) := dup (keys H) t a j l

theorem vd (t : Fin 8) (a : Fin 2) (j : Fin 256) (l : Fin 128) :
    I.vd t (ix2 j l) = ((R.blk.V (grp (hof t a)) j (el l) : ℝ) : EReal) := dup (vals H) t a j l

omit H in
theorem tile_apply (x : Vec Ideal S128x1024 .f32) (t : Fin 8) (r l : Fin 128) :
    Ins.tile x t (ix2 r l) = x (ix2 r (wide (hof t (hd l)) (el l))) := by
  unfold Ins.tile
  pointwise
  refine congrArg (fun a => x (ix2 r a)) (Fin.ext ?_)
  show 128 * t.val + l.val = 64 * (2 * t.val + l.val / 64) + l.val % 64
  omega

theorem q2 (t : Fin 8) (y : Fin 256) (l : Fin 128) :
    I.q2 t (ix2 y l) = (((if hd l = hr y then R.blk.Q (hof t (hr y)) (rr y) (el l) * (1 / 8) else 0 : ℝ)) : EReal) := by
  unfold Ins.q2 query
  rw [stack_apply, eighth_apply,
    rope_apply (X := fun r a e => R.q r (wide (hof t a) e)) (fun r l => by rw [tile_apply, H.q]) (cosC H) (sinC H), ← EReal.coe_mul,
    ← EReal.coe_zero, ← coe_ite]
  congr 1
  by_cases h : hd l = hr y
  · rw [if_pos h, if_pos h, h]; rfl
  · rw [if_neg h, if_neg h]

theorem d2 (t : Fin 8) (y : Fin 256) (l : Fin 128) :
    I.d2 t (ix2 y l) = (((if hd l = hr y then R.blk.D (hof t (hr y)) (rr y) (el l) else 0 : ℝ)) : EReal) := by
  unfold Ins.d2
  rw [stack_apply, tile_apply, H.d, ← EReal.coe_zero, ← coe_ite]
  congr 1
  by_cases h : hd l = hr y
  · rw [if_pos h, if_pos h, h]; rfl
  · rw [if_neg h, if_neg h]

omit H in
/-- A stacked row's product over the lanes is its own head's. -/
theorem stacked_dot (a : Fin 2) (f g : Fin 64 → ℝ) :
    ∑ l : Fin 128, (if hd l = a then f (el l) else 0) * g (el l) = ∑ e, f e * g e := by
  rw [← sum_stacked a fun e => f e * g e]
  refine Finset.sum_congr rfl fun l _ => ?_
  rw [ite_mul, zero_mul]

theorem score (t : Fin 8) (y j : Fin 256) : I.score t (ix2 y j) = ((R.blk.score (hof t (hr y)) (rr y) j : ℝ) : EReal) := by
  unfold Ins.score
  rw [overLanes_apply, dot_eq_coe (q2 H t y) (kd H t (hr y) j),
    stacked_dot (hr y) (fun e => R.blk.Q (hof t (hr y)) (rr y) e * (1 / 8)) (fun e => R.blk.K (grp (hof t (hr y))) j e)]
  unfold Blk.score
  rw [Finset.sum_mul]
  congr 1
  exact Finset.sum_congr rfl fun e _ => by ring

theorem sinkAt (h : Fin 16) : I.sinkAt h = R.b h := by
  rw [← H.b]
  unfold Ins.sinkAt
  have e : (Shape.Idx.first (show 0 < S1x1.numel by decide) : S1x1.Idx) = ix2 0 0 := by
    funext a; fin_cases a <;> rfl
  rw [e]
  pointwise
  trace_state

theorem sink2 (t : Fin 8) (y : Fin 256) : I.sink2 t (ix2 y 0) = R.b (hof t (hr y)) := by
  unfold Ins.sink2
  rw [sinks_apply, sinkAt H, sinkAt H]
  have : hr y = 0 ∨ hr y = 1 := by revert y; decide +kernel
  rcases this with h | h <;> rw [h] <;> rfl

theorem weights (t : Fin 8) (y : Fin 256) :
    (∀ j, I.p t (ix2 y j) = ((R.blk.w (hof t (hr y)) (rr y) j : ℝ) : EReal))
      ∧ I.ps t (ix2 y 0) = ((R.blk.ws (hof t (hr y)) (rr y) : ℝ) : EReal) :=
  softmax (fun j => by rw [H.n]; exact mask_apply R.n y j) (score H t y) (sink2 H t y) (H.top _) (live_own _ _)

theorem del (t : Fin 8) (y : Fin 256) : I.del t (ix2 y 0) = ((R.blk.del (hof t (hr y)) (rr y) : ℝ) : EReal) := by
  unfold Ins.del
  rw [delta_apply, dot_eq_coe (d2 H t y) (fun l => by
      rw [overKeys_apply, dot_eq_coe (weights H t y).1 (fun j => vd H t (hr y) j l)]),
    stacked_dot (hr y) (fun e => R.blk.D (hof t (hr y)) (rr y) e)
      (fun e => ∑ j, R.blk.w (hof t (hr y)) (rr y) j * R.blk.V (grp (hof t (hr y))) j e), Blk.del_eq]

theorem ds (t : Fin 8) (y j : Fin 256) : I.ds t (ix2 y j) = ((R.blk.ds (hof t (hr y)) (rr y) j : ℝ) : EReal) := by
  have e := del H t y
  unfold Ins.del at e
  unfold Ins.ds
  rw [dscore_apply, e, overLanes_apply, dot_eq_coe (d2 H t y) (vd H t (hr y) j),
    stacked_dot (hr y) (fun e => R.blk.D (hof t (hr y)) (rr y) e) (fun e => R.blk.V (grp (hof t (hr y))) j e), (weights H t y).1,
    ← EReal.coe_sub, ← EReal.coe_mul]
  rfl

/-- The queries' gradient. -/
theorem dq (t : Fin 8) (r l : Fin 128) :
    I.dq t (ix2 r l) = ((unrot (R.cC r) (R.sC r) (R.blk.dq (hof t (hd l)) r) (el l) : ℝ) : EReal) := by
  refine unrope_apply (X := fun r a e => R.blk.dq (hof t a) r e) (fun r l => ?_) (cosC H) (sinC H) r l
  rw [eighth_apply, unstack_apply, overKeys_apply, dot_eq_coe (ds H t _) (fun j => kd H t (hd l) j l), ← EReal.coe_mul]
  rw [hr_rw2, rr_rw2]
  rfl

/-- The sinks' gradient. -/
theorem drow (t : Fin 8) (l : Fin 128) : I.drow t (ix2 0 l) = ((R.blk.dsink (hof t (hd l)) : ℝ) : EReal) := by
  unfold Ins.drow
  rw [sinkRow_apply, dot_eq_coe (fun r => (weights H t _).2) (fun r => del H t _), ← EReal.coe_zero, ← EReal.coe_sub]
  simp only [hr_rw2, rr_rw2]
  rw [zero_sub]
  rfl

omit H in
/-- A product over the stacked queries is its own head's. -/
theorem stacked_rows (a : Fin 2) (f g : Fin 2 → Fin 128 → ℝ) :
    ∑ y : Fin 256, f (hr y) (rr y) * (if a = hr y then g (hr y) (rr y) else 0) = ∑ r, f a r * g a r := by
  rw [← sum_stacked_rows a fun a r => f a r * g a r]
  refine Finset.sum_congr rfl fun l _ => ?_
  rw [mul_ite, mul_zero]

/-- The gradient of the 256 rotated keys. -/
theorem dk2 (j : Fin 256) (l : Fin 128) : I.dk2 (ix2 j l) = ((R.blk.dk (hd l) j (el l) : ℝ) : EReal) := by
  unfold Ins.dk2
  rw [gather_apply (G := fun h j e => ∑ r, R.blk.ds h r j * (R.blk.Q h r e * (1 / 8))) (fun t j l => ?_)]
  · unfold Blk.dk
    congr 1
    simp only [Finset.sum_mul]
    exact Finset.sum_congr rfl fun u _ => Finset.sum_congr rfl fun r _ => by ring
  · rw [overQueries_apply, dot_eq_coe (fun y => ds H t y j) (fun y => q2 H t y l),
      stacked_rows (hd l) (fun a r => R.blk.ds (hof t a) r j) (fun a r => R.blk.Q (hof t a) r (el l) * (1 / 8))]

/-- The gradient of the 256 values. -/
theorem dv2 (j : Fin 256) (l : Fin 128) : I.dv2 (ix2 j l) = ((R.blk.dv (hd l) j (el l) : ℝ) : EReal) := by
  unfold Ins.dv2
  rw [gather_apply (G := fun h j e => ∑ r, R.blk.w h r j * R.blk.D h r e) (fun t j l => ?_)]
  · rfl
  · rw [overQueries_apply, dot_eq_coe (fun y => (weights H t y).1 j) (fun y => d2 H t y l),
      stacked_rows (hd l) (fun a r => R.blk.w (hof t a) r j) (fun a r => R.blk.D (hof t a) r (el l))]

/-- The gradients of this block's and of the previous block's keys and values. -/
theorem dkc (r l : Fin 128) :
    I.dkc (ix2 r l) = ((unrot (R.cC r) (R.sC r) (R.blk.dk (hd l) (rw2 1 r)) (el l) : ℝ) : EReal) :=
  unrope_apply (X := fun r a e => R.blk.dk a (rw2 1 r) e) (fun r l => by rw [lower_apply, dk2 H]) (cosC H) (sinC H) r l
theorem dkp (r l : Fin 128) :
    I.dkp (ix2 r l) = ((unrot (R.cP r) (R.sP r) (R.blk.dk (hd l) (rw2 0 r)) (el l) : ℝ) : EReal) :=
  unrope_apply (X := fun r a e => R.blk.dk a (rw2 0 r) e) (fun r l => by rw [upper_apply, dk2 H]) (cosP H) (sinP H) r l
theorem dvc (r l : Fin 128) : I.dvc (ix2 r l) = ((R.blk.dv (hd l) (rw2 1 r) (el l) : ℝ) : EReal) := by
  unfold Ins.dvc; rw [lower_apply, dv2 H]
theorem dvp (r l : Fin 128) : I.dvp (ix2 r l) = ((R.blk.dv (hd l) (rw2 0 r) (el l) : ℝ) : EReal) := by
  unfold Ins.dvp; rw [upper_apply, dv2 H]

end Cert.KernelIdeal.Values
-- ==== Proof.Results.lean ====
/-
  WHAT THE KERNEL'S RESULTS HOLD over real arguments: the gradients of `Proof/Whole.lean`, element by element.
-/
module

public import proofs.«01_k».proof.Proof.Arrays
public import proofs.«01_k».proof.Proof.TableValues
public import proofs.«01_k».proof.Proof.Values

@[expose] public section

set_option maxRecDepth 16384

noncomputable section

namespace Cert.KernelIdeal.Results

open Cert.KernelIdeal Cert.KernelIdeal.Gen Cert.KernelIdeal.Model Cert.KernelIdeal.Arrays Cert.KernelIdeal.TableValues
open Idealize.ShloMosaic Idealize.ShloMosaic.TcCoe Idealize.SL.Sem Cert.Attn
open Cert.KernelIdeal.Values (Holds)

/-- The arguments are these reals; no sink is `+∞`. -/
structure Args (z : Vec Ideal S8192x6400 .f32) (d : Vec Ideal S8192x1024 .f32) (s : Vec Ideal S1x16 .f32) (W : Whole) : Prop where
  q : ∀ y x, z (ix2 y (qcol x)) = ((W.q y x : ℝ) : EReal)
  k : ∀ y l, z (ix2 y (kcol l)) = ((W.k y l : ℝ) : EReal)
  v : ∀ y l, z (ix2 y (vcol l)) = ((W.v y l : ℝ) : EReal)
  d : ∀ y x, d (ix2 y x) = ((W.d y x : ℝ) : EReal)
  b : ∀ h, s (ix2 0 h) = W.b h
  top : ∀ h, W.b h ≠ ⊤

variable {m : (ℓ : Loc nD τ sig) → Buf (Elt Ideal) ℓ} {c : Dev nD} {W : Whole}
  (A : Args (m ((c : Thread nD τ).loc main_arg0)) (m ((c : Thread nD τ).loc main_arg1)) (m ((c : Thread nD τ).loc main_arg2)) W)
include A

theorem holds (t : Fin 64) : Holds (blockIns m c t) (W.data t) where
  n := block_n m c t
  q r l := (block_q m c t r l).trans (A.q _ _)
  d r l := (block_d m c t r l).trans (A.d _ _)
  kc r l := (block_kc m c t r l).trans (A.k _ _)
  kp r l := (block_kp m c t r l).trans (A.k _ _)
  vc r l := (block_vc m c t r l).trans (A.v _ _)
  vp r l := (block_vp m c t r l).trans (A.v _ _)
  cC r l := (block_cosC m c t r l).trans (cosines_apply _ _)
  cP r l := (block_cosP m c t r l).trans (cosines_apply _ _)
  sC r l := (block_sinC m c t r l).trans (sines_apply _ _)
  sP r l := (block_sinP m c t r l).trans (sines_apply _ _)
  b h := (block_sink m c t 0 h).trans (A.b _)
  top := A.top

theorem out_12 (y : Fin 8192) (l : Fin 128) :
    ((dats m 0 c).arrAt 12 cfg0.N : Vec Ideal S8192x128 .f32) (ix2 y l) = ((W.dkc y l : ℝ) : EReal) := by
  obtain ⟨t, r, rfl⟩ : ∃ t r, y = row t r := ⟨tb y, ro y, (at_tb_ro y).symm⟩
  rw [final_12, Values.dkc (holds A t)]
  show _ = ((W.dkc (at_ t r) l : ℝ) : EReal)
  unfold Whole.dkc
  rw [tb_at, ro_at]
  rfl

theorem out_13 (y : Fin 8192) (l : Fin 128) :
    ((dats m 0 c).arrAt 13 cfg0.N : Vec Ideal S8192x128 .f32) (ix2 y l) = ((W.dkp y l : ℝ) : EReal) := by
  obtain ⟨t, r, rfl⟩ : ∃ t r, y = row t r := ⟨tb y, ro y, (at_tb_ro y).symm⟩
  rw [final_13, Values.dkp (holds A t)]
  show _ = ((W.dkp (at_ t r) l : ℝ) : EReal)
  unfold Whole.dkp
  rw [tb_at, ro_at]
  rfl

theorem out_14 (y : Fin 8192) (l : Fin 128) :
    ((dats m 0 c).arrAt 14 cfg0.N : Vec Ideal S8192x128 .f32) (ix2 y l) = ((W.dvc y l : ℝ) : EReal) := by
  obtain ⟨t, r, rfl⟩ : ∃ t r, y = row t r := ⟨tb y, ro y, (at_tb_ro y).symm⟩
  rw [final_14, Values.dvc (holds A t)]
  show _ = ((W.dvc (at_ t r) l : ℝ) : EReal)
  unfold Whole.dvc
  rw [tb_at, ro_at]
  rfl

theorem out_15 (y : Fin 8192) (l : Fin 128) :
    ((dats m 0 c).arrAt 15 cfg0.N : Vec Ideal S8192x128 .f32) (ix2 y l) = ((W.dvp y l : ℝ) : EReal) := by
  obtain ⟨t, r, rfl⟩ : ∃ t r, y = row t r := ⟨tb y, ro y, (at_tb_ro y).symm⟩
  rw [final_15, Values.dvp (holds A t)]
  show _ = ((W.dvp (at_ t r) l : ℝ) : EReal)
  unfold Whole.dvp
  rw [tb_at, ro_at]
  rfl

theorem out_11 (y : Fin 8192) (h : Fin 16) (e : Fin 64) :
    ((dats m 0 c).arrAt 11 cfg0.N : Vec Ideal S8192x6400 .bf16) (ix2 y (qcol (wide h e))) = ((W.dq y h e : ℝ) : EReal) := by
  obtain ⟨t, r, rfl⟩ : ∃ t r, y = row t r := ⟨tb y, ro y, (at_tb_ro y).symm⟩
  obtain ⟨u, a, rfl⟩ : ∃ u a, h = hof u a :=
    ⟨⟨h.val / 2, by omega⟩, ⟨h.val % 2, by omega⟩, Fin.ext (by show h.val = 2 * (h.val / 2) + h.val % 2; omega)⟩
  have e1 : wide (hof u a) e = lane8 u (ln a e) :=
    Fin.ext (by show 64 * (2 * u.val + a.val) + e.val = 128 * u.val + (64 * a.val + e.val); omega)
  rw [e1, final_11, Values.dq (holds A t), hd_ln, el_ln]
  show _ = ((W.dq (at_ t r) (hof u a) e : ℝ) : EReal)
  unfold Whole.dq
  rw [tb_at, ro_at]
  rfl

theorem drows_apply (t : Fin 64) (u : Fin 8) (l : Fin 128) :
    (blockIns m c t).drows (ix2 u l) = (((W.blk t).dsink (hof u (hd l)) : ℝ) : EReal) := by
  have e : (blockIns m c t).drows (ix2 u l) = (blockIns m c t).drow u (ix2 0 l) := by
    unfold Ins.drows
    pointwise
    fin_cases u <;> rfl
  rw [e, Values.drow (holds A t)]
  rfl

theorem chain_apply (u : Fin 8) (l : Fin 128) : ∀ (n : ℕ) (h : n < 64),
    chain m c n h (ix2 u l) = ((∑ t ∈ Finset.univ.filter (fun t : Fin 64 => t.val ≤ n), (W.blk t).dsink (hof u (hd l)) : ℝ) : EReal)
  | 0, h => by
    have e : (Finset.univ.filter fun t : Fin 64 => t.val ≤ 0) = {⟨0, h⟩} := by
      ext t
      simp only [Finset.mem_filter, Finset.mem_univ, true_and, Finset.mem_singleton, Fin.ext_iff]
      omega
    rw [e, Finset.sum_singleton]
    unfold chain
    show Ideal.ofBits .f32 0x00000000#32 + (blockIns m c ⟨0, h⟩).drows (ix2 u l) = _
    rw [drows_apply A, Ideal.ofBits_zero_f32, zero_add]
  | n + 1, h => by
    have e : (Finset.univ.filter fun t : Fin 64 => t.val ≤ n + 1)
        = insert ⟨n + 1, h⟩ (Finset.univ.filter fun t : Fin 64 => t.val ≤ n) := by
      ext t
      simp only [Finset.mem_filter, Finset.mem_univ, true_and, Finset.mem_insert, Fin.ext_iff]
      omega
    rw [e, Finset.sum_insert (by simp)]
    unfold chain
    show chain m c n _ (ix2 u l) + (blockIns m c ⟨n + 1, h⟩).drows (ix2 u l) = _
    rw [drows_apply A, chain_apply u l n _, ← EReal.coe_add, add_comm]

theorem out_16 (u : Fin 8) (l : Fin 128) :
    ((dats m 0 c).arrAt 16 cfg0.N : Vec Ideal S8x128 .f32) (ix2 u l) = ((W.dsink (hof u (hd l)) : ℝ) : EReal) := by
  rw [final_16, chain_apply A]
  unfold Whole.dsink
  congr 1

end Cert.KernelIdeal.Results
-- ==== Proof.RefTables.lean ====
/-
  THE REFERENCE'S ARGUMENTS AND ROTATION over the reals: its tables of cosines and sines, and the rotated queries and keys.
-/
module

public import proofs.«01_k».proof.Proof.Gen.ReferenceIdeal.Read
public import proofs.«01_k».proof.Proof.Whole
public import proofs.«01_k».proof.Proof.TableValues

@[expose] public section

set_option maxRecDepth 16384

noncomputable section

namespace Cert.ReferenceIdeal.Stage

open Cert.ReferenceIdeal Cert.ReferenceIdeal.Gen Cert.ReferenceIdeal.Read Idealize.ShloMosaic Cert.Attn
open Cert.KernelIdeal.TableValues (theta_bits two_bits sixteen_bits word_real)

/-- The arguments are these reals; no sink is `+∞`. -/
structure Args (x0 : Vec Ideal S8192x6400 .f32) (x1 : Vec Ideal S8192x1024 .f32) (x2 : Vec Ideal S1x16 .f32) (W : Whole) : Prop where
  q : ∀ y (x : Fin 1024), x0 (ix2 y ⟨x.val, by omega⟩) = ((W.q y x : ℝ) : EReal)
  k : ∀ y (l : Fin 128), x0 (ix2 y ⟨1024 + l.val, by omega⟩) = ((W.k y l : ℝ) : EReal)
  v : ∀ y (l : Fin 128), x0 (ix2 y ⟨1152 + l.val, by omega⟩) = ((W.v y l : ℝ) : EReal)
  d : ∀ y (x : Fin 1024), x1 (ix2 y x) = ((W.d y x : ℝ) : EReal)
  b : ∀ h : Fin 16, x2 (ix2 0 h) = W.b h
  top : ∀ h, W.b h ≠ ⊤

/-! ### The tables -/

/-- The angle of a position and a pair of lanes, as the reference writes it. -/
theorem angle (y : Fin 8192) (i : Fin 8) :
    (FloatOps.sitofp .f32 (BitVec.ofNat 32 y.val) : Ideal .f32)
      * Ideal.pow (Ideal.ofBits .f32 0x48F42400#32)
          (Ideal.div (-(FloatOps.sitofp .f32 (BitVec.ofNat 32 i.val) : Ideal .f32) * Ideal.ofBits .f32 0x40000000#32)
            (Ideal.ofBits .f32 0x41800000#32))
      = (((y.val : ℝ) * freq i.val : ℝ) : EReal) := by
  have h : (FloatOps.sitofp .f32 (BitVec.ofNat 32 i.val) : Ideal .f32) = ((i.val : ℝ) : EReal) := word_real ⟨i.val, by omega⟩
  rw [theta_bits, two_bits, sixteen_bits, h, word_real y, ← EReal.coe_neg, ← EReal.coe_mul, Ideal.div_coe (by norm_num),
    ← EReal.coe_mul, Ideal.pow_coe_coe, ← EReal.coe_mul]
  rfl

theorem cosQ (y : Fin 8192) (i : Fin 8) :
    val_main_v21 (F := Ideal) (ix3 y (0 : Fin 1) i) = ((co y.val i.val : ℝ) : EReal) := by
  pointwise [val_main_v21, val_main_v20, val_main_v19, val_main_v18, val_main_v17, val_main_v16, val_main_v15,
    val_main_v14, val_main_v13, val_main_v12, val_main_v11, val_main_v10, val_main_v9, val_main_v8,
    val_main_v7, val_main_v6, val_main_v4, val_main_cst, val_main_cst_0, val_main_cst_1]
  rw [angle, Ideal.cos_coe]; rfl

theorem sinQ (y : Fin 8192) (i : Fin 8) :
    val_main_v23 (F := Ideal) (ix3 y (0 : Fin 1) i) = ((si y.val i.val : ℝ) : EReal) := by
  pointwise [val_main_v23, val_main_v22, val_main_v19, val_main_v18, val_main_v17, val_main_v16, val_main_v15,
    val_main_v14, val_main_v13, val_main_v12, val_main_v11, val_main_v10, val_main_v9, val_main_v8,
    val_main_v7, val_main_v6, val_main_v4, val_main_cst, val_main_cst_0, val_main_cst_1]
  rw [angle, Ideal.sin_coe]; rfl

theorem cosK (y : Fin 8192) (i : Fin 8) :
    val_main_v56 (F := Ideal) (ix3 y (0 : Fin 1) i) = ((co y.val i.val : ℝ) : EReal) := by
  pointwise [val_main_v56, val_main_v55, val_main_v54, val_main_v53, val_main_v52, val_main_v51, val_main_v50,
    val_main_v49, val_main_v48, val_main_v47, val_main_v46, val_main_v45, val_main_v44, val_main_v43,
    val_main_v42, val_main_v41, val_main_v4, val_main_cst_2, val_main_cst_3, val_main_cst_4]
  rw [angle, Ideal.cos_coe]; rfl

theorem sinK (y : Fin 8192) (i : Fin 8) :
    val_main_v58 (F := Ideal) (ix3 y (0 : Fin 1) i) = ((si y.val i.val : ℝ) : EReal) := by
  pointwise [val_main_v58, val_main_v57, val_main_v54, val_main_v53, val_main_v52, val_main_v51, val_main_v50,
    val_main_v49, val_main_v48, val_main_v47, val_main_v46, val_main_v45, val_main_v44, val_main_v43,
    val_main_v42, val_main_v41, val_main_v4, val_main_cst_2, val_main_cst_3, val_main_cst_4]
  rw [angle, Ideal.sin_coe]; rfl

theorem cosN (y : Fin 8192) (i : Fin 8) :
    val_main_v91 (F := Ideal) (ix3 y (0 : Fin 1) i) = ((co y.val i.val : ℝ) : EReal) := by
  pointwise [val_main_v91, val_main_v90, val_main_v89, val_main_v88, val_main_v87, val_main_v86, val_main_v85,
    val_main_v84, val_main_v83, val_main_v82, val_main_v81, val_main_v80, val_main_v79, val_main_v78,
    val_main_v77, val_main_v76, val_main_v4, val_main_cst_5, val_main_cst_6, val_main_cst_7]
  rw [angle, Ideal.cos_coe]; rfl

theorem sinN (y : Fin 8192) (i : Fin 8) :
    val_main_v93 (F := Ideal) (ix3 y (0 : Fin 1) i) = ((si y.val i.val : ℝ) : EReal) := by
  pointwise [val_main_v93, val_main_v92, val_main_v89, val_main_v88, val_main_v87, val_main_v86, val_main_v85,
    val_main_v84, val_main_v83, val_main_v82, val_main_v81, val_main_v80, val_main_v79, val_main_v78,
    val_main_v77, val_main_v76, val_main_v4, val_main_cst_5, val_main_cst_6, val_main_cst_7]
  rw [angle, Ideal.sin_coe]; rfl

/-! ### The rotation -/

/-- The reference's rotation of a head is the one of `Proof/Spec.lean`. -/
theorem rotated {f : Fin 64 → EReal} {X : Fin 64 → ℝ} {cT sT : Fin 8 → EReal} {c s : ℕ → ℝ}
    (hf : ∀ e, f e = ((X e : ℝ) : EReal)) (hc : ∀ i, cT i = ((c i.val : ℝ) : EReal)) (hs : ∀ i, sT i = ((s i.val : ℝ) : EReal))
    (e : Fin 64) :
    (if h : e.val < 16 then
        if h' : e.val < 8 then f ⟨e.val, e.isLt⟩ * cT ⟨e.val, h'⟩ - f ⟨8 + e.val, by omega⟩ * sT ⟨e.val, h'⟩
        else f ⟨8 + (e.val - 8), by omega⟩ * cT ⟨e.val - 8, by omega⟩ + f ⟨e.val - 8, by omega⟩ * sT ⟨e.val - 8, by omega⟩
      else f ⟨16 + (e.val - 16), by omega⟩) = ((rot c s X e : ℝ) : EReal) := by
  simp only [hf, hc, hs, ← EReal.coe_mul, ← EReal.coe_sub, ← EReal.coe_add]
  unfold rot cs sg part
  by_cases h : e.val < 16
  · by_cases h' : e.val < 8
    · rw [dif_pos h, dif_pos h', if_pos h, if_pos h', dif_pos h', Nat.mod_eq_of_lt h',
        show (⟨8 + e.val, _⟩ : Fin 64) = ⟨e.val + 8, by omega⟩ from Fin.ext (Nat.add_comm _ _)]
      congr 1; ring
    · rw [dif_pos h, dif_neg h', if_pos h, if_neg h', if_pos h, dif_neg h', if_pos h,
        show (⟨8 + (e.val - 8), _⟩ : Fin 64) = e from Fin.ext (by show 8 + (e.val - 8) = e.val; omega),
        show e.val % 8 = e.val - 8 by omega]
  · have h' : ¬ e.val < 8 := by omega
    rw [dif_neg h, if_neg h, if_neg h', if_neg h, dif_neg h', if_neg h,
      show (⟨16 + (e.val - 16), _⟩ : Fin 64) = e from Fin.ext (by show 16 + (e.val - 16) = e.val; omega)]
    congr 1; ring

/-- The reference's derivative of the rotation is the rotation back. -/
theorem unrotated {f : Fin 64 → EReal} {X : Fin 64 → ℝ} {cT sT : Fin 8 → EReal} {c s : ℕ → ℝ}
    (hf : ∀ e, f e = ((X e : ℝ) : EReal)) (hc : ∀ i, cT i = ((c i.val : ℝ) : EReal)) (hs : ∀ i, sT i = ((s i.val : ℝ) : EReal))
    (e : Fin 64) :
    (if h : 16 ≤ e.val ∧ e.val - 16 < 48 then f ⟨16 + (e.val - 16), by omega⟩ else 0)
      + (if h : e.val < 16 then
          (if h' : 8 ≤ e.val ∧ e.val - 8 < 8 then
            f ⟨8 + (e.val - 8), by omega⟩ * cT ⟨e.val - 8, h'.2⟩ + -f ⟨e.val - 8, by omega⟩ * sT ⟨e.val - 8, h'.2⟩ else 0)
          + (if h' : e.val < 8 then f ⟨8 + e.val, by omega⟩ * sT ⟨e.val, h'⟩ + f ⟨e.val, e.isLt⟩ * cT ⟨e.val, h'⟩ else 0)
        else 0)
      = ((unrot c s X e : ℝ) : EReal) := by
  simp only [hf, hc, hs, ← EReal.coe_mul, ← EReal.coe_neg, ← EReal.coe_add]
  unfold unrot cs sg part
  by_cases h : e.val < 16
  · by_cases h' : e.val < 8
    · rw [dif_neg (by omega), dif_pos h, dif_neg (by omega), dif_pos h', if_pos h, if_pos h', dif_pos h', Nat.mod_eq_of_lt h',
        show (⟨8 + e.val, _⟩ : Fin 64) = ⟨e.val + 8, by omega⟩ from Fin.ext (Nat.add_comm _ _), zero_add, zero_add]
      congr 1; ring
    · rw [dif_neg (by omega), dif_pos h, dif_pos (by omega), dif_neg h', if_pos h, if_neg h', if_pos h, dif_neg h', if_pos h,
        show (⟨8 + (e.val - 8), _⟩ : Fin 64) = e from Fin.ext (by show 8 + (e.val - 8) = e.val; omega),
        show e.val % 8 = e.val - 8 by omega, zero_add, add_zero]
      congr 1; ring
  · have h' : ¬ e.val < 8 := by omega
    rw [dif_pos (by omega), dif_neg h, if_neg h, if_neg h', if_neg h, dif_neg h', if_neg h,
      show (⟨16 + (e.val - 16), _⟩ : Fin 64) = e from Fin.ext (by show 16 + (e.val - 16) = e.val; omega), add_zero]
    congr 1; ring

variable {x0 : Vec Ideal S8192x6400 .f32} {x1 : Vec Ideal S8192x1024 .f32} {x2 : Vec Ideal S1x16 .f32} {W : Whole}
  (A : Args x0 x1 x2 W)
include A

theorem queries (y : Fin 8192) (h : Fin 16) (e : Fin 64) : val_main_v5 x0 (ix3 y h e) = ((W.q y (wide h e) : ℝ) : EReal) := by
  pointwise [val_main_v5, val_main_v0]
  rw [← A.q]
  exact congrArg (fun c => x0 (ix2 y c)) (Fin.ext (by show h.val * 64 + e.val = 64 * h.val + e.val; omega))

theorem keys (y : Fin 8192) (g : Fin 2) (e : Fin 64) : val_main_v40 x0 (ix3 y g e) = ((W.k y (ln g e) : ℝ) : EReal) := by
  pointwise [val_main_v40, val_main_v1]
  rw [← A.k]
  exact congrArg (fun c => x0 (ix2 y c)) (Fin.ext (by show 1024 + (g.val * 64 + e.val) = 1024 + (64 * g.val + e.val); omega))

theorem keysNext (y : Fin 8192) (g : Fin 2) (e : Fin 64) : val_main_v75 x0 (ix3 y g e) = ((W.k y (ln g e) : ℝ) : EReal) := by
  pointwise [val_main_v75, val_main_v1]
  rw [← A.k]
  exact congrArg (fun c => x0 (ix2 y c)) (Fin.ext (by show 1024 + (g.val * 64 + e.val) = 1024 + (64 * g.val + e.val); omega))

theorem rotQ (y : Fin 8192) (h : Fin 16) (e : Fin 64) :
    val_main_v39 x0 (ix3 y h e) = ((rot (co y.val) (si y.val) (fun e => W.q y (wide h e)) e : ℝ) : EReal) := by
  pointwise [val_main_v39, val_main_v38, val_main_v37, val_main_v36, val_main_v35, val_main_v34, val_main_v33,
    val_main_v32, val_main_v31, val_main_v30, val_main_v29, val_main_v28, val_main_v27, val_main_v26,
    val_main_v25, val_main_v24]
  exact rotated (f := fun e => val_main_v5 x0 (ix3 y h e)) (queries A y h) (cosQ y) (sinQ y) e

theorem rotK (y : Fin 8192) (g : Fin 2) (e : Fin 64) :
    val_main_v74 x0 (ix3 y g e) = ((rot (co y.val) (si y.val) (fun e => W.k y (ln g e)) e : ℝ) : EReal) := by
  pointwise [val_main_v74, val_main_v73, val_main_v72, val_main_v71, val_main_v70, val_main_v69, val_main_v68,
    val_main_v67, val_main_v66, val_main_v65, val_main_v64, val_main_v63, val_main_v62, val_main_v61,
    val_main_v60, val_main_v59]
  exact rotated (f := fun e => val_main_v40 x0 (ix3 y g e)) (keys A y g) (cosK y) (sinK y) e

theorem rotN (y : Fin 8192) (g : Fin 2) (e : Fin 64) :
    val_main_v109 x0 (ix3 y g e) = ((rot (co y.val) (si y.val) (fun e => W.k y (ln g e)) e : ℝ) : EReal) := by
  pointwise [val_main_v109, val_main_v108, val_main_v107, val_main_v106, val_main_v105, val_main_v104, val_main_v103,
    val_main_v102, val_main_v101, val_main_v100, val_main_v99, val_main_v98, val_main_v97, val_main_v96,
    val_main_v95, val_main_v94]
  exact rotated (f := fun e => val_main_v75 x0 (ix3 y g e)) (keysNext A y g) (cosN y) (sinN y) e

end Cert.ReferenceIdeal.Stage

end
-- ==== Proof.RefScores.lean ====
/-
  THE REFERENCE'S BLOCKS over the reals: rotated queries, keys and values of every block, the window's mask, the scores and
  the gradient of the softmax's weights.
-/
module

public import proofs.«01_k».proof.Proof.RefTables
public import proofs.«01_k».proof.Proof.Words

@[expose] public section

set_option maxRecDepth 16384

noncomputable section

namespace Cert.Attn.Whole

variable (W : Whole)

/-- A block as the reference has it: the first block's missing keys and values are zeros. -/
def rblk (t : Fin 64) : Blk where
  first := t.val = 0
  Q := (W.blk t).Q
  D := (W.blk t).D
  K g j e := if j.val < 128 ∧ t.val = 0 then 0 else (W.blk t).K g j e
  V g j e := if j.val < 128 ∧ t.val = 0 then 0 else (W.blk t).V g j e
  b := W.b

theorem rblk_same (t : Fin 64) : Blk.Same (W.blk t) (W.rblk t) where
  first := rfl
  Q := rfl
  D := rfl
  b := rfl
  K g j h := by
    funext e
    refine (if_neg fun hj => ?_).symm
    rcases h with h | h
    · omega
    · exact h hj.2
  V g j h := by
    funext e
    refine (if_neg fun hj => ?_).symm
    rcases h with h | h
    · omega
    · exact h hj.2

end Cert.Attn.Whole

namespace Cert.ReferenceIdeal.Stage

open Cert.ReferenceIdeal Cert.ReferenceIdeal.Gen Cert.ReferenceIdeal.Read Idealize.ShloMosaic Cert.Attn
open Cert.KernelIdeal.Words (window andi_ite select_ite)

/-! ### The mask -/

/-- Whether a key's position is not before the first. -/
theorem present_step (k : Fin 8448) :
    IntOp.cmpi CmpIPredicate.sge (BitVec.ofNat 32 k.val - 128#32) 0#32 = if 128 ≤ k.val then 1#1 else 0#1 := by
  revert k; decide +kernel

theorem present (t : Fin 64) (j : Fin 256) :
    IntOp.cmpi CmpIPredicate.sge
      (IntOp.addi (IntOp.subi (IntOp.muli (BitVec.ofNat 32 t.val) 128#32) 128#32) (BitVec.ofNat 32 j.val)) 0#32
      = if 128 ≤ j.val ∨ ¬ t.val = 0 then 1#1 else 0#1 := by
  have h : IntOp.addi (IntOp.subi (IntOp.muli (BitVec.ofNat 32 t.val) 128#32) 128#32) (BitVec.ofNat 32 j.val)
      = BitVec.ofNat 32 (t.val * 128 + j.val) - 128#32 := by
    apply BitVec.eq_of_toNat_eq
    simp only [IntOp.subi, IntOp.addi, IntOp.muli, BitVec.toNat_sub, BitVec.toNat_add, BitVec.toNat_mul, BitVec.toNat_ofNat]
    omega
  rw [h]
  refine (present_step ⟨t.val * 128 + j.val, by omega⟩).trans (if_congr ?_ rfl rfl)
  show 128 ≤ t.val * 128 + j.val ↔ _
  omega

theorem mask (t : Fin 64) (r : Fin 128) (j : Fin 256) :
    val_main_v160 (F := Ideal) (ix3 t r j) = if live (t.val = 0) r j then 1#1 else 0#1 := by
  pointwise [val_main_v160, val_main_v159, val_main_v158, val_main_v157, val_main_v156, val_main_v155, val_main_v154, val_main_v153,
    val_main_v152, val_main_v151, val_main_v150, val_main_v149, val_main_v148, val_main_v147, val_main_v146, val_main_v145,
    val_main_v144, val_main_v143, val_main_v142, val_main_v141, val_main_v140, val_main_v139, val_main_v138, val_main_v137,
    val_main_v136, val_main_v135, val_main_v134, val_main_v133, val_main_v132, val_main_v131, val_main_v130, val_main_c,
    val_main_c_12, val_main_c_13, val_main_c_14, val_main_c_15, val_main_c_16]
  rw [present, window, andi_ite]
  exact if_congr Iff.rfl rfl rfl

/-! ### The blocks -/

variable {x0 : Vec Ideal S8192x6400 .f32} {x1 : Vec Ideal S8192x1024 .f32} {x2 : Vec Ideal S1x16 .f32} {W : Whole}
  (A : Args x0 x1 x2 W)
include A

theorem blockQ (t : Fin 64) (r : Fin 128) (g : Fin 2) (u : Fin 8) (e : Fin 64) :
    val_main_v112 x0 (ix5 t r g u e) = (((W.rblk t).Q (mem g u) r e : ℝ) : EReal) := by
  pointwise [val_main_v112]
  rw [show (⟨t.val * 128 + r.val, _⟩ : Fin 8192) = at_ t r from Fin.ext (by show t.val * 128 + r.val = 128 * t.val + r.val; omega),
    show (⟨g.val * 8 + u.val, _⟩ : Fin 16) = mem g u from Fin.ext (by show g.val * 8 + u.val = 8 * g.val + u.val; omega), rotQ A]
  rfl

/-- The row a place of the previous block reads. -/
theorem row_before {t : Fin 64} {j : Fin 256} (h : j.val < 128) (ht : ¬ t.val = 0) (p : t.val * 128 + j.val - 128 < 8192) :
    (⟨t.val * 128 + j.val - 128, p⟩ : Fin 8192) = at_ (before t) (rr j) :=
  Fin.ext (by show t.val * 128 + j.val - 128 = 128 * (t.val - 1) + j.val % 128; omega)

theorem row_own {t : Fin 64} {j : Fin 256} (h : ¬ j.val < 128) (p : t.val * 128 + (j.val - 128) < 8192) :
    (⟨t.val * 128 + (j.val - 128), p⟩ : Fin 8192) = at_ t (rr j) :=
  Fin.ext (by show t.val * 128 + (j.val - 128) = 128 * t.val + j.val % 128; omega)

theorem blockK (t : Fin 64) (j : Fin 256) (g : Fin 2) (e : Fin 64) :
    val_main_v121 x0 (ix4 t j g e) = (((W.rblk t).K g j e : ℝ) : EReal) := by
  pointwise [val_main_v121, val_main_v120, val_main_v119, val_main_v118, val_main_v114, val_main_v113, val_main_cst_8]
  by_cases h : j.val < 128
  · rw [dif_pos h]
    by_cases ht : t.val = 0
    · rw [dif_pos (by omega)]
      show (0 : EReal) = ((if j.val < 128 ∧ t.val = 0 then 0 else _ : ℝ) : EReal)
      rw [if_pos ⟨h, ht⟩]; rfl
    · rw [dif_neg (by omega), row_before A h ht, rotN A]
      show _ = ((if j.val < 128 ∧ t.val = 0 then 0 else (if j.val < 128 then _ else _) : ℝ) : EReal)
      rw [if_neg (fun c => ht c.2), if_pos h]
      rfl
  · rw [dif_neg h, row_own A h, rotK A]
    show _ = ((if j.val < 128 ∧ t.val = 0 then 0 else (if j.val < 128 then _ else _) : ℝ) : EReal)
    rw [if_neg (fun c => h c.1), if_neg h]
    rfl

theorem value (y : Fin 8192) (g : Fin 2) (e : Fin 64) (p : 1152 + (g.val * 64 + e.val) < 6400) :
    x0 (ix2 y ⟨1152 + (g.val * 64 + e.val), p⟩) = ((W.v y (ln g e) : ℝ) : EReal) := by
  rw [← A.v]
  exact congrArg (fun c => x0 (ix2 y c)) (Fin.ext (by show 1152 + (g.val * 64 + e.val) = 1152 + (64 * g.val + e.val); omega))

theorem blockV (t : Fin 64) (j : Fin 256) (g : Fin 2) (e : Fin 64) :
    val_main_v125 x0 (ix4 t j g e) = (((W.rblk t).V g j e : ℝ) : EReal) := by
  pointwise [val_main_v125, val_main_v124, val_main_v123, val_main_v122, val_main_v116, val_main_v113, val_main_v110, val_main_v111,
    val_main_v2, val_main_cst_8]
  by_cases h : j.val < 128
  · rw [dif_pos h]
    by_cases ht : t.val = 0
    · rw [dif_pos (by omega)]
      show (0 : EReal) = ((if j.val < 128 ∧ t.val = 0 then 0 else _ : ℝ) : EReal)
      rw [if_pos ⟨h, ht⟩]; rfl
    · rw [dif_neg (by omega), row_before A h ht, value A]
      show _ = ((if j.val < 128 ∧ t.val = 0 then 0 else (if j.val < 128 then _ else _) : ℝ) : EReal)
      rw [if_neg (fun c => ht c.2), if_pos h]
      rfl
  · rw [dif_neg h, row_own A h, value A]
    show _ = ((if j.val < 128 ∧ t.val = 0 then 0 else (if j.val < 128 then _ else _) : ℝ) : EReal)
    rw [if_neg (fun c => h c.1), if_neg h]
    rfl

/-! ### The scores, and the gradient of the weights -/

omit A in
theorem eight_bits : Ideal.ofBits .f32 0x41000000#32 = ((8 : ℝ) : EReal) := by
  simp [Ideal.ofBits, Ideal.ieee, -EReal.coe_mul]; norm_num

theorem scores (t : Fin 64) (g : Fin 2) (u : Fin 8) (r : Fin 128) (j : Fin 256) :
    val_main_v129 x0 (ix5 t g u r j) = (((W.rblk t).score (mem g u) r j : ℝ) : EReal) := by
  pointwise [val_main_v129, val_main_v128, val_main_v127, val_main_v126, val_main_cst_11]
  rw [dot_eq_coe (fun e => blockK A t j g e) (fun e => blockQ A t r g u e), eight_bits, Ideal.div_coe (by norm_num), ← EReal.coe_mul]
  unfold Blk.score
  rw [grp_mem]
  simp only [mul_comm]

theorem blockD (t : Fin 64) (r : Fin 128) (g : Fin 2) (u : Fin 8) (e : Fin 64)
    (p : t.val * 128 + r.val < 8192) (p' : g.val * 512 + u.val * 64 + e.val < 1024) :
    x1 (ix2 ⟨t.val * 128 + r.val, p⟩ ⟨g.val * 512 + u.val * 64 + e.val, p'⟩) = (((W.rblk t).D (mem g u) r e : ℝ) : EReal) := by
  rw [show (⟨t.val * 128 + r.val, _⟩ : Fin 8192) = at_ t r from Fin.ext (by show t.val * 128 + r.val = 128 * t.val + r.val; omega),
    show (⟨g.val * 512 + u.val * 64 + e.val, _⟩ : Fin 1024) = wide (mem g u) e from
      Fin.ext (by show g.val * 512 + u.val * 64 + e.val = 64 * (8 * g.val + u.val) + e.val; omega), A.d]
  rfl

/-- The gradient of the weights, with the sink's, which is zero. -/
theorem dweights (t : Fin 64) (g : Fin 2) (u : Fin 8) (r : Fin 128) (j : Fin 257) :
    val_main_v204 x0 x1 (ix5 t g u r j)
      = ((if h : j.val < 256 then (W.rblk t).dp (mem g u) r ⟨j.val, h⟩ else 0 : ℝ) : EReal) := by
  pointwise [val_main_v204, val_main_v201, val_main_v200, val_main_v199, val_main_cst_28]
  by_cases h : j.val < 256
  · rw [dif_pos h, dif_pos h, dot_eq_coe (fun e => blockD A t r g u e _ _) (fun e => blockV A t ⟨j.val, h⟩ g e)]
    unfold Blk.dp
    rw [grp_mem]
  · rw [dif_neg h, dif_neg h]
    simp [Ideal.ofBits, Ideal.ieee]

end Cert.ReferenceIdeal.Stage

end
-- ==== Proof.RefSoftmax.lean ====
/-
  THE REFERENCE'S SOFTMAX and its derivative over the reals: the weights, the gradient of the scores and of the sinks' entries.
-/
module

public import proofs.«01_k».proof.Proof.RefScores

@[expose] public section

set_option maxRecDepth 16384

noncomputable section

namespace Cert.Attn

open Idealize.ShloMosaic

/-- A greatest element of an array none of whose elements is `+∞` and one of which is not `−∞` is real. -/
theorem greatest_real {s t u : Shape} {axes : List (Fin s.rank)} (x : s.Idx → EReal) (init : u.Idx → EReal) (h : s.ReducesTo axes t)
    (hu : 0 < u.numel) (j : t.Idx) (hi : init (Shape.Idx.first hu) ≠ ⊤) (hx : ∀ i, x i ≠ ⊤) (i : s.Idx) (hd : h.drop i = j)
    (hb : x i ≠ ⊥) (b : EReal) (ht : b ≠ ⊤) :
    ∃ M : ℝ, FloatOps.maximumf (F := Ideal) (φ := .f32) b
      (Host.reduce (FloatOps.maximumf (F := Ideal) (φ := .f32)) x init h hu j) = (M : EReal) := by
  rw [Ideal.maximumf_eq_max, Host.reduce_eq_fold]
  generalize hS : Finset.univ.filter (fun i => h.drop i = j) = S
  have hiS : i ∈ S := by rw [← hS]; exact Finset.mem_filter.mpr ⟨Finset.mem_univ _, hd⟩
  have h1 : max b (S.fold max (init (Shape.Idx.first hu)) x) ≠ ⊤ := by
    refine (max_lt (lt_top_iff_ne_top.mpr ht) ?_).ne
    rw [Finset.fold_max_lt]
    exact ⟨lt_top_iff_ne_top.mpr hi, fun j _ => lt_top_iff_ne_top.mpr (hx j)⟩
  have h2 : max b (S.fold max (init (Shape.Idx.first hu)) x) ≠ ⊥ := by
    refine ((bot_lt_iff_ne_bot.mpr hb).trans_le (le_max_of_le_right ?_)).ne'
    rw [Finset.le_fold_max]
    exact .inr ⟨i, hiS, le_rfl⟩
  exact ⟨_, (EReal.coe_toReal h1 h2).symm⟩

variable (live : Fin 256 → Prop) [DecidablePred live] (s : Fin 256 → ℝ) (b : EReal)

/-- A row's exponentials with its sink's last. -/
def rawAll (j : Fin 257) : ℝ := if h : j.val < 256 then raw live s ⟨j.val, h⟩ else sinkExp b

theorem rawAll_castSucc (j : Fin 256) : rawAll live s b j.castSucc = raw live s j := dif_pos j.isLt
theorem rawAll_mk (j : Fin 256) (p : j.val < 257) : rawAll live s b ⟨j.val, p⟩ = raw live s j := dif_pos j.isLt
theorem rawAll_last : rawAll live s b (Fin.last 256) = sinkExp b := dif_neg (by simp)

theorem rawAll_sum (M : ℝ) : ∑ j, Real.exp (-M) * rawAll live s b j = Real.exp (-M) * mass live s b := by
  rw [Fin.sum_univ_castSucc, rawAll_last]
  simp only [rawAll_castSucc]
  exact shifted_mass live s b M

theorem exp_row (hb : b ≠ ⊤) (M : ℝ) (j : Fin 257) :
    Ideal.exp ((if h : j.val < 256 then (if live ⟨j.val, h⟩ then ((s ⟨j.val, h⟩ : ℝ) : EReal) else ⊥) else b) - (M : EReal))
      = ((Real.exp (-M) * rawAll live s b j : ℝ) : EReal) := by
  unfold rawAll
  by_cases h : j.val < 256
  · rw [dif_pos h, dif_pos h, ← exp_score]
    split
    · rfl
    · simp
  · rw [dif_neg h, dif_neg h, exp_sub_coe b hb]

/-- The derivative of the quotient, with the sink's entry last. -/
theorem grad_row (hl : ∃ j, live j) (M : ℝ) (x : Fin 256 → ℝ) (y z : ℝ) (E : ℝ) (hE : E = Real.exp (-M) * mass live s b) :
    (z * (1 / E) + ∑ _ : Fin 1, -∑ k : Fin 257, (if h : k.val < 256 then x ⟨k.val, h⟩ else 0) * (1 / (E * E))
        * (Real.exp (-M) * rawAll live s b k)) * (Real.exp (-M) * y)
      = y / mass live s b * (z - ∑ i, wt live s b i * x i) := by
  subst hE
  rw [Fin.sum_univ_one, Fin.sum_univ_castSucc, rawAll_last, dif_neg (by simp), zero_mul, zero_mul, add_zero]
  rw [← shifted_grad live s b M hl x z y]
  congr 3

end Cert.Attn

namespace Cert.ReferenceIdeal.Stage

open Cert.ReferenceIdeal Cert.ReferenceIdeal.Gen Cert.ReferenceIdeal.Read Idealize.ShloMosaic Cert.Attn
open Cert.KernelIdeal.Words (select_ite)
open Cert.KernelIdeal.Tile (low_bits)

theorem zero_bits : Ideal.ofBits .f32 0x00000000#32 = 0 := by simp [Ideal.ofBits, Ideal.ieee]
theorem masked (i : S_.Idx) : val_main_call0_v0 (F := Ideal) i = (⊥ : EReal) := low_bits

variable {x0 : Vec Ideal S8192x6400 .f32} {x1 : Vec Ideal S8192x1024 .f32} {x2 : Vec Ideal S1x16 .f32} {W : Whole}
  (A : Args x0 x1 x2 W)
include A

/-- A row of scores with its sink last. -/
theorem row (t : Fin 64) (g : Fin 2) (u : Fin 8) (r : Fin 128) (j : Fin 257) :
    val_main_v166 x0 x2 (ix5 t g u r j)
      = if h : j.val < 256 then
          (if live (t.val = 0) r ⟨j.val, h⟩ then (((W.rblk t).score (mem g u) r ⟨j.val, h⟩ : ℝ) : EReal) else ⊥)
        else W.b (mem g u) := by
  pointwise [val_main_v166, val_main_v165, val_main_v164, val_main_v163, val_main_v3, val_main_v162_0, val_main_v162_1, val_main_v161,
    val_main_call0_v2]
  by_cases h : j.val < 256
  · rw [dif_pos h, dif_pos h, mask, select_ite, scores A, masked]
  · rw [dif_neg h, dif_neg h, ← A.b]
    exact congrArg (fun c => x2 (ix2 0 c)) (Fin.ext (by show g.val * 8 + u.val = 8 * g.val + u.val; omega))

theorem row_top (i : S64x2x8x128x257.Idx) : val_main_v166 x0 x2 i ≠ ⊤ := by
  have h : ∀ t g u r j, val_main_v166 x0 x2 (ix5 t g u r j) ≠ ⊤ := fun t g u r j => by
    rw [row A]
    split
    · split
      · exact EReal.coe_ne_top _
      · exact bot_ne_top
    · exact A.top _
  have e : i = ix5 (i 0) (i 1) (i 2) (i 3) (i 4) := by
    funext a; match a with | ⟨0, _⟩ => rfl | ⟨1, _⟩ => rfl | ⟨2, _⟩ => rfl | ⟨3, _⟩ => rfl | ⟨4, _⟩ => rfl
  rw [e]
  exact h (i 0) (i 1) (i 2) (i 3) (i 4)

omit A in
theorem shift_eq (i : S64x2x8x128.Idx) : val_main_v174 x0 x2 i
    = FloatOps.maximumf (F := Ideal) (φ := .f32) (val_main_v173 (F := Ideal) i) (val_main_v167 x0 x2 i) := val_main_v174_apply x0 x2 i

omit A in
theorem greatest_eq (i : S64x2x8x128.Idx) : val_main_v167 x0 x2 i
    = Host.reduce (FloatOps.maximumf (F := Ideal) (φ := .f32)) (val_main_v166 x0 x2) (val_main_cst_18 (F := Ideal))
        reducesTo_S64x2x8x128x257_S64x2x8x128_d4 h_S_ i := by
  unfold val_main_v167; rfl

omit A in
theorem drop_last (t : Fin 64) (g : Fin 2) (u : Fin 8) (r : Fin 128) (k : Fin 257) :
    reducesTo_S64x2x8x128x257_S64x2x8x128_d4.drop (ix5 t g u r k) = ix4 t g u r := by
  funext a; match a with | ⟨0, _⟩ => rfl | ⟨1, _⟩ => rfl | ⟨2, _⟩ => rfl | ⟨3, _⟩ => rfl

omit A in
theorem start_top : val_main_cst_18 (F := Ideal) (Shape.Idx.first h_S_) ≠ (⊤ : EReal) := by
  have h : val_main_cst_18 (F := Ideal) (Shape.Idx.first h_S_) = Ideal.ofBits .f32 0xFF800000#32 := val_main_cst_18_apply _
  rw [h, low_bits]; exact bot_ne_top

omit A in
theorem least_top (i : S64x2x8x128.Idx) : val_main_v173 (F := Ideal) i ≠ (⊤ : EReal) := by
  have h : val_main_v173 (F := Ideal) i = Ideal.ofBits .f32 0xFF800000#32 := (val_main_v173_apply i).trans (val_main_cst_20_apply _)
  rw [h, low_bits]; exact bot_ne_top

theorem own_bot (t : Fin 64) (g : Fin 2) (u : Fin 8) (r : Fin 128) :
    val_main_v166 x0 x2 (ix5 t g u r (⟨r.val + 128, by omega⟩ : Fin 257)) ≠ ⊥ := by
  rw [row A, dif_pos (show r.val + 128 < 256 by omega),
    if_pos ⟨⟨by show r.val + 128 ≤ _; omega, by show _ < r.val + 128; omega⟩, .inl (by show 128 ≤ r.val + 128; omega)⟩]
  exact EReal.coe_ne_bot _

/-- A row's shift is real. -/
theorem shift (t : Fin 64) (g : Fin 2) (u : Fin 8) (r : Fin 128) :
    ∃ M : ℝ, val_main_v174 x0 x2 (ix4 t g u r) = (M : EReal) := by
  rw [shift_eq, greatest_eq]
  exact greatest_real (val_main_v166 x0 x2) _ reducesTo_S64x2x8x128x257_S64x2x8x128_d4 h_S_ (ix4 t g u r) start_top
    (row_top A) _ (drop_last t g u r _) (own_bot A t g u r) _ (least_top _)

/-- A row's exponentials and what they add up to. -/
theorem exps (t : Fin 64) (g : Fin 2) (u : Fin 8) (r : Fin 128) :
    ∃ M : ℝ, (∀ j : Fin 257, val_main_v187 x0 x2 (ix5 t g u r j)
        = ((Real.exp (-M) * rawAll (live (t.val = 0) r) ((W.rblk t).score (mem g u) r) (W.b (mem g u)) j : ℝ) : EReal))
      ∧ val_main_v189 x0 x2 (ix5 t g u r (0 : Fin 1))
        = ((Real.exp (-M) * mass (live (t.val = 0) r) ((W.rblk t).score (mem g u) r) (W.b (mem g u)) : ℝ) : EReal) := by
  obtain ⟨M, hM⟩ := shift A t g u r
  have h1 : ∀ j : Fin 257, val_main_v187 x0 x2 (ix5 t g u r j)
        = ((Real.exp (-M) * rawAll (live (t.val = 0) r) ((W.rblk t).score (mem g u) r) (W.b (mem g u)) j : ℝ) : EReal) := fun j => by
    pointwise [val_main_v187, val_main_v186, val_main_v185, val_main_v184]
    rw [hM, row A, exp_row _ _ _ (A.top _)]
  refine ⟨M, h1, ?_⟩
  pointwise [val_main_v189, val_main_v188, val_main_cst_26]
  rw [sum_eq_coe h1, rawAll_sum]

theorem weights (t : Fin 64) (g : Fin 2) (u : Fin 8) (r : Fin 128) (j : Fin 256) :
    val_main_v195 x0 x2 (ix5 t g u r j) = (((W.rblk t).w (mem g u) r j : ℝ) : EReal) := by
  obtain ⟨M, h1, h2⟩ := exps A t g u r
  pointwise [val_main_v195, val_main_v191, val_main_v190]
  have hp := shifted_pos (live (t.val = 0) r) ((W.rblk t).score (mem g u) r) (W.b (mem g u)) M (live_own _ _)
  rw [h1, h2, Ideal.div_coe hp.ne', ← EReal.coe_mul, rawAll_mk, shifted_wt _ _ _ M (live_own _ _)]
  rfl

/-- The derivative of the softmax, the sink's entry last. -/
theorem drow (t : Fin 64) (g : Fin 2) (u : Fin 8) (r : Fin 128) (j : Fin 257) :
    val_main_v216 x0 x1 x2 (ix5 t g u r j)
      = ((rawAll (live (t.val = 0) r) ((W.rblk t).score (mem g u) r) (W.b (mem g u)) j
          / mass (live (t.val = 0) r) ((W.rblk t).score (mem g u) r) (W.b (mem g u))
          * ((if h : j.val < 256 then (W.rblk t).dp (mem g u) r ⟨j.val, h⟩ else 0) - (W.rblk t).del (mem g u) r) : ℝ) : EReal) := by
  obtain ⟨M, h1, h2⟩ := exps A t g u r
  have hp := shifted_pos (live (t.val = 0) r) ((W.rblk t).score (mem g u) r) (W.b (mem g u)) M (live_own _ _)
  have h3 : val_main_v194 x0 x2 (ix5 t g u r (0 : Fin 1))
      = ((1 / (Real.exp (-M) * mass (live (t.val = 0) r) ((W.rblk t).score (mem g u) r) (W.b (mem g u))
          * (Real.exp (-M) * mass (live (t.val = 0) r) ((W.rblk t).score (mem g u) r) (W.b (mem g u)))) : ℝ) : EReal) := by
    pointwise [val_main_v194, val_main_v193, val_main_v192, val_main_cst_27]
    rw [h2, ← EReal.coe_mul, Ideal.div_coe (mul_pos hp hp).ne', one_mul]
  pointwise [val_main_v216, val_main_v215, val_main_v214, val_main_v213, val_main_v212, val_main_v211, val_main_v210, val_main_v209,
    val_main_v208, val_main_v207, val_main_v206, val_main_v205, val_main_cst_29, val_main_cst_30]
  simp only [h1, h2, h3, dweights A, Ideal.div_coe hp.ne', ← EReal.coe_mul, coe_sum, zero_bits, zero_add, ← EReal.coe_neg, ← EReal.coe_add]
  rw [grad_row _ _ _ (live_own _ _) M _ _ _ _ rfl]
  rfl

theorem dscores (t : Fin 64) (g : Fin 2) (u : Fin 8) (r : Fin 128) (j : Fin 256) :
    val_main_v225 x0 x1 x2 (ix5 t g u r j) = (((W.rblk t).ds (mem g u) r j * (1 / 8) : ℝ) : EReal) := by
  pointwise [val_main_v225, val_main_v224, val_main_v223, val_main_v217, val_main_v162_1, val_main_v161, val_main_call1_v0,
    val_main_call1_cst, val_main_cst_33]
  rw [mask, select_ite, eight_bits, Ideal.div_coe (by norm_num), drow A, rawAll_mk, dif_pos j.isLt]
  unfold Blk.ds
  by_cases h : live (t.val = 0) r j
  · rw [if_pos h, ← EReal.coe_mul]; rfl
  · rw [if_neg h, show (W.rblk t).w (mem g u) r j = 0 from wt_dead _ _ _ h]
    simp [zero_bits]

theorem dsinks (t : Fin 64) (g : Fin 2) (u : Fin 8) (r : Fin 128) :
    val_main_v216 x0 x1 x2 (ix5 t g u r (Fin.last 256))
      = ((-((W.rblk t).ws (mem g u) r * (W.rblk t).del (mem g u) r) : ℝ) : EReal) := by
  rw [drow A, dif_neg (by simp), rawAll_last]
  unfold Blk.ws wtSink
  congr 1
  rw [zero_sub, mul_neg]
  rfl

end Cert.ReferenceIdeal.Stage

end
-- ==== Proof.RefGrads.lean ====
/-
  THE REFERENCE'S GRADIENTS over the reals, block by block: of the rotated queries and keys, the values and the sinks.
-/
module

public import proofs.«01_k».proof.Proof.RefSoftmax

@[expose] public section

set_option maxRecDepth 16384

noncomputable section

namespace Cert.ReferenceIdeal.Stage

open Cert.ReferenceIdeal Cert.ReferenceIdeal.Gen Cert.ReferenceIdeal.Read Idealize.ShloMosaic Cert.Attn

variable {x0 : Vec Ideal S8192x6400 .f32} {x1 : Vec Ideal S8192x1024 .f32} {x2 : Vec Ideal S1x16 .f32} {W : Whole}
  (A : Args x0 x1 x2 W)
include A

theorem gradV (t : Fin 64) (j : Fin 256) (g : Fin 2) (e : Fin 64) :
    val_main_v203 x0 x1 x2 (ix4 t j g e) = (((W.blk t).dv g j e : ℝ) : EReal) := by
  pointwise [val_main_v203, val_main_v202, val_main_v200, val_main_v199]
  rw [Blk.dv_same (W.rblk_same t)]
  refine (sum_eq_coe fun u => dot_eq_coe (fun r => blockD A t r g u e _ _) (fun r => weights A t g u r j)).trans ?_
  unfold Blk.dv
  simp only [mul_comm]

theorem gradK (t : Fin 64) (j : Fin 256) (g : Fin 2) (e : Fin 64) :
    val_main_v230 x0 x1 x2 (ix4 t j g e) = (((W.blk t).dk g j e : ℝ) : EReal) := by
  pointwise [val_main_v230, val_main_v229, val_main_v226]
  rw [Blk.dk_same (W.rblk_same t)]
  refine (sum_eq_coe fun r => dot_eq_coe (fun u => dscores A t g u r j) (fun u => blockQ A t r g u e)).trans ?_
  unfold Blk.dk
  rw [Finset.sum_comm, Finset.sum_mul]
  simp only [Finset.sum_mul]
  congr 1
  exact Finset.sum_congr rfl fun u _ => Finset.sum_congr rfl fun r _ => by ring

theorem gradQ (t : Fin 64) (g : Fin 2) (u : Fin 8) (r : Fin 128) (e : Fin 64) :
    ∑ j, val_main_v225 x0 x1 x2 (ix5 t g u r j) * val_main_v121 x0 (ix4 t j g e)
      = (((W.blk t).dq (mem g u) r e : ℝ) : EReal) := by
  rw [Blk.dq_same (W.rblk_same t)]
  refine (dot_eq_coe (fun j => dscores A t g u r j) (fun j => blockK A t j g e)).trans ?_
  unfold Blk.dq
  rw [Finset.sum_mul, grp_mem]
  congr 1
  exact Finset.sum_congr rfl fun j _ => by ring

/-- The gradients of the rotated queries, of every position. -/
theorem gradQ_at (y : Fin 8192) (h : Fin 16) (e : Fin 64) :
    val_main_v245 x0 x1 x2 (ix3 y h e) = (((W.blk (tb y)).dq h (ro y) e : ℝ) : EReal) := by
  pointwise [val_main_v245, val_main_v228, val_main_v227, val_main_v226]
  refine (gradQ A (tb y) ⟨h.val / 8, by omega⟩ ⟨h.val % 8, by omega⟩ (ro y) e).trans ?_
  rw [show mem ⟨h.val / 8, _⟩ ⟨h.val % 8, _⟩ = h from Fin.ext (by show 8 * (h.val / 8) + h.val % 8 = h.val; omega)]

/-- The gradients of the rotated keys, of their own block. -/
theorem gradK_own (y : Fin 8192) (g : Fin 2) (e : Fin 64) :
    val_main_v238 x0 x1 x2 (ix3 y g e) = (((W.blk (tb y)).dk g (rw2 1 (ro y)) e : ℝ) : EReal) := by
  pointwise [val_main_v238, val_main_v237]
  exact gradK A (tb y) (rw2 1 (ro y)) g e

/-- The gradients of the rotated keys, of the next block's queries: those of row `y - 128`. -/
theorem gradK_next (y : Fin 8192) (h : 128 ≤ y.val) (g : Fin 2) (e : Fin 64) :
    val_main_v244 x0 x1 x2 (ix3 (⟨y.val - 128, by omega⟩ : Fin 8192) g e)
      = (((W.blk (tb y)).dk g (rw2 0 (ro y)) e : ℝ) : EReal) := by
  pointwise [val_main_v244, val_main_v240, val_main_v239, val_main_v236]
  rw [dif_pos (by omega), ← gradK A]
  refine congrArg₂ (fun a b => val_main_v230 x0 x1 x2 (ix4 a b g e)) (Fin.ext ?_) (Fin.ext ?_)
  · show (128 + (y.val - 128)) / 128 = y.val / 128; omega
  · show (128 + (y.val - 128)) % 128 = 128 * 0 + y.val % 128; omega

/-! ### The sinks -/

omit A in
theorem drop_sinks (i : S64x2x8x128x1.Idx) (g : Fin 2) (u : Fin 8) :
    reducesTo_S64x2x8x128x1_S2x8_d0_3_4.drop i = ix2 g u ↔ ∃ k : Fin 64 × Fin 128, ix5 k.1 g u k.2 (0 : Fin 1) = i := by
  constructor
  · intro h
    refine ⟨(i 0, i 3), ?_⟩
    funext a
    match a with
    | ⟨0, _⟩ => rfl
    | ⟨1, _⟩ => exact (congrFun h 0).symm
    | ⟨2, _⟩ => exact (congrFun h 1).symm
    | ⟨3, _⟩ => rfl
    | ⟨4, _⟩ => exact Subsingleton.elim (α := Fin 1) _ _
  · rintro ⟨k, rfl⟩
    funext a; match a with | ⟨0, _⟩ => rfl | ⟨1, _⟩ => rfl

omit A in
theorem drop_all (i : S1x2x8x1x1.Idx) (g : Fin 2) (u : Fin 8) :
    reducesTo_S1x2x8x1x1_S2x8_d0_3_4.drop i = ix2 g u ↔ ∃ _ : Unit, ix5 (0 : Fin 1) g u (0 : Fin 1) (0 : Fin 1) = i := by
  constructor
  · intro h
    refine ⟨(), ?_⟩
    funext a
    match a with
    | ⟨0, _⟩ => exact Subsingleton.elim (α := Fin 1) _ _
    | ⟨1, _⟩ => exact (congrFun h 0).symm
    | ⟨2, _⟩ => exact (congrFun h 1).symm
    | ⟨3, _⟩ => exact Subsingleton.elim (α := Fin 1) _ _
    | ⟨4, _⟩ => exact Subsingleton.elim (α := Fin 1) _ _
  · rintro ⟨_, rfl⟩
    funext a; match a with | ⟨0, _⟩ => rfl | ⟨1, _⟩ => rfl

theorem sinkEntry (t : Fin 64) (g : Fin 2) (u : Fin 8) (r : Fin 128) :
    val_main_v218 x0 x1 x2 (ix5 t g u r (0 : Fin 1))
      = ((-((W.blk t).ws (mem g u) r * (W.blk t).del (mem g u) r) : ℝ) : EReal) := by
  pointwise [val_main_v218]
  rw [Blk.ws_same (W.rblk_same t), Blk.del_same (W.rblk_same t)]
  exact dsinks A t g u r

theorem sinkSum (g : Fin 2) (u : Fin 8) :
    val_main_v219 x0 x1 x2 (ix2 g u) = ((W.dsink (mem g u) : ℝ) : EReal) := by
  have h0 : val_main_v219 x0 x1 x2 (ix2 g u)
      = val_main_cst_31 (F := Ideal) (Shape.Idx.first h_S_)
        + ∑ i ∈ Finset.univ.filter (fun i => reducesTo_S64x2x8x128x1_S2x8_d0_3_4.drop i = ix2 g u), val_main_v218 x0 x1 x2 i := by
    unfold val_main_v219; rfl
  have h1 : val_main_cst_31 (F := Ideal) (Shape.Idx.first h_S_) = (0 : EReal) := (val_main_cst_31_apply _).trans zero_bits
  rw [h0, h1, zero_add, Finset.sum_filter_eq_sum_of_fiber _ (fun k : Fin 64 × Fin 128 => ix5 k.1 g u k.2 (0 : Fin 1))
    (fun _ _ e => Prod.ext (congrFun e 0) (congrFun e 3)) (fun i => drop_sinks i g u), Fintype.sum_prod_type]
  refine (sum_eq_coe fun t => sum_eq_coe fun r => sinkEntry A t g u r).trans ?_
  unfold Whole.dsink Blk.dsink
  simp only [Finset.sum_neg_distrib]

theorem sinkAll (g : Fin 2) (u : Fin 8) :
    val_main_v221 x0 x1 x2 (ix2 g u) = ((W.dsink (mem g u) : ℝ) : EReal) := by
  have h0 : val_main_v221 x0 x1 x2 (ix2 g u)
      = val_main_cst_32 (F := Ideal) (Shape.Idx.first h_S_)
        + ∑ i ∈ Finset.univ.filter (fun i => reducesTo_S1x2x8x1x1_S2x8_d0_3_4.drop i = ix2 g u), val_main_v220 x0 x1 x2 i := by
    unfold val_main_v221; rfl
  have h1 : val_main_cst_32 (F := Ideal) (Shape.Idx.first h_S_) = (0 : EReal) := (val_main_cst_32_apply _).trans zero_bits
  rw [h0, h1, zero_add, Finset.sum_filter_eq_sum_of_fiber _ (fun _ : Unit => ix5 (0 : Fin 1) g u (0 : Fin 1) (0 : Fin 1))
    (fun _ _ _ => rfl) (fun i => drop_all i g u), Fintype.sum_unique, ← sinkSum A]
  pointwise [val_main_v220]

end Cert.ReferenceIdeal.Stage

end
-- ==== Proof.RefResults.lean ====
/-
  WHAT THE REFERENCE'S RESULTS HOLD over real arguments: the gradients of `Proof/Whole.lean`, element by element.
-/
module

public import proofs.«01_k».proof.Proof.RefGrads

@[expose] public section

set_option maxRecDepth 16384

noncomputable section

namespace Cert.ReferenceIdeal.Stage

open Cert.ReferenceIdeal Cert.ReferenceIdeal.Gen Cert.ReferenceIdeal.Read Idealize.ShloMosaic Cert.Attn

/-- A first block's previous keys and values get no gradient. -/
theorem first_ds (W : Whole) (t : Fin 64) (ht : t.val = 0) (r : Fin 128) (h : Fin 16) (q : Fin 128) :
    (W.blk t).ds h q (rw2 0 r) = 0 :=
  Blk.ds_dead (W.rblk_same t) h q fun c => by
    rcases c with c | c
    · have : 128 ≤ 128 * 0 + r.val := c
      omega
    · exact c ht

theorem first_w (W : Whole) (t : Fin 64) (ht : t.val = 0) (r : Fin 128) (h : Fin 16) (q : Fin 128) :
    (W.blk t).w h q (rw2 0 r) = 0 :=
  Blk.w_dead (W.rblk_same t) h q fun c => by
    rcases c with c | c
    · have : 128 ≤ 128 * 0 + r.val := c
      omega
    · exact c ht

variable {x0 : Vec Ideal S8192x6400 .f32} {x1 : Vec Ideal S8192x1024 .f32} {x2 : Vec Ideal S1x16 .f32} {W : Whole}
  (A : Args x0 x1 x2 W)
include A

theorem unrotQ (y : Fin 8192) (h : Fin 16) (e : Fin 64) :
    val_main_v312 x0 x1 x2 (ix3 y h e) = ((W.dq y h e : ℝ) : EReal) := by
  pointwise [val_main_v312, val_main_v311, val_main_v310, val_main_v309, val_main_v308, val_main_v307, val_main_v306,
    val_main_v305, val_main_v304, val_main_v303, val_main_v302, val_main_v301, val_main_v300, val_main_v299,
    val_main_v298, val_main_v297, val_main_v296, val_main_v295, val_main_v294, val_main_v293, val_main_v292,
    val_main_cst_44, val_main_cst_45, val_main_cst_46, val_main_cst_47]
  exact unrotated (f := fun e => val_main_v245 x0 x1 x2 (ix3 y h e)) (gradQ_at A y h) (cosQ y) (sinQ y) e

theorem unrotK (y : Fin 8192) (g : Fin 2) (e : Fin 64) :
    val_main_v290 x0 x1 x2 (ix3 y g e)
      = ((unrot (co y.val) (si y.val) ((W.blk (tb y)).dk g (rw2 1 (ro y))) e : ℝ) : EReal) := by
  pointwise [val_main_v290, val_main_v289, val_main_v288, val_main_v287, val_main_v286, val_main_v285, val_main_v284,
    val_main_v283, val_main_v282, val_main_v281, val_main_v280, val_main_v279, val_main_v278, val_main_v277,
    val_main_v276, val_main_v275, val_main_v274, val_main_v273, val_main_v272, val_main_v271, val_main_v270,
    val_main_cst_40, val_main_cst_41, val_main_cst_42, val_main_cst_43]
  exact unrotated (f := fun e => val_main_v238 x0 x1 x2 (ix3 y g e)) (gradK_own A y g) (cosK y) (sinK y) e

omit A in
theorem unrotN_of (z : Fin 8192) (g : Fin 2) (X : Fin 64 → ℝ)
    (hX : ∀ e : Fin 64, val_main_v244 x0 x1 x2 (ix3 z g e) = ((X e : ℝ) : EReal)) (e : Fin 64) :
    val_main_v268 x0 x1 x2 (ix3 z g e) = ((unrot (co z.val) (si z.val) X e : ℝ) : EReal) := by
  pointwise [val_main_v268, val_main_v267, val_main_v266, val_main_v265, val_main_v264, val_main_v263, val_main_v262,
    val_main_v261, val_main_v260, val_main_v259, val_main_v258, val_main_v257, val_main_v256, val_main_v255,
    val_main_v254, val_main_v253, val_main_v252, val_main_v251, val_main_v250, val_main_v249, val_main_v248,
    val_main_cst_36, val_main_cst_37, val_main_cst_38, val_main_cst_39]
  exact unrotated (f := fun e => val_main_v244 x0 x1 x2 (ix3 z g e)) hX (cosN z) (sinN z) e

theorem unrotN (y : Fin 8192) (h : 128 ≤ y.val) (g : Fin 2) (e : Fin 64) :
    val_main_v268 x0 x1 x2 (ix3 (⟨y.val - 128, by omega⟩ : Fin 8192) g e)
      = ((unrot (co (y.val - 128)) (si (y.val - 128)) ((W.blk (tb y)).dk g (rw2 0 (ro y))) e : ℝ) : EReal) :=
  unrotN_of (⟨y.val - 128, by omega⟩ : Fin 8192) g _ (gradK_next A y h g) e

/-! ### The six results -/

variable (x3 : Vec Ideal S8192x6400 .bf16)

theorem out_q (y : Fin 8192) (c : Fin 6400) (h : c.val < 1024) :
    val_main_v317 x0 x1 x2 x3 (ix2 y c) = ((W.dq y ⟨c.val / 64, by omega⟩ ⟨c.val % 64, by omega⟩ : ℝ) : EReal) := by
  pointwise [val_main_v317, val_main_v316, val_main_v315, val_main_v313]
  rw [dif_pos h]
  exact unrotQ A y _ _

omit A in
theorem out_rest (y : Fin 8192) (c : Fin 6400) (h : ¬ c.val < 1024) : val_main_v317 x0 x1 x2 x3 (ix2 y c) = x3 (ix2 y c) := by
  pointwise [val_main_v317, val_main_v316, val_main_v315, val_main_v313]
  rw [dif_neg h]
  exact congrArg (fun c => x3 (ix2 y c)) (Fin.ext (by show 1024 + (c.val - 1024) = c.val; omega))

theorem out_k (y : Fin 8192) (l : Fin 128) : val_main_v291 x0 x1 x2 (ix2 y l) = ((W.dkc y l : ℝ) : EReal) := by
  pointwise [val_main_v291]
  exact unrotK A y (hd l) (el l)

theorem out_kn (y : Fin 8192) (l : Fin 128) : val_main_v319 x0 x1 x2 (ix2 y l) = ((W.dkp y l : ℝ) : EReal) := by
  pointwise [val_main_v319, val_main_v318, val_main_v269, val_main_v314, val_main_cst_48]
  by_cases h : y.val < 128
  · rw [dif_pos h]
    have hz : (W.blk (tb y)).dk (hd l) (rw2 0 (ro y)) = fun _ => 0 := by
      funext e
      have ht : (tb y).val = 0 := by show y.val / 128 = 0; omega
      unfold Blk.dk
      simp only [first_ds W _ ht, zero_mul, Finset.sum_const_zero]
    unfold Whole.dkp unrot
    rw [hz]
    simp
  · rw [dif_neg h]
    refine (unrotN A y (by omega) (hd l) (el l)).trans ?_
    unfold Whole.dkp
    rw [show (at_ (before (tb y)) (ro y)).val = y.val - 128 by
      show 128 * (y.val / 128 - 1) + y.val % 128 = y.val - 128; omega]

theorem out_v (y : Fin 8192) (l : Fin 128) : val_main_v247 x0 x1 x2 (ix2 y l) = ((W.dvc y l : ℝ) : EReal) := by
  pointwise [val_main_v247, val_main_v233, val_main_v232]
  exact gradV A (tb y) (rw2 1 (ro y)) (hd l) (el l)

theorem out_vn (y : Fin 8192) (l : Fin 128) : val_main_v321 x0 x1 x2 (ix2 y l) = ((W.dvp y l : ℝ) : EReal) := by
  pointwise [val_main_v321, val_main_v320, val_main_v314, val_main_v246, val_main_v242, val_main_v235, val_main_v234, val_main_v231,
    val_main_cst_48, val_main_cst_34]
  by_cases h : y.val < 128
  · rw [dif_pos h]
    have ht : (tb y).val = 0 := by show y.val / 128 = 0; omega
    unfold Whole.dvp Blk.dv
    simp [first_w W _ ht]
  · rw [dif_neg h, dif_pos (by omega)]
    refine Eq.trans ?_ (gradV A (tb y) (rw2 0 (ro y)) (hd l) (el l))
    refine congrArg₂ (fun a b => val_main_v203 x0 x1 x2 (ix4 a b (hd l) (el l))) (Fin.ext ?_) (Fin.ext ?_)
    · show (128 + (y.val - 128)) / 128 = y.val / 128; omega
    · show (128 + (y.val - 128)) % 128 = 128 * 0 + y.val % 128; omega

theorem out_s (t : Fin 8) (l : Fin 128) : val_main_v324 x0 x1 x2 (ix2 t l) = ((W.dsink (hof t (hd l)) : ℝ) : EReal) := by
  pointwise [val_main_v324, val_main_v323, val_main_v322, val_main_v222]
  rw [sinkAll A]
  rw [show mem ⟨t.val / 4, _⟩ ⟨t.val % 4 * 2 + l.val / 64, _⟩ = hof t (hd l) from
    Fin.ext (by show 8 * (t.val / 4) + (t.val % 4 * 2 + l.val / 64) = 2 * t.val + l.val / 64; omega)]

end Cert.ReferenceIdeal.Stage

end
-- ==== Proof.Equation.lean ====
/-
  THE EQUATION: over arguments the precondition allows, the arrays the kernel leaves are the reference's results.
-/
module

public import proofs.«01_k».proof.Proof.Finite
public import proofs.«01_k».proof.Proof.Results
public import proofs.«01_k».proof.Proof.RefResults

@[expose] public section

set_option maxRecDepth 16384

noncomputable section

namespace Cert.Equation

open Cert.KernelIdeal Cert.KernelIdeal.Gen Cert.KernelIdeal.Arrays Cert.ReferenceIdeal.Read
open Idealize.ShloMosaic Idealize.ShloMosaic.TcCoe Idealize.SL.Sem Cert.Attn

/-- The reals the arguments hold. -/
def reals (z : Vec Ideal S8192x6400 .f32) (d : Vec Ideal S8192x1024 .f32) (s : Vec Ideal S1x16 .f32) : Whole where
  q y x := EReal.toReal (z (ix2 y (qcol x)))
  k y l := EReal.toReal (z (ix2 y (kcol l)))
  v y l := EReal.toReal (z (ix2 y (vcol l)))
  d y x := EReal.toReal (d (ix2 y x))
  b h := s (ix2 0 h)

variable [hP : Cert.Pre_finite.Facts] {z : Vec Ideal S8192x6400 .f32} {d : Vec Ideal S8192x1024 .f32} {s : Vec Ideal S1x16 .f32}
  {dz : Vec Ideal S8192x6400 .bf16}

theorem kernel_args (h : Cert.Pre_finite.fn (F := Ideal) z d s dz = fun _ => 1#1) : Results.Args z d s (reals z d s) where
  q y x := Finite.of_z h y (qcol x) (by show x.val < 1280; omega)
  k y l := Finite.of_z h y (kcol l) (by show 1024 + l.val < 1280; omega)
  v y l := Finite.of_z h y (vcol l) (by show 1152 + l.val < 1280; omega)
  d y x := Finite.of_d h y x
  b _ := rfl
  top k := Finite.of_s h k

theorem reference_args {W : Whole} (A : Results.Args z d s W) : Cert.ReferenceIdeal.Stage.Args z d s W where
  q := A.q
  k := A.k
  v := A.v
  d := A.d
  b := A.b
  top := A.top

/-- A rank-2 index is its two coordinates. -/
theorem ix_eta {a b : Nat} (i : (⟨2, ![a, b]⟩ : Shape).Idx) : i = ix2 (n0 := a) (n1 := b) (i 0) (i 1) := by
  funext k
  fin_cases k <;> rfl

variable {m : (ℓ : Loc nD τ sig) → Buf (Elt Ideal) ℓ} {c : Dev nD} {W : Whole}
  (A : Results.Args (m ((c : Thread nD τ).loc main_arg0)) (m ((c : Thread nD τ).loc main_arg1)) (m ((c : Thread nD τ).loc main_arg2)) W)
include A

theorem eq_0 : (val_main_v317 (F := Ideal) (m ((c : Thread nD τ).loc main_arg0)) (m ((c : Thread nD τ).loc main_arg1))
    (m ((c : Thread nD τ).loc main_arg2)) (m ((c : Thread nD τ).loc main_arg3)) : Vec Ideal S8192x6400 .bf16)
      = (dats m 0 c).arrAt 11 cfg0.N := by
  funext i
  rw [ix_eta i]
  generalize i 0 = y
  generalize i 1 = x
  by_cases hx : (x : Fin 6400).val < 1024
  · rw [Cert.ReferenceIdeal.Stage.out_q (reference_args A) _ y x hx]
    refine (Eq.trans (congrArg (fun x => ((dats m 0 c).arrAt 11 cfg0.N : Vec Ideal S8192x6400 .bf16) (ix2 y x)) ?_)
      (Results.out_11 A y ⟨x.val / 64, by omega⟩ ⟨x.val % 64, by omega⟩)).symm
    exact Fin.ext (by show x.val = 64 * (x.val / 64) + x.val % 64; omega)
  · rw [Cert.ReferenceIdeal.Stage.out_rest _ y x hx]
    exact (final_11_rest m c (ix2 y x) (by show 1024 ≤ x.val; omega)).symm

theorem eq_1 : (val_main_v291 (F := Ideal) (m ((c : Thread nD τ).loc main_arg0)) (m ((c : Thread nD τ).loc main_arg1))
    (m ((c : Thread nD τ).loc main_arg2)) : Vec Ideal S8192x128 .f32) = (dats m 0 c).arrAt 12 cfg0.N := by
  funext i
  rw [ix_eta i]
  exact (Cert.ReferenceIdeal.Stage.out_k (reference_args A) _ _).trans (Results.out_12 A _ _).symm

theorem eq_2 : (val_main_v319 (F := Ideal) (m ((c : Thread nD τ).loc main_arg0)) (m ((c : Thread nD τ).loc main_arg1))
    (m ((c : Thread nD τ).loc main_arg2)) : Vec Ideal S8192x128 .f32) = (dats m 0 c).arrAt 13 cfg0.N := by
  funext i
  rw [ix_eta i]
  exact (Cert.ReferenceIdeal.Stage.out_kn (reference_args A) _ _).trans (Results.out_13 A _ _).symm

theorem eq_3 : (val_main_v247 (F := Ideal) (m ((c : Thread nD τ).loc main_arg0)) (m ((c : Thread nD τ).loc main_arg1))
    (m ((c : Thread nD τ).loc main_arg2)) : Vec Ideal S8192x128 .f32) = (dats m 0 c).arrAt 14 cfg0.N := by
  funext i
  rw [ix_eta i]
  exact (Cert.ReferenceIdeal.Stage.out_v (reference_args A) _ _).trans (Results.out_14 A _ _).symm

theorem eq_4 : (val_main_v321 (F := Ideal) (m ((c : Thread nD τ).loc main_arg0)) (m ((c : Thread nD τ).loc main_arg1))
    (m ((c : Thread nD τ).loc main_arg2)) : Vec Ideal S8192x128 .f32) = (dats m 0 c).arrAt 15 cfg0.N := by
  funext i
  rw [ix_eta i]
  exact (Cert.ReferenceIdeal.Stage.out_vn (reference_args A) _ _).trans (Results.out_15 A _ _).symm

theorem eq_5 : (val_main_v324 (F := Ideal) (m ((c : Thread nD τ).loc main_arg0)) (m ((c : Thread nD τ).loc main_arg1))
    (m ((c : Thread nD τ).loc main_arg2)) : Vec Ideal S8x128 .f32) = (dats m 0 c).arrAt 16 cfg0.N := by
  funext i
  rw [ix_eta i]
  exact (Cert.ReferenceIdeal.Stage.out_s (reference_args A) _ _).trans (Results.out_16 A _ _).symm

/-! ### The same, of equal arguments -/

section
variable {x0 : Vec Ideal S8192x6400 .f32} {x1 : Vec Ideal S8192x1024 .f32} {x2 : Vec Ideal S1x16 .f32} {x3 : Vec Ideal S8192x6400 .bf16}
  (h0 : x0 = m ((c : Thread nD τ).loc main_arg0)) (h1 : x1 = m ((c : Thread nD τ).loc main_arg1))
  (h2 : x2 = m ((c : Thread nD τ).loc main_arg2)) (h3 : x3 = m ((c : Thread nD τ).loc main_arg3))
include h0 h1 h2

include h3 in
theorem is_0 : val_main_v317 (F := Ideal) x0 x1 x2 x3 = (dats m 0 c).arrAt 11 cfg0.N := by
  subst h0 h1 h2 h3
  exact eq_0 A

theorem is_1 : val_main_v291 (F := Ideal) x0 x1 x2 = (dats m 0 c).arrAt 12 cfg0.N := by
  subst h0 h1 h2
  exact eq_1 A

theorem is_2 : val_main_v319 (F := Ideal) x0 x1 x2 = (dats m 0 c).arrAt 13 cfg0.N := by
  subst h0 h1 h2
  exact eq_2 A

theorem is_3 : val_main_v247 (F := Ideal) x0 x1 x2 = (dats m 0 c).arrAt 14 cfg0.N := by
  subst h0 h1 h2
  exact eq_3 A

theorem is_4 : val_main_v321 (F := Ideal) x0 x1 x2 = (dats m 0 c).arrAt 15 cfg0.N := by
  subst h0 h1 h2
  exact eq_4 A

theorem is_5 : val_main_v324 (F := Ideal) x0 x1 x2 = (dats m 0 c).arrAt 16 cfg0.N := by
  subst h0 h1 h2
  exact eq_5 A

end

end Cert.Equation

end
-- ==== Proof.Halves.lean ====
/-
  A SUM IN PARTS, and the zero offsets of a whole block: what every product shares.
-/
module

public import Idealize.ShloMosaic.Lib.Pointwise

@[expose] public section

noncomputable section

namespace Cert.Halves

open Idealize.ShloMosaic

theorem hz : (![0, 0] : Fin 2 → Nat) = fun _ => 0 := funext fun a => by fin_cases a <;> rfl

/-- A sum over 8192 positions is the sum over the first 4096 and the sum over the last 4096. -/
theorem sum_halves (f : Fin 8192 → EReal) :
    ∑ k, f k = (∑ k : Fin 4096, f ⟨4096 * 0 + k.val, by omega⟩) + ∑ k : Fin 4096, f ⟨4096 * 1 + k.val, by omega⟩ := by
  have h := Fin.sum_univ_add (M := EReal) (a := 4096) (b := 4096) f
  refine h.trans ?_
  refine congrArg₂ (· + ·) (Finset.sum_congr rfl fun k _ => congrArg f (Fin.ext ?_)) (Finset.sum_congr rfl fun k _ => congrArg f (Fin.ext ?_))
  · simp
  · simp [Nat.add_comm]

/-- A sum over `n * b` positions is the sum over the `n` parts of the sums over `b` positions. -/
theorem sum_parts {N n b : ℕ} (h : n * b = N) (f : Fin N → EReal) :
    ∑ k, f k = ∑ s : Fin n, ∑ k : Fin b, f ⟨b * s.val + k.val, by
      subst h
      calc b * s.val + k.val < b * s.val + b := Nat.add_lt_add_left k.isLt _
        _ = b * (s.val + 1) := by ring
        _ ≤ b * n := Nat.mul_le_mul_left _ s.isLt
        _ = n * b := Nat.mul_comm _ _⟩ := by
  subst h
  rw [← finProdFinEquiv.sum_comp, Fintype.sum_prod_type]
  refine Finset.sum_congr rfl fun s _ => Finset.sum_congr rfl fun k _ => congrArg f (Fin.ext ?_)
  simp [finProdFinEquiv, Nat.add_comm]

end Cert.Halves

end
-- ==== Proof.DAct.lean ====
/-
  THE GRADIENT BELOW THE CHANNEL MIXER'S ACTIVATION: each block is a whole product, times twice the activation.
-/
module

public import proofs.«01_k».proof.Proof.Halves
public import proofs.«01_k».proof.Proof.Gen.DActIdeal.Value
public import proofs.«01_k».proof.Proof.Gen.DActRefIdeal.Read
public import Idealize.ShloMosaic.Lib.StableHlo
public import Idealize.ShloMosaic.Lib.Tactic

@[expose] public section

set_option maxRecDepth 16384

noncomputable section

namespace Cert.DActIdeal.Product

open Cert.DActIdeal Cert.DActIdeal.Gen Cert.Halves Idealize.ShloMosaic Idealize.ShloMosaic.TcCoe Idealize.SL.Sem

section
variable {F : FTy → Type} [FloatOps F]
variable (m : (ℓ : Loc nD τ sig) → Buf (Elt F) ℓ)

/-- The point that writes an entry. -/
def point (p q : Fin 8192) : Fin cfg0.N :=
  ⟨4 * (p.val / 1024) + q.val / 2048, lt_of_lt_of_eq (by omega) N_0.symm⟩

/-- The block a point writes is the payload of the blocks it reads. -/
theorem out_eq (x0 : Vec F S1024x2048 .bf16) (x1 : Vec F S2048x2048 .bf16) (x2 : Vec F S1024x2048 .bf16) :
    out0_3 x0 x1 x2 = k0_pay1 x0 x1 x2 := by
  unfold out0_3
  rw [View.canon_unit_zero hz, View.ld_unit_zero (S := S1024x2048) hz, View.ld_unit_zero (S := S2048x2048) hz, View.ld_unit_zero (S := S1024x2048) hz]

/-! ### The blocks read and written -/

theorem index_0 : ∀ t : Fin grid0.N, win0_0.index t 0 = t.val / 4 ∧ win0_0.index t 1 = 0 := by decide +kernel
theorem index_1 : ∀ t : Fin grid0.N, win0_1.index t 0 = t.val % 4 ∧ win0_1.index t 1 = 0 := by decide +kernel
theorem index_2 : ∀ t : Fin grid0.N, win0_2.index t 0 = t.val / 4 ∧ win0_2.index t 1 = t.val % 4 := by decide +kernel
theorem index_3 : ∀ t : Fin grid0.N, win0_3.index t 0 = t.val / 4 ∧ win0_3.index t 1 = t.val % 4 := by decide +kernel

theorem read_0 (A : Vec F S8192x2048 .bf16) (p q : Fin 8192) (k : Fin 2048) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; simp only [point]; omega
  | ⟨1, _⟩ => show win0_0.index (point p q) 1 * 2048 + 1 * k.val = k.val; rw [hi.2]; omega

theorem read_1 (A : Vec F S8192x2048 .bf16) (p q : Fin 8192) (k : Fin 2048) :
    ((cfg0.win 1).blk (point p q)).view.read (Elt F) A (ix2 (⟨q.val % 2048, by omega⟩ : Fin 2048) k) = A (ix2 q k) := by
  have hi := index_1 (point p q)
  rw [View.read_apply]
  show A _ = _
  congr 1
  funext a
  apply Fin.ext
  match a with
  | ⟨0, _⟩ => show win0_1.index (point p q) 0 * 2048 + 1 * (q.val % 2048) = q.val; rw [hi.1]; simp only [point]; omega
  | ⟨1, _⟩ => show win0_1.index (point p q) 1 * 2048 + 1 * k.val = k.val; rw [hi.2]; omega

theorem read_2 (A : Vec F S8192x8192 .bf16) (p q : Fin 8192) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; simp only [point]; omega
  | ⟨1, _⟩ => show win0_2.index (point p q) 1 * 2048 + 1 * (q.val % 2048) = q.val; rw [hi.2]; simp only [point]; omega

theorem read_3 (A : Vec F S8192x8192 .bf16) (p q : Fin 8192) :
    ((cfg0.win 3).blk (point p q)).view.read (Elt F) A (ix2 (⟨p.val % 1024, by omega⟩ : Fin 1024) (⟨q.val % 2048, by omega⟩ : Fin 2048)) = A (ix2 p q) := by
  have hi := index_3 (point p q)
  rw [View.read_apply]
  show A _ = _
  congr 1
  funext a
  apply Fin.ext
  match a with
  | ⟨0, _⟩ => show win0_3.index (point p q) 0 * 1024 + 1 * (p.val % 1024) = p.val; rw [hi.1]; simp only [point]; omega
  | ⟨1, _⟩ => show win0_3.index (point p q) 1 * 2048 + 1 * (q.val % 2048) = q.val; rw [hi.2]; simp only [point]; omega

/-- What the array ends holding. -/
theorem array (c : Dev nD) (p q : Fin 8192) :
    ((dats m 0 c).arrAt 3 cfg0.N : Vec F S8192x8192 .bf16) (ix2 p q)
      = k0_pay1 (iblk m c 0 (point p q)) (iblk m c 1 (point p q)) (iblk m c 2 (point p q))
          (ix2 (⟨p.val % 1024, by omega⟩ : Fin 1024) (⟨q.val % 2048, by omega⟩ : Fin 2048)) := by
  refine (read_3 ((dats m 0 c).arrAt 3 cfg0.N) p q).symm.trans ?_
  refine (congrFun (Value.blocks3 m c (point p q) (flush0_3 (point p q))) _).trans ?_
  rw [Value.flushed3, out_eq]
  rfl

/-! ### What the host lines before the call prepare -/

def activation (pre : FVec F S8192x8192 .f32) : FVec F S8192x8192 .bf16 :=
  truncf .bf16 (maximumf pre (broadcastInDim S8192x8192 ![] bcast_S_S8192x8192 (constant S_ .f32 0x00000000#32))) bitsLt_bf16_f32

def weight (w : FVec F S8192x2048 .f32) : FVec F S8192x2048 .bf16 := truncf .bf16 w bitsLt_bf16_f32

theorem V_activation (c : Dev nD) : V m c main_v1 = activation (m ((c : Thread nD τ).loc main_arg0)) := by
  unfold V
  simp only [hostOps0, List.flatten_cons, List.flatten_nil, List.append_nil, List.cons_append, List.nil_append]
  after_results
  simp only [StableHlo.TRef.toBuf, StableHlo.TRef.ofBuf, cast_eq, id_eq]
  rfl

theorem V_weight (c : Dev nD) : V m c main_v2 = weight (m ((c : Thread nD τ).loc main_arg1)) := by
  unfold V
  simp only [hostOps0, List.flatten_cons, List.flatten_nil, List.append_nil, List.cons_append, List.nil_append]
  after_results
  rfl
end

/-- The block a point writes, at an entry. -/
theorem pay_1 (x0 : Vec Ideal S1024x2048 .bf16) (x1 : Vec Ideal S2048x2048 .bf16) (x2 : Vec Ideal S1024x2048 .bf16) (p : Fin 1024) (q : Fin 2048) :
    k0_pay1 x0 x1 x2 (ix2 p q) = (∑ k : Fin 2048, x0 (ix2 p k) * x1 (ix2 q k)) * (Ideal.ofBits .f32 0x40000000#32 * x2 (ix2 p q)) := by
  pointwise [k0_pay1]

theorem two_bits : Ideal.ofBits .f32 0x40000000#32 = 2 := by
  simp [Ideal.ofBits, Ideal.ieee, -EReal.coe_mul]
  norm_num
  rfl

/-- Twice the positive part, times a number, is what the product rule gives for the square of the positive part. -/
theorem twice (x g : EReal) : g * (2 * max x 0) = if 0 < x then max x 0 * g + g * max x 0 else 0 := by
  have h0 : (0 : EReal) ≤ max x 0 := le_max_right _ _
  split
  · rw [mul_comm (max x 0) g, ← EReal.left_distrib_of_nonneg h0 h0]
    congr 1
    rw [← one_add_one_eq_two, EReal.right_distrib_of_nonneg zero_le_one zero_le_one, one_mul]
  · next h => rw [max_eq_right (not_lt.mp h), mul_zero, mul_zero]

variable (m : (ℓ : Loc nD τ sig) → Buf (Elt Ideal) ℓ)

theorem first_at (c : Dev nD) (p q : Fin 8192) (k : Fin 2048) :
    (iblk m c 0 (point p q) : Vec Ideal S1024x2048 .bf16) (ix2 (⟨p.val % 1024, by omega⟩ : Fin 1024) k)
      = (m ((c : Thread nD τ).loc main_arg2) : Vec Ideal S8192x2048 .bf16) (ix2 p k) :=
  (read_0 (V m c main_arg2) p q k).trans (congrFun (V_main_arg2 m c) _)

theorem second_at (c : Dev nD) (p q : Fin 8192) (k : Fin 2048) :
    (iblk m c 1 (point p q) : Vec Ideal S2048x2048 .bf16) (ix2 (⟨q.val % 2048, by omega⟩ : Fin 2048) k)
      = weight (F := Ideal) (m ((c : Thread nD τ).loc main_arg1)) (ix2 q k) :=
  (read_1 (V m c main_v2) p q k).trans (congrFun (V_weight m c) _)

theorem third_at (c : Dev nD) (p q : Fin 8192) :
    (iblk m c 2 (point p q) : Vec Ideal S1024x2048 .bf16) (ix2 (⟨p.val % 1024, by omega⟩ : Fin 1024) (⟨q.val % 2048, by omega⟩ : Fin 2048))
      = activation (F := Ideal) (m ((c : Thread nD τ).loc main_arg0)) (ix2 p q) :=
  (read_2 (V m c main_v1) p q).trans (congrFun (V_activation m c) _)

/-- The gradient at an entry: the product, times twice the positive part. -/
def entry (x0 : FVec Ideal S8192x8192 .f32) (x1 : FVec Ideal S8192x2048 .f32) (x2 : FVec Ideal S8192x2048 .bf16) (p q : Fin 8192) : EReal :=
  (∑ k : Fin 2048, x2 (ix2 p k) * x1 (ix2 q k) : EReal) * (2 * max (x0 (ix2 p q)) 0)

theorem product (c : Dev nD) (p q : Fin 8192) :
    ((dats m 0 c).arrAt 3 cfg0.N : Vec Ideal S8192x8192 .bf16) (ix2 p q)
      = entry (m ((c : Thread nD τ).loc main_arg0)) (m ((c : Thread nD τ).loc main_arg1)) (m ((c : Thread nD τ).loc main_arg2)) p q := by
  rw [array, pay_1, two_bits, third_at]
  simp only [first_at, second_at]
  unfold entry
  refine congrArg₂ (· * ·) rfl (congrArg (2 * ·) ?_)
  generalize m ((c : Thread nD τ).loc main_arg0) = x
  pointwise [activation]

open Cert.DActRefIdeal.Read in
/-- The reference's result at an entry. -/
theorem reference_at (x0 : FVec Ideal S8192x8192 .f32) (x1 : FVec Ideal S8192x2048 .f32) (x2 : FVec Ideal S8192x2048 .bf16) (p q : Fin 8192) :
    (val_main_v13 (F := Ideal) x0 x1 x2 : FVec Ideal S8192x8192 .bf16) (ix2 p q) = entry x0 x1 x2 p q := by
  unfold entry
  rw [twice]
  pointwise [val_main_v13, val_main_v12, val_main_v11, val_main_v10, val_main_v9, val_main_v8, val_main_v7, val_main_v6, val_main_v2, val_main_v1, val_main_v0, val_main_cst_1, val_main_cst, val_main_call0_v0, val_main_call0_cst]

open Cert.DActRefIdeal.Read in
/-- The array is the reference's result. -/
theorem result (c : Dev nD) (x0 : (⟨Cert.DActRefIdeal.S8192x8192, .f32⟩ : BufTy).Contents (Elt Ideal)) (x1 : (⟨Cert.DActRefIdeal.S8192x2048, .f32⟩ : BufTy).Contents (Elt Ideal))
    (x2 : (⟨Cert.DActRefIdeal.S8192x2048, .bf16⟩ : BufTy).Contents (Elt Ideal))
    (h0 : x0 = m ((c : Thread nD τ).loc main_arg0)) (h1 : x1 = m ((c : Thread nD τ).loc main_arg1)) (h2 : x2 = m ((c : Thread nD τ).loc main_arg2)) :
    val_main_v13 (F := Ideal) x0 x1 x2 = (dats m 0 c).arrAt 3 cfg0.N := by
  subst h0 h1 h2
  funext i
  obtain ⟨p, q, rfl⟩ : ∃ (p q : Fin 8192), i = ix2 p q := ⟨i 0, i 1, (ix2_eta i).symm⟩
  exact (reference_at _ _ _ p q).trans (product m c p q).symm

end Cert.DActIdeal.Product

end
-- ==== Proof.GwDown.lean ====
/-
  THE GRADIENT OF THE CHANNEL MIXER'S SECOND WEIGHT: the kernel's two half sums over the positions are one sum.
-/
module

public import proofs.«01_k».proof.Proof.Halves
public import proofs.«01_k».proof.Proof.Gen.GwDownIdeal.Value
public import proofs.«01_k».proof.Proof.Gen.GwDownRefIdeal.Read
public import Idealize.ShloMosaic.Lib.StableHlo
public import Idealize.ShloMosaic.Lib.Tactic

@[expose] public section

set_option maxRecDepth 16384

noncomputable section

namespace Cert.GwDownIdeal.Product

open Cert.GwDownIdeal Cert.GwDownIdeal.Gen Cert.Halves Idealize.ShloMosaic Idealize.ShloMosaic.TcCoe Idealize.SL.Sem

section
variable {F : FTy → Type} [FloatOps F]

/-- The first half: the scratch is left at the block product. -/
theorem sout_A (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S4096x1024 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, shapeCast_self]

/-- The second half: the block product is added to what the scratch holds, and written out. -/
theorem out_B (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S4096x1024 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x1024) hz]

variable (m : (ℓ : Loc nD τ sig) → Buf (Elt F) ℓ)

/-- The points of the two halves of the block that holds `i`. -/
def point (p : Fin 8192) (q : Fin 2048) (s : Fin 2) : Fin cfg0.N :=
  ⟨2 * (2 * (p.val / 1024) + q.val / 1024) + s.val, lt_of_lt_of_eq (by omega) N_0.symm⟩

theorem outs_A (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_B (c : Dev nD) (t u : Fin cfg0.N) (h : t.val % 2 = 0) (hu : u.val = t.val + 1) :
    (outsAt0 m c u.val u.isLt).1 = k0_pay4 (iblk m c 0 u) (iblk m c 1 u) (k0_pay1 (iblk m c 0 t) (iblk m c 1 t)) := by
  rw [outsAt0_B m c u (by omega) (by omega), ← outs_A m c t h]
  have e : u.val - 1 = t.val := by omega
  simp only [e]
  rw [out_B]

/-- What the array ends holding. -/
theorem array (c : Dev nD) (p : Fin 8192) (q : Fin 2048) :
    ((dats m 0 c).arrAt 2 cfg0.N : Vec F S8192x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_B m c (point p q 0) (point p q 1) (by simp only [point]; omega) (by simp only [point]; omega), Value.final2, Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel

theorem read_0 (A : Vec F S8192x8192 .bf16) (p : Fin 8192) (q : Fin 2048) (s : Fin 2) (k : Fin 4096) :
    ((cfg0.win 0).blk (point p q s)).view.read (Elt F) A (ix2 k (⟨p.val % 1024, by omega⟩ : Fin 1024)) = A (ix2 ⟨4096 * s.val + k.val, by omega⟩ p) := by
  have hi := index_0 (point p q s)
  rw [View.read_apply]
  show A _ = _
  congr 1
  funext a
  apply Fin.ext
  match a with
  | ⟨0, _⟩ => show win0_0.index (point p q s) 0 * 4096 + 1 * k.val = 4096 * s.val + k.val; rw [hi.1]; simp only [point]; omega
  | ⟨1, _⟩ => show win0_0.index (point p q s) 1 * 1024 + 1 * (p.val % 1024) = p.val; rw [hi.2]; simp only [point]; omega

theorem read_1 (A : Vec F S8192x2048 .bf16) (p : Fin 8192) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ q) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; simp only [point]; omega
  | ⟨1, _⟩ => show win0_1.index (point p q s) 1 * 1024 + 1 * (q.val % 1024) = q.val; rw [hi.2]; simp only [point]; omega

/-- The squared activations, as the host lines before the call prepare them. -/
def squares (pre : FVec F S8192x8192 .f32) : FVec F S8192x8192 .bf16 :=
  have a : FVec F S8192x8192 .f32 := maximumf pre (broadcastInDim S8192x8192 ![] bcast_S_S8192x8192 (constant S_ .f32 0x00000000#32))
  truncf .bf16 (mulf a a) bitsLt_bf16_f32

theorem V_squares (c : Dev nD) : V m c main_v2 = squares (m ((c : Thread nD τ).loc main_arg0)) := by
  unfold V
  simp only [hostOps0, List.flatten_cons, List.flatten_nil, List.append_nil, List.cons_append, List.nil_append]
  after_results
  simp only [StableHlo.TRef.toBuf, StableHlo.TRef.ofBuf, cast_eq, id_eq]
  rfl
end

/-- The block product at an entry. -/
theorem pay_1 (x0 x1 : Vec Ideal S4096x1024 .bf16) (p q : Fin 1024) :
    k0_pay1 x0 x1 (ix2 p q) = ∑ k : Fin 4096, x0 (ix2 k p) * x1 (ix2 k q) := by
  pointwise [k0_pay1]

theorem pay_4 (x0 x1 : Vec Ideal S4096x1024 .bf16) (y : Vec Ideal S1024x1024 .f32) (p q : Fin 1024) :
    k0_pay4 x0 x1 y (ix2 p q) = y (ix2 p q) + ∑ k : Fin 4096, x0 (ix2 k p) * x1 (ix2 k q) := by
  rw [← pay_1]
  rfl

variable (m : (ℓ : Loc nD τ sig) → Buf (Elt Ideal) ℓ)

theorem left_at (c : Dev nD) (p : Fin 8192) (q : Fin 2048) (s : Fin 2) (k : Fin 4096) :
    (iblk m c 0 (point p q s) : Vec Ideal S4096x1024 .bf16) (ix2 k (⟨p.val % 1024, by omega⟩ : Fin 1024))
      = squares (F := Ideal) (m ((c : Thread nD τ).loc main_arg0)) (ix2 ⟨4096 * s.val + k.val, by omega⟩ p) :=
  (read_0 (V m c main_v2) p q s k).trans (congrFun (V_squares m c) _)

theorem right_at (c : Dev nD) (p : Fin 8192) (q : Fin 2048) (s : Fin 2) (k : Fin 4096) :
    (iblk m c 1 (point p q s) : Vec Ideal S4096x1024 .bf16) (ix2 k (⟨q.val % 1024, by omega⟩ : Fin 1024))
      = (m ((c : Thread nD τ).loc main_arg1) : Vec Ideal S8192x2048 .bf16) (ix2 ⟨4096 * s.val + k.val, by omega⟩ q) :=
  (read_1 (V m c main_arg1) p q s k).trans (congrFun (V_main_arg1 m c) _)

/-- The array is one product. -/
theorem product (c : Dev nD) (p : Fin 8192) (q : Fin 2048) :
    ((dats m 0 c).arrAt 2 cfg0.N : Vec Ideal S8192x2048 .f32) (ix2 p q)
      = ∑ k : Fin 8192, squares (F := Ideal) (m ((c : Thread nD τ).loc main_arg0)) (ix2 k p) * (m ((c : Thread nD τ).loc main_arg1) : Vec Ideal S8192x2048 .bf16) (ix2 k q) := by
  rw [array, pay_4, pay_1, sum_halves]
  simp only [left_at, right_at]
  rfl

open Cert.GwDownRefIdeal.Read in
/-- The reference's result at an entry. -/
theorem reference_at (x0 : FVec Ideal S8192x8192 .f32) (x1 : FVec Ideal S8192x2048 .bf16) (p : Fin 8192) (q : Fin 2048) :
    (val_main_v6 (F := Ideal) x0 x1 : FVec Ideal S8192x2048 .f32) (ix2 p q) = ∑ k : Fin 8192, (x1 (ix2 k q) : EReal) * squares (F := Ideal) x0 (ix2 k p) := by
  pointwise [val_main_v6, val_main_v5, val_main_v4, val_main_v2, val_main_v1, val_main_call0_v0, val_main_call0_cst, squares]

open Cert.GwDownRefIdeal.Read in
/-- The array is the reference's result. -/
theorem result (c : Dev nD) (x0 : (⟨Cert.GwDownRefIdeal.S8192x8192, .f32⟩ : BufTy).Contents (Elt Ideal)) (x1 : (⟨Cert.GwDownRefIdeal.S8192x2048, .bf16⟩ : BufTy).Contents (Elt Ideal))
    (h0 : x0 = m ((c : Thread nD τ).loc main_arg0)) (h1 : x1 = m ((c : Thread nD τ).loc main_arg1)) :
    val_main_v6 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  refine (reference_at _ _ p q).trans (Eq.trans ?_ (product m c p q).symm)
  exact Finset.sum_congr rfl fun k _ => mul_comm _ _

end Cert.GwDownIdeal.Product

end
-- ==== Proof.Dh2.lean ====
/-
  THE GRADIENT OF THE CHANNEL MIXER'S INPUT: the kernel's two half sums over the hidden columns are one sum.
-/
module

public import proofs.«01_k».proof.Proof.Halves
public import proofs.«01_k».proof.Proof.Gen.Dh2Ideal.Value
public import proofs.«01_k».proof.Proof.Gen.Dh2RefIdeal.Read
public import Idealize.ShloMosaic.Lib.StableHlo
public import Idealize.ShloMosaic.Lib.Tactic

@[expose] public section

set_option maxRecDepth 16384

noncomputable section

namespace Cert.Dh2Ideal.Product

open Cert.Dh2Ideal Cert.Dh2Ideal.Gen Cert.Halves Idealize.ShloMosaic Idealize.ShloMosaic.TcCoe Idealize.SL.Sem

section
variable {F : FTy → Type} [FloatOps F]

/-- The first half: the scratch is left at the block product. -/
theorem sout_A (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x0 : Vec F S1024x4096 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, View.ld_unit_zero (S := S1024x4096) hz, shapeCast_self]

/-- The second half: the block product is added to what the scratch holds, and written out. -/
theorem out_B (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i)
    (x0 : Vec F S1024x4096 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x4096) hz, View.ld_unit_zero (S := S1024x1024) hz]

variable (m : (ℓ : Loc nD τ sig) → Buf (Elt F) ℓ)

/-- The points of the two halves of the block that holds `i`. -/
def point (p : Fin 8192) (q : Fin 2048) (s : Fin 2) : Fin cfg0.N :=
  ⟨2 * (2 * (p.val / 1024) + q.val / 1024) + s.val, lt_of_lt_of_eq (by omega) N_0.symm⟩

theorem outs_A (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_B (c : Dev nD) (t u : Fin cfg0.N) (h : t.val % 2 = 0) (hu : u.val = t.val + 1) :
    (outsAt0 m c u.val u.isLt).1 = k0_pay4 (iblk m c 0 u) (iblk m c 1 u) (k0_pay1 (iblk m c 0 t) (iblk m c 1 t)) := by
  rw [outsAt0_B m c u (by omega) (by omega), ← outs_A m c t h]
  have e : u.val - 1 = t.val := by omega
  simp only [e]
  rw [out_B]

/-- What the array ends holding. -/
theorem array (c : Dev nD) (p : Fin 8192) (q : Fin 2048) :
    ((dats m 0 c).arrAt 2 cfg0.N : Vec F S8192x2048 .bf16) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_B m c (point p q 0) (point p q 1) (by simp only [point]; omega) (by simp only [point]; omega), Value.final2, Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val / 4 ∧ win0_0.index t 1 = t.val % 2 := by decide +kernel
theorem index_1 : ∀ t : Fin grid0.N, win0_1.index t 0 = t.val % 2 ∧ win0_1.index t 1 = t.val / 2 % 2 := by decide +kernel

theorem read_0 (A : Vec F S8192x8192 .bf16) (p : Fin 8192) (q : Fin 2048) (s : Fin 2) (k : Fin 4096) :
    ((cfg0.win 0).blk (point p q s)).view.read (Elt F) A (ix2 (⟨p.val % 1024, by omega⟩ : Fin 1024) k) = A (ix2 p ⟨4096 * s.val + k.val, by omega⟩) := by
  have hi := index_0 (point p q s)
  rw [View.read_apply]
  show A _ = _
  congr 1
  funext a
  apply Fin.ext
  match a with
  | ⟨0, _⟩ => show win0_0.index (point p q s) 0 * 1024 + 1 * (p.val % 1024) = p.val; rw [hi.1]; simp only [point]; omega
  | ⟨1, _⟩ => show win0_0.index (point p q s) 1 * 4096 + 1 * k.val = 4096 * s.val + k.val; rw [hi.2]; simp only [point]; omega

theorem read_1 (A : Vec F S8192x2048 .bf16) (p : Fin 8192) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ q) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; simp only [point]; omega
  | ⟨1, _⟩ => show win0_1.index (point p q s) 1 * 1024 + 1 * (q.val % 1024) = q.val; rw [hi.2]; simp only [point]; omega

/-- The weight, laid out as the host lines before the call prepare it. -/
def weight (w : FVec F S2048x8192 .f32) : FVec F S8192x2048 .bf16 :=
  truncf .bf16 (transpose S8192x2048 [1, 0] w transposes_S2048x8192_S8192x2048_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x4096 .bf16) (x1 : Vec Ideal S4096x1024 .bf16) (p q : Fin 1024) :
    k0_pay1 x0 x1 (ix2 p q) = ∑ k : Fin 4096, x0 (ix2 p k) * x1 (ix2 k q) := by
  pointwise [k0_pay1]

theorem pay_4 (x0 : Vec Ideal S1024x4096 .bf16) (x1 : Vec Ideal S4096x1024 .bf16) (y : Vec Ideal S1024x1024 .f32) (p q : Fin 1024) :
    k0_pay4 x0 x1 y (ix2 p q) = y (ix2 p q) + ∑ k : Fin 4096, x0 (ix2 p k) * x1 (ix2 k q) := by
  rw [← pay_1]
  rfl

variable (m : (ℓ : Loc nD τ sig) → Buf (Elt Ideal) ℓ)

/-- The first argument. -/
abbrev arg0 (c : Dev nD) : FVec Ideal S8192x8192 .bf16 := m ((c : Thread nD τ).loc main_arg0)

theorem left_at (c : Dev nD) (p : Fin 8192) (q : Fin 2048) (s : Fin 2) (k : Fin 4096) :
    (iblk m c 0 (point p q s) : Vec Ideal S1024x4096 .bf16) (ix2 (⟨p.val % 1024, by omega⟩ : Fin 1024) k)
      = (m ((c : Thread nD τ).loc main_arg0) : Vec Ideal S8192x8192 .bf16) (ix2 p ⟨4096 * s.val + k.val, by omega⟩) :=
  (read_0 (V m c main_arg0) p q s k).trans (congrFun (V_main_arg0 m c) _)

theorem right_at (c : Dev nD) (p : Fin 8192) (q : Fin 2048) (s : Fin 2) (k : Fin 4096) :
    (iblk m c 1 (point p q s) : Vec Ideal S4096x1024 .bf16) (ix2 k (⟨q.val % 1024, by omega⟩ : Fin 1024))
      = weight (F := Ideal) (m ((c : Thread nD τ).loc main_arg1)) (ix2 ⟨4096 * s.val + k.val, by omega⟩ q) :=
  (read_1 (V m c main_v1) p q s k).trans (congrFun (V_weight m c) _)

/-- The array is one product. -/
theorem product (c : Dev nD) (p : Fin 8192) (q : Fin 2048) :
    ((dats m 0 c).arrAt 2 cfg0.N : Vec Ideal S8192x2048 .bf16) (ix2 p q)
      = ∑ k : Fin 8192, arg0 m c (ix2 p k) * weight (F := Ideal) (m ((c : Thread nD τ).loc main_arg1)) (ix2 k q) := by
  rw [array, pay_4, pay_1, sum_halves]
  simp only [left_at, right_at]
  rfl

open Cert.Dh2RefIdeal.Read in
/-- The reference's result at an entry. -/
theorem reference_at (x0 : FVec Ideal S8192x8192 .bf16) (x1 : FVec Ideal S2048x8192 .f32) (p : Fin 8192) (q : Fin 2048) :
    (val_main_v4 (F := Ideal) x0 x1 : FVec Ideal S8192x2048 .bf16) (ix2 p q) = ∑ k : Fin 8192, (x0 (ix2 p k) : EReal) * weight (F := Ideal) x1 (ix2 k q) := by
  pointwise [val_main_v4, val_main_v3, val_main_v2, weight]

open Cert.Dh2RefIdeal.Read in
/-- The array is the reference's result. -/
theorem result (c : Dev nD) (x0 : (⟨Cert.Dh2RefIdeal.S8192x8192, .bf16⟩ : BufTy).Contents (Elt Ideal)) (x1 : (⟨Cert.Dh2RefIdeal.S2048x8192, .f32⟩ : BufTy).Contents (Elt Ideal))
    (h0 : x0 = m ((c : Thread nD τ).loc main_arg0)) (h1 : x1 = m ((c : Thread nD τ).loc main_arg1)) :
    val_main_v4 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.Dh2Ideal.Product

end
-- ==== Proof.GwUp.lean ====
/-
  THE GRADIENT OF THE CHANNEL MIXER'S FIRST WEIGHT: the kernel's two half sums over the positions are one sum.
-/
module

public import proofs.«01_k».proof.Proof.Halves
public import proofs.«01_k».proof.Proof.Gen.GwUpIdeal.Value
public import proofs.«01_k».proof.Proof.Gen.GwUpRefIdeal.Read
public import Idealize.ShloMosaic.Lib.StableHlo
public import Idealize.ShloMosaic.Lib.Tactic

@[expose] public section

set_option maxRecDepth 16384

noncomputable section

namespace Cert.GwUpIdeal.Product

open Cert.GwUpIdeal Cert.GwUpIdeal.Gen Cert.Halves Idealize.ShloMosaic Idealize.ShloMosaic.TcCoe Idealize.SL.Sem

section
variable {F : FTy → Type} [FloatOps F]

/-- The first half: the scratch is left at the block product. -/
theorem sout_A (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S4096x1024 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, shapeCast_self]

/-- The second half: the block product is added to what the scratch holds, and written out. -/
theorem out_B (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S4096x1024 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x1024) hz]

variable (m : (ℓ : Loc nD τ sig) → Buf (Elt F) ℓ)

/-- The points of the two halves of the block that holds `i`. -/
def point (p : Fin 8192) (q : Fin 2048) (s : Fin 2) : Fin cfg0.N :=
  ⟨2 * (2 * (p.val / 1024) + q.val / 1024) + s.val, lt_of_lt_of_eq (by omega) N_0.symm⟩

theorem outs_A (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_B (c : Dev nD) (t u : Fin cfg0.N) (h : t.val % 2 = 0) (hu : u.val = t.val + 1) :
    (outsAt0 m c u.val u.isLt).1 = k0_pay4 (iblk m c 0 u) (iblk m c 1 u) (k0_pay1 (iblk m c 0 t) (iblk m c 1 t)) := by
  rw [outsAt0_B m c u (by omega) (by omega), ← outs_A m c t h]
  have e : u.val - 1 = t.val := by omega
  simp only [e]
  rw [out_B]

/-- What the array ends holding. -/
theorem array (c : Dev nD) (p : Fin 8192) (q : Fin 2048) :
    ((dats m 0 c).arrAt 2 cfg0.N : Vec F S8192x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_B m c (point p q 0) (point p q 1) (by simp only [point]; omega) (by simp only [point]; omega), Value.final2, Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel

theorem read_0 (A : Vec F S8192x8192 .bf16) (p : Fin 8192) (q : Fin 2048) (s : Fin 2) (k : Fin 4096) :
    ((cfg0.win 0).blk (point p q s)).view.read (Elt F) A (ix2 k (⟨p.val % 1024, by omega⟩ : Fin 1024)) = A (ix2 ⟨4096 * s.val + k.val, by omega⟩ p) := by
  have hi := index_0 (point p q s)
  rw [View.read_apply]
  show A _ = _
  congr 1
  funext a
  apply Fin.ext
  match a with
  | ⟨0, _⟩ => show win0_0.index (point p q s) 0 * 4096 + 1 * k.val = 4096 * s.val + k.val; rw [hi.1]; simp only [point]; omega
  | ⟨1, _⟩ => show win0_0.index (point p q s) 1 * 1024 + 1 * (p.val % 1024) = p.val; rw [hi.2]; simp only [point]; omega

theorem read_1 (A : Vec F S8192x2048 .bf16) (p : Fin 8192) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ q) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; simp only [point]; omega
  | ⟨1, _⟩ => show win0_1.index (point p q s) 1 * 1024 + 1 * (q.val % 1024) = q.val; rw [hi.2]; simp only [point]; omega

end

/-- The block product at an entry. -/
theorem pay_1 (x0 x1 : Vec Ideal S4096x1024 .bf16) (p q : Fin 1024) :
    k0_pay1 x0 x1 (ix2 p q) = ∑ k : Fin 4096, x0 (ix2 k p) * x1 (ix2 k q) := by
  pointwise [k0_pay1]

theorem pay_4 (x0 x1 : Vec Ideal S4096x1024 .bf16) (y : Vec Ideal S1024x1024 .f32) (p q : Fin 1024) :
    k0_pay4 x0 x1 y (ix2 p q) = y (ix2 p q) + ∑ k : Fin 4096, x0 (ix2 k p) * x1 (ix2 k q) := by
  rw [← pay_1]
  rfl

variable (m : (ℓ : Loc nD τ sig) → Buf (Elt Ideal) ℓ)

/-- The first argument. -/
abbrev arg0 (c : Dev nD) : FVec Ideal S8192x8192 .bf16 := m ((c : Thread nD τ).loc main_arg0)

theorem left_at (c : Dev nD) (p : Fin 8192) (q : Fin 2048) (s : Fin 2) (k : Fin 4096) :
    (iblk m c 0 (point p q s) : Vec Ideal S4096x1024 .bf16) (ix2 k (⟨p.val % 1024, by omega⟩ : Fin 1024))
      = (m ((c : Thread nD τ).loc main_arg0) : Vec Ideal S8192x8192 .bf16) (ix2 ⟨4096 * s.val + k.val, by omega⟩ p) :=
  (read_0 (V m c main_arg0) p q s k).trans (congrFun (V_main_arg0 m c) _)

theorem right_at (c : Dev nD) (p : Fin 8192) (q : Fin 2048) (s : Fin 2) (k : Fin 4096) :
    (iblk m c 1 (point p q s) : Vec Ideal S4096x1024 .bf16) (ix2 k (⟨q.val % 1024, by omega⟩ : Fin 1024))
      = (m ((c : Thread nD τ).loc main_arg1) : Vec Ideal S8192x2048 .bf16) (ix2 ⟨4096 * s.val + k.val, by omega⟩ q) :=
  (read_1 (V m c main_arg1) p q s k).trans (congrFun (V_main_arg1 m c) _)

/-- The array is one product. -/
theorem product (c : Dev nD) (p : Fin 8192) (q : Fin 2048) :
    ((dats m 0 c).arrAt 2 cfg0.N : Vec Ideal S8192x2048 .f32) (ix2 p q)
      = ∑ k : Fin 8192, arg0 m c (ix2 k p) * (m ((c : Thread nD τ).loc main_arg1) : Vec Ideal S8192x2048 .bf16) (ix2 k q) := by
  rw [array, pay_4, pay_1, sum_halves]
  simp only [left_at, right_at]
  rfl

open Cert.GwUpRefIdeal.Read in
/-- The reference's result at an entry. -/
theorem reference_at (x0 : FVec Ideal S8192x8192 .bf16) (x1 : FVec Ideal S8192x2048 .bf16) (p : Fin 8192) (q : Fin 2048) :
    (val_main_v6 (F := Ideal) x0 x1 : FVec Ideal S8192x2048 .f32) (ix2 p q) = ∑ k : Fin 8192, (x0 (ix2 k p) : EReal) * x1 (ix2 k q) := by
  pointwise [val_main_v6, val_main_v5, val_main_v4, val_main_v3, val_main_v1]

open Cert.GwUpRefIdeal.Read in
/-- The array is the reference's result. -/
theorem result (c : Dev nD) (x0 : (⟨Cert.GwUpRefIdeal.S8192x8192, .bf16⟩ : BufTy).Contents (Elt Ideal)) (x1 : (⟨Cert.GwUpRefIdeal.S8192x2048, .bf16⟩ : BufTy).Contents (Elt Ideal))
    (h0 : x0 = m ((c : Thread nD τ).loc main_arg0)) (h1 : x1 = m ((c : Thread nD τ).loc main_arg1)) :
    val_main_v6 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.GwUpIdeal.Product

end
-- ==== Proof.Products.lean ====
/-
  THE CHANNEL MIXER'S BACKWARD PRODUCTS, as the claims state them: the references' frames, and for each call that its
  array is the reference's result.
-/
module

public import proofs.«01_k».proof.Defs
public import proofs.«01_k».proof.Proof.Gen.DActRefIdeal.Run
public import proofs.«01_k».proof.Proof.DAct
public import proofs.«01_k».proof.Proof.Gen.GwDownRefIdeal.Run
public import proofs.«01_k».proof.Proof.GwDown
public import proofs.«01_k».proof.Proof.Gen.Dh2RefIdeal.Run
public import proofs.«01_k».proof.Proof.Dh2
public import proofs.«01_k».proof.Proof.Gen.GwUpRefIdeal.Run
public import proofs.«01_k».proof.Proof.GwUp
public import Idealize.ShloMosaic.Adequacy
public import Idealize.ShloMosaic.Init

@[expose] public section

noncomputable section

namespace Cert.Products

open Idealize.ShloMosaic Idealize.ShloMosaic.TcCoe Idealize.SL.Sem

theorem frame_d_act : Cert.quiescent_DActRefIdeal := fun m ρ _ =>
  (θ_run Cert.DActRefIdeal.defs _ _).mono (fun r h => ⟨fun c => (h c).2, sem_eq_zero_of_no_sems (by decide) r.2⟩) (Cert.DActRefIdeal.Value.run m ρ)

theorem algebraic_d_act : Cert.algebraic_DActIdeal_DActRefIdeal := by
  intro m ρ m' ρ' _ hargs
  refine ⟨_, Cert.DActIdeal.Value.run_blocks m ρ, (θ_run Cert.DActRefIdeal.defs _ _).mono (fun r h c => ?_) (Cert.DActRefIdeal.Value.run m' ρ')⟩
  obtain ⟨h0, hrest⟩ := h c
  obtain ⟨a0, a1, a2⟩ := hargs c
  exact ⟨h0.trans ((Cert.DActRefIdeal.Read.val_main_v13_eq _ _ _).trans (Cert.DActIdeal.Product.result m c _ _ _ a0 a1 a2)), hrest⟩

theorem frame_gw_down : Cert.quiescent_GwDownRefIdeal := fun m ρ _ =>
  (θ_run Cert.GwDownRefIdeal.defs _ _).mono (fun r h => ⟨fun c => (h c).2, sem_eq_zero_of_no_sems (by decide) r.2⟩) (Cert.GwDownRefIdeal.Value.run m ρ)

theorem algebraic_gw_down : Cert.algebraic_GwDownIdeal_GwDownRefIdeal := by
  intro m ρ m' ρ' _ hargs
  refine ⟨_, Cert.GwDownIdeal.Value.run_blocks m ρ, (θ_run Cert.GwDownRefIdeal.defs _ _).mono (fun r h c => ?_) (Cert.GwDownRefIdeal.Value.run m' ρ')⟩
  obtain ⟨h0, hrest⟩ := h c
  obtain ⟨a0, a1⟩ := hargs c
  exact ⟨h0.trans ((Cert.GwDownRefIdeal.Read.val_main_v6_eq _ _).trans (Cert.GwDownIdeal.Product.result m c _ _ a0 a1)), hrest⟩

theorem frame_dh2 : Cert.quiescent_Dh2RefIdeal := fun m ρ _ =>
  (θ_run Cert.Dh2RefIdeal.defs _ _).mono (fun r h => ⟨fun c => (h c).2, sem_eq_zero_of_no_sems (by decide) r.2⟩) (Cert.Dh2RefIdeal.Value.run m ρ)

theorem algebraic_dh2 : Cert.algebraic_Dh2Ideal_Dh2RefIdeal := by
  intro m ρ m' ρ' _ hargs
  refine ⟨_, Cert.Dh2Ideal.Value.run_blocks m ρ, (θ_run Cert.Dh2RefIdeal.defs _ _).mono (fun r h c => ?_) (Cert.Dh2RefIdeal.Value.run m' ρ')⟩
  obtain ⟨h0, hrest⟩ := h c
  obtain ⟨a0, a1⟩ := hargs c
  exact ⟨h0.trans ((Cert.Dh2RefIdeal.Read.val_main_v4_eq _ _).trans (Cert.Dh2Ideal.Product.result m c _ _ a0 a1)), hrest⟩

theorem frame_gw_up : Cert.quiescent_GwUpRefIdeal := fun m ρ _ =>
  (θ_run Cert.GwUpRefIdeal.defs _ _).mono (fun r h => ⟨fun c => (h c).2, sem_eq_zero_of_no_sems (by decide) r.2⟩) (Cert.GwUpRefIdeal.Value.run m ρ)

theorem algebraic_gw_up : Cert.algebraic_GwUpIdeal_GwUpRefIdeal := by
  intro m ρ m' ρ' _ hargs
  refine ⟨_, Cert.GwUpIdeal.Value.run_blocks m ρ, (θ_run Cert.GwUpRefIdeal.defs _ _).mono (fun r h c => ?_) (Cert.GwUpRefIdeal.Value.run m' ρ')⟩
  obtain ⟨h0, hrest⟩ := h c
  obtain ⟨a0, a1⟩ := hargs c
  exact ⟨h0.trans ((Cert.GwUpRefIdeal.Read.val_main_v6_eq _ _).trans (Cert.GwUpIdeal.Product.result m c _ _ a0 a1)), hrest⟩

end Cert.Products

end
-- ==== Proof.Up.lean ====
/-
  THE CHANNEL MIXER'S HIDDEN COLUMNS: each block is a whole product, its positive part and the square of that.
-/
module

public import proofs.«01_k».proof.Proof.Halves
public import proofs.«01_k».proof.Proof.Gen.UpIdeal.Value
public import proofs.«01_k».proof.Proof.Gen.UpRefIdeal.Read
public import Idealize.ShloMosaic.Lib.StableHlo
public import Idealize.ShloMosaic.Lib.Tactic

@[expose] public section

set_option maxRecDepth 16384

noncomputable section

namespace Cert.UpIdeal.Product

open Cert.UpIdeal Cert.UpIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 8192) : Fin cfg0.N :=
  ⟨4 * (p.val / 1024) + q.val / 2048, lt_of_lt_of_eq (by omega) N_0.symm⟩

/-! ### The blocks read -/

theorem index_0 : ∀ t : Fin grid0.N, win0_0.index t 0 = t.val / 4 ∧ win0_0.index t 1 = 0 := by decide +kernel
theorem index_1 : ∀ t : Fin grid0.N, win0_1.index t 0 = t.val % 4 ∧ win0_1.index t 1 = 0 := by decide +kernel
theorem index_2 : ∀ t : Fin grid0.N, win0_2.index t 0 = t.val / 4 ∧ win0_2.index t 1 = t.val % 4 := by decide +kernel
theorem index_3 : ∀ t : Fin grid0.N, win0_3.index t 0 = t.val / 4 ∧ win0_3.index t 1 = t.val % 4 := by decide +kernel

theorem read_0 (A : Vec F S8192x2048 .bf16) (p : Fin 8192) (q : Fin 8192) (k : Fin 2048) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = k.val; rw [hi.2]; first | omega | (simp only [point]; omega)

theorem read_1 (A : Vec F S8192x2048 .bf16) (p : Fin 8192) (q : Fin 8192) (k : Fin 2048) :
    ((cfg0.win 1).blk (point p q)).view.read (Elt F) A (ix2 (⟨q.val % 2048, by omega⟩ : Fin 2048) k) = A (ix2 q k) := by
  have hi := index_1 (point p q)
  rw [View.read_apply]
  show A _ = _
  congr 1
  funext a
  apply Fin.ext
  match a with
  | ⟨0, _⟩ => show win0_1.index (point p q) 0 * 2048 + 1 * (q.val % 2048) = q.val; rw [hi.1]; first | omega | (simp only [point]; omega)
  | ⟨1, _⟩ => show win0_1.index (point p q) 1 * 2048 + 1 * k.val = k.val; rw [hi.2]; first | omega | (simp only [point]; omega)

theorem read_2 (A : Vec F S8192x8192 .bf16) (p : Fin 8192) (q : Fin 8192) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x2048 .bf16) (x1 : Vec F S2048x2048 .bf16) :
    out0_2 x0 x1 = k0_pay2 x0 x1 := by
  unfold out0_2
  rw [View.canon_unit_zero hz, View.ld_unit_zero (S := S1024x2048) hz, View.ld_unit_zero (S := S2048x2048) hz]

/-- What the array ends holding. -/
theorem array_2 (c : Dev nD) (p : Fin 8192) (q : Fin 8192) :
    ((dats m 0 c).arrAt 2 cfg0.N : Vec F S8192x8192 .bf16) (ix2 p q)
      = k0_pay2 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

theorem read_3 (A : Vec F S8192x8192 .bf16) (p : Fin 8192) (q : Fin 8192) :
    ((cfg0.win 3).blk (point p q)).view.read (Elt F) A (ix2 (⟨p.val % 1024, by omega⟩ : Fin 1024) (⟨q.val % 2048, by omega⟩ : Fin 2048)) = A (ix2 p q) := by
  have hi := index_3 (point p q)
  rw [View.read_apply]
  show A _ = _
  congr 1
  funext a
  apply Fin.ext
  match a with
  | ⟨0, _⟩ => show win0_3.index (point p q) 0 * 1024 + 1 * (p.val % 1024) = p.val; rw [hi.1]; first | omega | (simp only [point]; omega)
  | ⟨1, _⟩ => show win0_3.index (point p q) 1 * 2048 + 1 * (q.val % 2048) = q.val; rw [hi.2]; first | omega | (simp only [point]; omega)

/-- The block a point writes is the payload of the blocks it reads. -/
theorem out_eq_3 (x0 : Vec F S1024x2048 .bf16) (x1 : Vec F S2048x2048 .bf16) :
    out0_3 x0 x1 = k0_pay3 x0 x1 := by
  unfold out0_3
  rw [View.canon_unit_zero hz, View.ld_unit_zero (S := S1024x2048) hz, View.ld_unit_zero (S := S2048x2048) hz]

/-- What the array ends holding. -/
theorem array_3 (c : Dev nD) (p : Fin 8192) (q : Fin 8192) :
    ((dats m 0 c).arrAt 3 cfg0.N : Vec F S8192x8192 .bf16) (ix2 p q)
      = k0_pay3 (iblk m c 0 (point p q)) (iblk m c 1 (point p q))
          (ix2 (⟨p.val % 1024, by omega⟩ : Fin 1024) (⟨q.val % 2048, by omega⟩ : Fin 2048)) := by
  refine (read_3 ((dats m 0 c).arrAt 3 cfg0.N) p q).symm.trans ?_
  refine (congrFun (Value.blocks3 m c (point p q) (flush0_3 (point p q))) _).trans ?_
  rw [Value.flushed3, out_eq_3]
  rfl

/-- The weight, laid out as the host lines before the call prepare it. -/
def weight (x : FVec F S2048x8192 .f32) : FVec F S8192x2048 .bf16 :=
  truncf .bf16 (transpose S8192x2048 [1, 0] x transposes_S2048x8192_S8192x2048_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The positive part of the block product, at an entry. -/
theorem pay_1 (x0 : Vec Ideal S1024x2048 .bf16) (x1 : Vec Ideal S2048x2048 .bf16) (p : Fin 1024) (q : Fin 2048) :
    k0_pay1 x0 x1 (ix2 p q) = max (∑ k : Fin 2048, x0 (ix2 p k) * x1 (ix2 q k) : EReal) 0 := by
  pointwise [k0_pay1]

variable (m : (ℓ : Loc nD τ sig) → Buf (Elt Ideal) ℓ)

/-- The first argument. -/
abbrev arg0 (c : Dev nD) : FVec Ideal S8192x2048 .bf16 := m ((c : Thread nD τ).loc main_arg0)

theorem left_at (c : Dev nD) (p : Fin 8192) (q : Fin 8192) (k : Fin 2048) :
    (iblk m c 0 (point p q) : Vec Ideal S1024x2048 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 8192) (k : Fin 2048) :
    (iblk m c 1 (point p q) : Vec Ideal S2048x2048 .bf16) (ix2 (⟨q.val % 2048, by omega⟩ : Fin 2048) k)
      = weight (F := Ideal) (m ((c : Thread nD τ).loc main_arg1)) (ix2 q k) :=
  (read_1 (V m c main_v1) p q k).trans (congrFun (V_weight m c) _)

/-- The product at an entry. -/
def entry (x0 : FVec Ideal S8192x2048 .bf16) (x1 : FVec Ideal S2048x8192 .f32) (p : Fin 8192) (q : Fin 8192) : EReal :=
  ∑ k : Fin 2048, (x0 (ix2 p k) : EReal) * weight (F := Ideal) x1 (ix2 q k)

theorem pay_2 (x0 : Vec Ideal S1024x2048 .bf16) (x1 : Vec Ideal S2048x2048 .bf16) (i : S1024x2048.Idx) :
    k0_pay2 x0 x1 i = k0_pay1 x0 x1 i := rfl

theorem product_2 (c : Dev nD) (p : Fin 8192) (q : Fin 8192) :
    ((dats m 0 c).arrAt 2 cfg0.N : Vec Ideal S8192x8192 .bf16) (ix2 p q) = max (entry (m ((c : Thread nD τ).loc main_arg0)) (m ((c : Thread nD τ).loc main_arg1)) p q) 0 := by
  rw [array_2, pay_2, pay_1]
  simp only [left_at, right_at] <;> rfl

open Cert.UpRefIdeal.Read in
/-- The reference's result at an entry. -/
theorem reference_at_2 (x0 : FVec Ideal S8192x2048 .bf16) (x1 : FVec Ideal S2048x8192 .f32) (p : Fin 8192) (q : Fin 8192) :
    (val_main_v3 (F := Ideal) x0 x1 : FVec Ideal S8192x8192 .bf16) (ix2 p q) = max (entry x0 x1 p q) 0 := by
  unfold entry
  pointwise [val_main_v3, val_main_v2, val_main_v1, val_main_v0, val_main_call0_v0, val_main_call0_cst, weight]

open Cert.UpRefIdeal.Read in
/-- The array is the reference's result. -/
theorem result_2 (c : Dev nD) (x0 : (⟨Cert.UpRefIdeal.S8192x2048, .bf16⟩ : BufTy).Contents (Elt Ideal)) (x1 : (⟨Cert.UpRefIdeal.S2048x8192, .f32⟩ : BufTy).Contents (Elt Ideal))
    (h0 : x0 = m ((c : Thread nD τ).loc main_arg0)) (h1 : x1 = m ((c : Thread nD τ).loc main_arg1)) :
    val_main_v3 (F := Ideal) x0 x1 = (dats m 0 c).arrAt 2 cfg0.N := by
  subst h0 h1
  funext i
  obtain ⟨p, q, rfl⟩ : ∃ (p : Fin 8192) (q : Fin 8192), i = ix2 p q := ⟨i 0, i 1, (ix2_eta i).symm⟩
  exact (reference_at_2 _ _ p q).trans (product_2 m c p q).symm

theorem pay_3 (x0 : Vec Ideal S1024x2048 .bf16) (x1 : Vec Ideal S2048x2048 .bf16) (i : S1024x2048.Idx) :
    k0_pay3 x0 x1 i = k0_pay1 x0 x1 i * k0_pay1 x0 x1 i := rfl

theorem product_3 (c : Dev nD) (p : Fin 8192) (q : Fin 8192) :
    ((dats m 0 c).arrAt 3 cfg0.N : Vec Ideal S8192x8192 .bf16) (ix2 p q) = max (entry (m ((c : Thread nD τ).loc main_arg0)) (m ((c : Thread nD τ).loc main_arg1)) p q) 0 * max (entry (m ((c : Thread nD τ).loc main_arg0)) (m ((c : Thread nD τ).loc main_arg1)) p q) 0 := by
  rw [array_3, pay_3, pay_1]
  simp only [left_at, right_at] <;> rfl

open Cert.UpRefIdeal.Read in
/-- The reference's result at an entry. -/
theorem reference_at_3 (x0 : FVec Ideal S8192x2048 .bf16) (x1 : FVec Ideal S2048x8192 .f32) (p : Fin 8192) (q : Fin 8192) :
    (val_main_v5 (F := Ideal) x0 x1 : FVec Ideal S8192x8192 .bf16) (ix2 p q) = max (entry x0 x1 p q) 0 * max (entry x0 x1 p q) 0 := by
  unfold entry
  pointwise [val_main_v5, val_main_v4, val_main_v2, val_main_v1, val_main_v0, val_main_call0_v0, val_main_call0_cst, weight]

open Cert.UpRefIdeal.Read in
/-- The array is the reference's result. -/
theorem result_3 (c : Dev nD) (x0 : (⟨Cert.UpRefIdeal.S8192x2048, .bf16⟩ : BufTy).Contents (Elt Ideal)) (x1 : (⟨Cert.UpRefIdeal.S2048x8192, .f32⟩ : BufTy).Contents (Elt Ideal))
    (h0 : x0 = m ((c : Thread nD τ).loc main_arg0)) (h1 : x1 = m ((c : Thread nD τ).loc main_arg1)) :
    val_main_v5 (F := Ideal) x0 x1 = (dats m 0 c).arrAt 3 cfg0.N := by
  subst h0 h1
  funext i
  obtain ⟨p, q, rfl⟩ : ∃ (p : Fin 8192) (q : Fin 8192), i = ix2 p q := ⟨i 0, i 1, (ix2_eta i).symm⟩
  exact (reference_at_3 _ _ p q).trans (product_3 m c p q).symm

end Cert.UpIdeal.Product

end
-- ==== Proof.Down.lean ====
/-
  THE CHANNEL MIXER'S OUTPUT: the kernel's two half sums over the hidden columns are one sum.
-/
module

public import proofs.«01_k».proof.Proof.Halves
public import proofs.«01_k».proof.Proof.Gen.DownIdeal.Value
public import proofs.«01_k».proof.Proof.Gen.DownRefIdeal.Read
public import Idealize.ShloMosaic.Lib.StableHlo
public import Idealize.ShloMosaic.Lib.Tactic

@[expose] public section

set_option maxRecDepth 16384

noncomputable section

namespace Cert.DownIdeal.Product

open Cert.DownIdeal Cert.DownIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S1024x4096 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1024x4096) hz, View.ld_unit_zero (S := S4096x1024) hz, shapeCast_self]

/-- The last part: the block product is added to what the scratch holds, and written out. -/
theorem out_last (c : Dev nD) (i : grid0.Coords) (a3 : Memref sig .tc .vmem S1024x4096 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S1024x4096 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1024x4096) hz, View.ld_unit_zero (S := S4096x1024) hz, View.ld_unit_zero (S := S1024x1024) hz]

variable (m : (ℓ : Loc nD τ sig) → Buf (Elt F) ℓ)

/-- The points that compute the block that holds an entry. -/
def point (p : Fin 8192) (q : Fin 2048) (s : Fin 2) : Fin cfg0.N :=
  ⟨2 * (2 * (p.val / 1024) + q.val / 1024) + s.val, lt_of_lt_of_eq (by omega) N_0.symm⟩

theorem outs_first (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_last (c : Dev nD) (t u : Fin cfg0.N) (h : u.val % 2 = 1) (hu : u.val = t.val + 1) :
    (outsAt0 m c u.val u.isLt).1 = k0_pay4 (iblk m c 0 u) (iblk m c 1 u) (outsAt0 m c t.val t.isLt).2 := by
  rw [outsAt0_B m c u (by omega) h]
  have e : u.val - 1 = t.val := by omega
  simp only [e]
  rw [out_last]

/-- What the array ends holding. -/
theorem array (c : Dev nD) (p : Fin 8192) (q : Fin 2048) :
    ((dats m 0 c).arrAt 2 cfg0.N : Vec F S8192x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_first m c (point p q 0) (by simp only [point]; omega),
    ← outs_last m c (point p q 0) (point p q 1) (by simp only [point]; omega) (by simp only [point]; omega),
    Value.final2,
    Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val / 4 ∧ win0_0.index t 1 = t.val % 2 := by decide +kernel
theorem index_1 : ∀ t : Fin grid0.N, win0_1.index t 0 = t.val % 2 ∧ win0_1.index t 1 = t.val / 2 % 2 := by decide +kernel

theorem read_0 (A : Vec F S8192x8192 .bf16) (p : Fin 8192) (q : Fin 2048) (s : Fin 2) (k : Fin 4096) :
    ((cfg0.win 0).blk (point p q s)).view.read (Elt F) A (ix2 (⟨p.val % 1024, by omega⟩ : Fin 1024) k) = A (ix2 p ⟨4096 * s.val + k.val, by omega⟩) := by
  have hi := index_0 (point p q s)
  rw [View.read_apply]
  show A _ = _
  congr 1
  funext a
  apply Fin.ext
  match a with
  | ⟨0, _⟩ => show win0_0.index (point p q s) 0 * 1024 + 1 * (p.val % 1024) = p.val; rw [hi.1]; first | omega | (simp only [point]; omega)
  | ⟨1, _⟩ => show win0_0.index (point p q s) 1 * 4096 + 1 * k.val = 4096 * s.val + k.val; rw [hi.2]; first | omega | (simp only [point]; omega)

theorem read_1 (A : Vec F S8192x2048 .bf16) (p : Fin 8192) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ q) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; first | omega | (simp only [point]; omega)
  | ⟨1, _⟩ => show win0_1.index (point p q s) 1 * 1024 + 1 * (q.val % 1024) = q.val; rw [hi.2]; first | omega | (simp only [point]; omega)

/-- The squared activations, as the host lines before the call prepare them. -/
def squares (x : FVec F S8192x8192 .f32) : FVec F S8192x8192 .bf16 :=
  have a : FVec F S8192x8192 .f32 := maximumf x (broadcastInDim S8192x8192 ![] bcast_S_S8192x8192 (constant S_ .f32 0x00000000#32))
  truncf .bf16 (mulf a a) bitsLt_bf16_f32

theorem V_squares (c : Dev nD) : V m c main_v2 = squares (m ((c : Thread nD τ).loc main_arg0)) := by
  unfold V
  simp only [hostOps0, List.flatten_cons, List.flatten_nil, List.append_nil, List.cons_append, List.nil_append]
  after_results
  simp only [StableHlo.TRef.toBuf, StableHlo.TRef.ofBuf, cast_eq, id_eq]
  rfl

/-- The weight, laid out as the host lines before the call prepare it. -/
def weight (x : FVec F S8192x2048 .f32) : FVec F S8192x2048 .bf16 :=
  truncf .bf16 x bitsLt_bf16_f32

theorem V_weight (c : Dev nD) : V m c main_v3 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x4096 .bf16) (x1 : Vec Ideal S4096x1024 .bf16) (p : Fin 1024) (q : Fin 1024) :
    k0_pay1 x0 x1 (ix2 p q) = ∑ k : Fin 4096, x0 (ix2 p k) * x1 (ix2 k q) := by
  pointwise [k0_pay1]

theorem pay_4 (x0 : Vec Ideal S1024x4096 .bf16) (x1 : Vec Ideal S4096x1024 .bf16) (y : Vec Ideal S1024x1024 .f32) (p : Fin 1024) (q : Fin 1024) :
    k0_pay4 x0 x1 y (ix2 p q) = y (ix2 p q) + ∑ k : Fin 4096, x0 (ix2 p k) * x1 (ix2 k q) := by
  rw [← pay_1]
  rfl

variable (m : (ℓ : Loc nD τ sig) → Buf (Elt Ideal) ℓ)

theorem left_at (c : Dev nD) (p : Fin 8192) (q : Fin 2048) (s : Fin 2) (k : Fin 4096) :
    (iblk m c 0 (point p q s) : Vec Ideal S1024x4096 .bf16) (ix2 (⟨p.val % 1024, by omega⟩ : Fin 1024) k)
      = squares (F := Ideal) (m ((c : Thread nD τ).loc main_arg0)) (ix2 p ⟨4096 * s.val + k.val, by omega⟩) :=
  (read_0 (V m c main_v2) p q s k).trans (congrFun (V_squares m c) _)

theorem right_at (c : Dev nD) (p : Fin 8192) (q : Fin 2048) (s : Fin 2) (k : Fin 4096) :
    (iblk m c 1 (point p q s) : Vec Ideal S4096x1024 .bf16) (ix2 k (⟨q.val % 1024, by omega⟩ : Fin 1024))
      = weight (F := Ideal) (m ((c : Thread nD τ).loc main_arg1)) (ix2 ⟨4096 * s.val + k.val, by omega⟩ q) :=
  (read_1 (V m c main_v3) p q s k).trans (congrFun (V_weight m c) _)

/-- The array is one product. -/
theorem product (c : Dev nD) (p : Fin 8192) (q : Fin 2048) :
    ((dats m 0 c).arrAt 2 cfg0.N : Vec Ideal S8192x2048 .f32) (ix2 p q)
      = ∑ k : Fin 8192, squares (F := Ideal) (m ((c : Thread nD τ).loc main_arg0)) (ix2 p k) * weight (F := Ideal) (m ((c : Thread nD τ).loc main_arg1)) (ix2 k q) := by
  rw [array, pay_4, pay_1, sum_halves]
  simp only [left_at, right_at] <;> rfl

open Cert.DownRefIdeal.Read in
/-- The reference's result at an entry. -/
theorem reference_at (x0 : FVec Ideal S8192x8192 .f32) (x1 : FVec Ideal S8192x2048 .f32) (p : Fin 8192) (q : Fin 2048) :
    (val_main_v2 (F := Ideal) x0 x1 : FVec Ideal S8192x2048 .f32) (ix2 p q) = ∑ k : Fin 8192, (squares (F := Ideal) x0 (ix2 p k) : EReal) * weight (F := Ideal) x1 (ix2 k q) := by
  pointwise [val_main_v2, val_main_v1, val_main_v0, val_main_call0_v0, val_main_call0_cst, squares, weight]

open Cert.DownRefIdeal.Read in
/-- The array is the reference's result. -/
theorem result (c : Dev nD) (x0 : (⟨Cert.DownRefIdeal.S8192x8192, .f32⟩ : BufTy).Contents (Elt Ideal)) (x1 : (⟨Cert.DownRefIdeal.S8192x2048, .f32⟩ : BufTy).Contents (Elt Ideal))
    (h0 : x0 = m ((c : Thread nD τ).loc main_arg0)) (h1 : x1 = m ((c : Thread nD τ).loc main_arg1)) :
    val_main_v2 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.DownIdeal.Product

end
-- ==== Proof.InZ.lean ====
/-
  THE INPUT PROJECTION: each block is a whole product.
-/
module

public import proofs.«01_k».proof.Proof.Halves
public import proofs.«01_k».proof.Proof.Gen.InZIdeal.Value
public import proofs.«01_k».proof.Proof.Gen.InZRefIdeal.Read
public import Idealize.ShloMosaic.Lib.StableHlo
public import Idealize.ShloMosaic.Lib.Tactic

@[expose] public section

set_option maxRecDepth 16384

noncomputable section

namespace Cert.InZIdeal.Product

open Cert.InZIdeal Cert.InZIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 6400) : Fin cfg0.N :=
  ⟨5 * (p.val / 1024) + q.val / 1280, lt_of_lt_of_eq (by omega) N_0.symm⟩

/-! ### The blocks read -/

theorem index_0 : ∀ t : Fin grid0.N, win0_0.index t 0 = t.val / 5 ∧ win0_0.index t 1 = 0 := by decide +kernel
theorem index_1 : ∀ t : Fin grid0.N, win0_1.index t 0 = t.val % 5 ∧ win0_1.index t 1 = 0 := by decide +kernel
theorem index_2 : ∀ t : Fin grid0.N, win0_2.index t 0 = t.val / 5 ∧ win0_2.index t 1 = t.val % 5 := by decide +kernel

theorem read_0 (A : Vec F S8192x2048 .bf16) (p : Fin 8192) (q : Fin 6400) (k : Fin 2048) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = k.val; rw [hi.2]; first | omega | (simp only [point]; omega)

theorem read_1 (A : Vec F S6400x2048 .bf16) (p : Fin 8192) (q : Fin 6400) (k : Fin 2048) :
    ((cfg0.win 1).blk (point p q)).view.read (Elt F) A (ix2 (⟨q.val % 1280, by omega⟩ : Fin 1280) k) = A (ix2 q k) := by
  have hi := index_1 (point p q)
  rw [View.read_apply]
  show A _ = _
  congr 1
  funext a
  apply Fin.ext
  match a with
  | ⟨0, _⟩ => show win0_1.index (point p q) 0 * 1280 + 1 * (q.val % 1280) = q.val; rw [hi.1]; first | omega | (simp only [point]; omega)
  | ⟨1, _⟩ => show win0_1.index (point p q) 1 * 2048 + 1 * k.val = k.val; rw [hi.2]; first | omega | (simp only [point]; omega)

theorem read_2 (A : Vec F S8192x6400 .f32) (p : Fin 8192) (q : Fin 6400) :
    ((cfg0.win 2).blk (point p q)).view.read (Elt F) A (ix2 (⟨p.val % 1024, by omega⟩ : Fin 1024) (⟨q.val % 1280, by omega⟩ : Fin 1280)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 1280 + 1 * (q.val % 1280) = q.val; rw [hi.2]; first | omega | (simp only [point]; omega)

/-- The block a point writes is the payload of the blocks it reads. -/
theorem out_eq_2 (x0 : Vec F S1024x2048 .bf16) (x1 : Vec F S1280x2048 .bf16) :
    out0_2 x0 x1 = k0_pay1 x0 x1 := by
  unfold out0_2
  rw [View.canon_unit_zero hz, View.ld_unit_zero (S := S1024x2048) hz, View.ld_unit_zero (S := S1280x2048) hz]

/-- What the array ends holding. -/
theorem array_2 (c : Dev nD) (p : Fin 8192) (q : Fin 6400) :
    ((dats m 0 c).arrAt 2 cfg0.N : Vec F S8192x6400 .f32) (ix2 p q)
      = k0_pay1 (iblk m c 0 (point p q)) (iblk m c 1 (point p q))
          (ix2 (⟨p.val % 1024, by omega⟩ : Fin 1024) (⟨q.val % 1280, by omega⟩ : Fin 1280)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x6400 .f32) : FVec F S6400x2048 .bf16 :=
  truncf .bf16 (transpose S6400x2048 [1, 0] x transposes_S2048x6400_S6400x2048_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x2048 .bf16) (x1 : Vec Ideal S1280x2048 .bf16) (p : Fin 1024) (q : Fin 1280) :
    k0_pay1 x0 x1 (ix2 p q) = ∑ k : Fin 2048, x0 (ix2 p k) * x1 (ix2 q k) := by
  pointwise [k0_pay1]

variable (m : (ℓ : Loc nD τ sig) → Buf (Elt Ideal) ℓ)

/-- The first argument. -/
abbrev arg0 (c : Dev nD) : FVec Ideal S8192x2048 .bf16 := m ((c : Thread nD τ).loc main_arg0)

theorem left_at (c : Dev nD) (p : Fin 8192) (q : Fin 6400) (k : Fin 2048) :
    (iblk m c 0 (point p q) : Vec Ideal S1024x2048 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 6400) (k : Fin 2048) :
    (iblk m c 1 (point p q) : Vec Ideal S1280x2048 .bf16) (ix2 (⟨q.val % 1280, by omega⟩ : Fin 1280) k)
      = weight (F := Ideal) (m ((c : Thread nD τ).loc main_arg1)) (ix2 q k) :=
  (read_1 (V m c main_v1) p q k).trans (congrFun (V_weight m c) _)

/-- The array is one product. -/
theorem product (c : Dev nD) (p : Fin 8192) (q : Fin 6400) :
    ((dats m 0 c).arrAt 2 cfg0.N : Vec Ideal S8192x6400 .f32) (ix2 p q)
      = ∑ k : Fin 2048, arg0 m c (ix2 p k) * weight (F := Ideal) (m ((c : Thread nD τ).loc main_arg1)) (ix2 q k) := by
  rw [array_2, pay_1]
  simp only [left_at, right_at] <;> rfl

open Cert.InZRefIdeal.Read in
/-- The reference's result at an entry. -/
theorem reference_at (x0 : FVec Ideal S8192x2048 .bf16) (x1 : FVec Ideal S2048x6400 .f32) (p : Fin 8192) (q : Fin 6400) :
    (val_main_v1 (F := Ideal) x0 x1 : FVec Ideal S8192x6400 .f32) (ix2 p q) = ∑ k : Fin 2048, (x0 (ix2 p k) : EReal) * weight (F := Ideal) x1 (ix2 q k) := by
  pointwise [val_main_v1, val_main_v0, weight]

open Cert.InZRefIdeal.Read in
/-- The array is the reference's result. -/
theorem result (c : Dev nD) (x0 : (⟨Cert.InZRefIdeal.S8192x2048, .bf16⟩ : BufTy).Contents (Elt Ideal)) (x1 : (⟨Cert.InZRefIdeal.S2048x6400, .f32⟩ : BufTy).Contents (Elt Ideal))
    (h0 : x0 = m ((c : Thread nD τ).loc main_arg0)) (h1 : x1 = m ((c : Thread nD τ).loc main_arg1)) :
    val_main_v1 (F := Ideal) x0 x1 = (dats m 0 c).arrAt 2 cfg0.N := by
  subst h0 h1
  funext i
  obtain ⟨p, q, rfl⟩ : ∃ (p : Fin 8192) (q : Fin 6400), i = ix2 p q := ⟨i 0, i 1, (ix2_eta i).symm⟩
  exact (reference_at _ _ p q).trans (product m c p q).symm

end Cert.InZIdeal.Product

end
-- ==== Proof.InGw.lean ====
/-
  THE GRADIENT OF THE INPUT PROJECTION'S WEIGHT: the kernel's four part sums over the positions are one sum.
-/
module

public import proofs.«01_k».proof.Proof.Halves
public import proofs.«01_k».proof.Proof.Gen.InGwIdeal.Value
public import proofs.«01_k».proof.Proof.Gen.InGwRefIdeal.Read
public import Idealize.ShloMosaic.Lib.StableHlo
public import Idealize.ShloMosaic.Lib.Tactic

@[expose] public section

set_option maxRecDepth 16384

noncomputable section

namespace Cert.InGwIdeal.Product

open Cert.InGwIdeal Cert.InGwIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S2048x1280 .bf16) (h3 : a3.IsWhole) (a4 : Memref sig .tc .vmem S2048x1024 .bf16) (h4 : a4.IsWhole) (a5 : Memref sig .tc .vmem S1280x1024 .f32) (h5 : a5.IsWhole) (a6 : Memref sig .tc .vmem S1280x1024 .f32) (h6 : a6.IsWhole) (hc0 : cond0_0 i) (hc1 : ¬cond0_1 i) (hc2 : ¬cond0_2 i)
    (x0 : Vec F S2048x1280 .bf16) (x1 : Vec F S2048x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S2048x1280) hz, View.ld_unit_zero (S := S2048x1024) hz, shapeCast_self]

/-- A part between: the block product is added to what the scratch holds. -/
theorem sout_B (c : Dev nD) (i : grid0.Coords) (a3 : Memref sig .tc .vmem S2048x1280 .bf16) (h3 : a3.IsWhole) (a4 : Memref sig .tc .vmem S2048x1024 .bf16) (h4 : a4.IsWhole) (a5 : Memref sig .tc .vmem S1280x1024 .f32) (h5 : a5.IsWhole) (a6 : Memref sig .tc .vmem S1280x1024 .f32) (h6 : a6.IsWhole) (hc0 : ¬cond0_0 i) (hc1 : cond0_1 i) (hc2 : ¬cond0_2 i)
    (x0 : Vec F S2048x1280 .bf16) (x1 : Vec F S2048x1024 .bf16) (xs : Vec F S1280x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1280) hz, View.ld_unit_zero (S := S2048x1024) hz, View.ld_unit_zero (S := S1280x1024) hz]

/-- The last part: the block product is added to what the scratch holds, and written out. -/
theorem out_last (c : Dev nD) (i : grid0.Coords) (a3 : Memref sig .tc .vmem S2048x1280 .bf16) (h3 : a3.IsWhole) (a4 : Memref sig .tc .vmem S2048x1024 .bf16) (h4 : a4.IsWhole) (a5 : Memref sig .tc .vmem S1280x1024 .f32) (h5 : a5.IsWhole) (a6 : Memref sig .tc .vmem S1280x1024 .f32) (h6 : a6.IsWhole) (hc0 : ¬cond0_0 i) (hc1 : ¬cond0_1 i) (hc2 : cond0_2 i)
    (x0 : Vec F S2048x1280 .bf16) (x1 : Vec F S2048x1024 .bf16) (xs : Vec F S1280x1024 .f32) :
    out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S2048x1280) hz, View.ld_unit_zero (S := S2048x1024) hz, View.ld_unit_zero (S := S1280x1024) hz]

variable (m : (ℓ : Loc nD τ sig) → Buf (Elt F) ℓ)

/-- The points that compute the block that holds an entry. -/
def point (p : Fin 6400) (q : Fin 2048) (s : Fin 4) : Fin cfg0.N :=
  ⟨4 * (2 * (p.val / 1280) + q.val / 1024) + s.val, lt_of_lt_of_eq (by omega) N_0.symm⟩

theorem outs_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  rw [sout_A]

theorem outs_between (c : Dev nD) (t u : Fin cfg0.N) (h : 1 ≤ u.val % 4 ∧ u.val % 4 ≤ 2) (hu : u.val = t.val + 1) :
    (outsAt0 m c u.val u.isLt).2 = k0_pay3 (iblk m c 0 u) (iblk m c 1 u) (outsAt0 m c t.val t.isLt).2 := by
  rw [outsAt0_B m c u (by omega) h (by omega)]
  have e : u.val - 1 = t.val := by omega
  simp only [e]
  rw [sout_B]

theorem outs_last (c : Dev nD) (t u : Fin cfg0.N) (h : u.val % 4 = 3) (hu : u.val = t.val + 1) :
    (outsAt0 m c u.val u.isLt).1 = k0_pay4 (iblk m c 0 u) (iblk m c 1 u) (outsAt0 m c t.val t.isLt).2 := by
  rw [outsAt0_C m c u (by omega) (by omega) h]
  have e : u.val - 1 = t.val := by omega
  simp only [e]
  rw [out_last]

/-- What the array ends holding. -/
theorem array (c : Dev nD) (p : Fin 6400) (q : Fin 2048) :
    ((dats m 0 c).arrAt 2 cfg0.N : Vec F S6400x2048 .f32) (ix2 p q)
      = k0_pay4 (iblk m c 0 (point p q 3)) (iblk m c 1 (point p q 3)) (k0_pay3 (iblk m c 0 (point p q 2)) (iblk m c 1 (point p q 2)) (k0_pay3 (iblk m c 0 (point p q 1)) (iblk m c 1 (point p q 1)) (k0_pay1 (iblk m c 0 (point p q 0)) (iblk m c 1 (point p q 0)))))
          (ix2 (⟨p.val % 1280, by omega⟩ : Fin 1280) (⟨q.val % 1024, by omega⟩ : Fin 1024)) := by
  rw [← outs_first m c (point p q 0) (by simp only [point]; omega),
    ← outs_between m c (point p q 0) (point p q 1) (by simp only [point]; omega) (by simp only [point]; omega),
    ← outs_between m c (point p q 1) (point p q 2) (by simp only [point]; omega) (by simp only [point]; omega),
    ← outs_last m c (point p q 2) (point p q 3) (by simp only [point]; omega) (by simp only [point]; omega),
    Value.final2,
    Value.outsAt0_sweep]
  have hp : Value.pt2Of (ix2 p q) = (point p q 3).val := by
    show 4 * (2 * (p.val / 1280 - 0) + 1 * (q.val / 1024 - 0)) + 3 = 4 * (2 * (p.val / 1280) + q.val / 1024) + 3
    omega
  unfold Value.G2
  rw [dif_pos (by rw [hp]; exact (point p q 3).isLt), Value.fold0_congr m c _ _ _ _ hp]
  have hl : Value.loc2Of (ix2 p q) = ix2 (⟨p.val % 1280, by omega⟩ : Fin 1280) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 4 ∧ win0_0.index t 1 = t.val / 8 := by decide +kernel
theorem index_1 : ∀ t : Fin grid0.N, win0_1.index t 0 = t.val % 4 ∧ win0_1.index t 1 = t.val / 4 % 2 := by decide +kernel

theorem read_0 (A : Vec F S8192x6400 .bf16) (p : Fin 6400) (q : Fin 2048) (s : Fin 4) (k : Fin 2048) :
    ((cfg0.win 0).blk (point p q s)).view.read (Elt F) A (ix2 k (⟨p.val % 1280, by omega⟩ : Fin 1280)) = A (ix2 ⟨2048 * s.val + k.val, by omega⟩ p) := by
  have hi := index_0 (point p q s)
  rw [View.read_apply]
  show A _ = _
  congr 1
  funext a
  apply Fin.ext
  match a with
  | ⟨0, _⟩ => show win0_0.index (point p q s) 0 * 2048 + 1 * k.val = 2048 * s.val + k.val; rw [hi.1]; first | omega | (simp only [point]; omega)
  | ⟨1, _⟩ => show win0_0.index (point p q s) 1 * 1280 + 1 * (p.val % 1280) = p.val; rw [hi.2]; first | omega | (simp only [point]; omega)

theorem read_1 (A : Vec F S8192x2048 .bf16) (p : Fin 6400) (q : Fin 2048) (s : Fin 4) (k : Fin 2048) :
    ((cfg0.win 1).blk (point p q s)).view.read (Elt F) A (ix2 k (⟨q.val % 1024, by omega⟩ : Fin 1024)) = A (ix2 ⟨2048 * s.val + k.val, by omega⟩ q) := by
  have hi := index_1 (point p q s)
  rw [View.read_apply]
  show A _ = _
  congr 1
  funext a
  apply Fin.ext
  match a with
  | ⟨0, _⟩ => show win0_1.index (point p q s) 0 * 2048 + 1 * k.val = 2048 * s.val + k.val; rw [hi.1]; first | omega | (simp only [point]; omega)
  | ⟨1, _⟩ => show win0_1.index (point p q s) 1 * 1024 + 1 * (q.val % 1024) = q.val; rw [hi.2]; first | omega | (simp only [point]; omega)
end

/-- The block product at an entry. -/
theorem pay_1 (x0 : Vec Ideal S2048x1280 .bf16) (x1 : Vec Ideal S2048x1024 .bf16) (p : Fin 1280) (q : Fin 1024) :
    k0_pay1 x0 x1 (ix2 p q) = ∑ k : Fin 2048, x0 (ix2 k p) * x1 (ix2 k q) := by
  pointwise [k0_pay1]

theorem pay_3 (x0 : Vec Ideal S2048x1280 .bf16) (x1 : Vec Ideal S2048x1024 .bf16) (y : Vec Ideal S1280x1024 .f32) (p : Fin 1280) (q : Fin 1024) :
    k0_pay3 x0 x1 y (ix2 p q) = y (ix2 p q) + ∑ k : Fin 2048, x0 (ix2 k p) * x1 (ix2 k q) := by
  rw [← pay_1]
  unfold k0_pay3
  rw [shapeCast_self]
  rfl

theorem pay_4 (x0 : Vec Ideal S2048x1280 .bf16) (x1 : Vec Ideal S2048x1024 .bf16) (y : Vec Ideal S1280x1024 .f32) (p : Fin 1280) (q : Fin 1024) :
    k0_pay4 x0 x1 y (ix2 p q) = y (ix2 p q) + ∑ k : Fin 2048, x0 (ix2 k p) * x1 (ix2 k q) := by
  rw [← pay_1]
  rfl

variable (m : (ℓ : Loc nD τ sig) → Buf (Elt Ideal) ℓ)

/-- The first argument. -/
abbrev arg0 (c : Dev nD) : FVec Ideal S8192x6400 .bf16 := m ((c : Thread nD τ).loc main_arg0)

/-- The second argument. -/
abbrev arg1 (c : Dev nD) : FVec Ideal S8192x2048 .bf16 := m ((c : Thread nD τ).loc main_arg1)

theorem left_at (c : Dev nD) (p : Fin 6400) (q : Fin 2048) (s : Fin 4) (k : Fin 2048) :
    (iblk m c 0 (point p q s) : Vec Ideal S2048x1280 .bf16) (ix2 k (⟨p.val % 1280, by omega⟩ : Fin 1280))
      = arg0 m c (ix2 ⟨2048 * s.val + k.val, by omega⟩ p) :=
  (read_0 (V m c main_arg0) p q s k).trans (congrFun (V_main_arg0 m c) _)

theorem right_at (c : Dev nD) (p : Fin 6400) (q : Fin 2048) (s : Fin 4) (k : Fin 2048) :
    (iblk m c 1 (point p q s) : Vec Ideal S2048x1024 .bf16) (ix2 k (⟨q.val % 1024, by omega⟩ : Fin 1024))
      = arg1 m c (ix2 ⟨2048 * s.val + k.val, by omega⟩ q) :=
  (read_1 (V m c main_arg1) p q s k).trans (congrFun (V_main_arg1 m c) _)

/-- The array is one product. -/
theorem product (c : Dev nD) (p : Fin 6400) (q : Fin 2048) :
    ((dats m 0 c).arrAt 2 cfg0.N : Vec Ideal S6400x2048 .f32) (ix2 p q)
      = ∑ k : Fin 8192, arg0 m c (ix2 k p) * arg1 m c (ix2 k q) := by
  rw [array, pay_4, pay_3, pay_3, pay_1, sum_parts (N := 8192) (n := 4) (b := 2048) (by norm_num), Fin.sum_univ_four]
  simp only [left_at, right_at] <;> rfl

open Cert.InGwRefIdeal.Read in
/-- The reference's result at an entry. -/
theorem reference_at (x0 : FVec Ideal S8192x6400 .bf16) (x1 : FVec Ideal S8192x2048 .bf16) (p : Fin 6400) (q : Fin 2048) :
    (val_main_v6 (F := Ideal) x0 x1 : FVec Ideal S6400x2048 .f32) (ix2 p q) = ∑ k : Fin 8192, (x0 (ix2 k p) : EReal) * x1 (ix2 k q) := by
  pointwise [val_main_v6, val_main_v5, val_main_v4, val_main_v3, val_main_v1]

open Cert.InGwRefIdeal.Read in
/-- The array is the reference's result. -/
theorem result (c : Dev nD) (x0 : (⟨Cert.InGwRefIdeal.S8192x6400, .bf16⟩ : BufTy).Contents (Elt Ideal)) (x1 : (⟨Cert.InGwRefIdeal.S8192x2048, .bf16⟩ : BufTy).Contents (Elt Ideal))
    (h0 : x0 = m ((c : Thread nD τ).loc main_arg0)) (h1 : x1 = m ((c : Thread nD τ).loc main_arg1)) :
    val_main_v6 (F := Ideal) x0 x1 = (dats m 0 c).arrAt 2 cfg0.N := by
  subst h0 h1
  funext i
  obtain ⟨p, q, rfl⟩ : ∃ (p : Fin 6400) (q : Fin 2048), i = ix2 p q := ⟨i 0, i 1, (ix2_eta i).symm⟩
  exact (reference_at _ _ p q).trans (product m c p q).symm

end Cert.InGwIdeal.Product

end
-- ==== Proof.InDh.lean ====
/-
  THE GRADIENT OF THE INPUT PROJECTION'S INPUT: the kernel's five part sums over the columns are one sum.
-/
module

public import proofs.«01_k».proof.Proof.Halves
public import proofs.«01_k».proof.Proof.Gen.InDhIdeal.Value
public import proofs.«01_k».proof.Proof.Gen.InDhRefIdeal.Read
public import Idealize.ShloMosaic.Lib.StableHlo
public import Idealize.ShloMosaic.Lib.Tactic

@[expose] public section

set_option maxRecDepth 16384

noncomputable section

namespace Cert.InDhIdeal.Product

open Cert.InDhIdeal Cert.InDhIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S1024x1280 .bf16) (h3 : a3.IsWhole) (a4 : Memref sig .tc .vmem S1280x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x0 : Vec F S1024x1280 .bf16) (x1 : Vec F S1280x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1024x1280) hz, View.ld_unit_zero (S := S1280x1024) hz, shapeCast_self]

/-- A part between: the block product is added to what the scratch holds. -/
theorem sout_B (c : Dev nD) (i : grid0.Coords) (a3 : Memref sig .tc .vmem S1024x1280 .bf16) (h3 : a3.IsWhole) (a4 : Memref sig .tc .vmem S1280x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (hc2 : ¬cond0_2 i)
    (x0 : Vec F S1024x1280 .bf16) (x1 : Vec F S1280x1024 .bf16) (xs : Vec F S1024x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1024x1280) hz, View.ld_unit_zero (S := S1280x1024) hz, View.ld_unit_zero (S := S1024x1024) hz]

/-- The last part: the block product is added to what the scratch holds, and written out. -/
theorem out_last (c : Dev nD) (i : grid0.Coords) (a3 : Memref sig .tc .vmem S1024x1280 .bf16) (h3 : a3.IsWhole) (a4 : Memref sig .tc .vmem S1280x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i)
    (x0 : Vec F S1024x1280 .bf16) (x1 : Vec F S1280x1024 .bf16) (xs : Vec F S1024x1024 .f32) :
    out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S1024x1280) hz, View.ld_unit_zero (S := S1280x1024) hz, View.ld_unit_zero (S := S1024x1024) hz]

variable (m : (ℓ : Loc nD τ sig) → Buf (Elt F) ℓ)

/-- The points that compute the block that holds an entry. -/
def point (p : Fin 8192) (q : Fin 2048) (s : Fin 5) : Fin cfg0.N :=
  ⟨5 * (2 * (p.val / 1024) + q.val / 1024) + s.val, lt_of_lt_of_eq (by omega) N_0.symm⟩

theorem outs_first (c : Dev nD) (t : Fin cfg0.N) (h : t.val % 5 = 0) :
    (outsAt0 m c t.val t.isLt).2 = k0_pay1 (iblk m c 0 t) (iblk m c 1 t) := by
  rw [outsAt0_A m c t h (by omega) (by omega)]
  dsimp only
  rw [sout_A]

theorem outs_between (c : Dev nD) (t u : Fin cfg0.N) (h : 1 ≤ u.val % 5 ∧ u.val % 5 ≤ 3) (hu : u.val = t.val + 1) :
    (outsAt0 m c u.val u.isLt).2 = k0_pay3 (iblk m c 0 u) (iblk m c 1 u) (outsAt0 m c t.val t.isLt).2 := by
  rw [outsAt0_B m c u (by omega) h (by omega)]
  have e : u.val - 1 = t.val := by omega
  simp only [e]
  rw [sout_B]

theorem outs_last (c : Dev nD) (t u : Fin cfg0.N) (h : u.val % 5 = 4) (hu : u.val = t.val + 1) :
    (outsAt0 m c u.val u.isLt).1 = k0_pay4 (iblk m c 0 u) (iblk m c 1 u) (outsAt0 m c t.val t.isLt).2 := by
  rw [outsAt0_C m c u (by omega) (by omega) h]
  have e : u.val - 1 = t.val := by omega
  simp only [e]
  rw [out_last]

/-- What the array ends holding. -/
theorem array (c : Dev nD) (p : Fin 8192) (q : Fin 2048) :
    ((dats m 0 c).arrAt 2 cfg0.N : Vec F S8192x2048 .bf16) (ix2 p q)
      = k0_pay4 (iblk m c 0 (point p q 4)) (iblk m c 1 (point p q 4)) (k0_pay3 (iblk m c 0 (point p q 3)) (iblk m c 1 (point p q 3)) (k0_pay3 (iblk m c 0 (point p q 2)) (iblk m c 1 (point p q 2)) (k0_pay3 (iblk m c 0 (point p q 1)) (iblk m c 1 (point p q 1)) (k0_pay1 (iblk m c 0 (point p q 0)) (iblk m c 1 (point p q 0))))))
          (ix2 (⟨p.val % 1024, by omega⟩ : Fin 1024) (⟨q.val % 1024, by omega⟩ : Fin 1024)) := by
  rw [← outs_first m c (point p q 0) (by simp only [point]; omega),
    ← outs_between m c (point p q 0) (point p q 1) (by simp only [point]; omega) (by simp only [point]; omega),
    ← outs_between m c (point p q 1) (point p q 2) (by simp only [point]; omega) (by simp only [point]; omega),
    ← outs_between m c (point p q 2) (point p q 3) (by simp only [point]; omega) (by simp only [point]; omega),
    ← outs_last m c (point p q 3) (point p q 4) (by simp only [point]; omega) (by simp only [point]; omega),
    Value.final2,
    Value.outsAt0_sweep]
  have hp : Value.pt2Of (ix2 p q) = (point p q 4).val := by
    show 5 * (2 * (p.val / 1024 - 0) + 1 * (q.val / 1024 - 0)) + 4 = 5 * (2 * (p.val / 1024) + q.val / 1024) + 4
    omega
  unfold Value.G2
  rw [dif_pos (by rw [hp]; exact (point p q 4).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val / 10 ∧ win0_0.index t 1 = t.val % 5 := by decide +kernel
theorem index_1 : ∀ t : Fin grid0.N, win0_1.index t 0 = t.val % 5 ∧ win0_1.index t 1 = t.val / 5 % 2 := by decide +kernel

theorem read_0 (A : Vec F S8192x6400 .bf16) (p : Fin 8192) (q : Fin 2048) (s : Fin 5) (k : Fin 1280) :
    ((cfg0.win 0).blk (point p q s)).view.read (Elt F) A (ix2 (⟨p.val % 1024, by omega⟩ : Fin 1024) k) = A (ix2 p ⟨1280 * s.val + k.val, by omega⟩) := by
  have hi := index_0 (point p q s)
  rw [View.read_apply]
  show A _ = _
  congr 1
  funext a
  apply Fin.ext
  match a with
  | ⟨0, _⟩ => show win0_0.index (point p q s) 0 * 1024 + 1 * (p.val % 1024) = p.val; rw [hi.1]; first | omega | (simp only [point]; omega)
  | ⟨1, _⟩ => show win0_0.index (point p q s) 1 * 1280 + 1 * k.val = 1280 * s.val + k.val; rw [hi.2]; first | omega | (simp only [point]; omega)

theorem read_1 (A : Vec F S6400x2048 .bf16) (p : Fin 8192) (q : Fin 2048) (s : Fin 5) (k : Fin 1280) :
    ((cfg0.win 1).blk (point p q s)).view.read (Elt F) A (ix2 k (⟨q.val % 1024, by omega⟩ : Fin 1024)) = A (ix2 ⟨1280 * s.val + k.val, by omega⟩ q) := by
  have hi := index_1 (point p q s)
  rw [View.read_apply]
  show A _ = _
  congr 1
  funext a
  apply Fin.ext
  match a with
  | ⟨0, _⟩ => show win0_1.index (point p q s) 0 * 1280 + 1 * k.val = 1280 * s.val + k.val; rw [hi.1]; first | omega | (simp only [point]; omega)
  | ⟨1, _⟩ => show win0_1.index (point p q s) 1 * 1024 + 1 * (q.val % 1024) = q.val; rw [hi.2]; first | omega | (simp only [point]; omega)

/-- The weight, laid out as the host lines before the call prepare it. -/
def weight (x : FVec F S2048x6400 .f32) : FVec F S6400x2048 .bf16 :=
  truncf .bf16 (transpose S6400x2048 [1, 0] x transposes_S2048x6400_S6400x2048_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x1280 .bf16) (x1 : Vec Ideal S1280x1024 .bf16) (p : Fin 1024) (q : Fin 1024) :
    k0_pay1 x0 x1 (ix2 p q) = ∑ k : Fin 1280, x0 (ix2 p k) * x1 (ix2 k q) := by
  pointwise [k0_pay1]

theorem pay_3 (x0 : Vec Ideal S1024x1280 .bf16) (x1 : Vec Ideal S1280x1024 .bf16) (y : Vec Ideal S1024x1024 .f32) (p : Fin 1024) (q : Fin 1024) :
    k0_pay3 x0 x1 y (ix2 p q) = y (ix2 p q) + ∑ k : Fin 1280, x0 (ix2 p k) * x1 (ix2 k q) := by
  rw [← pay_1]
  unfold k0_pay3
  rw [shapeCast_self]
  rfl

theorem pay_4 (x0 : Vec Ideal S1024x1280 .bf16) (x1 : Vec Ideal S1280x1024 .bf16) (y : Vec Ideal S1024x1024 .f32) (p : Fin 1024) (q : Fin 1024) :
    k0_pay4 x0 x1 y (ix2 p q) = y (ix2 p q) + ∑ k : Fin 1280, x0 (ix2 p k) * x1 (ix2 k q) := by
  rw [← pay_1]
  rfl

variable (m : (ℓ : Loc nD τ sig) → Buf (Elt Ideal) ℓ)

/-- The first argument. -/
abbrev arg0 (c : Dev nD) : FVec Ideal S8192x6400 .bf16 := m ((c : Thread nD τ).loc main_arg0)

theorem left_at (c : Dev nD) (p : Fin 8192) (q : Fin 2048) (s : Fin 5) (k : Fin 1280) :
    (iblk m c 0 (point p q s) : Vec Ideal S1024x1280 .bf16) (ix2 (⟨p.val % 1024, by omega⟩ : Fin 1024) k)
      = arg0 m c (ix2 p ⟨1280 * s.val + k.val, by omega⟩) :=
  (read_0 (V m c main_arg0) p q s k).trans (congrFun (V_main_arg0 m c) _)

theorem right_at (c : Dev nD) (p : Fin 8192) (q : Fin 2048) (s : Fin 5) (k : Fin 1280) :
    (iblk m c 1 (point p q s) : Vec Ideal S1280x1024 .bf16) (ix2 k (⟨q.val % 1024, by omega⟩ : Fin 1024))
      = weight (F := Ideal) (m ((c : Thread nD τ).loc main_arg1)) (ix2 ⟨1280 * s.val + k.val, by omega⟩ q) :=
  (read_1 (V m c main_v1) p q s k).trans (congrFun (V_weight m c) _)

/-- The array is one product. -/
theorem product (c : Dev nD) (p : Fin 8192) (q : Fin 2048) :
    ((dats m 0 c).arrAt 2 cfg0.N : Vec Ideal S8192x2048 .bf16) (ix2 p q)
      = ∑ k : Fin 6400, arg0 m c (ix2 p k) * weight (F := Ideal) (m ((c : Thread nD τ).loc main_arg1)) (ix2 k q) := by
  rw [array, pay_4, pay_3, pay_3, pay_3, pay_1, sum_parts (N := 6400) (n := 5) (b := 1280) (by norm_num), Fin.sum_univ_five]
  simp only [left_at, right_at] <;> rfl

open Cert.InDhRefIdeal.Read in
/-- The reference's result at an entry. -/
theorem reference_at (x0 : FVec Ideal S8192x6400 .bf16) (x1 : FVec Ideal S2048x6400 .f32) (p : Fin 8192) (q : Fin 2048) :
    (val_main_v4 (F := Ideal) x0 x1 : FVec Ideal S8192x2048 .bf16) (ix2 p q) = ∑ k : Fin 6400, (x0 (ix2 p k) : EReal) * weight (F := Ideal) x1 (ix2 k q) := by
  pointwise [val_main_v4, val_main_v3, val_main_v2, weight]

open Cert.InDhRefIdeal.Read in
/-- The array is the reference's result. -/
theorem result (c : Dev nD) (x0 : (⟨Cert.InDhRefIdeal.S8192x6400, .bf16⟩ : BufTy).Contents (Elt Ideal)) (x1 : (⟨Cert.InDhRefIdeal.S2048x6400, .f32⟩ : BufTy).Contents (Elt Ideal))
    (h0 : x0 = m ((c : Thread nD τ).loc main_arg0)) (h1 : x1 = m ((c : Thread nD τ).loc main_arg1)) :
    val_main_v4 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.InDhIdeal.Product

end
-- ==== Proof.OutMixed.lean ====
/-
  THE OUTPUT PROJECTION: each block is a whole product.
-/
module

public import proofs.«01_k».proof.Proof.Halves
public import proofs.«01_k».proof.Proof.Gen.OutMixedIdeal.Value
public import proofs.«01_k».proof.Proof.Gen.OutMixedRefIdeal.Read
public import Idealize.ShloMosaic.Lib.StableHlo
public import Idealize.ShloMosaic.Lib.Tactic

@[expose] public section

set_option maxRecDepth 16384

noncomputable section

namespace Cert.OutMixedIdeal.Product

open Cert.OutMixedIdeal Cert.OutMixedIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 2048) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x2048 .bf16) (p : Fin 8192) (q : Fin 2048) (k : Fin 2048) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = k.val; rw [hi.2]; first | omega | (simp only [point]; omega)

theorem read_1 (A : Vec F S2048x2048 .bf16) (p : Fin 8192) (q : Fin 2048) (k : Fin 2048) :
    ((cfg0.win 1).blk (point p q)).view.read (Elt F) A (ix2 k (⟨q.val % 2048, by omega⟩ : Fin 2048)) = A (ix2 k q) := by
  have hi := index_1 (point p q)
  rw [View.read_apply]
  show A _ = _
  congr 1
  funext a
  apply Fin.ext
  match a with
  | ⟨0, _⟩ => show win0_1.index (point p q) 0 * 2048 + 1 * k.val = k.val; rw [hi.1]; first | omega | (simp only [point]; omega)
  | ⟨1, _⟩ => show win0_1.index (point p q) 1 * 2048 + 1 * (q.val % 2048) = q.val; rw [hi.2]; first | omega | (simp only [point]; omega)

theorem read_2 (A : Vec F S8192x2048 .f32) (p : Fin 8192) (q : Fin 2048) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x2048 .bf16) (x1 : Vec F S2048x2048 .bf16) :
    out0_2 x0 x1 = k0_pay1 x0 x1 := by
  unfold out0_2
  rw [View.canon_unit_zero hz, View.ld_unit_zero (S := S1024x2048) hz, View.ld_unit_zero (S := S2048x2048) hz]

/-- What the array ends holding. -/
theorem array_2 (c : Dev nD) (p : Fin 8192) (q : Fin 2048) :
    ((dats m 0 c).arrAt 2 cfg0.N : Vec F S8192x2048 .f32) (ix2 p q)
      = k0_pay1 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S2048x2048 .bf16 :=
  truncf .bf16 x bitsLt_bf16_f32

theorem V_weight (c : Dev nD) : V m c main_v0 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x2048 .bf16) (x1 : Vec Ideal S2048x2048 .bf16) (p : Fin 1024) (q : Fin 2048) :
    k0_pay1 x0 x1 (ix2 p q) = ∑ k : Fin 2048, x0 (ix2 p k) * x1 (ix2 k q) := by
  pointwise [k0_pay1]

variable (m : (ℓ : Loc nD τ sig) → Buf (Elt Ideal) ℓ)

/-- The first argument. -/
abbrev arg0 (c : Dev nD) : FVec Ideal S8192x2048 .bf16 := m ((c : Thread nD τ).loc main_arg0)

theorem left_at (c : Dev nD) (p : Fin 8192) (q : Fin 2048) (k : Fin 2048) :
    (iblk m c 0 (point p q) : Vec Ideal S1024x2048 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 2048) (k : Fin 2048) :
    (iblk m c 1 (point p q) : Vec Ideal S2048x2048 .bf16) (ix2 k (⟨q.val % 2048, by omega⟩ : Fin 2048))
      = weight (F := Ideal) (m ((c : Thread nD τ).loc main_arg1)) (ix2 k q) :=
  (read_1 (V m c main_v0) p q k).trans (congrFun (V_weight m c) _)

/-- The array is one product. -/
theorem product (c : Dev nD) (p : Fin 8192) (q : Fin 2048) :
    ((dats m 0 c).arrAt 2 cfg0.N : Vec Ideal S8192x2048 .f32) (ix2 p q)
      = ∑ k : Fin 2048, arg0 m c (ix2 p k) * weight (F := Ideal) (m ((c : Thread nD τ).loc main_arg1)) (ix2 k q) := by
  rw [array_2, pay_1]
  simp only [left_at, right_at] <;> rfl

open Cert.OutMixedRefIdeal.Read in
/-- The reference's result at an entry. -/
theorem reference_at (x0 : FVec Ideal S8192x2048 .bf16) (x1 : FVec Ideal S2048x2048 .f32) (p : Fin 8192) (q : Fin 2048) :
    (val_main_v1 (F := Ideal) x0 x1 : FVec Ideal S8192x2048 .f32) (ix2 p q) = ∑ k : Fin 2048, (x0 (ix2 p k) : EReal) * weight (F := Ideal) x1 (ix2 k q) := by
  pointwise [val_main_v1, val_main_v0, weight]

open Cert.OutMixedRefIdeal.Read in
/-- The array is the reference's result. -/
theorem result (c : Dev nD) (x0 : (⟨Cert.OutMixedRefIdeal.S8192x2048, .bf16⟩ : BufTy).Contents (Elt Ideal)) (x1 : (⟨Cert.OutMixedRefIdeal.S2048x2048, .f32⟩ : BufTy).Contents (Elt Ideal))
    (h0 : x0 = m ((c : Thread nD τ).loc main_arg0)) (h1 : x1 = m ((c : Thread nD τ).loc main_arg1)) :
    val_main_v1 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.OutMixedIdeal.Product

end
-- ==== Proof.OutDMix.lean ====
/-
  THE GRADIENT OF THE OUTPUT PROJECTION'S INPUT: each block is a whole product.
-/
module

public import proofs.«01_k».proof.Proof.Halves
public import proofs.«01_k».proof.Proof.Gen.OutDMixIdeal.Value
public import proofs.«01_k».proof.Proof.Gen.OutDMixRefIdeal.Read
public import Idealize.ShloMosaic.Lib.StableHlo
public import Idealize.ShloMosaic.Lib.Tactic

@[expose] public section

set_option maxRecDepth 16384

noncomputable section

namespace Cert.OutDMixIdeal.Product

open Cert.OutDMixIdeal Cert.OutDMixIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 2048) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x2048 .bf16) (p : Fin 8192) (q : Fin 2048) (k : Fin 2048) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = k.val; rw [hi.2]; first | omega | (simp only [point]; omega)

theorem read_1 (A : Vec F S2048x2048 .bf16) (p : Fin 8192) (q : Fin 2048) (k : Fin 2048) :
    ((cfg0.win 1).blk (point p q)).view.read (Elt F) A (ix2 (⟨q.val % 2048, by omega⟩ : Fin 2048) k) = A (ix2 q k) := by
  have hi := index_1 (point p q)
  rw [View.read_apply]
  show A _ = _
  congr 1
  funext a
  apply Fin.ext
  match a with
  | ⟨0, _⟩ => show win0_1.index (point p q) 0 * 2048 + 1 * (q.val % 2048) = q.val; rw [hi.1]; first | omega | (simp only [point]; omega)
  | ⟨1, _⟩ => show win0_1.index (point p q) 1 * 2048 + 1 * k.val = k.val; rw [hi.2]; first | omega | (simp only [point]; omega)

theorem read_2 (A : Vec F S8192x2048 .bf16) (p : Fin 8192) (q : Fin 2048) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x2048 .bf16) (x1 : Vec F S2048x2048 .bf16) :
    out0_2 x0 x1 = k0_pay1 x0 x1 := by
  unfold out0_2
  rw [View.canon_unit_zero hz, View.ld_unit_zero (S := S1024x2048) hz, View.ld_unit_zero (S := S2048x2048) hz]

/-- What the array ends holding. -/
theorem array_2 (c : Dev nD) (p : Fin 8192) (q : Fin 2048) :
    ((dats m 0 c).arrAt 2 cfg0.N : Vec F S8192x2048 .bf16) (ix2 p q)
      = k0_pay1 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S2048x2048 .bf16 :=
  truncf .bf16 x bitsLt_bf16_f32

theorem V_weight (c : Dev nD) : V m c main_v0 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x2048 .bf16) (x1 : Vec Ideal S2048x2048 .bf16) (p : Fin 1024) (q : Fin 2048) :
    k0_pay1 x0 x1 (ix2 p q) = ∑ k : Fin 2048, x0 (ix2 p k) * x1 (ix2 q k) := by
  pointwise [k0_pay1]

variable (m : (ℓ : Loc nD τ sig) → Buf (Elt Ideal) ℓ)

/-- The first argument. -/
abbrev arg0 (c : Dev nD) : FVec Ideal S8192x2048 .bf16 := m ((c : Thread nD τ).loc main_arg0)

theorem left_at (c : Dev nD) (p : Fin 8192) (q : Fin 2048) (k : Fin 2048) :
    (iblk m c 0 (point p q) : Vec Ideal S1024x2048 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 2048) (k : Fin 2048) :
    (iblk m c 1 (point p q) : Vec Ideal S2048x2048 .bf16) (ix2 (⟨q.val % 2048, by omega⟩ : Fin 2048) k)
      = weight (F := Ideal) (m ((c : Thread nD τ).loc main_arg1)) (ix2 q k) :=
  (read_1 (V m c main_v0) p q k).trans (congrFun (V_weight m c) _)

/-- The array is one product. -/
theorem product (c : Dev nD) (p : Fin 8192) (q : Fin 2048) :
    ((dats m 0 c).arrAt 2 cfg0.N : Vec Ideal S8192x2048 .bf16) (ix2 p q)
      = ∑ k : Fin 2048, arg0 m c (ix2 p k) * weight (F := Ideal) (m ((c : Thread nD τ).loc main_arg1)) (ix2 q k) := by
  rw [array_2, pay_1]
  simp only [left_at, right_at] <;> rfl

open Cert.OutDMixRefIdeal.Read in
/-- The reference's result at an entry. -/
theorem reference_at (x0 : FVec Ideal S8192x2048 .bf16) (x1 : FVec Ideal S2048x2048 .f32) (p : Fin 8192) (q : Fin 2048) :
    (val_main_v4 (F := Ideal) x0 x1 : FVec Ideal S8192x2048 .bf16) (ix2 p q) = ∑ k : Fin 2048, (x0 (ix2 p k) : EReal) * weight (F := Ideal) x1 (ix2 q k) := by
  pointwise [val_main_v4, val_main_v3, val_main_v2, weight]

open Cert.OutDMixRefIdeal.Read in
/-- The array is the reference's result. -/
theorem result (c : Dev nD) (x0 : (⟨Cert.OutDMixRefIdeal.S8192x2048, .bf16⟩ : BufTy).Contents (Elt Ideal)) (x1 : (⟨Cert.OutDMixRefIdeal.S2048x2048, .f32⟩ : BufTy).Contents (Elt Ideal))
    (h0 : x0 = m ((c : Thread nD τ).loc main_arg0)) (h1 : x1 = m ((c : Thread nD τ).loc main_arg1)) :
    val_main_v4 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.OutDMixIdeal.Product

end
-- ==== Proof.OutGw.lean ====
/-
  THE GRADIENT OF THE OUTPUT PROJECTION'S WEIGHT: the kernel's two half sums over the positions are one sum.
-/
module

public import proofs.«01_k».proof.Proof.Halves
public import proofs.«01_k».proof.Proof.Gen.OutGwIdeal.Value
public import proofs.«01_k».proof.Proof.Gen.OutGwRefIdeal.Read
public import Idealize.ShloMosaic.Lib.StableHlo
public import Idealize.ShloMosaic.Lib.Tactic

@[expose] public section

set_option maxRecDepth 16384

noncomputable section

namespace Cert.OutGwIdeal.Product

open Cert.OutGwIdeal Cert.OutGwIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S4096x1024 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, shapeCast_self]

/-- The last part: the block product is added to what the scratch holds, and written out. -/
theorem out_last (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S4096x1024 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x1024) hz]

variable (m : (ℓ : Loc nD τ sig) → Buf (Elt F) ℓ)

/-- The points that compute the block that holds an entry. -/
def point (p : Fin 2048) (q : Fin 2048) (s : Fin 2) : Fin cfg0.N :=
  ⟨2 * (2 * (p.val / 1024) + q.val / 1024) + s.val, lt_of_lt_of_eq (by omega) N_0.symm⟩

theorem outs_first (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_last (c : Dev nD) (t u : Fin cfg0.N) (h : u.val % 2 = 1) (hu : u.val = t.val + 1) :
    (outsAt0 m c u.val u.isLt).1 = k0_pay4 (iblk m c 0 u) (iblk m c 1 u) (outsAt0 m c t.val t.isLt).2 := by
  rw [outsAt0_B m c u (by omega) h]
  have e : u.val - 1 = t.val := by omega
  simp only [e]
  rw [out_last]

/-- What the array ends holding. -/
theorem array (c : Dev nD) (p : Fin 2048) (q : Fin 2048) :
    ((dats m 0 c).arrAt 2 cfg0.N : Vec F S2048x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_first m c (point p q 0) (by simp only [point]; omega),
    ← outs_last m c (point p q 0) (point p q 1) (by simp only [point]; omega) (by simp only [point]; omega),
    Value.final2,
    Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel

theorem read_0 (A : Vec F S8192x2048 .bf16) (p : Fin 2048) (q : Fin 2048) (s : Fin 2) (k : Fin 4096) :
    ((cfg0.win 0).blk (point p q s)).view.read (Elt F) A (ix2 k (⟨p.val % 1024, by omega⟩ : Fin 1024)) = A (ix2 ⟨4096 * s.val + k.val, by omega⟩ p) := by
  have hi := index_0 (point p q s)
  rw [View.read_apply]
  show A _ = _
  congr 1
  funext a
  apply Fin.ext
  match a with
  | ⟨0, _⟩ => show win0_0.index (point p q s) 0 * 4096 + 1 * k.val = 4096 * s.val + k.val; rw [hi.1]; first | omega | (simp only [point]; omega)
  | ⟨1, _⟩ => show win0_0.index (point p q s) 1 * 1024 + 1 * (p.val % 1024) = p.val; rw [hi.2]; first | omega | (simp only [point]; omega)

theorem read_1 (A : Vec F S8192x2048 .bf16) (p : Fin 2048) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ q) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; first | omega | (simp only [point]; omega)
  | ⟨1, _⟩ => show win0_1.index (point p q s) 1 * 1024 + 1 * (q.val % 1024) = q.val; rw [hi.2]; first | omega | (simp only [point]; omega)
end

/-- The block product at an entry. -/
theorem pay_1 (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

theorem pay_4 (x0 : Vec Ideal S4096x1024 .bf16) (x1 : Vec Ideal S4096x1024 .bf16) (y : Vec Ideal S1024x1024 .f32) (p : Fin 1024) (q : Fin 1024) :
    k0_pay4 x0 x1 y (ix2 p q) = y (ix2 p q) + ∑ k : Fin 4096, x0 (ix2 k p) * x1 (ix2 k q) := by
  rw [← pay_1]
  rfl

variable (m : (ℓ : Loc nD τ sig) → Buf (Elt Ideal) ℓ)

/-- The first argument. -/
abbrev arg0 (c : Dev nD) : FVec Ideal S8192x2048 .bf16 := m ((c : Thread nD τ).loc main_arg0)

/-- The second argument. -/
abbrev arg1 (c : Dev nD) : FVec Ideal S8192x2048 .bf16 := m ((c : Thread nD τ).loc main_arg1)

theorem left_at (c : Dev nD) (p : Fin 2048) (q : Fin 2048) (s : Fin 2) (k : Fin 4096) :
    (iblk m c 0 (point p q s) : Vec Ideal S4096x1024 .bf16) (ix2 k (⟨p.val % 1024, by omega⟩ : Fin 1024))
      = arg0 m c (ix2 ⟨4096 * s.val + k.val, by omega⟩ p) :=
  (read_0 (V m c main_arg0) p q s k).trans (congrFun (V_main_arg0 m c) _)

theorem right_at (c : Dev nD) (p : Fin 2048) (q : Fin 2048) (s : Fin 2) (k : Fin 4096) :
    (iblk m c 1 (point p q s) : Vec Ideal S4096x1024 .bf16) (ix2 k (⟨q.val % 1024, by omega⟩ : Fin 1024))
      = arg1 m c (ix2 ⟨4096 * s.val + k.val, by omega⟩ q) :=
  (read_1 (V m c main_arg1) p q s k).trans (congrFun (V_main_arg1 m c) _)

/-- The array is one product. -/
theorem product (c : Dev nD) (p : Fin 2048) (q : Fin 2048) :
    ((dats m 0 c).arrAt 2 cfg0.N : Vec Ideal S2048x2048 .f32) (ix2 p q)
      = ∑ k : Fin 8192, arg0 m c (ix2 k p) * arg1 m c (ix2 k q) := by
  rw [array, pay_4, pay_1, sum_halves]
  simp only [left_at, right_at] <;> rfl

open Cert.OutGwRefIdeal.Read in
/-- The reference's result at an entry. -/
theorem reference_at (x0 : FVec Ideal S8192x2048 .bf16) (x1 : FVec Ideal S8192x2048 .bf16) (p : Fin 2048) (q : Fin 2048) :
    (val_main_v5 (F := Ideal) x0 x1 : FVec Ideal S2048x2048 .f32) (ix2 p q) = ∑ k : Fin 8192, (x1 (ix2 k q) : EReal) * x0 (ix2 k p) := by
  pointwise [val_main_v5, val_main_v4, val_main_v3, val_main_v1]

open Cert.OutGwRefIdeal.Read in
/-- The array is the reference's result. -/
theorem result (c : Dev nD) (x0 : (⟨Cert.OutGwRefIdeal.S8192x2048, .bf16⟩ : BufTy).Contents (Elt Ideal)) (x1 : (⟨Cert.OutGwRefIdeal.S8192x2048, .bf16⟩ : BufTy).Contents (Elt Ideal))
    (h0 : x0 = m ((c : Thread nD τ).loc main_arg0)) (h1 : x1 = m ((c : Thread nD τ).loc main_arg1)) :
    val_main_v5 (F := Ideal) x0 x1 = (dats m 0 c).arrAt 2 cfg0.N := by
  subst h0 h1
  funext i
  obtain ⟨p, q, rfl⟩ : ∃ (p : Fin 2048) (q : Fin 2048), i = ix2 p q := ⟨i 0, i 1, (ix2_eta i).symm⟩
  refine (reference_at _ _ p q).trans (Eq.trans ?_ (product m c p q).symm)
  exact Finset.sum_congr rfl fun k _ => mul_comm _ _

end Cert.OutGwIdeal.Product

end
-- ==== Proof.BrAttn.lean ====
/-
  THE BRANCH PROJECTION OF THE ATTENTION OUTPUT: each block is a whole product.
-/
module

public import proofs.«01_k».proof.Proof.Halves
public import proofs.«01_k».proof.Proof.Gen.BrAttnIdeal.Value
public import proofs.«01_k».proof.Proof.Gen.BrAttnRefIdeal.Read
public import Idealize.ShloMosaic.Lib.StableHlo
public import Idealize.ShloMosaic.Lib.Tactic

@[expose] public section

set_option maxRecDepth 16384

noncomputable section

namespace Cert.BrAttnIdeal.Product

open Cert.BrAttnIdeal Cert.BrAttnIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 2048) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x1024 .bf16) (p : Fin 8192) (q : Fin 2048) (k : Fin 1024) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 1024 + 1 * k.val = k.val; rw [hi.2]; first | omega | (simp only [point]; omega)

theorem read_1 (A : Vec F S1024x2048 .bf16) (p : Fin 8192) (q : Fin 2048) (k : Fin 1024) :
    ((cfg0.win 1).blk (point p q)).view.read (Elt F) A (ix2 k (⟨q.val % 2048, by omega⟩ : Fin 2048)) = A (ix2 k q) := by
  have hi := index_1 (point p q)
  rw [View.read_apply]
  show A _ = _
  congr 1
  funext a
  apply Fin.ext
  match a with
  | ⟨0, _⟩ => show win0_1.index (point p q) 0 * 1024 + 1 * k.val = k.val; rw [hi.1]; first | omega | (simp only [point]; omega)
  | ⟨1, _⟩ => show win0_1.index (point p q) 1 * 2048 + 1 * (q.val % 2048) = q.val; rw [hi.2]; first | omega | (simp only [point]; omega)

theorem read_2 (A : Vec F S8192x2048 .bf16) (p : Fin 8192) (q : Fin 2048) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x1024 .bf16) (x1 : Vec F S1024x2048 .bf16) :
    out0_2 x0 x1 = k0_pay1 x0 x1 := by
  unfold out0_2
  rw [View.canon_unit_zero hz, View.ld_unit_zero (S := S1024x1024) hz, View.ld_unit_zero (S := S1024x2048) hz]

/-- What the array ends holding. -/
theorem array_2 (c : Dev nD) (p : Fin 8192) (q : Fin 2048) :
    ((dats m 0 c).arrAt 2 cfg0.N : Vec F S8192x2048 .bf16) (ix2 p q)
      = k0_pay1 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S1024x2048 .bf16 :=
  extractStridedSlice S1024x2048 ![0, 0] (truncf .bf16 x bitsLt_bf16_f32) slices_S2048x2048_S1024x2048_0_0

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x1024 .bf16) (x1 : Vec Ideal S1024x2048 .bf16) (p : Fin 1024) (q : Fin 2048) :
    k0_pay1 x0 x1 (ix2 p q) = ∑ k : Fin 1024, x0 (ix2 p k) * x1 (ix2 k q) := by
  pointwise [k0_pay1]

variable (m : (ℓ : Loc nD τ sig) → Buf (Elt Ideal) ℓ)

/-- The first argument. -/
abbrev arg0 (c : Dev nD) : FVec Ideal S8192x1024 .bf16 := m ((c : Thread nD τ).loc main_arg0)

theorem left_at (c : Dev nD) (p : Fin 8192) (q : Fin 2048) (k : Fin 1024) :
    (iblk m c 0 (point p q) : Vec Ideal S1024x1024 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 2048) (k : Fin 1024) :
    (iblk m c 1 (point p q) : Vec Ideal S1024x2048 .bf16) (ix2 k (⟨q.val % 2048, by omega⟩ : Fin 2048))
      = weight (F := Ideal) (m ((c : Thread nD τ).loc main_arg1)) (ix2 k q) :=
  (read_1 (V m c main_v1) p q k).trans (congrFun (V_weight m c) _)

/-- The array is one product. -/
theorem product (c : Dev nD) (p : Fin 8192) (q : Fin 2048) :
    ((dats m 0 c).arrAt 2 cfg0.N : Vec Ideal S8192x2048 .bf16) (ix2 p q)
      = ∑ k : Fin 1024, arg0 m c (ix2 p k) * weight (F := Ideal) (m ((c : Thread nD τ).loc main_arg1)) (ix2 k q) := by
  rw [array_2, pay_1]
  simp only [left_at, right_at] <;> rfl

open Cert.BrAttnRefIdeal.Read in
/-- The reference's result at an entry. -/
theorem reference_at (x0 : FVec Ideal S8192x1024 .bf16) (x1 : FVec Ideal S2048x2048 .f32) (p : Fin 8192) (q : Fin 2048) :
    (val_main_v3 (F := Ideal) x0 x1 : FVec Ideal S8192x2048 .bf16) (ix2 p q) = ∑ k : Fin 1024, (x0 (ix2 p k) : EReal) * weight (F := Ideal) x1 (ix2 k q) := by
  pointwise [val_main_v3, val_main_v2, val_main_v1, val_main_v0, weight]

open Cert.BrAttnRefIdeal.Read in
/-- The array is the reference's result. -/
theorem result (c : Dev nD) (x0 : (⟨Cert.BrAttnRefIdeal.S8192x1024, .bf16⟩ : BufTy).Contents (Elt Ideal)) (x1 : (⟨Cert.BrAttnRefIdeal.S2048x2048, .f32⟩ : BufTy).Contents (Elt Ideal))
    (h0 : x0 = m ((c : Thread nD τ).loc main_arg0)) (h1 : x1 = m ((c : Thread nD τ).loc main_arg1)) :
    val_main_v3 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.BrAttnIdeal.Product

end
-- ==== Proof.BrSsm.lean ====
/-
  THE BRANCH PROJECTION OF THE STATE SPACE OUTPUT: each block is a whole product.
-/
module

public import proofs.«01_k».proof.Proof.Halves
public import proofs.«01_k».proof.Proof.Gen.BrSsmIdeal.Value
public import proofs.«01_k».proof.Proof.Gen.BrSsmRefIdeal.Read
public import Idealize.ShloMosaic.Lib.StableHlo
public import Idealize.ShloMosaic.Lib.Tactic

@[expose] public section

set_option maxRecDepth 16384

noncomputable section

namespace Cert.BrSsmIdeal.Product

open Cert.BrSsmIdeal Cert.BrSsmIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 2048) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x1024 .bf16) (p : Fin 8192) (q : Fin 2048) (k : Fin 1024) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 1024 + 1 * k.val = k.val; rw [hi.2]; first | omega | (simp only [point]; omega)

theorem read_1 (A : Vec F S1024x2048 .bf16) (p : Fin 8192) (q : Fin 2048) (k : Fin 1024) :
    ((cfg0.win 1).blk (point p q)).view.read (Elt F) A (ix2 k (⟨q.val % 2048, by omega⟩ : Fin 2048)) = A (ix2 k q) := by
  have hi := index_1 (point p q)
  rw [View.read_apply]
  show A _ = _
  congr 1
  funext a
  apply Fin.ext
  match a with
  | ⟨0, _⟩ => show win0_1.index (point p q) 0 * 1024 + 1 * k.val = k.val; rw [hi.1]; first | omega | (simp only [point]; omega)
  | ⟨1, _⟩ => show win0_1.index (point p q) 1 * 2048 + 1 * (q.val % 2048) = q.val; rw [hi.2]; first | omega | (simp only [point]; omega)

theorem read_2 (A : Vec F S8192x2048 .bf16) (p : Fin 8192) (q : Fin 2048) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x1024 .bf16) (x1 : Vec F S1024x2048 .bf16) :
    out0_2 x0 x1 = k0_pay1 x0 x1 := by
  unfold out0_2
  rw [View.canon_unit_zero hz, View.ld_unit_zero (S := S1024x1024) hz, View.ld_unit_zero (S := S1024x2048) hz]

/-- What the array ends holding. -/
theorem array_2 (c : Dev nD) (p : Fin 8192) (q : Fin 2048) :
    ((dats m 0 c).arrAt 2 cfg0.N : Vec F S8192x2048 .bf16) (ix2 p q)
      = k0_pay1 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S1024x2048 .bf16 :=
  extractStridedSlice S1024x2048 ![1024, 0] (truncf .bf16 x bitsLt_bf16_f32) slices_S2048x2048_S1024x2048_1024_0

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x1024 .bf16) (x1 : Vec Ideal S1024x2048 .bf16) (p : Fin 1024) (q : Fin 2048) :
    k0_pay1 x0 x1 (ix2 p q) = ∑ k : Fin 1024, x0 (ix2 p k) * x1 (ix2 k q) := by
  pointwise [k0_pay1]

variable (m : (ℓ : Loc nD τ sig) → Buf (Elt Ideal) ℓ)

/-- The first argument. -/
abbrev arg0 (c : Dev nD) : FVec Ideal S8192x1024 .bf16 := m ((c : Thread nD τ).loc main_arg0)

theorem left_at (c : Dev nD) (p : Fin 8192) (q : Fin 2048) (k : Fin 1024) :
    (iblk m c 0 (point p q) : Vec Ideal S1024x1024 .bf16) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 2048) (k : Fin 1024) :
    (iblk m c 1 (point p q) : Vec Ideal S1024x2048 .bf16) (ix2 k (⟨q.val % 2048, by omega⟩ : Fin 2048))
      = weight (F := Ideal) (m ((c : Thread nD τ).loc main_arg1)) (ix2 k q) :=
  (read_1 (V m c main_v1) p q k).trans (congrFun (V_weight m c) _)

/-- The array is one product. -/
theorem product (c : Dev nD) (p : Fin 8192) (q : Fin 2048) :
    ((dats m 0 c).arrAt 2 cfg0.N : Vec Ideal S8192x2048 .bf16) (ix2 p q)
      = ∑ k : Fin 1024, arg0 m c (ix2 p k) * weight (F := Ideal) (m ((c : Thread nD τ).loc main_arg1)) (ix2 k q) := by
  rw [array_2, pay_1]
  simp only [left_at, right_at] <;> rfl

open Cert.BrSsmRefIdeal.Read in
/-- The reference's result at an entry. -/
theorem reference_at (x0 : FVec Ideal S8192x1024 .bf16) (x1 : FVec Ideal S2048x2048 .f32) (p : Fin 8192) (q : Fin 2048) :
    (val_main_v3 (F := Ideal) x0 x1 : FVec Ideal S8192x2048 .bf16) (ix2 p q) = ∑ k : Fin 1024, (x0 (ix2 p k) : EReal) * weight (F := Ideal) x1 (ix2 k q) := by
  pointwise [val_main_v3, val_main_v2, val_main_v1, val_main_v0, weight]

open Cert.BrSsmRefIdeal.Read in
/-- The array is the reference's result. -/
theorem result (c : Dev nD) (x0 : (⟨Cert.BrSsmRefIdeal.S8192x1024, .bf16⟩ : BufTy).Contents (Elt Ideal)) (x1 : (⟨Cert.BrSsmRefIdeal.S2048x2048, .f32⟩ : BufTy).Contents (Elt Ideal))
    (h0 : x0 = m ((c : Thread nD τ).loc main_arg0)) (h1 : x1 = m ((c : Thread nD τ).loc main_arg1)) :
    val_main_v3 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.BrSsmIdeal.Product

end
-- ==== Proof.BrDAttn.lean ====
/-
  THE GRADIENT OF THE ATTENTION OUTPUT BELOW ITS BRANCH PROJECTION: each block is a whole product.
-/
module

public import proofs.«01_k».proof.Proof.Halves
public import proofs.«01_k».proof.Proof.Gen.BrDAttnIdeal.Value
public import proofs.«01_k».proof.Proof.Gen.BrDAttnRefIdeal.Read
public import Idealize.ShloMosaic.Lib.StableHlo
public import Idealize.ShloMosaic.Lib.Tactic

@[expose] public section

set_option maxRecDepth 16384

noncomputable section

namespace Cert.BrDAttnIdeal.Product

open Cert.BrDAttnIdeal Cert.BrDAttnIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 1024) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x4096 .bf16) (p : Fin 8192) (q : Fin 1024) (k : Fin 2048) :
    ((cfg0.win 0).blk (point p q)).view.read (Elt F) A (ix2 (⟨p.val % 1024, by omega⟩ : Fin 1024) k) = A (ix2 p ⟨k.val, by omega⟩) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = k.val; rw [hi.2]; first | omega | (simp only [point]; omega)

theorem read_1 (A : Vec F S1024x2048 .bf16) (p : Fin 8192) (q : Fin 1024) (k : Fin 2048) :
    ((cfg0.win 1).blk (point p q)).view.read (Elt F) A (ix2 (⟨q.val % 1024, by omega⟩ : Fin 1024) k) = A (ix2 q k) := by
  have hi := index_1 (point p q)
  rw [View.read_apply]
  show A _ = _
  congr 1
  funext a
  apply Fin.ext
  match a with
  | ⟨0, _⟩ => show win0_1.index (point p q) 0 * 1024 + 1 * (q.val % 1024) = q.val; rw [hi.1]; first | omega | (simp only [point]; omega)
  | ⟨1, _⟩ => show win0_1.index (point p q) 1 * 2048 + 1 * k.val = k.val; rw [hi.2]; first | omega | (simp only [point]; omega)

theorem read_2 (A : Vec F S8192x1024 .f32) (p : Fin 8192) (q : Fin 1024) :
    ((cfg0.win 2).blk (point p q)).view.read (Elt F) A (ix2 (⟨p.val % 1024, by omega⟩ : Fin 1024) (⟨q.val % 1024, by omega⟩ : Fin 1024)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 1024 + 1 * (q.val % 1024) = q.val; rw [hi.2]; first | omega | (simp only [point]; omega)

/-- The block a point writes is the payload of the blocks it reads. -/
theorem out_eq_2 (x0 : Vec F S1024x2048 .bf16) (x1 : Vec F S1024x2048 .bf16) :
    out0_2 x0 x1 = k0_pay1 x0 x1 := by
  unfold out0_2
  rw [View.canon_unit_zero hz, View.ld_unit_zero (S := S1024x2048) hz, View.ld_unit_zero (S := S1024x2048) hz]

/-- What the array ends holding. -/
theorem array_2 (c : Dev nD) (p : Fin 8192) (q : Fin 1024) :
    ((dats m 0 c).arrAt 2 cfg0.N : Vec F S8192x1024 .f32) (ix2 p q)
      = k0_pay1 (iblk m c 0 (point p q)) (iblk m c 1 (point p q))
          (ix2 (⟨p.val % 1024, by omega⟩ : Fin 1024) (⟨q.val % 1024, by omega⟩ : Fin 1024)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S1024x2048 .bf16 :=
  extractStridedSlice S1024x2048 ![0, 0] (truncf .bf16 x bitsLt_bf16_f32) slices_S2048x2048_S1024x2048_0_0

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x2048 .bf16) (x1 : Vec Ideal S1024x2048 .bf16) (p : Fin 1024) (q : Fin 1024) :
    k0_pay1 x0 x1 (ix2 p q) = ∑ k : Fin 2048, x0 (ix2 p k) * x1 (ix2 q k) := by
  pointwise [k0_pay1]

variable (m : (ℓ : Loc nD τ sig) → Buf (Elt Ideal) ℓ)

/-- The first argument. -/
abbrev arg0 (c : Dev nD) : FVec Ideal S8192x4096 .bf16 := m ((c : Thread nD τ).loc main_arg0)

theorem left_at (c : Dev nD) (p : Fin 8192) (q : Fin 1024) (k : Fin 2048) :
    (iblk m c 0 (point p q) : Vec Ideal S1024x2048 .bf16) (ix2 (⟨p.val % 1024, by omega⟩ : Fin 1024) k)
      = arg0 m c (ix2 p ⟨k.val, by omega⟩) :=
  (read_0 (V m c main_arg0) p q k).trans (congrFun (V_main_arg0 m c) _)

theorem right_at (c : Dev nD) (p : Fin 8192) (q : Fin 1024) (k : Fin 2048) :
    (iblk m c 1 (point p q) : Vec Ideal S1024x2048 .bf16) (ix2 (⟨q.val % 1024, by omega⟩ : Fin 1024) k)
      = weight (F := Ideal) (m ((c : Thread nD τ).loc main_arg1)) (ix2 q k) :=
  (read_1 (V m c main_v1) p q k).trans (congrFun (V_weight m c) _)

/-- The array is one product. -/
theorem product (c : Dev nD) (p : Fin 8192) (q : Fin 1024) :
    ((dats m 0 c).arrAt 2 cfg0.N : Vec Ideal S8192x1024 .f32) (ix2 p q)
      = ∑ k : Fin 2048, arg0 m c (ix2 p ⟨k.val, by omega⟩) * weight (F := Ideal) (m ((c : Thread nD τ).loc main_arg1)) (ix2 q k) := by
  rw [array_2, pay_1]
  simp only [left_at, right_at] <;> rfl

open Cert.BrDAttnRefIdeal.Read in
/-- The reference's result at an entry. -/
theorem reference_at (x0 : FVec Ideal S8192x4096 .bf16) (x1 : FVec Ideal S2048x2048 .f32) (p : Fin 8192) (q : Fin 1024) :
    (val_main_v5 (F := Ideal) x0 x1 : FVec Ideal S8192x1024 .f32) (ix2 p q) = ∑ k : Fin 2048, (x0 (ix2 p ⟨k.val, by omega⟩) : EReal) * weight (F := Ideal) x1 (ix2 q k) := by
  pointwise [val_main_v5, val_main_v3, val_main_v1, val_main_v0, weight]

open Cert.BrDAttnRefIdeal.Read in
/-- The array is the reference's result. -/
theorem result (c : Dev nD) (x0 : (⟨Cert.BrDAttnRefIdeal.S8192x4096, .bf16⟩ : BufTy).Contents (Elt Ideal)) (x1 : (⟨Cert.BrDAttnRefIdeal.S2048x2048, .f32⟩ : BufTy).Contents (Elt Ideal))
    (h0 : x0 = m ((c : Thread nD τ).loc main_arg0)) (h1 : x1 = m ((c : Thread nD τ).loc main_arg1)) :
    val_main_v5 (F := Ideal) x0 x1 = (dats m 0 c).arrAt 2 cfg0.N := by
  subst h0 h1
  funext i
  obtain ⟨p, q, rfl⟩ : ∃ (p : Fin 8192) (q : Fin 1024), i = ix2 p q := ⟨i 0, i 1, (ix2_eta i).symm⟩
  exact (reference_at _ _ p q).trans (product m c p q).symm

end Cert.BrDAttnIdeal.Product

end
-- ==== Proof.BrDSsm.lean ====
/-
  THE GRADIENT OF THE STATE SPACE OUTPUT BELOW ITS BRANCH PROJECTION: each block is a whole product.
-/
module

public import proofs.«01_k».proof.Proof.Halves
public import proofs.«01_k».proof.Proof.Gen.BrDSsmIdeal.Value
public import proofs.«01_k».proof.Proof.Gen.BrDSsmRefIdeal.Read
public import Idealize.ShloMosaic.Lib.StableHlo
public import Idealize.ShloMosaic.Lib.Tactic

@[expose] public section

set_option maxRecDepth 16384

noncomputable section

namespace Cert.BrDSsmIdeal.Product

open Cert.BrDSsmIdeal Cert.BrDSsmIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 1024) : Fin cfg0.N :=
  ⟨p.val / 1024, lt_of_lt_of_eq (by omega) N_0.symm⟩

/-! ### The blocks read -/

theorem index_0 : ∀ t : Fin grid0.N, win0_0.index t 0 = t.val ∧ win0_0.index t 1 = 1 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x4096 .bf16) (p : Fin 8192) (q : Fin 1024) (k : Fin 2048) :
    ((cfg0.win 0).blk (point p q)).view.read (Elt F) A (ix2 (⟨p.val % 1024, by omega⟩ : Fin 1024) k) = A (ix2 p ⟨2048 + k.val, by omega⟩) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 2048 + 1 * k.val = 2048 + k.val; rw [hi.2]; first | omega | (simp only [point]; omega)

theorem read_1 (A : Vec F S1024x2048 .bf16) (p : Fin 8192) (q : Fin 1024) (k : Fin 2048) :
    ((cfg0.win 1).blk (point p q)).view.read (Elt F) A (ix2 (⟨q.val % 1024, by omega⟩ : Fin 1024) k) = A (ix2 q k) := by
  have hi := index_1 (point p q)
  rw [View.read_apply]
  show A _ = _
  congr 1
  funext a
  apply Fin.ext
  match a with
  | ⟨0, _⟩ => show win0_1.index (point p q) 0 * 1024 + 1 * (q.val % 1024) = q.val; rw [hi.1]; first | omega | (simp only [point]; omega)
  | ⟨1, _⟩ => show win0_1.index (point p q) 1 * 2048 + 1 * k.val = k.val; rw [hi.2]; first | omega | (simp only [point]; omega)

theorem read_2 (A : Vec F S8192x1024 .f32) (p : Fin 8192) (q : Fin 1024) :
    ((cfg0.win 2).blk (point p q)).view.read (Elt F) A (ix2 (⟨p.val % 1024, by omega⟩ : Fin 1024) (⟨q.val % 1024, by omega⟩ : Fin 1024)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 1024 + 1 * (q.val % 1024) = q.val; rw [hi.2]; first | omega | (simp only [point]; omega)

/-- The block a point writes is the payload of the blocks it reads. -/
theorem out_eq_2 (x0 : Vec F S1024x2048 .bf16) (x1 : Vec F S1024x2048 .bf16) :
    out0_2 x0 x1 = k0_pay1 x0 x1 := by
  unfold out0_2
  rw [View.canon_unit_zero hz, View.ld_unit_zero (S := S1024x2048) hz, View.ld_unit_zero (S := S1024x2048) hz]

/-- What the array ends holding. -/
theorem array_2 (c : Dev nD) (p : Fin 8192) (q : Fin 1024) :
    ((dats m 0 c).arrAt 2 cfg0.N : Vec F S8192x1024 .f32) (ix2 p q)
      = k0_pay1 (iblk m c 0 (point p q)) (iblk m c 1 (point p q))
          (ix2 (⟨p.val % 1024, by omega⟩ : Fin 1024) (⟨q.val % 1024, by omega⟩ : Fin 1024)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S2048x2048 .f32) : FVec F S1024x2048 .bf16 :=
  extractStridedSlice S1024x2048 ![1024, 0] (truncf .bf16 x bitsLt_bf16_f32) slices_S2048x2048_S1024x2048_1024_0

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x2048 .bf16) (x1 : Vec Ideal S1024x2048 .bf16) (p : Fin 1024) (q : Fin 1024) :
    k0_pay1 x0 x1 (ix2 p q) = ∑ k : Fin 2048, x0 (ix2 p k) * x1 (ix2 q k) := by
  pointwise [k0_pay1]

variable (m : (ℓ : Loc nD τ sig) → Buf (Elt Ideal) ℓ)

/-- The first argument. -/
abbrev arg0 (c : Dev nD) : FVec Ideal S8192x4096 .bf16 := m ((c : Thread nD τ).loc main_arg0)

theorem left_at (c : Dev nD) (p : Fin 8192) (q : Fin 1024) (k : Fin 2048) :
    (iblk m c 0 (point p q) : Vec Ideal S1024x2048 .bf16) (ix2 (⟨p.val % 1024, by omega⟩ : Fin 1024) k)
      = arg0 m c (ix2 p ⟨2048 + k.val, by omega⟩) :=
  (read_0 (V m c main_arg0) p q k).trans (congrFun (V_main_arg0 m c) _)

theorem right_at (c : Dev nD) (p : Fin 8192) (q : Fin 1024) (k : Fin 2048) :
    (iblk m c 1 (point p q) : Vec Ideal S1024x2048 .bf16) (ix2 (⟨q.val % 1024, by omega⟩ : Fin 1024) k)
      = weight (F := Ideal) (m ((c : Thread nD τ).loc main_arg1)) (ix2 q k) :=
  (read_1 (V m c main_v1) p q k).trans (congrFun (V_weight m c) _)

/-- The array is one product. -/
theorem product (c : Dev nD) (p : Fin 8192) (q : Fin 1024) :
    ((dats m 0 c).arrAt 2 cfg0.N : Vec Ideal S8192x1024 .f32) (ix2 p q)
      = ∑ k : Fin 2048, arg0 m c (ix2 p ⟨2048 + k.val, by omega⟩) * weight (F := Ideal) (m ((c : Thread nD τ).loc main_arg1)) (ix2 q k) := by
  rw [array_2, pay_1]
  simp only [left_at, right_at] <;> rfl

open Cert.BrDSsmRefIdeal.Read in
/-- The reference's result at an entry. -/
theorem reference_at (x0 : FVec Ideal S8192x4096 .bf16) (x1 : FVec Ideal S2048x2048 .f32) (p : Fin 8192) (q : Fin 1024) :
    (val_main_v5 (F := Ideal) x0 x1 : FVec Ideal S8192x1024 .f32) (ix2 p q) = ∑ k : Fin 2048, (x0 (ix2 p ⟨2048 + k.val, by omega⟩) : EReal) * weight (F := Ideal) x1 (ix2 q k) := by
  pointwise [val_main_v5, val_main_v3, val_main_v1, val_main_v0, weight]

open Cert.BrDSsmRefIdeal.Read in
/-- The array is the reference's result. -/
theorem result (c : Dev nD) (x0 : (⟨Cert.BrDSsmRefIdeal.S8192x4096, .bf16⟩ : BufTy).Contents (Elt Ideal)) (x1 : (⟨Cert.BrDSsmRefIdeal.S2048x2048, .f32⟩ : BufTy).Contents (Elt Ideal))
    (h0 : x0 = m ((c : Thread nD τ).loc main_arg0)) (h1 : x1 = m ((c : Thread nD τ).loc main_arg1)) :
    val_main_v5 (F := Ideal) x0 x1 = (dats m 0 c).arrAt 2 cfg0.N := by
  subst h0 h1
  funext i
  obtain ⟨p, q, rfl⟩ : ∃ (p : Fin 8192) (q : Fin 1024), i = ix2 p q := ⟨i 0, i 1, (ix2_eta i).symm⟩
  exact (reference_at _ _ p q).trans (product m c p q).symm

end Cert.BrDSsmIdeal.Product

end
-- ==== Proof.BrGwAttn.lean ====
/-
  THE GRADIENT OF THE ATTENTION BRANCH'S WEIGHT: the kernel's two half sums over the positions are one sum.
-/
module

public import proofs.«01_k».proof.Proof.Halves
public import proofs.«01_k».proof.Proof.Gen.BrGwAttnIdeal.Value
public import proofs.«01_k».proof.Proof.Gen.BrGwAttnRefIdeal.Read
public import Idealize.ShloMosaic.Lib.StableHlo
public import Idealize.ShloMosaic.Lib.Tactic

@[expose] public section

set_option maxRecDepth 16384

noncomputable section

namespace Cert.BrGwAttnIdeal.Product

open Cert.BrGwAttnIdeal Cert.BrGwAttnIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S4096x1024 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, shapeCast_self]

/-- The last part: the block product is added to what the scratch holds, and written out. -/
theorem out_last (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S4096x1024 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x1024) hz]

variable (m : (ℓ : Loc nD τ sig) → Buf (Elt F) ℓ)

/-- The points that compute the block that holds an entry. -/
def point (p : Fin 1024) (q : Fin 2048) (s : Fin 2) : Fin cfg0.N :=
  ⟨2 * (2 * (p.val / 1024) + q.val / 1024) + s.val, lt_of_lt_of_eq (by omega) N_0.symm⟩

theorem outs_first (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_last (c : Dev nD) (t u : Fin cfg0.N) (h : u.val % 2 = 1) (hu : u.val = t.val + 1) :
    (outsAt0 m c u.val u.isLt).1 = k0_pay4 (iblk m c 0 u) (iblk m c 1 u) (outsAt0 m c t.val t.isLt).2 := by
  rw [outsAt0_B m c u (by omega) h]
  have e : u.val - 1 = t.val := by omega
  simp only [e]
  rw [out_last]

/-- What the array ends holding. -/
theorem array (c : Dev nD) (p : Fin 1024) (q : Fin 2048) :
    ((dats m 0 c).arrAt 2 cfg0.N : Vec F S1024x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_first m c (point p q 0) (by simp only [point]; omega),
    ← outs_last m c (point p q 0) (point p q 1) (by simp only [point]; omega) (by simp only [point]; omega),
    Value.final2,
    Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 := by decide +kernel

theorem read_0 (A : Vec F S8192x1024 .bf16) (p : Fin 1024) (q : Fin 2048) (s : Fin 2) (k : Fin 4096) :
    ((cfg0.win 0).blk (point p q s)).view.read (Elt F) A (ix2 k (⟨p.val % 1024, by omega⟩ : Fin 1024)) = A (ix2 ⟨4096 * s.val + k.val, by omega⟩ p) := by
  have hi := index_0 (point p q s)
  rw [View.read_apply]
  show A _ = _
  congr 1
  funext a
  apply Fin.ext
  match a with
  | ⟨0, _⟩ => show win0_0.index (point p q s) 0 * 4096 + 1 * k.val = 4096 * s.val + k.val; rw [hi.1]; first | omega | (simp only [point]; omega)
  | ⟨1, _⟩ => show win0_0.index (point p q s) 1 * 1024 + 1 * (p.val % 1024) = p.val; rw [hi.2]; first | omega | (simp only [point]; omega)

theorem read_1 (A : Vec F S8192x4096 .bf16) (p : Fin 1024) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ ⟨q.val, by omega⟩) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; first | omega | (simp only [point]; omega)
  | ⟨1, _⟩ => show win0_1.index (point p q s) 1 * 1024 + 1 * (q.val % 1024) = q.val; rw [hi.2]; first | omega | (simp only [point]; omega)
end

/-- The block product at an entry. -/
theorem pay_1 (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

theorem pay_4 (x0 : Vec Ideal S4096x1024 .bf16) (x1 : Vec Ideal S4096x1024 .bf16) (y : Vec Ideal S1024x1024 .f32) (p : Fin 1024) (q : Fin 1024) :
    k0_pay4 x0 x1 y (ix2 p q) = y (ix2 p q) + ∑ k : Fin 4096, x0 (ix2 k p) * x1 (ix2 k q) := by
  rw [← pay_1]
  rfl

variable (m : (ℓ : Loc nD τ sig) → Buf (Elt Ideal) ℓ)

/-- The first argument. -/
abbrev arg0 (c : Dev nD) : FVec Ideal S8192x1024 .bf16 := m ((c : Thread nD τ).loc main_arg0)

/-- The second argument. -/
abbrev arg1 (c : Dev nD) : FVec Ideal S8192x4096 .bf16 := m ((c : Thread nD τ).loc main_arg1)

theorem left_at (c : Dev nD) (p : Fin 1024) (q : Fin 2048) (s : Fin 2) (k : Fin 4096) :
    (iblk m c 0 (point p q s) : Vec Ideal S4096x1024 .bf16) (ix2 k (⟨p.val % 1024, by omega⟩ : Fin 1024))
      = arg0 m c (ix2 ⟨4096 * s.val + k.val, by omega⟩ p) :=
  (read_0 (V m c main_arg0) p q s k).trans (congrFun (V_main_arg0 m c) _)

theorem right_at (c : Dev nD) (p : Fin 1024) (q : Fin 2048) (s : Fin 2) (k : Fin 4096) :
    (iblk m c 1 (point p q s) : Vec Ideal S4096x1024 .bf16) (ix2 k (⟨q.val % 1024, by omega⟩ : Fin 1024))
      = arg1 m c (ix2 ⟨4096 * s.val + k.val, by omega⟩ ⟨q.val, by omega⟩) :=
  (read_1 (V m c main_arg1) p q s k).trans (congrFun (V_main_arg1 m c) _)

/-- The array is one product. -/
theorem product (c : Dev nD) (p : Fin 1024) (q : Fin 2048) :
    ((dats m 0 c).arrAt 2 cfg0.N : Vec Ideal S1024x2048 .f32) (ix2 p q)
      = ∑ k : Fin 8192, arg0 m c (ix2 k p) * arg1 m c (ix2 k ⟨q.val, by omega⟩) := by
  rw [array, pay_4, pay_1, sum_halves]
  simp only [left_at, right_at] <;> rfl

open Cert.BrGwAttnRefIdeal.Read in
/-- The reference's result at an entry. -/
theorem reference_at (x0 : FVec Ideal S8192x1024 .bf16) (x1 : FVec Ideal S8192x4096 .bf16) (p : Fin 1024) (q : Fin 2048) :
    (val_main_v6 (F := Ideal) x0 x1 : FVec Ideal S1024x2048 .f32) (ix2 p q) = ∑ k : Fin 8192, (x1 (ix2 k ⟨q.val, by omega⟩) : EReal) * x0 (ix2 k p) := by
  pointwise [val_main_v6, val_main_v5, val_main_v3, val_main_v1, val_main_v0]

open Cert.BrGwAttnRefIdeal.Read in
/-- The array is the reference's result. -/
theorem result (c : Dev nD) (x0 : (⟨Cert.BrGwAttnRefIdeal.S8192x1024, .bf16⟩ : BufTy).Contents (Elt Ideal)) (x1 : (⟨Cert.BrGwAttnRefIdeal.S8192x4096, .bf16⟩ : BufTy).Contents (Elt Ideal))
    (h0 : x0 = m ((c : Thread nD τ).loc main_arg0)) (h1 : x1 = m ((c : Thread nD τ).loc main_arg1)) :
    val_main_v6 (F := Ideal) x0 x1 = (dats m 0 c).arrAt 2 cfg0.N := by
  subst h0 h1
  funext i
  obtain ⟨p, q, rfl⟩ : ∃ (p : Fin 1024) (q : Fin 2048), i = ix2 p q := ⟨i 0, i 1, (ix2_eta i).symm⟩
  refine (reference_at _ _ p q).trans (Eq.trans ?_ (product m c p q).symm)
  exact Finset.sum_congr rfl fun k _ => mul_comm _ _

end Cert.BrGwAttnIdeal.Product

end
-- ==== Proof.BrGwSsm.lean ====
/-
  THE GRADIENT OF THE STATE SPACE BRANCH'S WEIGHT: the kernel's two half sums over the positions are one sum.
-/
module

public import proofs.«01_k».proof.Proof.Halves
public import proofs.«01_k».proof.Proof.Gen.BrGwSsmIdeal.Value
public import proofs.«01_k».proof.Proof.Gen.BrGwSsmRefIdeal.Read
public import Idealize.ShloMosaic.Lib.StableHlo
public import Idealize.ShloMosaic.Lib.Tactic

@[expose] public section

set_option maxRecDepth 16384

noncomputable section

namespace Cert.BrGwSsmIdeal.Product

open Cert.BrGwSsmIdeal Cert.BrGwSsmIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S4096x1024 .bf16) (x1 : Vec F S4096x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S4096x1024) hz, shapeCast_self]

/-- The last part: the block product is added to what the scratch holds, and written out. -/
theorem out_last (c : Dev nD) (i : grid0.Coords) (a3 : Memref sig .tc .vmem S4096x1024 .bf16) (h3 : a3.IsWhole) (a4 : Memref sig .tc .vmem S4096x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S4096x1024 .bf16) (x1 : Vec F S4096x1024 .bf16) (xs : Vec F S1024x1024 .f32) :
    out0_B_2 c i a3 h3 a4 h4 a5 h5 a6 h6 hc0 hc1 hc2 x0 x1 xs = k0_pay4 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S4096x1024) hz, View.ld_unit_zero (S := S1024x1024) hz]

variable (m : (ℓ : Loc nD τ sig) → Buf (Elt F) ℓ)

/-- The points that compute the block that holds an entry. -/
def point (p : Fin 1024) (q : Fin 2048) (s : Fin 2) : Fin cfg0.N :=
  ⟨2 * (2 * (p.val / 1024) + q.val / 1024) + s.val, lt_of_lt_of_eq (by omega) N_0.symm⟩

theorem outs_first (c : Dev nD) (t : Fin cfg0.N) (h : t.val % 2 = 0) :
    (outsAt0 m c t.val t.isLt).2 = k0_pay1 (iblk m c 0 t) (iblk m c 1 t) := by
  rw [outsAt0_A m c t h (by omega)]
  dsimp only
  rw [sout_A]

theorem outs_last (c : Dev nD) (t u : Fin cfg0.N) (h : u.val % 2 = 1) (hu : u.val = t.val + 1) :
    (outsAt0 m c u.val u.isLt).1 = k0_pay4 (iblk m c 0 u) (iblk m c 1 u) (outsAt0 m c t.val t.isLt).2 := by
  rw [outsAt0_B m c u (by omega) h]
  have e : u.val - 1 = t.val := by omega
  simp only [e]
  rw [out_last]

/-- What the array ends holding. -/
theorem array (c : Dev nD) (p : Fin 1024) (q : Fin 2048) :
    ((dats m 0 c).arrAt 2 cfg0.N : Vec F S1024x2048 .f32) (ix2 p q)
      = k0_pay4 (iblk m c 0 (point p q 1)) (iblk m c 1 (point p q 1)) (k0_pay1 (iblk m c 0 (point p q 0)) (iblk m c 1 (point p q 0)))
          (ix2 (⟨p.val % 1024, by omega⟩ : Fin 1024) (⟨q.val % 1024, by omega⟩ : Fin 1024)) := by
  rw [← outs_first m c (point p q 0) (by simp only [point]; omega),
    ← outs_last m c (point p q 0) (point p q 1) (by simp only [point]; omega) (by simp only [point]; omega),
    Value.final2,
    Value.outsAt0_sweep]
  have hp : Value.pt2Of (ix2 p q) = (point p q 1).val := by
    show 2 * (2 * (p.val / 1024 - 0) + 1 * (q.val / 1024 - 0)) + 1 = 2 * (2 * (p.val / 1024) + q.val / 1024) + 1
    omega
  unfold Value.G2
  rw [dif_pos (by rw [hp]; exact (point p q 1).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 2 ∧ win0_0.index t 1 = t.val / 4 := by decide +kernel
theorem index_1 : ∀ t : Fin grid0.N, win0_1.index t 0 = t.val % 2 ∧ win0_1.index t 1 = t.val / 2 % 2 + 2 := by decide +kernel

theorem read_0 (A : Vec F S8192x1024 .bf16) (p : Fin 1024) (q : Fin 2048) (s : Fin 2) (k : Fin 4096) :
    ((cfg0.win 0).blk (point p q s)).view.read (Elt F) A (ix2 k (⟨p.val % 1024, by omega⟩ : Fin 1024)) = A (ix2 ⟨4096 * s.val + k.val, by omega⟩ p) := by
  have hi := index_0 (point p q s)
  rw [View.read_apply]
  show A _ = _
  congr 1
  funext a
  apply Fin.ext
  match a with
  | ⟨0, _⟩ => show win0_0.index (point p q s) 0 * 4096 + 1 * k.val = 4096 * s.val + k.val; rw [hi.1]; first | omega | (simp only [point]; omega)
  | ⟨1, _⟩ => show win0_0.index (point p q s) 1 * 1024 + 1 * (p.val % 1024) = p.val; rw [hi.2]; first | omega | (simp only [point]; omega)

theorem read_1 (A : Vec F S8192x4096 .bf16) (p : Fin 1024) (q : Fin 2048) (s : Fin 2) (k : Fin 4096) :
    ((cfg0.win 1).blk (point p q s)).view.read (Elt F) A (ix2 k (⟨q.val % 1024, by omega⟩ : Fin 1024)) = A (ix2 ⟨4096 * s.val + k.val, by omega⟩ ⟨2048 + q.val, by omega⟩) := by
  have hi := index_1 (point p q s)
  rw [View.read_apply]
  show A _ = _
  congr 1
  funext a
  apply Fin.ext
  match a with
  | ⟨0, _⟩ => show win0_1.index (point p q s) 0 * 4096 + 1 * k.val = 4096 * s.val + k.val; rw [hi.1]; first | omega | (simp only [point]; omega)
  | ⟨1, _⟩ => show win0_1.index (point p q s) 1 * 1024 + 1 * (q.val % 1024) = 2048 + q.val; rw [hi.2]; first | omega | (simp only [point]; omega)
end

/-- The block product at an entry. -/
theorem pay_1 (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

theorem pay_4 (x0 : Vec Ideal S4096x1024 .bf16) (x1 : Vec Ideal S4096x1024 .bf16) (y : Vec Ideal S1024x1024 .f32) (p : Fin 1024) (q : Fin 1024) :
    k0_pay4 x0 x1 y (ix2 p q) = y (ix2 p q) + ∑ k : Fin 4096, x0 (ix2 k p) * x1 (ix2 k q) := by
  rw [← pay_1]
  rfl

variable (m : (ℓ : Loc nD τ sig) → Buf (Elt Ideal) ℓ)

/-- The first argument. -/
abbrev arg0 (c : Dev nD) : FVec Ideal S8192x1024 .bf16 := m ((c : Thread nD τ).loc main_arg0)

/-- The second argument. -/
abbrev arg1 (c : Dev nD) : FVec Ideal S8192x4096 .bf16 := m ((c : Thread nD τ).loc main_arg1)

theorem left_at (c : Dev nD) (p : Fin 1024) (q : Fin 2048) (s : Fin 2) (k : Fin 4096) :
    (iblk m c 0 (point p q s) : Vec Ideal S4096x1024 .bf16) (ix2 k (⟨p.val % 1024, by omega⟩ : Fin 1024))
      = arg0 m c (ix2 ⟨4096 * s.val + k.val, by omega⟩ p) :=
  (read_0 (V m c main_arg0) p q s k).trans (congrFun (V_main_arg0 m c) _)

theorem right_at (c : Dev nD) (p : Fin 1024) (q : Fin 2048) (s : Fin 2) (k : Fin 4096) :
    (iblk m c 1 (point p q s) : Vec Ideal S4096x1024 .bf16) (ix2 k (⟨q.val % 1024, by omega⟩ : Fin 1024))
      = arg1 m c (ix2 ⟨4096 * s.val + k.val, by omega⟩ ⟨2048 + q.val, by omega⟩) :=
  (read_1 (V m c main_arg1) p q s k).trans (congrFun (V_main_arg1 m c) _)

/-- The array is one product. -/
theorem product (c : Dev nD) (p : Fin 1024) (q : Fin 2048) :
    ((dats m 0 c).arrAt 2 cfg0.N : Vec Ideal S1024x2048 .f32) (ix2 p q)
      = ∑ k : Fin 8192, arg0 m c (ix2 k p) * arg1 m c (ix2 k ⟨2048 + q.val, by omega⟩) := by
  rw [array, pay_4, pay_1, sum_halves]
  simp only [left_at, right_at] <;> rfl

open Cert.BrGwSsmRefIdeal.Read in
/-- The reference's result at an entry. -/
theorem reference_at (x0 : FVec Ideal S8192x1024 .bf16) (x1 : FVec Ideal S8192x4096 .bf16) (p : Fin 1024) (q : Fin 2048) :
    (val_main_v6 (F := Ideal) x0 x1 : FVec Ideal S1024x2048 .f32) (ix2 p q) = ∑ k : Fin 8192, (x1 (ix2 k ⟨2048 + q.val, by omega⟩) : EReal) * x0 (ix2 k p) := by
  pointwise [val_main_v6, val_main_v5, val_main_v3, val_main_v1, val_main_v0]

open Cert.BrGwSsmRefIdeal.Read in
/-- The array is the reference's result. -/
theorem result (c : Dev nD) (x0 : (⟨Cert.BrGwSsmRefIdeal.S8192x1024, .bf16⟩ : BufTy).Contents (Elt Ideal)) (x1 : (⟨Cert.BrGwSsmRefIdeal.S8192x4096, .bf16⟩ : BufTy).Contents (Elt Ideal))
    (h0 : x0 = m ((c : Thread nD τ).loc main_arg0)) (h1 : x1 = m ((c : Thread nD τ).loc main_arg1)) :
    val_main_v6 (F := Ideal) x0 x1 = (dats m 0 c).arrAt 2 cfg0.N := by
  subst h0 h1
  funext i
  obtain ⟨p, q, rfl⟩ : ∃ (p : Fin 1024) (q : Fin 2048), i = ix2 p q := ⟨i 0, i 1, (ix2_eta i).symm⟩
  refine (reference_at _ _ p q).trans (Eq.trans ?_ (product m c p q).symm)
  exact Finset.sum_congr rfl fun k _ => mul_comm _ _

end Cert.BrGwSsmIdeal.Product

end
-- ==== Proof.Gelu.lean ====
/-
  THE ACTIVATION OF THE GATE: the kernel's order of factors and the reference's give one number.
-/
module

public import Idealize.ShloMosaic.Lib.Pointwise

@[expose] public section

noncomputable section

namespace Cert.Gelu

open Idealize.ShloMosaic

/-- The activation, in the kernel's order. -/
def gelu (x : EReal) : EReal :=
  (Ideal.ofBits .f32 0x3F000000#32 * x) * (Ideal.ofBits .f32 0x3F800000#32
    + Ideal.tanh (Ideal.ofBits .f32 0x3F4C422A#32 * (x + ((Ideal.ofBits .f32 0x3D372713#32 * x) * x) * x)))

/-- The activation, in the reference's order. -/
def gelu' (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * ((x * x) * x)))))

theorem gelu_eq (x : EReal) : gelu x = gelu' x := by
  unfold gelu gelu'
  rw [mul_comm (Ideal.ofBits .f32 0x3F000000#32) x, mul_assoc x, mul_assoc (Ideal.ofBits .f32 0x3D372713#32 * x), mul_assoc (Ideal.ofBits .f32 0x3D372713#32),
    mul_assoc x x x]

end Cert.Gelu

end
-- ==== Proof.Glu.lean ====
/-
  THE GATE PROJECTION: each block is a whole product of the activated input.
-/
module

public import proofs.«01_k».proof.Proof.Halves
public import proofs.«01_k».proof.Proof.Gelu
public import proofs.«01_k».proof.Proof.Gen.GluIdeal.Value
public import proofs.«01_k».proof.Proof.Gen.GluRefIdeal.Read
public import Idealize.ShloMosaic.Lib.StableHlo
public import Idealize.ShloMosaic.Lib.Tactic

@[expose] public section

set_option maxRecDepth 16384

noncomputable section

namespace Cert.GluIdeal.Product

open Cert.Gelu Cert.GluIdeal Cert.GluIdeal.Gen Cert.Halves Idealize.ShloMosaic Idealize.ShloMosaic.TcCoe Idealize.SL.Sem

section
variable {F : FTy → Type} [FloatOps F]

variable (m : (ℓ : Loc nD τ sig) → Buf (Elt F) ℓ)

/-- The points that compute the block that holds an entry. -/
def point (p : Fin 8192) (q : Fin 2048) : Fin cfg0.N :=
  ⟨p.val / 1024, lt_of_lt_of_eq (by omega) N_0.symm⟩

/-! ### The blocks read -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem read_0 (A : Vec F S8192x1024 .f32) (p : Fin 8192) (q : Fin 2048) (k : Fin 1024) :
    ((cfg0.win 0).blk (point p q)).view.read (Elt F) A (ix2 (⟨p.val % 1024, by omega⟩ : Fin 1024) k) = A (ix2 p k) := by
  have hi := index_0 (point p q)
  rw [View.read_apply]
  show A _ = _
  congr 1
  funext a
  apply Fin.ext
  match a with
  | ⟨0, _⟩ => show win0_0.index (point p q) 0 * 1024 + 1 * (p.val % 1024) = p.val; rw [hi.1]; first | omega | (simp only [point]; omega)
  | ⟨1, _⟩ => show win0_0.index (point p q) 1 * 1024 + 1 * k.val = k.val; rw [hi.2]; first | omega | (simp only [point]; omega)

theorem read_1 (A : Vec F S2048x1024 .bf16) (p : Fin 8192) (q : Fin 2048) (k : Fin 1024) :
    ((cfg0.win 1).blk (point p q)).view.read (Elt F) A (ix2 (⟨q.val % 2048, by omega⟩ : Fin 2048) k) = A (ix2 q k) := by
  have hi := index_1 (point p q)
  rw [View.read_apply]
  show A _ = _
  congr 1
  funext a
  apply Fin.ext
  match a with
  | ⟨0, _⟩ => show win0_1.index (point p q) 0 * 2048 + 1 * (q.val % 2048) = q.val; rw [hi.1]; first | omega | (simp only [point]; omega)
  | ⟨1, _⟩ => show win0_1.index (point p q) 1 * 1024 + 1 * k.val = k.val; rw [hi.2]; first | omega | (simp only [point]; omega)

theorem read_2 (A : Vec F S8192x2048 .f32) (p : Fin 8192) (q : Fin 2048) :
    ((cfg0.win 2).blk (point p q)).view.read (Elt F) A (ix2 (⟨p.val % 1024, by omega⟩ : Fin 1024) (⟨q.val % 2048, by omega⟩ : Fin 2048)) = A (ix2 p q) := by
  have hi := index_2 (point p q)
  rw [View.read_apply]
  show A _ = _
  congr 1
  funext a
  apply Fin.ext
  match a with
  | ⟨0, _⟩ => show win0_2.index (point p q) 0 * 1024 + 1 * (p.val % 1024) = p.val; rw [hi.1]; first | omega | (simp only [point]; omega)
  | ⟨1, _⟩ => show win0_2.index (point p q) 1 * 2048 + 1 * (q.val % 2048) = q.val; rw [hi.2]; first | omega | (simp only [point]; omega)

/-- The block a point writes is the payload of the blocks it reads. -/
theorem out_eq_2 (x0 : Vec F S1024x1024 .f32) (x1 : Vec F S2048x1024 .bf16) :
    out0_2 x0 x1 = k0_pay1 x0 x1 := by
  unfold out0_2
  rw [View.canon_unit_zero hz, View.ld_unit_zero (S := S1024x1024) hz, View.ld_unit_zero (S := S2048x1024) hz]

/-- What the array ends holding. -/
theorem array_2 (c : Dev nD) (p : Fin 8192) (q : Fin 2048) :
    ((dats m 0 c).arrAt 2 cfg0.N : Vec F S8192x2048 .f32) (ix2 p q)
      = k0_pay1 (iblk m c 0 (point p q)) (iblk m c 1 (point p q))
          (ix2 (⟨p.val % 1024, by omega⟩ : Fin 1024) (⟨q.val % 2048, by omega⟩ : Fin 2048)) := by
  refine (read_2 ((dats m 0 c).arrAt 2 cfg0.N) p q).symm.trans ?_
  refine (congrFun (Value.blocks2 m c (point p q) (flush0_2 (point p q))) _).trans ?_
  rw [Value.flushed2, out_eq_2]
  rfl

/-- The weight, laid out as the host lines before the call prepare it. -/
def weight (x : FVec F S1024x2048 .f32) : FVec F S2048x1024 .bf16 :=
  truncf .bf16 (transpose S2048x1024 [1, 0] x transposes_S1024x2048_S2048x1024_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-- The block product at an entry. -/
theorem pay_1 (x0 : Vec Ideal S1024x1024 .f32) (x1 : Vec Ideal S2048x1024 .bf16) (p : Fin 1024) (q : Fin 2048) :
    k0_pay1 x0 x1 (ix2 p q) = ∑ k : Fin 1024, gelu (x0 (ix2 p k)) * x1 (ix2 q k) := by
  pointwise [k0_pay1, gelu]

variable (m : (ℓ : Loc nD τ sig) → Buf (Elt Ideal) ℓ)

/-- The first argument. -/
abbrev arg0 (c : Dev nD) : FVec Ideal S8192x1024 .f32 := m ((c : Thread nD τ).loc main_arg0)

theorem left_at (c : Dev nD) (p : Fin 8192) (q : Fin 2048) (k : Fin 1024) :
    (iblk m c 0 (point p q) : Vec Ideal S1024x1024 .f32) (ix2 (⟨p.val % 1024, by omega⟩ : Fin 1024) k)
      = arg0 m c (ix2 p k) :=
  (read_0 (V m c main_arg0) p q k).trans (congrFun (V_main_arg0 m c) _)

theorem right_at (c : Dev nD) (p : Fin 8192) (q : Fin 2048) (k : Fin 1024) :
    (iblk m c 1 (point p q) : Vec Ideal S2048x1024 .bf16) (ix2 (⟨q.val % 2048, by omega⟩ : Fin 2048) k)
      = weight (F := Ideal) (m ((c : Thread nD τ).loc main_arg1)) (ix2 q k) :=
  (read_1 (V m c main_v1) p q k).trans (congrFun (V_weight m c) _)

/-- The array is one product. -/
theorem product (c : Dev nD) (p : Fin 8192) (q : Fin 2048) :
    ((dats m 0 c).arrAt 2 cfg0.N : Vec Ideal S8192x2048 .f32) (ix2 p q)
      = ∑ k : Fin 1024, gelu (arg0 m c (ix2 p k)) * weight (F := Ideal) (m ((c : Thread nD τ).loc main_arg1)) (ix2 q k) := by
  rw [array_2, pay_1]
  simp only [left_at, right_at] <;> rfl

open Cert.GluRefIdeal.Read in
/-- The reference's result at an entry. -/
theorem reference_at (x0 : FVec Ideal S8192x1024 .f32) (x1 : FVec Ideal S1024x2048 .f32) (p : Fin 8192) (q : Fin 2048) :
    (val_main_v13 (F := Ideal) x0 x1 : FVec Ideal S8192x2048 .f32) (ix2 p q) = ∑ k : Fin 1024, (gelu (x0 (ix2 p k)) : EReal) * weight (F := Ideal) x1 (ix2 q k) := by
  simp only [gelu_eq]
  pointwise [val_main_v13, val_main_v12, val_main_v11, val_main_cst_2, val_main_v10, val_main_v9, val_main_v8, val_main_cst_1, val_main_v7, val_main_v6, val_main_v5, val_main_cst_0, val_main_v4, val_main_v3, val_main_v2, val_main_cst, val_main_v1, val_main_v0, weight, gelu']

open Cert.GluRefIdeal.Read in
/-- The array is the reference's result. -/
theorem result (c : Dev nD) (x0 : (⟨Cert.GluRefIdeal.S8192x1024, .f32⟩ : BufTy).Contents (Elt Ideal)) (x1 : (⟨Cert.GluRefIdeal.S1024x2048, .f32⟩ : BufTy).Contents (Elt Ideal))
    (h0 : x0 = m ((c : Thread nD τ).loc main_arg0)) (h1 : x1 = m ((c : Thread nD τ).loc main_arg1)) :
    val_main_v13 (F := Ideal) x0 x1 = (dats m 0 c).arrAt 2 cfg0.N := by
  subst h0 h1
  funext i
  obtain ⟨p, q, rfl⟩ : ∃ (p : Fin 8192) (q : Fin 2048), i = ix2 p q := ⟨i 0, i 1, (ix2_eta i).symm⟩
  exact (reference_at _ _ p q).trans (product m c p q).symm

end Cert.GluIdeal.Product

end
-- ==== Proof.GluGw.lean ====
/-
  THE GRADIENT OF THE GATE PROJECTION'S WEIGHT: the kernel's four part sums over the positions are one sum.
-/
module

public import proofs.«01_k».proof.Proof.Halves
public import proofs.«01_k».proof.Proof.Gelu
public import proofs.«01_k».proof.Proof.Gen.GluGwIdeal.Value
public import proofs.«01_k».proof.Proof.Gen.GluGwRefIdeal.Read
public import Idealize.ShloMosaic.Lib.StableHlo
public import Idealize.ShloMosaic.Lib.Tactic

@[expose] public section

set_option maxRecDepth 16384

noncomputable section

namespace Cert.GluGwIdeal.Product

open Cert.Gelu Cert.GluGwIdeal Cert.GluGwIdeal.Gen Cert.Halves Idealize.ShloMosaic Idealize.ShloMosaic.TcCoe Idealize.SL.Sem

section
variable {F : FTy → Type} [FloatOps F]

/-- The first part of the sum: the scratch is left at the block product. -/
theorem sout_A (c : Dev nD) (i : grid0.Coords) (a3 : Memref sig .tc .vmem S2048x1024 .bf16) (h3 : a3.IsWhole) (a4 : Memref sig .tc .vmem S2048x1024 .f32) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S2048x1024 .bf16) (x1 : Vec F S2048x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S2048x1024) hz, shapeCast_self]

/-- A part between: the block product is added to what the scratch holds. -/
theorem sout_B (c : Dev nD) (i : grid0.Coords) (a3 : Memref sig .tc .vmem S2048x1024 .bf16) (h3 : a3.IsWhole) (a4 : Memref sig .tc .vmem S2048x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (hc2 : ¬cond0_2 i)
    (x0 : Vec F S2048x1024 .bf16) (x1 : Vec F S2048x1024 .f32) (xs : Vec F S1024x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last part: the block product is added to what the scratch holds, and written out. -/
theorem out_last (c : Dev nD) (i : grid0.Coords) (a3 : Memref sig .tc .vmem S2048x1024 .bf16) (h3 : a3.IsWhole) (a4 : Memref sig .tc .vmem S2048x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (hc2 : cond0_2 i)
    (x0 : Vec F S2048x1024 .bf16) (x1 : Vec F S2048x1024 .f32) (xs : Vec F S1024x1024 .f32) :
    out0_C_2 c i a3 h3 a4 h4 a5 h5 a6 h6 hc0 hc1 hc2 x0 x1 xs = k0_pay4 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

variable (m : (ℓ : Loc nD τ sig) → Buf (Elt F) ℓ)

/-- The points that compute the block that holds an entry. -/
def point (p : Fin 2048) (q : Fin 1024) (s : Fin 4) : Fin cfg0.N :=
  ⟨4 * (p.val / 1024) + s.val, lt_of_lt_of_eq (by omega) N_0.symm⟩

theorem outs_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  rw [sout_A]

theorem outs_between (c : Dev nD) (t u : Fin cfg0.N) (h : 1 ≤ u.val % 4 ∧ u.val % 4 ≤ 2) (hu : u.val = t.val + 1) :
    (outsAt0 m c u.val u.isLt).2 = k0_pay3 (iblk m c 0 u) (iblk m c 1 u) (outsAt0 m c t.val t.isLt).2 := by
  rw [outsAt0_B m c u (by omega) h (by omega)]
  have e : u.val - 1 = t.val := by omega
  simp only [e]
  rw [sout_B]

theorem outs_last (c : Dev nD) (t u : Fin cfg0.N) (h : u.val % 4 = 3) (hu : u.val = t.val + 1) :
    (outsAt0 m c u.val u.isLt).1 = k0_pay4 (iblk m c 0 u) (iblk m c 1 u) (outsAt0 m c t.val t.isLt).2 := by
  rw [outsAt0_C m c u (by omega) (by omega) h]
  have e : u.val - 1 = t.val := by omega
  simp only [e]
  rw [out_last]

/-- What the array ends holding. -/
theorem array (c : Dev nD) (p : Fin 2048) (q : Fin 1024) :
    ((dats m 0 c).arrAt 2 cfg0.N : Vec F S2048x1024 .f32) (ix2 p q)
      = k0_pay4 (iblk m c 0 (point p q 3)) (iblk m c 1 (point p q 3)) (k0_pay3 (iblk m c 0 (point p q 2)) (iblk m c 1 (point p q 2)) (k0_pay3 (iblk m c 0 (point p q 1)) (iblk m c 1 (point p q 1)) (k0_pay1 (iblk m c 0 (point p q 0)) (iblk m c 1 (point p q 0)))))
          (ix2 (⟨p.val % 1024, by omega⟩ : Fin 1024) (⟨q.val % 1024, by omega⟩ : Fin 1024)) := by
  rw [← outs_first m c (point p q 0) (by simp only [point]; omega),
    ← outs_between m c (point p q 0) (point p q 1) (by simp only [point]; omega) (by simp only [point]; omega),
    ← outs_between m c (point p q 1) (point p q 2) (by simp only [point]; omega) (by simp only [point]; omega),
    ← outs_last m c (point p q 2) (point p q 3) (by simp only [point]; omega) (by simp only [point]; omega),
    Value.final2,
    Value.outsAt0_sweep]
  have hp : Value.pt2Of (ix2 p q) = (point p q 3).val := by
    show 4 * (1 * (p.val / 1024 - 0) + 1 * (q.val / 1024 - 0)) + 3 = 4 * (p.val / 1024) + 3
    omega
  unfold Value.G2
  rw [dif_pos (by rw [hp]; exact (point p q 3).isLt), Value.fold0_congr m c _ _ _ _ hp]
  have hl : Value.loc2Of (ix2 p q) = ix2 (⟨p.val % 1024, by omega⟩ : Fin 1024) (⟨q.val % 1024, by omega⟩ : Fin 1024) := by
    funext a
    match a with
    | ⟨0, _⟩ => rfl
    | ⟨1, _⟩ => rfl
  rw [hl]

/-! ### The blocks read -/

theorem index_0 : ∀ t : Fin grid0.N, win0_0.index t 0 = t.val % 4 ∧ win0_0.index t 1 = t.val / 4 := by decide +kernel
theorem index_1 : ∀ t : Fin grid0.N, win0_1.index t 0 = t.val % 4 ∧ win0_1.index t 1 = 0 := by decide +kernel

theorem read_0 (A : Vec F S8192x2048 .bf16) (p : Fin 2048) (q : Fin 1024) (s : Fin 4) (k : Fin 2048) :
    ((cfg0.win 0).blk (point p q s)).view.read (Elt F) A (ix2 k (⟨p.val % 1024, by omega⟩ : Fin 1024)) = A (ix2 ⟨2048 * s.val + k.val, by omega⟩ p) := by
  have hi := index_0 (point p q s)
  rw [View.read_apply]
  show A _ = _
  congr 1
  funext a
  apply Fin.ext
  match a with
  | ⟨0, _⟩ => show win0_0.index (point p q s) 0 * 2048 + 1 * k.val = 2048 * s.val + k.val; rw [hi.1]; first | omega | (simp only [point]; omega)
  | ⟨1, _⟩ => show win0_0.index (point p q s) 1 * 1024 + 1 * (p.val % 1024) = p.val; rw [hi.2]; first | omega | (simp only [point]; omega)

theorem read_1 (A : Vec F S8192x1024 .f32) (p : Fin 2048) (q : Fin 1024) (s : Fin 4) (k : Fin 2048) :
    ((cfg0.win 1).blk (point p q s)).view.read (Elt F) A (ix2 k (⟨q.val % 1024, by omega⟩ : Fin 1024)) = A (ix2 ⟨2048 * s.val + k.val, by omega⟩ q) := by
  have hi := index_1 (point p q s)
  rw [View.read_apply]
  show A _ = _
  congr 1
  funext a
  apply Fin.ext
  match a with
  | ⟨0, _⟩ => show win0_1.index (point p q s) 0 * 2048 + 1 * k.val = 2048 * s.val + k.val; rw [hi.1]; first | omega | (simp only [point]; omega)
  | ⟨1, _⟩ => show win0_1.index (point p q s) 1 * 1024 + 1 * (q.val % 1024) = q.val; rw [hi.2]; first | omega | (simp only [point]; omega)
end

/-- The block product at an entry. -/
theorem pay_1 (x0 : Vec Ideal S2048x1024 .bf16) (x1 : Vec Ideal S2048x1024 .f32) (p : Fin 1024) (q : Fin 1024) :
    k0_pay1 x0 x1 (ix2 p q) = ∑ k : Fin 2048, x0 (ix2 k p) * gelu (x1 (ix2 k q)) := by
  pointwise [k0_pay1, gelu]

theorem pay_3 (x0 : Vec Ideal S2048x1024 .bf16) (x1 : Vec Ideal S2048x1024 .f32) (y : Vec Ideal S1024x1024 .f32) (p : Fin 1024) (q : Fin 1024) :
    k0_pay3 x0 x1 y (ix2 p q) = y (ix2 p q) + ∑ k : Fin 2048, x0 (ix2 k p) * gelu (x1 (ix2 k q)) := by
  rw [← pay_1]
  unfold k0_pay3
  rw [shapeCast_self]
  rfl

theorem pay_4 (x0 : Vec Ideal S2048x1024 .bf16) (x1 : Vec Ideal S2048x1024 .f32) (y : Vec Ideal S1024x1024 .f32) (p : Fin 1024) (q : Fin 1024) :
    k0_pay4 x0 x1 y (ix2 p q) = y (ix2 p q) + ∑ k : Fin 2048, x0 (ix2 k p) * gelu (x1 (ix2 k q)) := by
  rw [← pay_1]
  rfl

variable (m : (ℓ : Loc nD τ sig) → Buf (Elt Ideal) ℓ)

/-- The first argument. -/
abbrev arg0 (c : Dev nD) : FVec Ideal S8192x2048 .bf16 := m ((c : Thread nD τ).loc main_arg0)

/-- The second argument. -/
abbrev arg1 (c : Dev nD) : FVec Ideal S8192x1024 .f32 := m ((c : Thread nD τ).loc main_arg1)

theorem left_at (c : Dev nD) (p : Fin 2048) (q : Fin 1024) (s : Fin 4) (k : Fin 2048) :
    (iblk m c 0 (point p q s) : Vec Ideal S2048x1024 .bf16) (ix2 k (⟨p.val % 1024, by omega⟩ : Fin 1024))
      = arg0 m c (ix2 ⟨2048 * s.val + k.val, by omega⟩ p) :=
  (read_0 (V m c main_arg0) p q s k).trans (congrFun (V_main_arg0 m c) _)

theorem right_at (c : Dev nD) (p : Fin 2048) (q : Fin 1024) (s : Fin 4) (k : Fin 2048) :
    (iblk m c 1 (point p q s) : Vec Ideal S2048x1024 .f32) (ix2 k (⟨q.val % 1024, by omega⟩ : Fin 1024))
      = arg1 m c (ix2 ⟨2048 * s.val + k.val, by omega⟩ q) :=
  (read_1 (V m c main_arg1) p q s k).trans (congrFun (V_main_arg1 m c) _)

/-- The array is one product. -/
theorem product (c : Dev nD) (p : Fin 2048) (q : Fin 1024) :
    ((dats m 0 c).arrAt 2 cfg0.N : Vec Ideal S2048x1024 .f32) (ix2 p q)
      = ∑ k : Fin 8192, arg0 m c (ix2 k p) * gelu (arg1 m c (ix2 k q)) := by
  rw [array, pay_4, pay_3, pay_3, pay_1, sum_parts (N := 8192) (n := 4) (b := 2048) (by norm_num), Fin.sum_univ_four]
  simp only [left_at, right_at] <;> rfl

open Cert.GluGwRefIdeal.Read in
/-- The reference's result at an entry. -/
theorem reference_at (x0 : FVec Ideal S8192x2048 .bf16) (x1 : FVec Ideal S8192x1024 .f32) (p : Fin 2048) (q : Fin 1024) :
    (val_main_v18 (F := Ideal) x0 x1 : FVec Ideal S2048x1024 .f32) (ix2 p q) = ∑ k : Fin 8192, (x0 (ix2 k p) : EReal) * gelu (x1 (ix2 k q)) := by
  simp only [gelu_eq]
  pointwise [val_main_v18, val_main_v17, val_main_v16, val_main_v15, val_main_v13, val_main_v12, val_main_v11, val_main_cst_3, val_main_v10, val_main_v9, val_main_v8, val_main_cst_2, val_main_v7, val_main_v6, val_main_v5, val_main_cst_1, val_main_v4, val_main_v3, val_main_v2, val_main_cst_0, val_main_v1, gelu']

open Cert.GluGwRefIdeal.Read in
/-- The array is the reference's result. -/
theorem result (c : Dev nD) (x0 : (⟨Cert.GluGwRefIdeal.S8192x2048, .bf16⟩ : BufTy).Contents (Elt Ideal)) (x1 : (⟨Cert.GluGwRefIdeal.S8192x1024, .f32⟩ : BufTy).Contents (Elt Ideal))
    (h0 : x0 = m ((c : Thread nD τ).loc main_arg0)) (h1 : x1 = m ((c : Thread nD τ).loc main_arg1)) :
    val_main_v18 (F := Ideal) x0 x1 = (dats m 0 c).arrAt 2 cfg0.N := by
  subst h0 h1
  funext i
  obtain ⟨p, q, rfl⟩ : ∃ (p : Fin 2048) (q : Fin 1024), i = ix2 p q := ⟨i 0, i 1, (ix2_eta i).symm⟩
  exact (reference_at _ _ p q).trans (product m c p q).symm

end Cert.GluGwIdeal.Product

end
-- ==== Proof.Others.lean ====
/-
  THE OTHER PRODUCTS OF THE STEP, as the claims state them: the references' frames, and for each call that its arrays
  are the reference's results.
-/
module

public import proofs.«01_k».proof.Defs
public import proofs.«01_k».proof.Proof.Gen.UpRefIdeal.Run
public import proofs.«01_k».proof.Proof.Up
public import proofs.«01_k».proof.Proof.Gen.DownRefIdeal.Run
public import proofs.«01_k».proof.Proof.Down
public import proofs.«01_k».proof.Proof.Gen.InZRefIdeal.Run
public import proofs.«01_k».proof.Proof.InZ
public import proofs.«01_k».proof.Proof.Gen.InGwRefIdeal.Run
public import proofs.«01_k».proof.Proof.InGw
public import proofs.«01_k».proof.Proof.Gen.InDhRefIdeal.Run
public import proofs.«01_k».proof.Proof.InDh
public import proofs.«01_k».proof.Proof.Gen.OutMixedRefIdeal.Run
public import proofs.«01_k».proof.Proof.OutMixed
public import proofs.«01_k».proof.Proof.Gen.OutDMixRefIdeal.Run
public import proofs.«01_k».proof.Proof.OutDMix
public import proofs.«01_k».proof.Proof.Gen.OutGwRefIdeal.Run
public import proofs.«01_k».proof.Proof.OutGw
public import proofs.«01_k».proof.Proof.Gen.BrAttnRefIdeal.Run
public import proofs.«01_k».proof.Proof.BrAttn
public import proofs.«01_k».proof.Proof.Gen.BrSsmRefIdeal.Run
public import proofs.«01_k».proof.Proof.BrSsm
public import proofs.«01_k».proof.Proof.Gen.BrDAttnRefIdeal.Run
public import proofs.«01_k».proof.Proof.BrDAttn
public import proofs.«01_k».proof.Proof.Gen.BrDSsmRefIdeal.Run
public import proofs.«01_k».proof.Proof.BrDSsm
public import proofs.«01_k».proof.Proof.Gen.BrGwAttnRefIdeal.Run
public import proofs.«01_k».proof.Proof.BrGwAttn
public import proofs.«01_k».proof.Proof.Gen.BrGwSsmRefIdeal.Run
public import proofs.«01_k».proof.Proof.BrGwSsm
public import proofs.«01_k».proof.Proof.Gen.GluRefIdeal.Run
public import proofs.«01_k».proof.Proof.Glu
public import proofs.«01_k».proof.Proof.Gen.GluGwRefIdeal.Run
public import proofs.«01_k».proof.Proof.GluGw
public import Idealize.ShloMosaic.Adequacy
public import Idealize.ShloMosaic.Init

@[expose] public section

noncomputable section

namespace Cert.Products

open Idealize.ShloMosaic Idealize.ShloMosaic.TcCoe Idealize.SL.Sem

theorem frame_up : Cert.quiescent_UpRefIdeal := fun m ρ _ =>
  (θ_run Cert.UpRefIdeal.defs _ _).mono (fun r h => ⟨fun c => (h c).2.2, sem_eq_zero_of_no_sems (by decide) r.2⟩) (Cert.UpRefIdeal.Value.run m ρ)

theorem algebraic_up : Cert.algebraic_UpIdeal_UpRefIdeal := by
  intro m ρ m' ρ' _ hargs
  refine ⟨_, _, Cert.UpIdeal.Value.run_blocks m ρ, (θ_run Cert.UpRefIdeal.defs _ _).mono (fun r h c => ?_) (Cert.UpRefIdeal.Value.run m' ρ')⟩
  obtain ⟨h0, h1, hrest⟩ := h c
  obtain ⟨a0, a1⟩ := hargs c
  exact ⟨h0.trans ((Cert.UpRefIdeal.Read.val_main_v3_eq _ _).trans (Cert.UpIdeal.Product.result_2 m c _ _ a0 a1)),
    h1.trans ((Cert.UpRefIdeal.Read.val_main_v5_eq _ _).trans (Cert.UpIdeal.Product.result_3 m c _ _ a0 a1)), hrest⟩

theorem frame_down : Cert.quiescent_DownRefIdeal := fun m ρ _ =>
  (θ_run Cert.DownRefIdeal.defs _ _).mono (fun r h => ⟨fun c => (h c).2, sem_eq_zero_of_no_sems (by decide) r.2⟩) (Cert.DownRefIdeal.Value.run m ρ)

theorem algebraic_down : Cert.algebraic_DownIdeal_DownRefIdeal := by
  intro m ρ m' ρ' _ hargs
  refine ⟨_, Cert.DownIdeal.Value.run_blocks m ρ, (θ_run Cert.DownRefIdeal.defs _ _).mono (fun r h c => ?_) (Cert.DownRefIdeal.Value.run m' ρ')⟩
  obtain ⟨h0, hrest⟩ := h c
  obtain ⟨a0, a1⟩ := hargs c
  exact ⟨h0.trans ((Cert.DownRefIdeal.Read.val_main_v2_eq _ _).trans (Cert.DownIdeal.Product.result m c _ _ a0 a1)), hrest⟩

theorem frame_in_z : Cert.quiescent_InZRefIdeal := fun m ρ _ =>
  (θ_run Cert.InZRefIdeal.defs _ _).mono (fun r h => ⟨fun c => (h c).2, sem_eq_zero_of_no_sems (by decide) r.2⟩) (Cert.InZRefIdeal.Value.run m ρ)

theorem algebraic_in_z : Cert.algebraic_InZIdeal_InZRefIdeal := by
  intro m ρ m' ρ' _ hargs
  refine ⟨_, Cert.InZIdeal.Value.run_blocks m ρ, (θ_run Cert.InZRefIdeal.defs _ _).mono (fun r h c => ?_) (Cert.InZRefIdeal.Value.run m' ρ')⟩
  obtain ⟨h0, hrest⟩ := h c
  obtain ⟨a0, a1⟩ := hargs c
  exact ⟨h0.trans ((Cert.InZRefIdeal.Read.val_main_v1_eq _ _).trans (Cert.InZIdeal.Product.result m c _ _ a0 a1)), hrest⟩

theorem frame_in_gw : Cert.quiescent_InGwRefIdeal := fun m ρ _ =>
  (θ_run Cert.InGwRefIdeal.defs _ _).mono (fun r h => ⟨fun c => (h c).2, sem_eq_zero_of_no_sems (by decide) r.2⟩) (Cert.InGwRefIdeal.Value.run m ρ)

theorem algebraic_in_gw : Cert.algebraic_InGwIdeal_InGwRefIdeal := by
  intro m ρ m' ρ' _ hargs
  refine ⟨_, Cert.InGwIdeal.Value.run_blocks m ρ, (θ_run Cert.InGwRefIdeal.defs _ _).mono (fun r h c => ?_) (Cert.InGwRefIdeal.Value.run m' ρ')⟩
  obtain ⟨h0, hrest⟩ := h c
  obtain ⟨a0, a1⟩ := hargs c
  exact ⟨h0.trans ((Cert.InGwRefIdeal.Read.val_main_v6_eq _ _).trans (Cert.InGwIdeal.Product.result m c _ _ a0 a1)), hrest⟩

theorem frame_in_dh : Cert.quiescent_InDhRefIdeal := fun m ρ _ =>
  (θ_run Cert.InDhRefIdeal.defs _ _).mono (fun r h => ⟨fun c => (h c).2, sem_eq_zero_of_no_sems (by decide) r.2⟩) (Cert.InDhRefIdeal.Value.run m ρ)

theorem algebraic_in_dh : Cert.algebraic_InDhIdeal_InDhRefIdeal := by
  intro m ρ m' ρ' _ hargs
  refine ⟨_, Cert.InDhIdeal.Value.run_blocks m ρ, (θ_run Cert.InDhRefIdeal.defs _ _).mono (fun r h c => ?_) (Cert.InDhRefIdeal.Value.run m' ρ')⟩
  obtain ⟨h0, hrest⟩ := h c
  obtain ⟨a0, a1⟩ := hargs c
  exact ⟨h0.trans ((Cert.InDhRefIdeal.Read.val_main_v4_eq _ _).trans (Cert.InDhIdeal.Product.result m c _ _ a0 a1)), hrest⟩

theorem frame_out_mixed : Cert.quiescent_OutMixedRefIdeal := fun m ρ _ =>
  (θ_run Cert.OutMixedRefIdeal.defs _ _).mono (fun r h => ⟨fun c => (h c).2, sem_eq_zero_of_no_sems (by decide) r.2⟩) (Cert.OutMixedRefIdeal.Value.run m ρ)

theorem algebraic_out_mixed : Cert.algebraic_OutMixedIdeal_OutMixedRefIdeal := by
  intro m ρ m' ρ' _ hargs
  refine ⟨_, Cert.OutMixedIdeal.Value.run_blocks m ρ, (θ_run Cert.OutMixedRefIdeal.defs _ _).mono (fun r h c => ?_) (Cert.OutMixedRefIdeal.Value.run m' ρ')⟩
  obtain ⟨h0, hrest⟩ := h c
  obtain ⟨a0, a1⟩ := hargs c
  exact ⟨h0.trans ((Cert.OutMixedRefIdeal.Read.val_main_v1_eq _ _).trans (Cert.OutMixedIdeal.Product.result m c _ _ a0 a1)), hrest⟩

theorem frame_out_d_mix : Cert.quiescent_OutDMixRefIdeal := fun m ρ _ =>
  (θ_run Cert.OutDMixRefIdeal.defs _ _).mono (fun r h => ⟨fun c => (h c).2, sem_eq_zero_of_no_sems (by decide) r.2⟩) (Cert.OutDMixRefIdeal.Value.run m ρ)

theorem algebraic_out_d_mix : Cert.algebraic_OutDMixIdeal_OutDMixRefIdeal := by
  intro m ρ m' ρ' _ hargs
  refine ⟨_, Cert.OutDMixIdeal.Value.run_blocks m ρ, (θ_run Cert.OutDMixRefIdeal.defs _ _).mono (fun r h c => ?_) (Cert.OutDMixRefIdeal.Value.run m' ρ')⟩
  obtain ⟨h0, hrest⟩ := h c
  obtain ⟨a0, a1⟩ := hargs c
  exact ⟨h0.trans ((Cert.OutDMixRefIdeal.Read.val_main_v4_eq _ _).trans (Cert.OutDMixIdeal.Product.result m c _ _ a0 a1)), hrest⟩

theorem frame_out_gw : Cert.quiescent_OutGwRefIdeal := fun m ρ _ =>
  (θ_run Cert.OutGwRefIdeal.defs _ _).mono (fun r h => ⟨fun c => (h c).2, sem_eq_zero_of_no_sems (by decide) r.2⟩) (Cert.OutGwRefIdeal.Value.run m ρ)

theorem algebraic_out_gw : Cert.algebraic_OutGwIdeal_OutGwRefIdeal := by
  intro m ρ m' ρ' _ hargs
  refine ⟨_, Cert.OutGwIdeal.Value.run_blocks m ρ, (θ_run Cert.OutGwRefIdeal.defs _ _).mono (fun r h c => ?_) (Cert.OutGwRefIdeal.Value.run m' ρ')⟩
  obtain ⟨h0, hrest⟩ := h c
  obtain ⟨a0, a1⟩ := hargs c
  exact ⟨h0.trans ((Cert.OutGwRefIdeal.Read.val_main_v5_eq _ _).trans (Cert.OutGwIdeal.Product.result m c _ _ a0 a1)), hrest⟩

theorem frame_br_attn : Cert.quiescent_BrAttnRefIdeal := fun m ρ _ =>
  (θ_run Cert.BrAttnRefIdeal.defs _ _).mono (fun r h => ⟨fun c => (h c).2, sem_eq_zero_of_no_sems (by decide) r.2⟩) (Cert.BrAttnRefIdeal.Value.run m ρ)

theorem algebraic_br_attn : Cert.algebraic_BrAttnIdeal_BrAttnRefIdeal := by
  intro m ρ m' ρ' _ hargs
  refine ⟨_, Cert.BrAttnIdeal.Value.run_blocks m ρ, (θ_run Cert.BrAttnRefIdeal.defs _ _).mono (fun r h c => ?_) (Cert.BrAttnRefIdeal.Value.run m' ρ')⟩
  obtain ⟨h0, hrest⟩ := h c
  obtain ⟨a0, a1⟩ := hargs c
  exact ⟨h0.trans ((Cert.BrAttnRefIdeal.Read.val_main_v3_eq _ _).trans (Cert.BrAttnIdeal.Product.result m c _ _ a0 a1)), hrest⟩

theorem frame_br_ssm : Cert.quiescent_BrSsmRefIdeal := fun m ρ _ =>
  (θ_run Cert.BrSsmRefIdeal.defs _ _).mono (fun r h => ⟨fun c => (h c).2, sem_eq_zero_of_no_sems (by decide) r.2⟩) (Cert.BrSsmRefIdeal.Value.run m ρ)

theorem algebraic_br_ssm : Cert.algebraic_BrSsmIdeal_BrSsmRefIdeal := by
  intro m ρ m' ρ' _ hargs
  refine ⟨_, Cert.BrSsmIdeal.Value.run_blocks m ρ, (θ_run Cert.BrSsmRefIdeal.defs _ _).mono (fun r h c => ?_) (Cert.BrSsmRefIdeal.Value.run m' ρ')⟩
  obtain ⟨h0, hrest⟩ := h c
  obtain ⟨a0, a1⟩ := hargs c
  exact ⟨h0.trans ((Cert.BrSsmRefIdeal.Read.val_main_v3_eq _ _).trans (Cert.BrSsmIdeal.Product.result m c _ _ a0 a1)), hrest⟩

theorem frame_br_d_attn : Cert.quiescent_BrDAttnRefIdeal := fun m ρ _ =>
  (θ_run Cert.BrDAttnRefIdeal.defs _ _).mono (fun r h => ⟨fun c => (h c).2, sem_eq_zero_of_no_sems (by decide) r.2⟩) (Cert.BrDAttnRefIdeal.Value.run m ρ)

theorem algebraic_br_d_attn : Cert.algebraic_BrDAttnIdeal_BrDAttnRefIdeal := by
  intro m ρ m' ρ' _ hargs
  refine ⟨_, Cert.BrDAttnIdeal.Value.run_blocks m ρ, (θ_run Cert.BrDAttnRefIdeal.defs _ _).mono (fun r h c => ?_) (Cert.BrDAttnRefIdeal.Value.run m' ρ')⟩
  obtain ⟨h0, hrest⟩ := h c
  obtain ⟨a0, a1⟩ := hargs c
  exact ⟨h0.trans ((Cert.BrDAttnRefIdeal.Read.val_main_v5_eq _ _).trans (Cert.BrDAttnIdeal.Product.result m c _ _ a0 a1)), hrest⟩

theorem frame_br_d_ssm : Cert.quiescent_BrDSsmRefIdeal := fun m ρ _ =>
  (θ_run Cert.BrDSsmRefIdeal.defs _ _).mono (fun r h => ⟨fun c => (h c).2, sem_eq_zero_of_no_sems (by decide) r.2⟩) (Cert.BrDSsmRefIdeal.Value.run m ρ)

theorem algebraic_br_d_ssm : Cert.algebraic_BrDSsmIdeal_BrDSsmRefIdeal := by
  intro m ρ m' ρ' _ hargs
  refine ⟨_, Cert.BrDSsmIdeal.Value.run_blocks m ρ, (θ_run Cert.BrDSsmRefIdeal.defs _ _).mono (fun r h c => ?_) (Cert.BrDSsmRefIdeal.Value.run m' ρ')⟩
  obtain ⟨h0, hrest⟩ := h c
  obtain ⟨a0, a1⟩ := hargs c
  exact ⟨h0.trans ((Cert.BrDSsmRefIdeal.Read.val_main_v5_eq _ _).trans (Cert.BrDSsmIdeal.Product.result m c _ _ a0 a1)), hrest⟩

theorem frame_br_gw_attn : Cert.quiescent_BrGwAttnRefIdeal := fun m ρ _ =>
  (θ_run Cert.BrGwAttnRefIdeal.defs _ _).mono (fun r h => ⟨fun c => (h c).2, sem_eq_zero_of_no_sems (by decide) r.2⟩) (Cert.BrGwAttnRefIdeal.Value.run m ρ)

theorem algebraic_br_gw_attn : Cert.algebraic_BrGwAttnIdeal_BrGwAttnRefIdeal := by
  intro m ρ m' ρ' _ hargs
  refine ⟨_, Cert.BrGwAttnIdeal.Value.run_blocks m ρ, (θ_run Cert.BrGwAttnRefIdeal.defs _ _).mono (fun r h c => ?_) (Cert.BrGwAttnRefIdeal.Value.run m' ρ')⟩
  obtain ⟨h0, hrest⟩ := h c
  obtain ⟨a0, a1⟩ := hargs c
  exact ⟨h0.trans ((Cert.BrGwAttnRefIdeal.Read.val_main_v6_eq _ _).trans (Cert.BrGwAttnIdeal.Product.result m c _ _ a0 a1)), hrest⟩

theorem frame_br_gw_ssm : Cert.quiescent_BrGwSsmRefIdeal := fun m ρ _ =>
  (θ_run Cert.BrGwSsmRefIdeal.defs _ _).mono (fun r h => ⟨fun c => (h c).2, sem_eq_zero_of_no_sems (by decide) r.2⟩) (Cert.BrGwSsmRefIdeal.Value.run m ρ)

theorem algebraic_br_gw_ssm : Cert.algebraic_BrGwSsmIdeal_BrGwSsmRefIdeal := by
  intro m ρ m' ρ' _ hargs
  refine ⟨_, Cert.BrGwSsmIdeal.Value.run_blocks m ρ, (θ_run Cert.BrGwSsmRefIdeal.defs _ _).mono (fun r h c => ?_) (Cert.BrGwSsmRefIdeal.Value.run m' ρ')⟩
  obtain ⟨h0, hrest⟩ := h c
  obtain ⟨a0, a1⟩ := hargs c
  exact ⟨h0.trans ((Cert.BrGwSsmRefIdeal.Read.val_main_v6_eq _ _).trans (Cert.BrGwSsmIdeal.Product.result m c _ _ a0 a1)), hrest⟩

theorem frame_glu : Cert.quiescent_GluRefIdeal := fun m ρ _ =>
  (θ_run Cert.GluRefIdeal.defs _ _).mono (fun r h => ⟨fun c => (h c).2, sem_eq_zero_of_no_sems (by decide) r.2⟩) (Cert.GluRefIdeal.Value.run m ρ)

theorem algebraic_glu : Cert.algebraic_GluIdeal_GluRefIdeal := by
  intro m ρ m' ρ' _ hargs
  refine ⟨_, Cert.GluIdeal.Value.run_blocks m ρ, (θ_run Cert.GluRefIdeal.defs _ _).mono (fun r h c => ?_) (Cert.GluRefIdeal.Value.run m' ρ')⟩
  obtain ⟨h0, hrest⟩ := h c
  obtain ⟨a0, a1⟩ := hargs c
  exact ⟨h0.trans ((Cert.GluRefIdeal.Read.val_main_v13_eq _ _).trans (Cert.GluIdeal.Product.result m c _ _ a0 a1)), hrest⟩

theorem frame_glu_gw : Cert.quiescent_GluGwRefIdeal := fun m ρ _ =>
  (θ_run Cert.GluGwRefIdeal.defs _ _).mono (fun r h => ⟨fun c => (h c).2, sem_eq_zero_of_no_sems (by decide) r.2⟩) (Cert.GluGwRefIdeal.Value.run m ρ)

theorem algebraic_glu_gw : Cert.algebraic_GluGwIdeal_GluGwRefIdeal := by
  intro m ρ m' ρ' _ hargs
  refine ⟨_, Cert.GluGwIdeal.Value.run_blocks m ρ, (θ_run Cert.GluGwRefIdeal.defs _ _).mono (fun r h c => ?_) (Cert.GluGwRefIdeal.Value.run m' ρ')⟩
  obtain ⟨h0, hrest⟩ := h c
  obtain ⟨a0, a1⟩ := hargs c
  exact ⟨h0.trans ((Cert.GluGwRefIdeal.Read.val_main_v18_eq _ _).trans (Cert.GluGwIdeal.Product.result m c _ _ a0 a1)), hrest⟩

end Cert.Products

end
-- ==== Proof.DGy.lean ====
/-
  THE GRADIENT BELOW THE ACTIVATION OF THE GATE'S PROJECTION: each block is a whole product, times the activation's derivative.
  The derivative is the product rule's over the reals, which is where the precondition enters.
-/
module

public import proofs.«01_k».proof.Proof.Halves
public import proofs.«01_k».proof.Proof.Finite
public import proofs.«01_k».proof.Proof.Spec
public import proofs.«01_k».proof.Proof.Gen.DGyIdeal.Value
public import proofs.«01_k».proof.Proof.Gen.DGyRefIdeal.Read
public import Idealize.ShloMosaic.Lib.StableHlo
public import Idealize.ShloMosaic.Lib.Tactic

@[expose] public section

set_option maxRecDepth 16384

noncomputable section

namespace Cert.DGyIdeal.Product

open Cert.DGyIdeal Cert.DGyIdeal.Gen Cert.Halves Idealize.ShloMosaic Idealize.ShloMosaic.TcCoe Idealize.SL.Sem

/-! ### What the precondition says -/

/-- The shape relations the predicate states. -/
theorem facts : Cert.Pre_finite_d_gy.Facts where
  bitsLt_bf16_f32 := by decide
  bcast_S_S8192x2048 := by decide
  reducesTo_S8192x2048_S_d0_1 := by decide
  h_S_ := by decide
  bcast_S_S1024x2048 := by decide
  reducesTo_S1024x2048_S_d0_1 := by decide
  bcast_S_S8192x1024 := by decide
  reducesTo_S8192x1024_S_d0_1 := by decide

section
variable [hP : Cert.Pre_finite_d_gy.Facts] {g : Vec Ideal S8192x2048 .bf16} {w : Vec Ideal S1024x2048 .f32} {y : Vec Ideal S8192x1024 .f32}
  (h : Cert.Pre_finite_d_gy.fn (F := Ideal) g w y = fun _ => 1#1)
include h

/-- Every entry of the three arguments is a real number. -/
theorem parts : (∀ i, g i = (((g i : EReal).toReal : ℝ) : EReal)) ∧ (∀ i, w i = (((w i : EReal).toReal : ℝ) : EReal))
    ∧ (∀ i, y i = (((y i : EReal).toReal : ℝ) : EReal)) := by
  obtain ⟨h12, h3⟩ := Finite.and_one (congrFun h ix0)
  obtain ⟨h1, h2⟩ := Finite.and_one h12
  exact ⟨fun i => Finite.real (Host.reduce_andi_all _ _ _ _ _ h1 i), fun i => Finite.real (Host.reduce_andi_all _ _ _ _ _ h2 i),
    fun i => Finite.real (Host.reduce_andi_all _ _ _ _ _ h3 i)⟩
end

section
variable {F : FTy → Type} [FloatOps F] [Named F]
variable (m : (ℓ : Loc nD τ sig) → Buf (Elt F) ℓ)

/-- The point that writes an entry. -/
def point (p : Fin 8192) : Fin cfg0.N :=
  ⟨p.val / 1024, lt_of_lt_of_eq (by omega) N_0.symm⟩

/-- The block a point writes is the payload of the blocks it reads. -/
theorem out_eq (x0 : Vec F S1024x2048 .bf16) (x1 : Vec F S2048x1024 .bf16) (x2 : Vec F S1024x1024 .f32) :
    out0_3 x0 x1 x2 = k0_pay1 x0 x1 x2 := by
  unfold out0_3
  rw [View.canon_unit_zero hz, View.ld_unit_zero (S := S1024x2048) hz, View.ld_unit_zero (S := S2048x1024) hz, View.ld_unit_zero (S := S1024x1024) hz]

/-! ### The blocks read and written -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel

theorem read_0 (A : Vec F S8192x2048 .bf16) (p : Fin 8192) (k : Fin 2048) :
    ((cfg0.win 0).blk (point p)).view.read (Elt F) A (ix2 (⟨p.val % 1024, by omega⟩ : Fin 1024) k) = A (ix2 p k) := by
  have hi := index_0 (point p)
  rw [View.read_apply]
  show A _ = _
  congr 1
  funext a
  apply Fin.ext
  match a with
  | ⟨0, _⟩ => show win0_0.index (point p) 0 * 1024 + 1 * (p.val % 1024) = p.val; rw [hi.1]; (try simp only [point]); omega
  | ⟨1, _⟩ => show win0_0.index (point p) 1 * 2048 + 1 * k.val = k.val; rw [hi.2]; omega

theorem read_1 (A : Vec F S2048x1024 .bf16) (p : Fin 8192) (k : Fin 2048) (q : Fin 1024) :
    ((cfg0.win 1).blk (point p)).view.read (Elt F) A (ix2 k q) = A (ix2 k q) := by
  have hi := index_1 (point p)
  rw [View.read_apply]
  show A _ = _
  congr 1
  funext a
  apply Fin.ext
  match a with
  | ⟨0, _⟩ => show win0_1.index (point p) 0 * 2048 + 1 * k.val = k.val; rw [hi.1]; (try simp only [point]); omega
  | ⟨1, _⟩ => show win0_1.index (point p) 1 * 1024 + 1 * q.val = q.val; rw [hi.2]; omega

theorem read_2 (A : Vec F S8192x1024 .f32) (p : Fin 8192) (q : Fin 1024) :
    ((cfg0.win 2).blk (point p)).view.read (Elt F) A (ix2 (⟨p.val % 1024, by omega⟩ : Fin 1024) q) = A (ix2 p q) := by
  have hi := index_2 (point p)
  rw [View.read_apply]
  show A _ = _
  congr 1
  funext a
  apply Fin.ext
  match a with
  | ⟨0, _⟩ => show win0_2.index (point p) 0 * 1024 + 1 * (p.val % 1024) = p.val; rw [hi.1]; (try simp only [point]); omega
  | ⟨1, _⟩ => show win0_2.index (point p) 1 * 1024 + 1 * q.val = q.val; rw [hi.2]; omega

theorem read_3 (A : Vec F S8192x1024 .f32) (p : Fin 8192) (q : Fin 1024) :
    ((cfg0.win 3).blk (point p)).view.read (Elt F) A (ix2 (⟨p.val % 1024, by omega⟩ : Fin 1024) q) = A (ix2 p q) := by
  have hi := index_3 (point p)
  rw [View.read_apply]
  show A _ = _
  congr 1
  funext a
  apply Fin.ext
  match a with
  | ⟨0, _⟩ => show win0_3.index (point p) 0 * 1024 + 1 * (p.val % 1024) = p.val; rw [hi.1]; (try simp only [point]); omega
  | ⟨1, _⟩ => show win0_3.index (point p) 1 * 1024 + 1 * q.val = q.val; rw [hi.2]; omega

/-- What the array ends holding. -/
theorem array (c : Dev nD) (p : Fin 8192) (q : Fin 1024) :
    ((dats m 0 c).arrAt 3 cfg0.N : Vec F S8192x1024 .f32) (ix2 p q)
      = k0_pay1 (iblk m c 0 (point p)) (iblk m c 1 (point p)) (iblk m c 2 (point p)) (ix2 (⟨p.val % 1024, by omega⟩ : Fin 1024) q) := by
  refine (read_3 ((dats m 0 c).arrAt 3 cfg0.N) p q).symm.trans ?_
  refine (congrFun (Value.blocks3 m c (point p) (flush0_3 (point p))) _).trans ?_
  rw [Value.flushed3, out_eq]
  rfl

/-! ### What the host lines before the call prepare -/

def weight (w : FVec F S1024x2048 .f32) : FVec F S2048x1024 .bf16 :=
  truncf .bf16 (transpose S2048x1024 [1, 0] w transposes_S1024x2048_S2048x1024_1_0) bitsLt_bf16_f32

theorem V_weight (c : Dev nD) : V m c main_v1 = weight (m ((c : Thread nD τ).loc main_arg1)) := by
  unfold V
  simp only [hostOps0, List.flatten_cons, List.flatten_nil, List.append_nil, List.cons_append, List.nil_append]
  after_results
  rfl
end

/-! ### The numbers -/

theorem cubic : Named.named (F := Ideal) κ "cubic" (φ := .f32) 0x3D372713#32 = ((8943 / 200000 : ℝ) : EReal) :=
  IdealRules.named_const.ideal_named_scalar _ _ _ _ rfl

theorem thrice : Named.named (F := Ideal) κ "thrice" (φ := .f32) 0x3E095D4F#32 = ((26829 / 200000 : ℝ) : EReal) :=
  IdealRules.named_const.ideal_named_scalar _ _ _ _ rfl

theorem half_bits : Ideal.ofBits .f32 0x3F000000#32 = ((1 / 2 : ℝ) : EReal) := by
  simp [Ideal.ofBits, Ideal.ieee, -EReal.coe_mul]; norm_num

theorem three_bits : Ideal.ofBits .f32 0x40400000#32 = ((3 : ℝ) : EReal) := by
  simp [Ideal.ofBits, Ideal.ieee, -EReal.coe_mul]; norm_num

theorem root_bits : Ideal.ofBits .f32 0x3F4C422A#32 = ((13386282 / 16777216 : ℝ) : EReal) := by
  simp [Ideal.ofBits, Ideal.ieee, -EReal.coe_mul]; norm_num

theorem part_bits : Ideal.ofBits .f32 0x472EAB00#32 = ((44715 : ℝ) : EReal) := by
  simp [Ideal.ofBits, Ideal.ieee, -EReal.coe_mul]; norm_num

theorem million_bits : Ideal.ofBits .f32 0x49742400#32 = ((1000000 : ℝ) : EReal) := by
  simp [Ideal.ofBits, Ideal.ieee, -EReal.coe_mul]; norm_num

/-- The quotient the reference computes is the number the kernel's constant is named. -/
theorem quotient : Ideal.div (Ideal.ofBits .f32 0x472EAB00#32) (Ideal.ofBits .f32 0x49742400#32) = ((8943 / 200000 : ℝ) : EReal) := by
  rw [part_bits, million_bits, Ideal.div_coe (by norm_num), ← EReal.coe_mul]
  congr 1; norm_num

/-- The activation's derivative, in the kernel's order. -/
def derivative (y : EReal) : EReal :=
  Ideal.ofBits .f32 0x3F000000#32 * (1 + Ideal.tanh (Ideal.ofBits .f32 0x3F4C422A#32 * (y + Named.named (F := Ideal) κ "cubic" (φ := .f32) 0x3D372713#32 * y * y * y)))
    + Ideal.ofBits .f32 0x3F000000#32 * y
      * (1 - Ideal.tanh (Ideal.ofBits .f32 0x3F4C422A#32 * (y + Named.named (F := Ideal) κ "cubic" (φ := .f32) 0x3D372713#32 * y * y * y))
          * Ideal.tanh (Ideal.ofBits .f32 0x3F4C422A#32 * (y + Named.named (F := Ideal) κ "cubic" (φ := .f32) 0x3D372713#32 * y * y * y)))
      * Ideal.ofBits .f32 0x3F4C422A#32 * (1 + Named.named (F := Ideal) κ "thrice" (φ := .f32) 0x3E095D4F#32 * y * y)

/-- The hyperbolic tangent's argument, over the reals. -/
def angle (y : ℝ) : ℝ := 13386282 / 16777216 * (y + 8943 / 200000 * y * y * y)

theorem derivative_real (y : ℝ) : derivative (y : EReal) = ((1 / 2 * (1 + Real.tanh (angle y))
    + 1 / 2 * y * (1 - Real.tanh (angle y) * Real.tanh (angle y)) * (13386282 / 16777216) * (1 + 26829 / 200000 * y * y) : ℝ) : EReal) := by
  unfold derivative
  rw [half_bits, root_bits, cubic, thrice]
  simp only [← EReal.coe_mul, ← EReal.coe_add, ← EReal.coe_sub, ← EReal.coe_one, Ideal.tanh_coe]
  rfl

/-- What the product rule gives for the activation, as the reference computes it, of the incoming gradient `g`. -/
def ruled (g y : EReal) : EReal :=
  g * (Ideal.ofBits .f32 0x3F000000#32 * (1 + Ideal.tanh (Ideal.ofBits .f32 0x3F4C422A#32
      * (y + Ideal.div (Ideal.ofBits .f32 0x472EAB00#32) (Ideal.ofBits .f32 0x49742400#32) * (y * y * y)))))
    + Ideal.ofBits .f32 0x3F4C422A#32 * (Ideal.ofBits .f32 0x3F000000#32 * (y * g)
      * ((1 + Ideal.tanh (Ideal.ofBits .f32 0x3F4C422A#32
          * (y + Ideal.div (Ideal.ofBits .f32 0x472EAB00#32) (Ideal.ofBits .f32 0x49742400#32) * (y * y * y))))
        * (1 - Ideal.tanh (Ideal.ofBits .f32 0x3F4C422A#32
          * (y + Ideal.div (Ideal.ofBits .f32 0x472EAB00#32) (Ideal.ofBits .f32 0x49742400#32) * (y * y * y))))))
    + Ideal.div (Ideal.ofBits .f32 0x472EAB00#32) (Ideal.ofBits .f32 0x49742400#32)
      * (Ideal.ofBits .f32 0x3F4C422A#32 * (Ideal.ofBits .f32 0x3F000000#32 * (y * g)
        * ((1 + Ideal.tanh (Ideal.ofBits .f32 0x3F4C422A#32
            * (y + Ideal.div (Ideal.ofBits .f32 0x472EAB00#32) (Ideal.ofBits .f32 0x49742400#32) * (y * y * y))))
          * (1 - Ideal.tanh (Ideal.ofBits .f32 0x3F4C422A#32
            * (y + Ideal.div (Ideal.ofBits .f32 0x472EAB00#32) (Ideal.ofBits .f32 0x49742400#32) * (y * y * y)))))))
      * (Ideal.ofBits .f32 0x40400000#32 * (y * y))

theorem ruled_real (g y : ℝ) : ruled (g : EReal) (y : EReal) = (g : EReal) * derivative (y : EReal) := by
  rw [derivative_real]
  unfold ruled
  rw [quotient, half_bits, root_bits, three_bits]
  simp only [← EReal.coe_mul, ← EReal.coe_add, ← EReal.coe_sub, ← EReal.coe_one, Ideal.tanh_coe]
  have e : (13386282 / 16777216 * (y + 8943 / 200000 * (y * y * y)) : ℝ) = angle y := by unfold angle; ring
  rw [e]
  congr 1
  ring

/-- The block a point writes, at an entry. -/
theorem pay_1 (x0 : Vec Ideal S1024x2048 .bf16) (x1 : Vec Ideal S2048x1024 .bf16) (x2 : Vec Ideal S1024x1024 .f32) (p q : Fin 1024) :
    k0_pay1 x0 x1 x2 (ix2 p q) = (∑ k : Fin 2048, x0 (ix2 p k) * x1 (ix2 k q)) * derivative (x2 (ix2 p q)) := by
  pointwise [k0_pay1, derivative]

variable (m : (ℓ : Loc nD τ sig) → Buf (Elt Ideal) ℓ)

theorem first_at (c : Dev nD) (p : Fin 8192) (k : Fin 2048) :
    (iblk m c 0 (point p) : Vec Ideal S1024x2048 .bf16) (ix2 (⟨p.val % 1024, by omega⟩ : Fin 1024) k)
      = (m ((c : Thread nD τ).loc main_arg0) : Vec Ideal S8192x2048 .bf16) (ix2 p k) :=
  (read_0 (V m c main_arg0) p k).trans (congrFun (V_main_arg0 m c) _)

theorem second_at (c : Dev nD) (p : Fin 8192) (k : Fin 2048) (q : Fin 1024) :
    (iblk m c 1 (point p) : Vec Ideal S2048x1024 .bf16) (ix2 k q)
      = (m ((c : Thread nD τ).loc main_arg1) : Vec Ideal S1024x2048 .f32) (ix2 q k) := by
  refine (read_1 (V m c main_v1) p k q).trans ((congrFun (V_weight m c) _).trans ?_)
  generalize m ((c : Thread nD τ).loc main_arg1) = w
  pointwise [weight]

theorem third_at (c : Dev nD) (p : Fin 8192) (q : Fin 1024) :
    (iblk m c 2 (point p) : Vec Ideal S1024x1024 .f32) (ix2 (⟨p.val % 1024, by omega⟩ : Fin 1024) q)
      = (m ((c : Thread nD τ).loc main_arg2) : Vec Ideal S8192x1024 .f32) (ix2 p q) :=
  (read_2 (V m c main_arg2) p q).trans (congrFun (V_main_arg2 m c) _)

/-- The product at an entry. -/
def entry (x0 : FVec Ideal S8192x2048 .bf16) (x1 : FVec Ideal S1024x2048 .f32) (p : Fin 8192) (q : Fin 1024) : EReal :=
  (∑ k : Fin 2048, x0 (ix2 p k) * x1 (ix2 q k) : EReal)

theorem product (c : Dev nD) (p : Fin 8192) (q : Fin 1024) :
    ((dats m 0 c).arrAt 3 cfg0.N : Vec Ideal S8192x1024 .f32) (ix2 p q)
      = entry (m ((c : Thread nD τ).loc main_arg0)) (m ((c : Thread nD τ).loc main_arg1)) p q
        * derivative ((m ((c : Thread nD τ).loc main_arg2) : Vec Ideal S8192x1024 .f32) (ix2 p q)) := by
  rw [array, pay_1, third_at]
  simp only [first_at, second_at]
  rfl

open Cert.DGyRefIdeal.Read in
/-- The reference's result at an entry. -/
theorem reference_at (x0 : FVec Ideal S8192x2048 .bf16) (x1 : FVec Ideal S1024x2048 .f32) (x2 : FVec Ideal S8192x1024 .f32) (p : Fin 8192) (q : Fin 1024) :
    (val_main_v36 (F := Ideal) x0 x1 x2 : FVec Ideal S8192x1024 .f32) (ix2 p q) = ruled (entry x0 x1 p q) (x2 (ix2 p q)) := by
  pointwise [ruled, entry, val_main_v36, val_main_v35, val_main_v34, val_main_v33, val_main_v32, val_main_v31, val_main_v30, val_main_v29, val_main_v28, val_main_v27, val_main_v26, val_main_v25, val_main_v24, val_main_v23, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The product of real arrays is a real. -/
theorem entry_real {x0 : FVec Ideal S8192x2048 .bf16} {x1 : FVec Ideal S1024x2048 .f32} (h0 : ∀ i, x0 i = (((x0 i : EReal).toReal : ℝ) : EReal))
    (h1 : ∀ i, x1 i = (((x1 i : EReal).toReal : ℝ) : EReal)) (p : Fin 8192) (q : Fin 1024) :
    entry x0 x1 p q = ((∑ k : Fin 2048, (x0 (ix2 p k) : EReal).toReal * (x1 (ix2 q k) : EReal).toReal : ℝ) : EReal) := by
  unfold entry
  exact Attn.sum_eq_coe (fun k => by rw [EReal.coe_mul, ← h0, ← h1])

open Cert.DGyRefIdeal.Read in
/-- The array is the reference's result. -/
theorem result [hP : Cert.Pre_finite_d_gy.Facts] (c : Dev nD) (x0 : (⟨Cert.DGyRefIdeal.S8192x2048, .bf16⟩ : BufTy).Contents (Elt Ideal))
    (x1 : (⟨Cert.DGyRefIdeal.S1024x2048, .f32⟩ : BufTy).Contents (Elt Ideal)) (x2 : (⟨Cert.DGyRefIdeal.S8192x1024, .f32⟩ : BufTy).Contents (Elt Ideal))
    (h : Cert.Pre_finite_d_gy.fn (F := Ideal) (m ((c : Thread nD τ).loc main_arg0)) (m ((c : Thread nD τ).loc main_arg1))
      (m ((c : Thread nD τ).loc main_arg2)) = fun _ => 1#1)
    (h0 : x0 = m ((c : Thread nD τ).loc main_arg0)) (h1 : x1 = m ((c : Thread nD τ).loc main_arg1)) (h2 : x2 = m ((c : Thread nD τ).loc main_arg2)) :
    val_main_v36 (F := Ideal) x0 x1 x2 = (dats m 0 c).arrAt 3 cfg0.N := by
  subst h0 h1 h2
  obtain ⟨r0, r1, r2⟩ := parts h
  funext i
  obtain ⟨p, q, rfl⟩ : ∃ (p : Fin 8192) (q : Fin 1024), i = ix2 p q := ⟨i 0, i 1, (ix2_eta i).symm⟩
  refine (reference_at _ _ _ p q).trans (Eq.trans ?_ (product m c p q).symm)
  rw [entry_real r0 r1, r2 (ix2 p q), ruled_real]

end Cert.DGyIdeal.Product

end
-- ==== Proof.GluGate.lean ====
/-
  THE GATE OF THE STATE-SPACE MIXER: what a block leaves is the gate at each entry.
-/
module

public import proofs.«01_k».proof.Proof.Gen.GluGateIdeal.Value
public import proofs.«01_k».proof.Proof.Gen.GluGateRefIdeal.Read
public import Idealize.ShloMosaic.Lib.Pointwise

@[expose] public section

set_option maxRecDepth 16384

noncomputable section

namespace Cert.GluGateIdeal.Elementwise

open Cert.GluGateIdeal Cert.GluGateIdeal.Gen Cert.GluGateIdeal.Value Cert.GluGateRefIdeal.Read Idealize.ShloMosaic

/-- The gated output. -/
theorem gate (x0 : FVec Ideal S8192x2048 .f32) :
    val_main_v9 (F := Ideal) x0 = G2 x0 x0 := by
  funext i
  obtain ⟨p, q, rfl⟩ : ∃ (p : Fin 8192) (q : Fin 1024), i = ix2 p q := ⟨i 0, i 1, (ix2_eta i).symm⟩
  pointwise [G2, val_main_v9, val_main_v8, val_main_v7, val_main_v6, val_main_cst_0, val_main_v5, val_main_v4, val_main_cst, val_main_v3, val_main_v2, val_main_v1, val_main_v0]
  have e2_0 : inIdx2_0 (ix2 p q) = ix2 p ⟨q.val, by omega⟩ := by
    funext a; apply Fin.ext
    match a with
    | ⟨0, _⟩ => rfl
    | ⟨1, _⟩ => first | rfl | exact Nat.add_comm _ _
  have e2_1 : inIdx2_1 (ix2 p q) = ix2 p ⟨1024 + q.val, by omega⟩ := by
    funext a; apply Fin.ext
    match a with
    | ⟨0, _⟩ => rfl
    | ⟨1, _⟩ => first | rfl | exact Nat.add_comm _ _
  rw [e2_0, e2_1, zero_sub]

end Cert.GluGateIdeal.Elementwise

end
-- ==== Proof.GluGateBwd.lean ====
/-
  THE GATE OF THE STATE-SPACE MIXER, BACKWARD: what a block leaves is the gradient at each entry.
-/
module

public import proofs.«01_k».proof.Proof.Gen.GluGateBwdIdeal.Value
public import proofs.«01_k».proof.Proof.Gen.GluGateBwdRefIdeal.Read
public import Idealize.ShloMosaic.Lib.Pointwise

@[expose] public section

set_option maxRecDepth 16384

noncomputable section

namespace Cert.GluGateBwdIdeal.Elementwise

open Cert.GluGateBwdIdeal Cert.GluGateBwdIdeal.Gen Cert.GluGateBwdIdeal.Value Cert.GluGateBwdRefIdeal.Read Idealize.ShloMosaic

/-- The gradient of the gated half. -/
theorem left (x0 : FVec Ideal S8192x1024 .f32) (x1 : FVec Ideal S8192x2048 .f32) :
    val_main_v19 (F := Ideal) x0 x1 = G3 x0 x1 := by
  funext i
  obtain ⟨p, q, rfl⟩ : ∃ (p : Fin 8192) (q : Fin 1024), i = ix2 p q := ⟨i 0, i 1, (ix2_eta i).symm⟩
  pointwise [G3, val_main_v20, val_main_v19, val_main_v18, val_main_v17, val_main_v16, val_main_cst_3, val_main_v15, val_main_cst_2, val_main_v14, val_main_v13, val_main_v12, val_main_v11, val_main_v10, val_main_v9, val_main_v8, val_main_cst_1, val_main_v7, val_main_v6, val_main_cst_0, val_main_v5, val_main_v4, val_main_cst, val_main_v3, val_main_v2, val_main_v1, val_main_v0]
  have e3_1 : inIdx3_1 (ix2 p q) = ix2 p ⟨1024 + q.val, by omega⟩ := by
    funext a; apply Fin.ext
    match a with
    | ⟨0, _⟩ => rfl
    | ⟨1, _⟩ => first | rfl | exact Nat.add_comm _ _
  rw [e3_1, zero_sub, dif_neg (fun h => h.1), zero_add]

/-- The gradient of the gating half. -/
theorem right (x0 : FVec Ideal S8192x1024 .f32) (x1 : FVec Ideal S8192x2048 .f32) :
    val_main_v20 (F := Ideal) x0 x1 = G4 x0 x1 x1 := by
  funext i
  obtain ⟨p, q, rfl⟩ : ∃ (p : Fin 8192) (q : Fin 1024), i = ix2 p q := ⟨i 0, i 1, (ix2_eta i).symm⟩
  pointwise [G4, val_main_v20, val_main_v19, val_main_v18, val_main_v17, val_main_v16, val_main_cst_3, val_main_v15, val_main_cst_2, val_main_v14, val_main_v13, val_main_v12, val_main_v11, val_main_v10, val_main_v9, val_main_v8, val_main_cst_1, val_main_v7, val_main_v6, val_main_cst_0, val_main_v5, val_main_v4, val_main_cst, val_main_v3, val_main_v2, val_main_v1, val_main_v0]
  have e4_1 : inIdx4_1 (ix2 p q) = ix2 p ⟨q.val, by omega⟩ := by
    funext a; apply Fin.ext
    match a with
    | ⟨0, _⟩ => rfl
    | ⟨1, _⟩ => first | rfl | exact Nat.add_comm _ _
  have e4_2 : inIdx4_2 (ix2 p q) = ix2 p ⟨1024 + q.val, by omega⟩ := by
    funext a; apply Fin.ext
    match a with
    | ⟨0, _⟩ => rfl
    | ⟨1, _⟩ => first | rfl | exact Nat.add_comm _ _
  rw [e4_1, e4_2, zero_sub, mul_comm (x1 _) (x0 _), mul_assoc (x0 _ * x1 _)]

end Cert.GluGateBwdIdeal.Elementwise

end
-- ==== Proof.Mix.lean ====
/-
  THE MERGE OF THE TWO MIXERS: what a block leaves is the merge at each entry.
-/
module

public import proofs.«01_k».proof.Proof.Gen.MixIdeal.Value
public import proofs.«01_k».proof.Proof.Gen.MixRefIdeal.Read
public import Idealize.ShloMosaic.Lib.Pointwise

@[expose] public section

set_option maxRecDepth 16384

noncomputable section

namespace Cert.MixIdeal.Elementwise

open Cert.MixIdeal Cert.MixIdeal.Gen Cert.MixIdeal.Value Cert.MixRefIdeal.Read Idealize.ShloMosaic

/-- The merge. -/
theorem merge (x0 : FVec Ideal S8192x6400 .f32) (x1 x2 : FVec Ideal S8192x2048 .bf16) :
    val_main_v19 (F := Ideal) x0 x1 x2 = G4 x0 x0 x1 x2 := by
  funext i
  obtain ⟨p, q, rfl⟩ : ∃ (p : Fin 8192) (q : Fin 2048), i = ix2 p q := ⟨i 0, i 1, (ix2_eta i).symm⟩
  pointwise [G4, val_main_v19, val_main_v18, val_main_v17, val_main_v16, val_main_v15, val_main_v14, val_main_cst_2, val_main_v13, val_main_v12, val_main_cst_1, val_main_v11, val_main_v10, val_main_v9, val_main_v8, val_main_cst_0, val_main_v7, val_main_v6, val_main_cst, val_main_v5, val_main_v4, val_main_v3, val_main_v2, val_main_v1, val_main_v0]
  have e4_0 : inIdx4_0 (ix2 p q) = ix2 p ⟨2304 + q.val, by omega⟩ := by
    funext a; apply Fin.ext
    match a with
    | ⟨0, _⟩ => rfl
    | ⟨1, _⟩ => first | rfl | exact Nat.add_comm _ _
  have e4_1 : inIdx4_1 (ix2 p q) = ix2 p ⟨4352 + q.val, by omega⟩ := by
    funext a; apply Fin.ext
    match a with
    | ⟨0, _⟩ => rfl
    | ⟨1, _⟩ => first | rfl | exact Nat.add_comm _ _
  rw [e4_0, e4_1, zero_sub, zero_sub]

end Cert.MixIdeal.Elementwise

end
-- ==== Proof.AdamIn.lean ====
/-
  THE OPTIMISER OF THE INPUT PROJECTION'S WEIGHT: what a block leaves is AdamW's step at each entry.
-/
module

public import proofs.«01_k».proof.Proof.Gen.AdamInIdeal.Value
public import proofs.«01_k».proof.Proof.Gen.AdamInRefIdeal.Read
public import Idealize.ShloMosaic.Lib.Pointwise

@[expose] public section

set_option maxRecDepth 16384

noncomputable section

namespace Cert.AdamInIdeal.Elementwise

open Cert.AdamInIdeal Cert.AdamInIdeal.Gen Cert.AdamInIdeal.Value Cert.AdamInRefIdeal.Read Idealize.ShloMosaic

/-- The change of the weight. -/
theorem delta (x0 x1 x2 x3 : FVec Ideal S2048x800 .f32) :
    val_main_v23 (F := Ideal) x0 x1 x2 x3 = G4 x1 x0 x2 x3 := by
  funext i
  obtain ⟨p, q, rfl⟩ : ∃ (p : Fin 2048) (q : Fin 800), i = ix2 p q := ⟨i 0, i 1, (ix2_eta i).symm⟩
  pointwise [G4, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The first moment. -/
theorem first (x0 x2 : FVec Ideal S2048x800 .f32) :
    val_main_v4 (F := Ideal) x0 x2 = G5 x0 x2 := by
  funext i
  obtain ⟨p, q, rfl⟩ : ∃ (p : Fin 2048) (q : Fin 800), i = ix2 p q := ⟨i 0, i 1, (ix2_eta i).symm⟩
  pointwise [G5, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The second moment. -/
theorem second (x0 x3 : FVec Ideal S2048x800 .f32) :
    val_main_v10 (F := Ideal) x0 x3 = G6 x0 x3 := by
  funext i
  obtain ⟨p, q, rfl⟩ : ∃ (p : Fin 2048) (q : Fin 800), i = ix2 p q := ⟨i 0, i 1, (ix2_eta i).symm⟩
  pointwise [G6, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

end Cert.AdamInIdeal.Elementwise

end
-- ==== Proof.AdamGlu.lean ====
/-
  THE OPTIMISER OF THE GATE PROJECTION'S WEIGHT: what a block leaves is AdamW's step at each entry.
-/
module

public import proofs.«01_k».proof.Proof.Gen.AdamGluIdeal.Value
public import proofs.«01_k».proof.Proof.Gen.AdamGluRefIdeal.Read
public import Idealize.ShloMosaic.Lib.Pointwise

@[expose] public section

set_option maxRecDepth 16384

noncomputable section

namespace Cert.AdamGluIdeal.Elementwise

open Cert.AdamGluIdeal Cert.AdamGluIdeal.Gen Cert.AdamGluIdeal.Value Cert.AdamGluRefIdeal.Read Idealize.ShloMosaic

/-- The change of the weight. -/
theorem delta (x0 x1 x2 x3 : FVec Ideal S1024x256 .f32) :
    val_main_v23 (F := Ideal) x0 x1 x2 x3 = G4 x1 x0 x2 x3 := by
  funext i
  obtain ⟨p, q, rfl⟩ : ∃ (p : Fin 1024) (q : Fin 256), i = ix2 p q := ⟨i 0, i 1, (ix2_eta i).symm⟩
  pointwise [G4, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The first moment. -/
theorem first (x0 x2 : FVec Ideal S1024x256 .f32) :
    val_main_v4 (F := Ideal) x0 x2 = G5 x0 x2 := by
  funext i
  obtain ⟨p, q, rfl⟩ : ∃ (p : Fin 1024) (q : Fin 256), i = ix2 p q := ⟨i 0, i 1, (ix2_eta i).symm⟩
  pointwise [G5, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The second moment. -/
theorem second (x0 x3 : FVec Ideal S1024x256 .f32) :
    val_main_v10 (F := Ideal) x0 x3 = G6 x0 x3 := by
  funext i
  obtain ⟨p, q, rfl⟩ : ∃ (p : Fin 1024) (q : Fin 256), i = ix2 p q := ⟨i 0, i 1, (ix2_eta i).symm⟩
  pointwise [G6, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

end Cert.AdamGluIdeal.Elementwise

end
-- ==== Proof.AdamUp.lean ====
/-
  THE OPTIMISER OF THE CHANNEL MIXER'S FIRST WEIGHT: what a block leaves is AdamW's step at each entry.
-/
module

public import proofs.«01_k».proof.Proof.Gen.AdamUpIdeal.Value
public import proofs.«01_k».proof.Proof.Gen.AdamUpRefIdeal.Read
public import Idealize.ShloMosaic.Lib.Pointwise

@[expose] public section

set_option maxRecDepth 16384

noncomputable section

namespace Cert.AdamUpIdeal.Elementwise

open Cert.AdamUpIdeal Cert.AdamUpIdeal.Gen Cert.AdamUpIdeal.Value Cert.AdamUpRefIdeal.Read Idealize.ShloMosaic

/-- The change of the weight. -/
theorem delta (x0 x1 x2 x3 : FVec Ideal S2048x1024 .f32) :
    val_main_v23 (F := Ideal) x0 x1 x2 x3 = G4 x1 x0 x2 x3 := by
  funext i
  obtain ⟨p, q, rfl⟩ : ∃ (p : Fin 2048) (q : Fin 1024), i = ix2 p q := ⟨i 0, i 1, (ix2_eta i).symm⟩
  pointwise [G4, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The first moment. -/
theorem first (x0 x2 : FVec Ideal S2048x1024 .f32) :
    val_main_v4 (F := Ideal) x0 x2 = G5 x0 x2 := by
  funext i
  obtain ⟨p, q, rfl⟩ : ∃ (p : Fin 2048) (q : Fin 1024), i = ix2 p q := ⟨i 0, i 1, (ix2_eta i).symm⟩
  pointwise [G5, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

/-- The second moment. -/
theorem second (x0 x3 : FVec Ideal S2048x1024 .f32) :
    val_main_v10 (F := Ideal) x0 x3 = G6 x0 x3 := by
  funext i
  obtain ⟨p, q, rfl⟩ : ∃ (p : Fin 2048) (q : Fin 1024), i = ix2 p q := ⟨i 0, i 1, (ix2_eta i).symm⟩
  pointwise [G6, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]

end Cert.AdamUpIdeal.Elementwise

end
-- ==== Proof.Further.lean ====
/-
  FURTHER CALLS, as the claims state them: the gradient of the gate's input, the gate and its gradient, the merge of the
  two mixers, and the optimiser. For each the reference's frame, and that the call's arrays are the reference's results.
-/
module

public import proofs.«01_k».proof.Defs
public import proofs.«01_k».proof.Proof.Gen.DGyRefIdeal.Run
public import proofs.«01_k».proof.Proof.DGy
public import proofs.«01_k».proof.Proof.Gen.GluGateRefIdeal.Run
public import proofs.«01_k».proof.Proof.GluGate
public import proofs.«01_k».proof.Proof.Gen.GluGateBwdRefIdeal.Run
public import proofs.«01_k».proof.Proof.GluGateBwd
public import proofs.«01_k».proof.Proof.Gen.MixRefIdeal.Run
public import proofs.«01_k».proof.Proof.Mix
public import proofs.«01_k».proof.Proof.Gen.AdamInRefIdeal.Run
public import proofs.«01_k».proof.Proof.AdamIn
public import proofs.«01_k».proof.Proof.Gen.AdamGluRefIdeal.Run
public import proofs.«01_k».proof.Proof.AdamGlu
public import proofs.«01_k».proof.Proof.Gen.AdamUpRefIdeal.Run
public import proofs.«01_k».proof.Proof.AdamUp
public import Idealize.ShloMosaic.Adequacy
public import Idealize.ShloMosaic.Init

@[expose] public section

noncomputable section

namespace Cert.Further

open Idealize.ShloMosaic Idealize.ShloMosaic.TcCoe Idealize.SL.Sem

theorem frame_d_gy : Cert.quiescent_DGyRefIdeal := fun m ρ _ =>
  (θ_run Cert.DGyRefIdeal.defs _ _).mono (fun r h => ⟨fun c => (h c).2, sem_eq_zero_of_no_sems (by decide) r.2⟩) (Cert.DGyRefIdeal.Value.run m ρ)

/-- The gradient of the gate's input, where nothing it reads is infinite. -/
theorem algebraic_d_gy [hP : Cert.Pre_finite_d_gy.Facts] :
    Cert.algebraic_DGyIdeal_DGyRefIdeal_pre_finite_d_gy (hDGyIdeal := Cert.DGyIdeal.Gen.facts)
      (hDGyRefIdeal := Cert.DGyRefIdeal.Gen.facts) (hPre_finite_d_gy := hP) := by
  intro m ρ m' ρ' hpre hargs
  refine ⟨_, Cert.DGyIdeal.Value.run_blocks m ρ, (θ_run Cert.DGyRefIdeal.defs _ _).mono (fun r h c => ?_) (Cert.DGyRefIdeal.Value.run m' ρ')⟩
  obtain ⟨h0, hrest⟩ := h c
  obtain ⟨a0, a1, a2⟩ := hargs c
  exact ⟨h0.trans ((Cert.DGyRefIdeal.Read.val_main_v36_eq m' c).trans (Cert.DGyIdeal.Product.result m c _ _ _ (hpre c) a0 a1 a2)), hrest⟩

theorem frame_gate : Cert.quiescent_GluGateRefIdeal := fun m ρ _ =>
  (θ_run Cert.GluGateRefIdeal.defs _ _).mono (fun r h => ⟨fun c => (h c).2, sem_eq_zero_of_no_sems (by decide) r.2⟩) (Cert.GluGateRefIdeal.Value.run m ρ)

theorem algebraic_gate : Cert.algebraic_GluGateIdeal_GluGateRefIdeal := by
  intro m ρ m' ρ' _ hargs
  refine ⟨_, Cert.GluGateIdeal.Value.run m ρ, (θ_run Cert.GluGateRefIdeal.defs _ _).mono (fun r h c => ?_) (Cert.GluGateRefIdeal.Value.run m' ρ')⟩
  obtain ⟨h0, hrest⟩ := h c
  have a0 := hargs c
  exact ⟨h0.trans ((Cert.GluGateRefIdeal.Read.val_main_v9_eq _).trans (by rw [a0]; exact Cert.GluGateIdeal.Elementwise.gate _)), hrest⟩

theorem frame_gate_bwd : Cert.quiescent_GluGateBwdRefIdeal := fun m ρ _ =>
  (θ_run Cert.GluGateBwdRefIdeal.defs _ _).mono (fun r h => ⟨fun c => (h c).2.2, sem_eq_zero_of_no_sems (by decide) r.2⟩) (Cert.GluGateBwdRefIdeal.Value.run m ρ)

theorem algebraic_gate_bwd : Cert.algebraic_GluGateBwdIdeal_GluGateBwdRefIdeal := by
  intro m ρ m' ρ' _ hargs
  refine ⟨_, _, Cert.GluGateBwdIdeal.Value.run m ρ, (θ_run Cert.GluGateBwdRefIdeal.defs _ _).mono (fun r h c => ?_) (Cert.GluGateBwdRefIdeal.Value.run m' ρ')⟩
  obtain ⟨h0, h1, hrest⟩ := h c
  obtain ⟨a0, a1⟩ := hargs c
  exact ⟨h0.trans ((Cert.GluGateBwdRefIdeal.Read.val_main_v19_eq _ _).trans (by rw [a0, a1]; exact Cert.GluGateBwdIdeal.Elementwise.left _ _)),
    h1.trans ((Cert.GluGateBwdRefIdeal.Read.val_main_v20_eq _ _).trans (by rw [a0, a1]; exact Cert.GluGateBwdIdeal.Elementwise.right _ _)), hrest⟩

theorem frame_mix : Cert.quiescent_MixRefIdeal := fun m ρ _ =>
  (θ_run Cert.MixRefIdeal.defs _ _).mono (fun r h => ⟨fun c => (h c).2, sem_eq_zero_of_no_sems (by decide) r.2⟩) (Cert.MixRefIdeal.Value.run m ρ)

theorem algebraic_mix : Cert.algebraic_MixIdeal_MixRefIdeal := by
  intro m ρ m' ρ' _ hargs
  refine ⟨_, Cert.MixIdeal.Value.run m ρ, (θ_run Cert.MixRefIdeal.defs _ _).mono (fun r h c => ?_) (Cert.MixRefIdeal.Value.run m' ρ')⟩
  obtain ⟨h0, hrest⟩ := h c
  obtain ⟨a0, a1, a2⟩ := hargs c
  exact ⟨h0.trans ((Cert.MixRefIdeal.Read.val_main_v19_eq _ _ _).trans (by rw [a0, a1, a2]; exact Cert.MixIdeal.Elementwise.merge _ _ _)), hrest⟩

theorem frame_adam_in : Cert.quiescent_AdamInRefIdeal := fun m ρ _ =>
  (θ_run Cert.AdamInRefIdeal.defs _ _).mono (fun r h => ⟨fun c => (h c).2.2.2, sem_eq_zero_of_no_sems (by decide) r.2⟩) (Cert.AdamInRefIdeal.Value.run m ρ)

theorem algebraic_adam_in : Cert.algebraic_AdamInIdeal_AdamInRefIdeal := by
  intro m ρ m' ρ' _ hargs
  refine ⟨_, _, _, Cert.AdamInIdeal.Value.run m ρ, (θ_run Cert.AdamInRefIdeal.defs _ _).mono (fun r h c => ?_) (Cert.AdamInRefIdeal.Value.run m' ρ')⟩
  obtain ⟨h0, h1, h2, hrest⟩ := h c
  obtain ⟨a0, a1, a2, a3⟩ := hargs c
  exact ⟨h0.trans ((Cert.AdamInRefIdeal.Read.val_main_v23_eq _ _ _ _).trans (by rw [a0, a1, a2, a3]; exact Cert.AdamInIdeal.Elementwise.delta _ _ _ _)),
    h1.trans ((Cert.AdamInRefIdeal.Read.val_main_v4_eq _ _).trans (by rw [a0, a2]; exact Cert.AdamInIdeal.Elementwise.first _ _)),
    h2.trans ((Cert.AdamInRefIdeal.Read.val_main_v10_eq _ _).trans (by rw [a0, a3]; exact Cert.AdamInIdeal.Elementwise.second _ _)), hrest⟩

theorem frame_adam_glu : Cert.quiescent_AdamGluRefIdeal := fun m ρ _ =>
  (θ_run Cert.AdamGluRefIdeal.defs _ _).mono (fun r h => ⟨fun c => (h c).2.2.2, sem_eq_zero_of_no_sems (by decide) r.2⟩) (Cert.AdamGluRefIdeal.Value.run m ρ)

theorem algebraic_adam_glu : Cert.algebraic_AdamGluIdeal_AdamGluRefIdeal := by
  intro m ρ m' ρ' _ hargs
  refine ⟨_, _, _, Cert.AdamGluIdeal.Value.run m ρ, (θ_run Cert.AdamGluRefIdeal.defs _ _).mono (fun r h c => ?_) (Cert.AdamGluRefIdeal.Value.run m' ρ')⟩
  obtain ⟨h0, h1, h2, hrest⟩ := h c
  obtain ⟨a0, a1, a2, a3⟩ := hargs c
  exact ⟨h0.trans ((Cert.AdamGluRefIdeal.Read.val_main_v23_eq _ _ _ _).trans (by rw [a0, a1, a2, a3]; exact Cert.AdamGluIdeal.Elementwise.delta _ _ _ _)),
    h1.trans ((Cert.AdamGluRefIdeal.Read.val_main_v4_eq _ _).trans (by rw [a0, a2]; exact Cert.AdamGluIdeal.Elementwise.first _ _)),
    h2.trans ((Cert.AdamGluRefIdeal.Read.val_main_v10_eq _ _).trans (by rw [a0, a3]; exact Cert.AdamGluIdeal.Elementwise.second _ _)), hrest⟩

theorem frame_adam_up : Cert.quiescent_AdamUpRefIdeal := fun m ρ _ =>
  (θ_run Cert.AdamUpRefIdeal.defs _ _).mono (fun r h => ⟨fun c => (h c).2.2.2, sem_eq_zero_of_no_sems (by decide) r.2⟩) (Cert.AdamUpRefIdeal.Value.run m ρ)

theorem algebraic_adam_up : Cert.algebraic_AdamUpIdeal_AdamUpRefIdeal := by
  intro m ρ m' ρ' _ hargs
  refine ⟨_, _, _, Cert.AdamUpIdeal.Value.run m ρ, (θ_run Cert.AdamUpRefIdeal.defs _ _).mono (fun r h c => ?_) (Cert.AdamUpRefIdeal.Value.run m' ρ')⟩
  obtain ⟨h0, h1, h2, hrest⟩ := h c
  obtain ⟨a0, a1, a2, a3⟩ := hargs c
  exact ⟨h0.trans ((Cert.AdamUpRefIdeal.Read.val_main_v23_eq _ _ _ _).trans (by rw [a0, a1, a2, a3]; exact Cert.AdamUpIdeal.Elementwise.delta _ _ _ _)),
    h1.trans ((Cert.AdamUpRefIdeal.Read.val_main_v4_eq _ _).trans (by rw [a0, a2]; exact Cert.AdamUpIdeal.Elementwise.first _ _)),
    h2.trans ((Cert.AdamUpRefIdeal.Read.val_main_v10_eq _ _).trans (by rw [a0, a3]; exact Cert.AdamUpIdeal.Elementwise.second _ _)), hrest⟩

end Cert.Further

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DAct.Frame
public import proofs.«01_k».proof.Proof.Gen.GwDown.Frame
public import proofs.«01_k».proof.Proof.Gen.Dh2.Frame
public import proofs.«01_k».proof.Proof.Gen.GwUp.Frame
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.InZ.Frame
public import proofs.«01_k».proof.Proof.Gen.InZIdeal.Value
public import proofs.«01_k».proof.Proof.Gen.InZRefIdeal.Run
public import proofs.«01_k».proof.Proof.Gen.InZRefIdeal.Read
public import proofs.«01_k».proof.Proof.Gen.InGw.Frame
public import proofs.«01_k».proof.Proof.Gen.InGwIdeal.Value
public import proofs.«01_k».proof.Proof.Gen.InGwRefIdeal.Run
public import proofs.«01_k».proof.Proof.Gen.InGwRefIdeal.Read
public import proofs.«01_k».proof.Proof.Gen.InDh.Frame
public import proofs.«01_k».proof.Proof.Gen.InDhIdeal.Value
public import proofs.«01_k».proof.Proof.Gen.InDhRefIdeal.Run
public import proofs.«01_k».proof.Proof.Gen.InDhRefIdeal.Read
public import proofs.«01_k».proof.Proof.Gen.OutMixed.Frame
public import proofs.«01_k».proof.Proof.Gen.OutMixedIdeal.Value
public import proofs.«01_k».proof.Proof.Gen.OutMixedRefIdeal.Run
public import proofs.«01_k».proof.Proof.Gen.OutMixedRefIdeal.Read
public import proofs.«01_k».proof.Proof.Gen.OutDMix.Frame
public import proofs.«01_k».proof.Proof.Gen.OutDMixIdeal.Value
public import proofs.«01_k».proof.Proof.Gen.OutDMixRefIdeal.Run
public import proofs.«01_k».proof.Proof.Gen.OutDMixRefIdeal.Read
public import proofs.«01_k».proof.Proof.Gen.OutGw.Frame
public import proofs.«01_k».proof.Proof.Gen.OutGwIdeal.Value
public import proofs.«01_k».proof.Proof.Gen.OutGwRefIdeal.Run
public import proofs.«01_k».proof.Proof.Gen.OutGwRefIdeal.Read
public import proofs.«01_k».proof.Proof.Gen.BrAttn.Frame
public import proofs.«01_k».proof.Proof.Gen.BrAttnIdeal.Value
public import proofs.«01_k».proof.Proof.Gen.BrAttnRefIdeal.Run
public import proofs.«01_k».proof.Proof.Gen.BrAttnRefIdeal.Read
public import proofs.«01_k».proof.Proof.Gen.BrSsm.Frame
public import proofs.«01_k».proof.Proof.Gen.BrSsmIdeal.Value
public import proofs.«01_k».proof.Proof.Gen.BrSsmRefIdeal.Run
public import proofs.«01_k».proof.Proof.Gen.BrSsmRefIdeal.Read
public import proofs.«01_k».proof.Proof.Gen.BrDAttn.Frame
public import proofs.«01_k».proof.Proof.Gen.BrDAttnIdeal.Value
public import proofs.«01_k».proof.Proof.Gen.BrDAttnRefIdeal.Run
public import proofs.«01_k».proof.Proof.Gen.BrDAttnRefIdeal.Read
public import proofs.«01_k».proof.Proof.Gen.BrDSsm.Frame
public import proofs.«01_k».proof.Proof.Gen.BrDSsmIdeal.Value
public import proofs.«01_k».proof.Proof.Gen.BrDSsmRefIdeal.Run
public import proofs.«01_k».proof.Proof.Gen.BrDSsmRefIdeal.Read
public import proofs.«01_k».proof.Proof.Gen.BrGwAttn.Frame
public import proofs.«01_k».proof.Proof.Gen.BrGwAttnIdeal.Value
public import proofs.«01_k».proof.Proof.Gen.BrGwAttnRefIdeal.Run
public import proofs.«01_k».proof.Proof.Gen.BrGwAttnRefIdeal.Read
public import proofs.«01_k».proof.Proof.Gen.BrGwSsm.Frame
public import proofs.«01_k».proof.Proof.Gen.BrGwSsmIdeal.Value
public import proofs.«01_k».proof.Proof.Gen.BrGwSsmRefIdeal.Run
public import proofs.«01_k».proof.Proof.Gen.BrGwSsmRefIdeal.Read
public import proofs.«01_k».proof.Proof.Gen.Glu.Frame
public import proofs.«01_k».proof.Proof.Gen.GluIdeal.Value
public import proofs.«01_k».proof.Proof.Gen.GluRefIdeal.Run
public import proofs.«01_k».proof.Proof.Gen.GluRefIdeal.Read
public import proofs.«01_k».proof.Proof.Gen.GluGw.Frame
public import proofs.«01_k».proof.Proof.Gen.GluGwIdeal.Value
public import proofs.«01_k».proof.Proof.Gen.GluGwRefIdeal.Run
public import proofs.«01_k».proof.Proof.Gen.GluGwRefIdeal.Read
public import proofs.«01_k».proof.Proof.Gen.DGy.Frame
public import proofs.«01_k».proof.Proof.Gen.DGyIdeal.Value
public import proofs.«01_k».proof.Proof.Gen.DGyRefIdeal.Run
public import proofs.«01_k».proof.Proof.Gen.DGyRefIdeal.Read
public import proofs.«01_k».proof.Proof.Gen.GluGate.Frame
public import proofs.«01_k».proof.Proof.Gen.GluGateIdeal.Value
public import proofs.«01_k».proof.Proof.Gen.GluGateRefIdeal.Run
public import proofs.«01_k».proof.Proof.Gen.GluGateRefIdeal.Read
public import proofs.«01_k».proof.Proof.Gen.GluGateBwd.Frame
public import proofs.«01_k».proof.Proof.Gen.GluGateBwdIdeal.Value
public import proofs.«01_k».proof.Proof.Gen.GluGateBwdRefIdeal.Run
public import proofs.«01_k».proof.Proof.Gen.GluGateBwdRefIdeal.Read
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Adequacy
public import Idealize.ShloMosaic.Init
public import proofs.«01_k».proof.Proof.Finite
public import proofs.«01_k».proof.Proof.Equation
public import proofs.«01_k».proof.Proof.Products
public import proofs.«01_k».proof.Proof.Others
public import proofs.«01_k».proof.Proof.Further

@[expose] public section

noncomputable section

namespace Cert.Proof

open Idealize.ShloMosaic Idealize.ShloMosaic.TcCoe Idealize.SL.Sem

/-- The reference runs, keeps its arguments, and has no semaphore to leave non-zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2.2.2.2,
    sem_eq_zero_of_no_sems (by decide) r.2⟩) (Cert.ReferenceIdeal.Value.run m ρ)

open Cert.ReferenceIdeal.Read Cert.ReferenceIdeal.Value in
/-- The kernel's arrays are the reference's results. -/
theorem algebraic [hP : Cert.Pre_finite.Facts] :
    Cert.algebraic_KernelIdeal_ReferenceIdeal_pre_finite (hKernelIdeal := Cert.KernelIdeal.Gen.facts)
      (hReferenceIdeal := Cert.ReferenceIdeal.Gen.facts) (hPre_finite := hP) := by
  intro m ρ m' ρ' hpre hargs
  have A := fun c => Equation.kernel_args (hpre c)
  have R := fun c : Dev Cert.KernelIdeal.nD => hargs c
  refine ⟨_, _, _, _, _, _, Cert.KernelIdeal.Value.run_blocks m ρ,
    (θ_run Cert.ReferenceIdeal.defs _ _).mono (fun r h c => ?_) (Cert.ReferenceIdeal.Value.run m' ρ')⟩
  obtain ⟨h0, h1, h2, h3, h4, h5, hrest⟩ := h c
  obtain ⟨a0, a1, a2, a3⟩ := R c
  exact ⟨h0.trans ((val_main_v317_eq (StableHlo.launchContents m' c)).trans (Equation.is_0 (A c) a0 a1 a2 a3)),
    h1.trans ((val_main_v291_eq (StableHlo.launchContents m' c)).trans (Equation.is_1 (A c) a0 a1 a2)),
    h2.trans ((val_main_v319_eq (StableHlo.launchContents m' c)).trans (Equation.is_2 (A c) a0 a1 a2)),
    h3.trans ((val_main_v247_eq (StableHlo.launchContents m' c)).trans (Equation.is_3 (A c) a0 a1 a2)),
    h4.trans ((val_main_v321_eq (StableHlo.launchContents m' c)).trans (Equation.is_4 (A c) a0 a1 a2)),
    h5.trans ((val_main_v324_eq (StableHlo.launchContents m' c)).trans (Equation.is_5 (A c) a0 a1 a2)), hrest⟩

theorem claim : Cert.Claim :=
  ⟨Cert.Kernel.Gen.facts, Cert.KernelIdeal.Gen.facts, Cert.ReferenceIdeal.Gen.facts,
    Cert.DAct.Gen.facts, Cert.DActIdeal.Gen.facts, Cert.DActRefIdeal.Gen.facts, Cert.GwDown.Gen.facts, Cert.GwDownIdeal.Gen.facts, Cert.GwDownRefIdeal.Gen.facts, Cert.Dh2.Gen.facts, Cert.Dh2Ideal.Gen.facts, Cert.Dh2RefIdeal.Gen.facts, Cert.GwUp.Gen.facts, Cert.GwUpIdeal.Gen.facts, Cert.GwUpRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.InZ.Gen.facts, Cert.InZIdeal.Gen.facts, Cert.InZRefIdeal.Gen.facts,
    Cert.InGw.Gen.facts, Cert.InGwIdeal.Gen.facts, Cert.InGwRefIdeal.Gen.facts,
    Cert.InDh.Gen.facts, Cert.InDhIdeal.Gen.facts, Cert.InDhRefIdeal.Gen.facts,
    Cert.OutMixed.Gen.facts, Cert.OutMixedIdeal.Gen.facts, Cert.OutMixedRefIdeal.Gen.facts,
    Cert.OutDMix.Gen.facts, Cert.OutDMixIdeal.Gen.facts, Cert.OutDMixRefIdeal.Gen.facts,
    Cert.OutGw.Gen.facts, Cert.OutGwIdeal.Gen.facts, Cert.OutGwRefIdeal.Gen.facts,
    Cert.BrAttn.Gen.facts, Cert.BrAttnIdeal.Gen.facts, Cert.BrAttnRefIdeal.Gen.facts,
    Cert.BrSsm.Gen.facts, Cert.BrSsmIdeal.Gen.facts, Cert.BrSsmRefIdeal.Gen.facts,
    Cert.BrDAttn.Gen.facts, Cert.BrDAttnIdeal.Gen.facts, Cert.BrDAttnRefIdeal.Gen.facts,
    Cert.BrDSsm.Gen.facts, Cert.BrDSsmIdeal.Gen.facts, Cert.BrDSsmRefIdeal.Gen.facts,
    Cert.BrGwAttn.Gen.facts, Cert.BrGwAttnIdeal.Gen.facts, Cert.BrGwAttnRefIdeal.Gen.facts,
    Cert.BrGwSsm.Gen.facts, Cert.BrGwSsmIdeal.Gen.facts, Cert.BrGwSsmRefIdeal.Gen.facts,
    Cert.Glu.Gen.facts, Cert.GluIdeal.Gen.facts, Cert.GluRefIdeal.Gen.facts,
    Cert.GluGw.Gen.facts, Cert.GluGwIdeal.Gen.facts, Cert.GluGwRefIdeal.Gen.facts,
    Cert.DGy.Gen.facts, Cert.DGyIdeal.Gen.facts, Cert.DGyRefIdeal.Gen.facts,
    Cert.GluGate.Gen.facts, Cert.GluGateIdeal.Gen.facts, Cert.GluGateRefIdeal.Gen.facts,
    Cert.GluGateBwd.Gen.facts, Cert.GluGateBwdIdeal.Gen.facts, Cert.GluGateBwdRefIdeal.Gen.facts,
    Cert.Mix.Gen.facts, Cert.MixIdeal.Gen.facts, Cert.MixRefIdeal.Gen.facts,
    Cert.AdamIn.Gen.facts, Cert.AdamInIdeal.Gen.facts, Cert.AdamInRefIdeal.Gen.facts,
    Cert.AdamGlu.Gen.facts, Cert.AdamGluIdeal.Gen.facts, Cert.AdamGluRefIdeal.Gen.facts,
    Cert.AdamUp.Gen.facts, Cert.AdamUpIdeal.Gen.facts, Cert.AdamUpRefIdeal.Gen.facts,
    Finite.facts, Cert.DGyIdeal.Product.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ _ => Cert.DAct.Gen.frame m ρ,
    fun m ρ _ => Cert.DActIdeal.Gen.frame m ρ,
    Products.frame_d_act,
    fun m ρ _ => Cert.GwDown.Gen.frame m ρ,
    fun m ρ _ => Cert.GwDownIdeal.Gen.frame m ρ,
    Products.frame_gw_down,
    fun m ρ _ => Cert.Dh2.Gen.frame m ρ,
    fun m ρ _ => Cert.Dh2Ideal.Gen.frame m ρ,
    Products.frame_dh2,
    fun m ρ _ => Cert.GwUp.Gen.frame m ρ,
    fun m ρ _ => Cert.GwUpIdeal.Gen.frame m ρ,
    Products.frame_gw_up,
    fun m ρ _ => Cert.Up.Gen.frame m ρ,
    fun m ρ _ => Cert.UpIdeal.Gen.frame m ρ,
    Products.frame_up,
    fun m ρ _ => Cert.Down.Gen.frame m ρ,
    fun m ρ _ => Cert.DownIdeal.Gen.frame m ρ,
    Products.frame_down,
    fun m ρ _ => Cert.InZ.Gen.frame m ρ,
    fun m ρ _ => Cert.InZIdeal.Gen.frame m ρ,
    Products.frame_in_z,
    fun m ρ _ => Cert.InGw.Gen.frame m ρ,
    fun m ρ _ => Cert.InGwIdeal.Gen.frame m ρ,
    Products.frame_in_gw,
    fun m ρ _ => Cert.InDh.Gen.frame m ρ,
    fun m ρ _ => Cert.InDhIdeal.Gen.frame m ρ,
    Products.frame_in_dh,
    fun m ρ _ => Cert.OutMixed.Gen.frame m ρ,
    fun m ρ _ => Cert.OutMixedIdeal.Gen.frame m ρ,
    Products.frame_out_mixed,
    fun m ρ _ => Cert.OutDMix.Gen.frame m ρ,
    fun m ρ _ => Cert.OutDMixIdeal.Gen.frame m ρ,
    Products.frame_out_d_mix,
    fun m ρ _ => Cert.OutGw.Gen.frame m ρ,
    fun m ρ _ => Cert.OutGwIdeal.Gen.frame m ρ,
    Products.frame_out_gw,
    fun m ρ _ => Cert.BrAttn.Gen.frame m ρ,
    fun m ρ _ => Cert.BrAttnIdeal.Gen.frame m ρ,
    Products.frame_br_attn,
    fun m ρ _ => Cert.BrSsm.Gen.frame m ρ,
    fun m ρ _ => Cert.BrSsmIdeal.Gen.frame m ρ,
    Products.frame_br_ssm,
    fun m ρ _ => Cert.BrDAttn.Gen.frame m ρ,
    fun m ρ _ => Cert.BrDAttnIdeal.Gen.frame m ρ,
    Products.frame_br_d_attn,
    fun m ρ _ => Cert.BrDSsm.Gen.frame m ρ,
    fun m ρ _ => Cert.BrDSsmIdeal.Gen.frame m ρ,
    Products.frame_br_d_ssm,
    fun m ρ _ => Cert.BrGwAttn.Gen.frame m ρ,
    fun m ρ _ => Cert.BrGwAttnIdeal.Gen.frame m ρ,
    Products.frame_br_gw_attn,
    fun m ρ _ => Cert.BrGwSsm.Gen.frame m ρ,
    fun m ρ _ => Cert.BrGwSsmIdeal.Gen.frame m ρ,
    Products.frame_br_gw_ssm,
    fun m ρ _ => Cert.Glu.Gen.frame m ρ,
    fun m ρ _ => Cert.GluIdeal.Gen.frame m ρ,
    Products.frame_glu,
    fun m ρ _ => Cert.GluGw.Gen.frame m ρ,
    fun m ρ _ => Cert.GluGwIdeal.Gen.frame m ρ,
    Products.frame_glu_gw,
    fun m ρ _ => Cert.DGy.Gen.frame m ρ,
    fun m ρ _ => Cert.DGyIdeal.Gen.frame m ρ,
    fun m ρ _ => Cert.DGyIdeal.Gen.frame m ρ,
    Further.frame_d_gy,
    fun m ρ _ => Further.frame_d_gy m ρ trivial,
    fun m ρ _ => Cert.GluGate.Gen.frame m ρ,
    fun m ρ _ => Cert.GluGateIdeal.Gen.frame m ρ,
    Further.frame_gate,
    fun m ρ _ => Cert.GluGateBwd.Gen.frame m ρ,
    fun m ρ _ => Cert.GluGateBwdIdeal.Gen.frame m ρ,
    Further.frame_gate_bwd,
    fun m ρ _ => Cert.Mix.Gen.frame m ρ,
    fun m ρ _ => Cert.MixIdeal.Gen.frame m ρ,
    Further.frame_mix,
    fun m ρ _ => Cert.AdamIn.Gen.frame m ρ,
    fun m ρ _ => Cert.AdamInIdeal.Gen.frame m ρ,
    Further.frame_adam_in,
    fun m ρ _ => Cert.AdamGlu.Gen.frame m ρ,
    fun m ρ _ => Cert.AdamGluIdeal.Gen.frame m ρ,
    Further.frame_adam_glu,
    fun m ρ _ => Cert.AdamUp.Gen.frame m ρ,
    fun m ρ _ => Cert.AdamUpIdeal.Gen.frame m ρ,
    Further.frame_adam_up,
    trivial,
    algebraic (hP := Finite.facts),
    trivial,
    Products.algebraic_d_act,
    trivial,
    Products.algebraic_gw_down,
    trivial,
    Products.algebraic_dh2,
    trivial,
    Products.algebraic_gw_up,
    trivial, Products.algebraic_up,
    trivial, Products.algebraic_down,
    trivial, Products.algebraic_in_z,
    trivial, Products.algebraic_in_gw,
    trivial, Products.algebraic_in_dh,
    trivial, Products.algebraic_out_mixed,
    trivial, Products.algebraic_out_d_mix,
    trivial, Products.algebraic_out_gw,
    trivial, Products.algebraic_br_attn,
    trivial, Products.algebraic_br_ssm,
    trivial, Products.algebraic_br_d_attn,
    trivial, Products.algebraic_br_d_ssm,
    trivial, Products.algebraic_br_gw_attn,
    trivial, Products.algebraic_br_gw_ssm,
    trivial, Products.algebraic_glu,
    trivial, Products.algebraic_glu_gw,
    ⟨IdealRules.named_const.statement Cert.DGyIdeal.κ "cubic" .f32 0x3D372713#32 ((8943 / 200000 : ℝ) : EReal) rfl,
      IdealRules.named_const.statement Cert.DGyIdeal.κ "thrice" .f32 0x3E095D4F#32 ((26829 / 200000 : ℝ) : EReal) rfl⟩,
    Further.algebraic_d_gy (hP := Cert.DGyIdeal.Product.facts),
    trivial, Further.algebraic_gate,
    trivial, Further.algebraic_gate_bwd,
    trivial, Further.algebraic_mix,
    trivial, Further.algebraic_adam_in,
    trivial, Further.algebraic_adam_glu,
    trivial, Further.algebraic_adam_up⟩

end Cert.Proof

end
